-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v62) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v63) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S17408x2048 : Shape := ⟨2, ![17408, 2048]⟩
abbrev S4x4352x512 : Shape := ⟨3, ![4, 4352, 512]⟩
abbrev S_ : Shape := ⟨0, ![]⟩

class Facts : Prop where
  bcast_S_S17408x2048 : S_.BroadcastsInDim S17408x2048 (![] : Fin 0 → Fin S17408x2048.rank)
  reducesTo_S17408x2048_S_d0_1 : S17408x2048.ReducesTo [0, 1] S_
  h_S_ : 0 < S_.numel
  bcast_S_S4x4352x512 : S_.BroadcastsInDim S4x4352x512 (![] : Fin 0 → Fin S4x4352x512.rank)
  reducesTo_S4x4352x512_S_d0_1_2 : S4x4352x512.ReducesTo [0, 1, 2] S_

variable [Facts]

def fn {F : FTy → Type} [FloatOps F] (main_arg0 : FVec F S17408x2048 .f32) (main_arg1 : FVec F S4x4352x512 .f32) (main_arg2 : FVec F S4x4352x512 .f32) : IVec S_ 1 :=
  let main_v0 : FVec F S17408x2048 .f32 := Host.absf main_arg0
  let main_cst : FVec F S_ .f32 := constant S_ .f32 0x7F800000#32
  let main_v1 : FVec F S17408x2048 .f32 := broadcastInDim S17408x2048 ![] bcast_S_S17408x2048 main_cst
  let main_v2 : IVec S17408x2048 1 := cmpf .olt main_v0 main_v1
  let main_c : IVec S_ 1 := constantI S_ 1 1#1
  let main_v3 : IVec S_ 1 := (fun x v => Host.reduce IntOp.andi x v reducesTo_S17408x2048_S_d0_1 h_S_) main_v2 main_c
  let main_v4 : FVec F S4x4352x512 .f32 := Host.absf main_arg1
  let main_cst_0 : FVec F S_ .f32 := constant S_ .f32 0x7F800000#32
  let main_v5 : FVec F S4x4352x512 .f32 := broadcastInDim S4x4352x512 ![] bcast_S_S4x4352x512 main_cst_0
  let main_v6 : IVec S4x4352x512 1 := cmpf .olt main_v4 main_v5
  let main_c_1 : IVec S_ 1 := constantI S_ 1 1#1
  let main_v7 : IVec S_ 1 := (fun x v => Host.reduce IntOp.andi x v reducesTo_S4x4352x512_S_d0_1_2 h_S_) main_v6 main_c_1
  let main_v8 : IVec S_ 1 := andi main_v3 main_v7
  main_v8
-- ==== Kernel.lean ====
abbrev S17408x2048 : Shape := ⟨2, ![17408, 2048]⟩
abbrev S4x4352x512 : Shape := ⟨3, ![4, 4352, 512]⟩
abbrev S_ : Shape := ⟨0, ![]⟩
abbrev S128 : Shape := ⟨1, ![128]⟩
abbrev S4x4352x4x128 : Shape := ⟨4, ![4, 4352, 4, 128]⟩
abbrev S4x4352x4x256 : Shape := ⟨4, ![4, 4352, 4, 256]⟩
abbrev S4x4352x1024 : Shape := ⟨3, ![4, 4352, 1024]⟩
abbrev S256x512 : Shape := ⟨2, ![256, 512]⟩
abbrev S1x4352x128 : Shape := ⟨3, ![1, 4352, 128]⟩
abbrev S1x4352x256 : Shape := ⟨3, ![1, 4352, 256]⟩
abbrev S4352x128 : Shape := ⟨2, ![4352, 128]⟩
abbrev S4352x256 : Shape := ⟨2, ![4352, 256]⟩
abbrev S256x128 : Shape := ⟨2, ![256, 128]⟩
abbrev S256x4352 : Shape := ⟨2, ![256, 4352]⟩
abbrev S256 : Shape := ⟨1, ![256]⟩
abbrev S256x1 : Shape := ⟨2, ![256, 1]⟩
abbrev S256x256 : Shape := ⟨2, ![256, 256]⟩
abbrev S1x256x128 : Shape := ⟨3, ![1, 256, 128]⟩
abbrev S1x256x256 : Shape := ⟨3, ![1, 256, 256]⟩

abbrev nBuf : Space → Nat
  | .hbm => 23
  | .vmem => 8
  | .smem => 0
  | _ => 0

abbrev bufTy : (tb : Table) → Fin (tcTables nBuf tb) → BufTy
  | .hbm, ⟨0, _⟩ => ⟨S17408x2048, .f32⟩
  | .hbm, ⟨1, _⟩ => ⟨S4x4352x512, .f32⟩
  | .hbm, ⟨2, _⟩ => ⟨S4x4352x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S17408x2048, .f32⟩
  | .hbm, ⟨9, _⟩ => ⟨S17408x2048, .f32⟩
  | .hbm, ⟨10, _⟩ => ⟨S17408x2048, .bf16⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S128, .f32⟩
  | .hbm, ⟨16, _⟩ => ⟨S4x4352x4x128, .f32⟩
  | .hbm, ⟨17, _⟩ => ⟨S4x4352x4x128, .f32⟩
  | .hbm, ⟨18, _⟩ => ⟨S4x4352x4x256, .f32⟩
  | .hbm, ⟨19, _⟩ => ⟨S4x4352x1024, .f32⟩
  | .hbm, ⟨20, _⟩ => ⟨S4x4352x1024, .bf16⟩
  | .hbm, ⟨21, _⟩ => ⟨S4x4352x512, .bf16⟩
  | .hbm, ⟨22, _⟩ => ⟨S17408x2048, .bf16⟩
  | .local _ .vmem, ⟨0, _⟩ => ⟨S256x512, .bf16⟩
  | .local _ .vmem, ⟨1, _⟩ => ⟨S256x512, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x256, .bf16⟩
  | .local _ .vmem, ⟨5, _⟩ => ⟨S1x4352x256, .bf16⟩
  | .local _ .vmem, ⟨6, _⟩ => ⟨S256x512, .bf16⟩
  | .local _ .vmem, ⟨7, _⟩ => ⟨S256x512, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 17], ![false, false, false]⟩

def k0_cond1 (i : grid0.Coords) : BitVec 1 :=
  let arg2 : BitVec 32 := BitVec.ofNat 32 (i 2).val
  let c16_i32 : BitVec 32 := 16#32
  let v0 : BitVec 1 := Scalar.cmpi .slt arg2 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c16_i32_0 : BitVec 32 := 16#32
  let v3 : BitVec 1 := Scalar.cmpi .sge arg2 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 1 := Scalar.cmpi .slt arg2 c16_i32
  let c16_i32_0 : BitVec 32 := 16#32
  let v1 : BitVec 32 := Scalar.muli arg0 c16_i32_0
  let v2 : BitVec 32 := Scalar.addi v1 arg2
  let c1_i32 : BitVec 32 := 1#32
  let v3 : BitVec 32 := Scalar.muli arg0 c1_i32
  let c64_i32 : BitVec 32 := 64#32
  let v4 : BitVec 32 := Scalar.addi c64_i32 v3
  let c16_i32_1 : BitVec 32 := 16#32
  let v5 : BitVec 32 := Scalar.subi arg2 c16_i32_1
  let v6 : BitVec 32 := Scalar.addi v4 v5
  let v7 : BitVec 32 := Scalar.select v0 v2 v6
  let c0_i32 : BitVec 32 := 0#32
  ![v7.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 1 := Scalar.cmpi .slt arg2 c16_i32
  let c16_i32_0 : BitVec 32 := 16#32
  let v1 : BitVec 32 := Scalar.muli arg0 c16_i32_0
  let v2 : BitVec 32 := Scalar.addi v1 arg2
  let c1_i32 : BitVec 32 := 1#32
  let v3 : BitVec 32 := Scalar.muli arg0 c1_i32
  let c64_i32 : BitVec 32 := 64#32
  let v4 : BitVec 32 := Scalar.addi c64_i32 v3
  let c16_i32_1 : BitVec 32 := 16#32
  let v5 : BitVec 32 := Scalar.subi arg2 c16_i32_1
  let v6 : BitVec 32 := Scalar.addi v4 v5
  let v7 : BitVec 32 := Scalar.select v0 v2 v6
  let c0_i32 : BitVec 32 := 0#32
  ![v7.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S17408x2048 : Shape := ⟨2, ![17408, 2048]⟩
abbrev S4x4352x512 : Shape := ⟨3, ![4, 4352, 512]⟩
abbrev S16384x2048 : Shape := ⟨2, ![16384, 2048]⟩
abbrev S4x4096x16x128 : Shape := ⟨4, ![4, 4096, 16, 128]⟩
abbrev S4x4096x4x4x128 : Shape := ⟨5, ![4, 4096, 4, 4, 128]⟩
abbrev S4x4x4x4096x128 : Shape := ⟨5, ![4, 4, 4, 4096, 128]⟩
abbrev S1024x2048 : Shape := ⟨2, ![1024, 2048]⟩
abbrev S4x256x16x128 : Shape := ⟨4, ![4, 256, 16, 128]⟩
abbrev S4x256x4x4x128 : Shape := ⟨5, ![4, 256, 4, 4, 128]⟩
abbrev S4x4x4x256x128 : Shape := ⟨5, ![4, 4, 4, 256, 128]⟩
abbrev S4x4352x4x128 : Shape := ⟨4, ![4, 4352, 4, 128]⟩
abbrev S4x4x4352x128 : Shape := ⟨4, ![4, 4, 4352, 128]⟩
abbrev S4x4x4x4096x4352 : Shape := ⟨5, ![4, 4, 4, 4096, 4352]⟩
abbrev S_ : Shape := ⟨0, ![]⟩
abbrev S4x4x4x4096 : Shape := ⟨4, ![4, 4, 4, 4096]⟩
abbrev S4x4x4x4096x1 : Shape := ⟨5, ![4, 4, 4, 4096, 1]⟩
abbrev S4x4096x2048 : Shape := ⟨3, ![4, 4096, 2048]⟩
abbrev S4x4x256x128 : Shape := ⟨4, ![4, 4, 256, 128]⟩
abbrev S4x4x4x256x256 : Shape := ⟨5, ![4, 4, 4, 256, 256]⟩
abbrev S4x4x4x256 : Shape := ⟨4, ![4, 4, 4, 256]⟩
abbrev S4x4x4x256x1 : Shape := ⟨5, ![4, 4, 4, 256, 1]⟩
abbrev S4x256x2048 : Shape := ⟨3, ![4, 256, 2048]⟩

abbrev nBuf : Space → Nat
  | .hbm => 65
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S4x4352x512, .f32⟩
  | .hbm, ⟨2, _⟩ => ⟨S4x4352x512, .f32⟩
  | .hbm, ⟨3, _⟩ => ⟨S16384x2048, .f32⟩
  | .hbm, ⟨4, _⟩ => ⟨S4x4096x16x128, .f32⟩
  | .hbm, ⟨5, _⟩ => ⟨S4x4096x4x4x128, .f32⟩
  | .hbm, ⟨6, _⟩ => ⟨S4x4x4x4096x128, .f32⟩
  | .hbm, ⟨7, _⟩ => ⟨S1024x2048, .f32⟩
  | .hbm, ⟨8, _⟩ => ⟨S4x256x16x128, .f32⟩
  | .hbm, ⟨9, _⟩ => ⟨S4x256x4x4x128, .f32⟩
  | .hbm, ⟨10, _⟩ => ⟨S4x4x4x256x128, .f32⟩
  | .hbm, ⟨11, _⟩ => ⟨S4x4352x4x128, .f32⟩
  | .hbm, ⟨12, _⟩ => ⟨S4x4x4352x128, .f32⟩
  | .hbm, ⟨13, _⟩ => ⟨S4x4352x4x128, .f32⟩
  | .hbm, ⟨14, _⟩ => ⟨S4x4x4352x128, .f32⟩
  | .hbm, ⟨15, _⟩ => ⟨S4x4x4x4096x4352, .f32⟩
  | .hbm, ⟨16, _⟩ => ⟨S_, .f32⟩
  | .hbm, ⟨17, _⟩ => ⟨S_, .f32⟩
  | .hbm, ⟨18, _⟩ => ⟨S4x4x4x4096x4352, .f32⟩
  | .hbm, ⟨19, _⟩ => ⟨S4x4x4x4096x4352, .f32⟩
  | .hbm, ⟨20, _⟩ => ⟨S_, .f32⟩
  | .hbm, ⟨21, _⟩ => ⟨S4x4x4x4096, .f32⟩
  | .hbm, ⟨22, _⟩ => ⟨S_, .f32⟩
  | .hbm, ⟨23, _⟩ => ⟨S4x4x4x4096, .f32⟩
  | .hbm, ⟨24, _⟩ => ⟨S4x4x4x4096, .f32⟩
  | .hbm, ⟨25, _⟩ => ⟨S4x4x4x4096x1, .f32⟩
  | .hbm, ⟨26, _⟩ => ⟨S4x4x4x4096x4352, .f32⟩
  | .hbm, ⟨27, _⟩ => ⟨S4x4x4x4096x4352, .f32⟩
  | .hbm, ⟨28, _⟩ => ⟨S4x4x4x4096x4352, .f32⟩
  | .hbm, ⟨29, _⟩ => ⟨S_, .f32⟩
  | .hbm, ⟨30, _⟩ => ⟨S4x4x4x4096, .f32⟩
  | .hbm, ⟨31, _⟩ => ⟨S4x4x4x4096x1, .f32⟩
  | .hbm, ⟨32, _⟩ => ⟨S4x4x4x4096x4352, .f32⟩
  | .hbm, ⟨33, _⟩ => ⟨S4x4x4x4096x4352, .f32⟩
  | .hbm, ⟨34, _⟩ => ⟨S4x4x4x4096x128, .f32⟩
  | .hbm, ⟨35, _⟩ => ⟨S4x4096x4x4x128, .f32⟩
  | .hbm, ⟨36, _⟩ => ⟨S4x4096x2048, .f32⟩
  | .hbm, ⟨37, _⟩ => ⟨S4x4x256x128, .f32⟩
  | .hbm, ⟨38, _⟩ => ⟨S4x4x256x128, .f32⟩
  | .hbm, ⟨39, _⟩ => ⟨S4x4x4x256x256, .f32⟩
  | .hbm, ⟨40, _⟩ => ⟨S_, .f32⟩
  | .hbm, ⟨41, _⟩ => ⟨S_, .f32⟩
  | .hbm, ⟨42, _⟩ => ⟨S4x4x4x256x256, .f32⟩
  | .hbm, ⟨43, _⟩ => ⟨S4x4x4x256x256, .f32⟩
  | .hbm, ⟨44, _⟩ => ⟨S_, .f32⟩
  | .hbm, ⟨45, _⟩ => ⟨S4x4x4x256, .f32⟩
  | .hbm, ⟨46, _⟩ => ⟨S_, .f32⟩
  | .hbm, ⟨47, _⟩ => ⟨S4x4x4x256, .f32⟩
  | .hbm, ⟨48, _⟩ => ⟨S4x4x4x256, .f32⟩
  | .hbm, ⟨49, _⟩ => ⟨S4x4x4x256x1, .f32⟩
  | .hbm, ⟨50, _⟩ => ⟨S4x4x4x256x256, .f32⟩
  | .hbm, ⟨51, _⟩ => ⟨S4x4x4x256x256, .f32⟩
  | .hbm, ⟨52, _⟩ => ⟨S4x4x4x256x256, .f32⟩
  | .hbm, ⟨53, _⟩ => ⟨S_, .f32⟩
  | .hbm, ⟨54, _⟩ => ⟨S4x4x4x256, .f32⟩
  | .hbm, ⟨55, _⟩ => ⟨S4x4x4x256x1, .f32⟩
  | .hbm, ⟨56, _⟩ => ⟨S4x4x4x256x256, .f32⟩
  | .hbm, ⟨57, _⟩ => ⟨S4x4x4x256x256, .f32⟩
  | .hbm, ⟨58, _⟩ => ⟨S4x4x4x256x128, .f32⟩
  | .hbm, ⟨59, _⟩ => ⟨S4x256x4x4x128, .f32⟩
  | .hbm, ⟨60, _⟩ => ⟨S4x256x2048, .f32⟩
  | .hbm, ⟨61, _⟩ => ⟨S16384x2048, .f32⟩
  | .hbm, ⟨62, _⟩ => ⟨S1024x2048, .f32⟩
  | .hbm, ⟨63, _⟩ => ⟨S17408x2048, .f32⟩
  | .hbm, ⟨64, _⟩ => ⟨S17408x2048, .bf16⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Kernel2.lean ====
abbrev S17408x4096 : Shape := ⟨2, ![17408, 4096]⟩
abbrev S2x4096x9232 : Shape := ⟨3, ![2, 4096, 9232]⟩
abbrev S2x9232x4096 : Shape := ⟨3, ![2, 9232, 4096]⟩
abbrev S17408x9216 : Shape := ⟨2, ![17408, 9216]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S17408x4096, .f32⟩
  | .hbm, ⟨1, _⟩ => ⟨S2x4096x9232, .f32⟩
  | .hbm, ⟨2, _⟩ => ⟨S17408x4096, .bf16⟩
  | .hbm, ⟨3, _⟩ => ⟨S2x9232x4096, .f32⟩
  | .hbm, ⟨4, _⟩ => ⟨S17408x9216, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .f32⟩
  | .local _ .vmem, ⟨3, _⟩ => ⟨S1024x1024, .f32⟩
  | .local _ .vmem, ⟨4, _⟩ => ⟨S1024x1024, .f32⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![9, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S17408x4096 : Shape := ⟨2, ![17408, 4096]⟩
abbrev S2x4096x9232 : Shape := ⟨3, ![2, 4096, 9232]⟩
abbrev S1x4096x9232 : Shape := ⟨3, ![1, 4096, 9232]⟩
abbrev S4096x9232 : Shape := ⟨2, ![4096, 9232]⟩
abbrev S17408x9232 : Shape := ⟨2, ![17408, 9232]⟩
abbrev S17408x9216 : Shape := ⟨2, ![17408, 9216]⟩

abbrev nBuf : Space → Nat
  | .hbm => 6
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S2x4096x9232, .f32⟩
  | .hbm, ⟨2, _⟩ => ⟨S1x4096x9232, .f32⟩
  | .hbm, ⟨3, _⟩ => ⟨S4096x9232, .f32⟩
  | .hbm, ⟨4, _⟩ => ⟨S17408x9232, .f32⟩
  | .hbm, ⟨5, _⟩ => ⟨S17408x9216, .f32⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S17408x2048 : Shape := ⟨2, ![17408, 2048]⟩
abbrev S17408x1024 : Shape := ⟨2, ![17408, 1024]⟩
abbrev S2x4096x4096 : Shape := ⟨3, ![2, 4096, 4096]⟩
abbrev S4x4096x4096 : Shape := ⟨3, ![4, 4096, 4096]⟩
abbrev S4x256x4096 : Shape := ⟨3, ![4, 256, 4096]⟩
abbrev S4x6x4096 : Shape := ⟨3, ![4, 6, 4096]⟩
abbrev S6x4096 : Shape := ⟨2, ![6, 4096]⟩
abbrev S1x6x4096 : Shape := ⟨3, ![1, 6, 4096]⟩
abbrev S5x6x4096 : Shape := ⟨3, ![5, 6, 4096]⟩
abbrev S_ : Shape := ⟨0, ![]⟩
abbrev S3x6x4096 : Shape := ⟨3, ![3, 6, 4096]⟩
abbrev S8x6x4096 : Shape := ⟨3, ![8, 6, 4096]⟩
abbrev S16384x4096 : Shape := ⟨2, ![16384, 4096]⟩
abbrev S1024x4096 : Shape := ⟨2, ![1024, 4096]⟩
abbrev S8x6x1x4096 : Shape := ⟨4, ![8, 6, 1, 4096]⟩
abbrev S17408x4096 : Shape := ⟨2, ![17408, 4096]⟩
abbrev S1024x2048 : Shape := ⟨2, ![1024, 2048]⟩
abbrev S1024x1024 : Shape := ⟨2, ![1024, 1024]⟩
abbrev S1x2048x512 : Shape := ⟨3, ![1, 2048, 512]⟩
abbrev S1x1024x512 : Shape := ⟨3, ![1, 1024, 512]⟩
abbrev S1024x512 : Shape := ⟨2, ![1024, 512]⟩
abbrev S1x1x1x512 : Shape := ⟨4, ![1, 1, 1, 512]⟩
abbrev S2048x512 : Shape := ⟨2, ![2048, 512]⟩
abbrev S1x512 : Shape := ⟨2, ![1, 512]⟩

abbrev nBuf : Space → Nat
  | .hbm => 21
  | .vmem => 20
  | .smem => 0
  | _ => 0

abbrev bufTy : (tb : Table) → Fin (tcTables nBuf tb) → BufTy
  | .hbm, ⟨0, _⟩ => ⟨S17408x2048, .f32⟩
  | .hbm, ⟨1, _⟩ => ⟨S17408x1024, .f32⟩
  | .hbm, ⟨2, _⟩ => ⟨S17408x1024, .f32⟩
  | .hbm, ⟨3, _⟩ => ⟨S2x4096x4096, .f32⟩
  | .hbm, ⟨4, _⟩ => ⟨S4x4096x4096, .f32⟩
  | .hbm, ⟨5, _⟩ => ⟨S4x256x4096, .f32⟩
  | .hbm, ⟨6, _⟩ => ⟨S4x6x4096, .f32⟩
  | .hbm, ⟨7, _⟩ => ⟨S6x4096, .f32⟩
  | .hbm, ⟨8, _⟩ => ⟨S1x6x4096, .f32⟩
  | .hbm, ⟨9, _⟩ => ⟨S5x6x4096, .f32⟩
  | .hbm, ⟨10, _⟩ => ⟨S_, .f32⟩
  | .hbm, ⟨11, _⟩ => ⟨S3x6x4096, .f32⟩
  | .hbm, ⟨12, _⟩ => ⟨S8x6x4096, .f32⟩
  | .hbm, ⟨13, _⟩ => ⟨S16384x4096, .f32⟩
  | .hbm, ⟨14, _⟩ => ⟨S1024x4096, .f32⟩
  | .hbm, ⟨15, _⟩ => ⟨S17408x2048, .bf16⟩
  | .hbm, ⟨16, _⟩ => ⟨S17408x1024, .bf16⟩
  | .hbm, ⟨17, _⟩ => ⟨S17408x1024, .bf16⟩
  | .hbm, ⟨18, _⟩ => ⟨S2x4096x4096, .bf16⟩
  | .hbm, ⟨19, _⟩ => ⟨S8x6x1x4096, .f32⟩
  | .hbm, ⟨20, _⟩ => ⟨S17408x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1x1x1x512, .f32⟩
  | .local _ .vmem, ⟨17, _⟩ => ⟨S1x1x1x512, .f32⟩
  | .local _ .vmem, ⟨18, _⟩ => ⟨S1024x512, .f32⟩
  | .local _ .vmem, ⟨19, _⟩ => ⟨S1024x512, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat, arg1.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  ![v0.toNat, arg1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  ![v1.toNat, arg1.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c2_i32 : BitVec 32 := 2#32
  let c0_i32_5 : BitVec 32 := 0#32
  let c0_i32_6 : BitVec 32 := 0#32
  ![v17.toNat, c2_i32.toNat, c0_i32_5.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S17408x2048 : Shape := ⟨2, ![17408, 2048]⟩
abbrev S17408x1024 : Shape := ⟨2, ![17408, 1024]⟩
abbrev S2x4096x4096 : Shape := ⟨3, ![2, 4096, 4096]⟩
abbrev S4x4096x4096 : Shape := ⟨3, ![4, 4096, 4096]⟩
abbrev S4x256x4096 : Shape := ⟨3, ![4, 256, 4096]⟩
abbrev S4x6x4096 : Shape := ⟨3, ![4, 6, 4096]⟩
abbrev S6x4096 : Shape := ⟨2, ![6, 4096]⟩
abbrev S17408x4096 : Shape := ⟨2, ![17408, 4096]⟩
abbrev S1x4096x4096 : Shape := ⟨3, ![1, 4096, 4096]⟩
abbrev S4096x4096 : Shape := ⟨2, ![4096, 4096]⟩
abbrev S16384x4096 : Shape := ⟨2, ![16384, 4096]⟩
abbrev S1024x4096 : Shape := ⟨2, ![1024, 4096]⟩
abbrev S_ : Shape := ⟨0, ![]⟩
abbrev S4x1x4096 : Shape := ⟨3, ![4, 1, 4096]⟩
abbrev S4x4096 : Shape := ⟨2, ![4, 4096]⟩
abbrev S1x4096 : Shape := ⟨2, ![1, 4096]⟩
abbrev S4096 : Shape := ⟨1, ![4096]⟩
abbrev S1x1x4096 : Shape := ⟨3, ![1, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S17408x1024, .f32⟩
  | .hbm, ⟨2, _⟩ => ⟨S17408x1024, .f32⟩
  | .hbm, ⟨3, _⟩ => ⟨S2x4096x4096, .f32⟩
  | .hbm, ⟨4, _⟩ => ⟨S4x4096x4096, .f32⟩
  | .hbm, ⟨5, _⟩ => ⟨S4x256x4096, .f32⟩
  | .hbm, ⟨6, _⟩ => ⟨S4x6x4096, .f32⟩
  | .hbm, ⟨7, _⟩ => ⟨S6x4096, .f32⟩
  | .hbm, ⟨8, _⟩ => ⟨S17408x4096, .f32⟩
  | .hbm, ⟨9, _⟩ => ⟨S1x4096x4096, .f32⟩
  | .hbm, ⟨10, _⟩ => ⟨S4096x4096, .f32⟩
  | .hbm, ⟨11, _⟩ => ⟨S17408x4096, .f32⟩
  | .hbm, ⟨12, _⟩ => ⟨S16384x4096, .f32⟩
  | .hbm, ⟨13, _⟩ => ⟨S4x4096x4096, .f32⟩
  | .hbm, ⟨14, _⟩ => ⟨S1024x4096, .f32⟩
  | .hbm, ⟨15, _⟩ => ⟨S4x256x4096, .f32⟩
  | .hbm, ⟨16, _⟩ => ⟨S_, .f32⟩
  | .hbm, ⟨17, _⟩ => ⟨S4x4096x4096, .f32⟩
  | .hbm, ⟨18, _⟩ => ⟨S4x4096x4096, .f32⟩
  | .hbm, ⟨19, _⟩ => ⟨S4x1x4096, .f32⟩
  | .hbm, ⟨20, _⟩ => ⟨S4x4096, .f32⟩
  | .hbm, ⟨21, _⟩ => ⟨S4x1x4096, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x256x4096, .f32⟩
  | .hbm, ⟨27, _⟩ => ⟨S4x256x4096, .f32⟩
  | .hbm, ⟨28, _⟩ => ⟨S1x4096, .f32⟩
  | .hbm, ⟨29, _⟩ => ⟨S4096, .f32⟩
  | .hbm, ⟨30, _⟩ => ⟨S1x1x4096, .f32⟩
  | .hbm, ⟨31, _⟩ => ⟨S4x256x4096, .f32⟩
  | .hbm, ⟨32, _⟩ => ⟨S4x256x4096, .f32⟩
  | .hbm, ⟨33, _⟩ => ⟨S4x256x4096, .f32⟩
  | .hbm, ⟨34, _⟩ => ⟨S16384x4096, .f32⟩
  | .hbm, ⟨35, _⟩ => ⟨S1024x4096, .f32⟩
  | .hbm, ⟨36, _⟩ => ⟨S17408x4096, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel4.lean ====
abbrev S4x16x544x2048 : Shape := ⟨4, ![4, 16, 544, 2048]⟩
abbrev S2x16x4096x1024 : Shape := ⟨4, ![2, 16, 4096, 1024]⟩
abbrev S4x16x544x1024 : Shape := ⟨4, ![4, 16, 544, 1024]⟩
abbrev S2x1x544x2048 : Shape := ⟨4, ![2, 1, 544, 2048]⟩
abbrev S2x1x544x256 : Shape := ⟨4, ![2, 1, 544, 256]⟩
abbrev S2x2x4096x256 : Shape := ⟨4, ![2, 2, 4096, 256]⟩
abbrev S2 : Shape := ⟨1, ![2]⟩
abbrev S1 : Shape := ⟨1, ![1]⟩
abbrev S_ : Shape := ⟨0, ![]⟩
abbrev S1x1x2048x256 : Shape := ⟨4, ![1, 1, 2048, 256]⟩
abbrev S2048x256 : Shape := ⟨2, ![2048, 256]⟩
abbrev S2x544x2048 : Shape := ⟨3, ![2, 544, 2048]⟩
abbrev S1088x2048 : Shape := ⟨2, ![1088, 2048]⟩
abbrev S1x1x4096x256 : Shape := ⟨4, ![1, 1, 4096, 256]⟩
abbrev S4096x256 : Shape := ⟨2, ![4096, 256]⟩
abbrev S1088x256 : Shape := ⟨2, ![1088, 256]⟩
abbrev S2x544x256 : Shape := ⟨3, ![2, 544, 256]⟩

abbrev nBuf : Space → Nat
  | .hbm => 4
  | .vmem => 5
  | .smem => 0
  | _ => 0

abbrev bufTy : (tb : Table) → Fin (tcTables nBuf tb) → BufTy
  | .hbm, ⟨0, _⟩ => ⟨S4x16x544x2048, .i32⟩
  | .hbm, ⟨1, _⟩ => ⟨S2x16x4096x1024, .f32⟩
  | .hbm, ⟨2, _⟩ => ⟨S2x16x4096x1024, .f32⟩
  | .hbm, ⟨3, _⟩ => ⟨S4x16x544x1024, .bf16⟩
  | .local _ .vmem, ⟨0, _⟩ => ⟨S2x1x544x2048, .i32⟩
  | .local _ .vmem, ⟨1, _⟩ => ⟨S2x1x544x2048, .i32⟩
  | .local _ .vmem, ⟨2, _⟩ => ⟨S2x1x544x256, .bf16⟩
  | .local _ .vmem, ⟨3, _⟩ => ⟨S2x1x544x256, .bf16⟩
  | .local _ .vmem, ⟨4, _⟩ => ⟨S2x2x4096x256, .f32⟩
  | _, _ => ⟨S4x16x544x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![64, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_28 : BitVec 32 := 0#32
  c0_i32_28
def k0_mult2 : BitVec 32 :=
  let c0_i32_29 : BitVec 32 := 0#32
  c0_i32_29
def k0_mult3 : BitVec 32 :=
  let c2048_i32 : BitVec 32 := 2048#32
  c2048_i32
def k0_mult4 : BitVec 32 :=
  let c0_i32_42 : BitVec 32 := 0#32
  c0_i32_42
def k0_cond2 (i : grid0.Coords) : BitVec 1 :=
  let arg0 : BitVec 32 := BitVec.ofNat 32 (i 0).val
  let c1_i32 : BitVec 32 := 1#32
  let v5 : BitVec 32 := Scalar.addi arg0 c1_i32
  let c64_i32 : BitVec 32 := 64#32
  let v6 : BitVec 1 := Scalar.cmpi .slt v5 c64_i32
  let v7 : BitVec 32 := Scalar.extui v6
  let c0_i32_2 : BitVec 32 := 0#32
  let v8 : BitVec 1 := Scalar.cmpi .ne v7 c0_i32_2
  v8

def k0_mult5 (i : grid0.Coords) : BitVec 32 :=
  let arg1 : BitVec 32 := BitVec.ofNat 32 (i 1).val
  let c2048_i32 : BitVec 32 := 2048#32
  let v77 : BitVec 32 := Scalar.muli arg1 c2048_i32
  v77
def k0_mult6 (i : grid0.Coords) : BitVec 32 :=
  let arg0 : BitVec 32 := BitVec.ofNat 32 (i 0).val
  let c1_i32_28 : BitVec 32 := 1#32
  let v65 : BitVec 32 := Scalar.addi arg0 c1_i32_28
  let c4_i32 : BitVec 32 := 4#32
  let c0_i32_36 : BitVec 32 := 0#32
  let v79 : BitVec 1 := Scalar.cmpi .eq c4_i32 c0_i32_36
  let c1_i32_37 : BitVec 32 := 1#32
  let v80 : BitVec 32 := Scalar.select v79 c1_i32_37 c4_i32
  let v81 : BitVec 32 := Scalar.remsi v65 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c256_i32 : BitVec 32 := 256#32
  let v89 : BitVec 32 := Scalar.muli v88 c256_i32
  v89
def k0_off1 (i : grid0.Coords) : Fin 1 → Nat :=
  let arg0 : BitVec 32 := BitVec.ofNat 32 (i 0).val
  let c1_i32_29 : BitVec 32 := 1#32
  let v66 : BitVec 32 := Scalar.addi arg0 c1_i32_29
  let c2_i32_30 : BitVec 32 := 2#32
  let c0_i32_31 : BitVec 32 := 0#32
  let v67 : BitVec 1 := Scalar.cmpi .eq c2_i32_30 c0_i32_31
  let c1_i32_32 : BitVec 32 := 1#32
  let v68 : BitVec 32 := Scalar.select v67 c1_i32_32 c2_i32_30
  let v69 : BitVec 32 := Scalar.remsi v66 v68
  let c0_i32_34 : BitVec 32 := 0#32
  let v71 : BitVec 1 := Scalar.cmpi .slt v69 c0_i32_34
  let c0_i32_35 : BitVec 32 := 0#32
  let v72 : BitVec 1 := Scalar.cmpi .slt v68 c0_i32_35
  let v73 : BitVec 1 := Scalar.xori v71 v72
  let c0_i32_33 : BitVec 32 := 0#32
  let v70 : BitVec 1 := Scalar.cmpi .ne v69 c0_i32_33
  let v74 : BitVec 1 := Scalar.andi v73 v70
  let v75 : BitVec 32 := Scalar.addi v69 v68
  let v76 : BitVec 32 := Scalar.select v74 v75 v69
  ![v76.toNat]
def k0_off2 (i : grid0.Coords) : Fin 4 → Nat :=
  let arg0 : BitVec 32 := BitVec.ofNat 32 (i 0).val
  let c1_i32_29 : BitVec 32 := 1#32
  let v66 : BitVec 32 := Scalar.addi arg0 c1_i32_29
  let c2_i32_30 : BitVec 32 := 2#32
  let c0_i32_31 : BitVec 32 := 0#32
  let v67 : BitVec 1 := Scalar.cmpi .eq c2_i32_30 c0_i32_31
  let c1_i32_32 : BitVec 32 := 1#32
  let v68 : BitVec 32 := Scalar.select v67 c1_i32_32 c2_i32_30
  let v69 : BitVec 32 := Scalar.remsi v66 v68
  let c0_i32_34 : BitVec 32 := 0#32
  let v71 : BitVec 1 := Scalar.cmpi .slt v69 c0_i32_34
  let c0_i32_35 : BitVec 32 := 0#32
  let v72 : BitVec 1 := Scalar.cmpi .slt v68 c0_i32_35
  let v73 : BitVec 1 := Scalar.xori v71 v72
  let c0_i32_33 : BitVec 32 := 0#32
  let v70 : BitVec 1 := Scalar.cmpi .ne v69 c0_i32_33
  let v74 : BitVec 1 := Scalar.andi v73 v70
  let v75 : BitVec 32 := Scalar.addi v69 v68
  let v76 : BitVec 32 := Scalar.select v74 v75 v69
  let c0_i32_56 : BitVec 32 := 0#32
  let arg1 : BitVec 32 := BitVec.ofNat 32 (i 1).val
  let c2048_i32 : BitVec 32 := 2048#32
  let v77 : BitVec 32 := Scalar.muli arg1 c2048_i32
  let v78 : BitVec 32 := v77
  let c0_i32_57 : BitVec 32 := 0#32
  ![v76.toNat, 0, v78.toNat, 0]
def k0_off3 (i : grid0.Coords) : Fin 4 → Nat :=
  let c0_i32_55 : BitVec 32 := 0#32
  let arg0 : BitVec 32 := BitVec.ofNat 32 (i 0).val
  let c1_i32_28 : BitVec 32 := 1#32
  let v65 : BitVec 32 := Scalar.addi arg0 c1_i32_28
  let c0_i32_42 : BitVec 32 := 0#32
  let v92 : BitVec 1 := Scalar.cmpi .sgt v65 c0_i32_42
  let v93 : BitVec 32 := Scalar.extui v92
  let c0_i32_43 : BitVec 32 := 0#32
  let v94 : BitVec 1 := Scalar.cmpi .slt v65 c0_i32_43
  let v95 : BitVec 32 := Scalar.extui v94
  let v96 : BitVec 32 := Scalar.subi v93 v95
  let c4_i32_41 : BitVec 32 := 4#32
  let c0_i32_44 : BitVec 32 := 0#32
  let v97 : BitVec 1 := Scalar.cmpi .sgt c4_i32_41 c0_i32_44
  let v98 : BitVec 32 := Scalar.extui v97
  let c0_i32_45 : BitVec 32 := 0#32
  let v99 : BitVec 1 := Scalar.cmpi .slt c4_i32_41 c0_i32_45
  let v100 : BitVec 32 := Scalar.extui v99
  let v101 : BitVec 32 := Scalar.subi v98 v100
  let v102 : BitVec 1 := Scalar.cmpi .ne v96 v101
  let v103 : BitVec 32 := Scalar.remsi v65 c4_i32_41
  let c0_i32_46 : BitVec 32 := 0#32
  let v104 : BitVec 1 := Scalar.cmpi .ne v103 c0_i32_46
  let v105 : BitVec 1 := Scalar.andi v102 v104
  let v91 : BitVec 32 := Scalar.divsi v65 c4_i32_41
  let c1_i32_47 : BitVec 32 := 1#32
  let v106 : BitVec 32 := Scalar.subi v91 c1_i32_47
  let v107 : BitVec 32 := Scalar.select v105 v106 v91
  let arg1 : BitVec 32 := BitVec.ofNat 32 (i 1).val
  let c2048_i32 : BitVec 32 := 2048#32
  let v77 : BitVec 32 := Scalar.muli arg1 c2048_i32
  let v78 : BitVec 32 := v77
  let c4_i32 : BitVec 32 := 4#32
  let c0_i32_36 : BitVec 32 := 0#32
  let v79 : BitVec 1 := Scalar.cmpi .eq c4_i32 c0_i32_36
  let c1_i32_37 : BitVec 32 := 1#32
  let v80 : BitVec 32 := Scalar.select v79 c1_i32_37 c4_i32
  let v81 : BitVec 32 := Scalar.remsi v65 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c256_i32 : BitVec 32 := 256#32
  let v89 : BitVec 32 := Scalar.muli v88 c256_i32
  let v90 : BitVec 32 := v89
  ![0, v107.toNat, v78.toNat, v90.toNat]
def k0_off4 (i : grid0.Coords) : Fin 4 → Nat :=
  let arg0 : BitVec 32 := BitVec.ofNat 32 (i 0).val
  let c1_i32_29 : BitVec 32 := 1#32
  let v66 : BitVec 32 := Scalar.addi arg0 c1_i32_29
  let c2_i32_30 : BitVec 32 := 2#32
  let c0_i32_31 : BitVec 32 := 0#32
  let v67 : BitVec 1 := Scalar.cmpi .eq c2_i32_30 c0_i32_31
  let c1_i32_32 : BitVec 32 := 1#32
  let v68 : BitVec 32 := Scalar.select v67 c1_i32_32 c2_i32_30
  let v69 : BitVec 32 := Scalar.remsi v66 v68
  let c0_i32_34 : BitVec 32 := 0#32
  let v71 : BitVec 1 := Scalar.cmpi .slt v69 c0_i32_34
  let c0_i32_35 : BitVec 32 := 0#32
  let v72 : BitVec 1 := Scalar.cmpi .slt v68 c0_i32_35
  let v73 : BitVec 1 := Scalar.xori v71 v72
  let c0_i32_33 : BitVec 32 := 0#32
  let v70 : BitVec 1 := Scalar.cmpi .ne v69 c0_i32_33
  let v74 : BitVec 1 := Scalar.andi v73 v70
  let v75 : BitVec 32 := Scalar.addi v69 v68
  let v76 : BitVec 32 := Scalar.select v74 v75 v69
  let c1_i32_59 : BitVec 32 := 1#32
  let arg1 : BitVec 32 := BitVec.ofNat 32 (i 1).val
  let c2048_i32 : BitVec 32 := 2048#32
  let v77 : BitVec 32 := Scalar.muli arg1 c2048_i32
  let v78 : BitVec 32 := v77
  let c0_i32_60 : BitVec 32 := 0#32
  ![v76.toNat, 1, v78.toNat, 0]
def k0_cond3 (i : grid0.Coords) : BitVec 1 :=
  let arg1 : BitVec 32 := BitVec.ofNat 32 (i 1).val
  let c0_i32_3 : BitVec 32 := 0#32
  let v9 : BitVec 1 := Scalar.cmpi .eq arg1 c0_i32_3
  let v10 : BitVec 32 := Scalar.extui v9
  let c0_i32_4 : BitVec 32 := 0#32
  let v11 : BitVec 1 := Scalar.cmpi .ne v10 c0_i32_4
  v11

def k0_mult7 : BitVec 32 :=
  let c0_i32_34 : BitVec 32 := 0#32
  c0_i32_34
def k0_mult8 (i : grid0.Coords) : BitVec 32 :=
  let arg0 : BitVec 32 := BitVec.ofNat 32 (i 0).val
  let c4_i32 : BitVec 32 := 4#32
  let c0_i32_35 : BitVec 32 := 0#32
  let v76 : BitVec 1 := Scalar.cmpi .eq c4_i32 c0_i32_35
  let c1_i32_36 : BitVec 32 := 1#32
  let v77 : BitVec 32 := Scalar.select v76 c1_i32_36 c4_i32
  let v78 : BitVec 32 := Scalar.remsi arg0 v77
  let c0_i32_38 : BitVec 32 := 0#32
  let v80 : BitVec 1 := Scalar.cmpi .slt v78 c0_i32_38
  let c0_i32_39 : BitVec 32 := 0#32
  let v81 : BitVec 1 := Scalar.cmpi .slt v77 c0_i32_39
  let v82 : BitVec 1 := Scalar.xori v80 v81
  let c0_i32_37 : BitVec 32 := 0#32
  let v79 : BitVec 1 := Scalar.cmpi .ne v78 c0_i32_37
  let v83 : BitVec 1 := Scalar.andi v82 v79
  let v84 : BitVec 32 := Scalar.addi v78 v77
  let v85 : BitVec 32 := Scalar.select v83 v84 v78
  let c256_i32 : BitVec 32 := 256#32
  let v86 : BitVec 32 := Scalar.muli v85 c256_i32
  v86
def k0_off5 (i : grid0.Coords) : Fin 1 → Nat :=
  let arg0 : BitVec 32 := BitVec.ofNat 32 (i 0).val
  let c2_i32_28 : BitVec 32 := 2#32
  let c0_i32_29 : BitVec 32 := 0#32
  let v65 : BitVec 1 := Scalar.cmpi .eq c2_i32_28 c0_i32_29
  let c1_i32_30 : BitVec 32 := 1#32
  let v66 : BitVec 32 := Scalar.select v65 c1_i32_30 c2_i32_28
  let v67 : BitVec 32 := Scalar.remsi arg0 v66
  let c0_i32_32 : BitVec 32 := 0#32
  let v69 : BitVec 1 := Scalar.cmpi .slt v67 c0_i32_32
  let c0_i32_33 : BitVec 32 := 0#32
  let v70 : BitVec 1 := Scalar.cmpi .slt v66 c0_i32_33
  let v71 : BitVec 1 := Scalar.xori v69 v70
  let c0_i32_31 : BitVec 32 := 0#32
  let v68 : BitVec 1 := Scalar.cmpi .ne v67 c0_i32_31
  let v72 : BitVec 1 := Scalar.andi v71 v68
  let v73 : BitVec 32 := Scalar.addi v67 v66
  let v74 : BitVec 32 := Scalar.select v72 v73 v67
  ![v74.toNat]
def k0_off6 (i : grid0.Coords) : Fin 4 → Nat :=
  let arg0 : BitVec 32 := BitVec.ofNat 32 (i 0).val
  let c2_i32_28 : BitVec 32 := 2#32
  let c0_i32_29 : BitVec 32 := 0#32
  let v65 : BitVec 1 := Scalar.cmpi .eq c2_i32_28 c0_i32_29
  let c1_i32_30 : BitVec 32 := 1#32
  let v66 : BitVec 32 := Scalar.select v65 c1_i32_30 c2_i32_28
  let v67 : BitVec 32 := Scalar.remsi arg0 v66
  let c0_i32_32 : BitVec 32 := 0#32
  let v69 : BitVec 1 := Scalar.cmpi .slt v67 c0_i32_32
  let c0_i32_33 : BitVec 32 := 0#32
  let v70 : BitVec 1 := Scalar.cmpi .slt v66 c0_i32_33
  let v71 : BitVec 1 := Scalar.xori v69 v70
  let c0_i32_31 : BitVec 32 := 0#32
  let v68 : BitVec 1 := Scalar.cmpi .ne v67 c0_i32_31
  let v72 : BitVec 1 := Scalar.andi v71 v68
  let v73 : BitVec 32 := Scalar.addi v67 v66
  let v74 : BitVec 32 := Scalar.select v72 v73 v67
  let c0_i32_55 : BitVec 32 := 0#32
  let c0_i32_34 : BitVec 32 := 0#32
  let v75 : BitVec 32 := c0_i32_34
  let c0_i32_56 : BitVec 32 := 0#32
  ![v74.toNat, 0, 0, 0]
def k0_off7 (i : grid0.Coords) : Fin 4 → Nat :=
  let c0_i32_54 : BitVec 32 := 0#32
  let arg0 : BitVec 32 := BitVec.ofNat 32 (i 0).val
  let c0_i32_41 : BitVec 32 := 0#32
  let v89 : BitVec 1 := Scalar.cmpi .sgt arg0 c0_i32_41
  let v90 : BitVec 32 := Scalar.extui v89
  let c0_i32_42 : BitVec 32 := 0#32
  let v91 : BitVec 1 := Scalar.cmpi .slt arg0 c0_i32_42
  let v92 : BitVec 32 := Scalar.extui v91
  let v93 : BitVec 32 := Scalar.subi v90 v92
  let c4_i32_40 : BitVec 32 := 4#32
  let c0_i32_43 : BitVec 32 := 0#32
  let v94 : BitVec 1 := Scalar.cmpi .sgt c4_i32_40 c0_i32_43
  let v95 : BitVec 32 := Scalar.extui v94
  let c0_i32_44 : BitVec 32 := 0#32
  let v96 : BitVec 1 := Scalar.cmpi .slt c4_i32_40 c0_i32_44
  let v97 : BitVec 32 := Scalar.extui v96
  let v98 : BitVec 32 := Scalar.subi v95 v97
  let v99 : BitVec 1 := Scalar.cmpi .ne v93 v98
  let v100 : BitVec 32 := Scalar.remsi arg0 c4_i32_40
  let c0_i32_45 : BitVec 32 := 0#32
  let v101 : BitVec 1 := Scalar.cmpi .ne v100 c0_i32_45
  let v102 : BitVec 1 := Scalar.andi v99 v101
  let v88 : BitVec 32 := Scalar.divsi arg0 c4_i32_40
  let c1_i32_46 : BitVec 32 := 1#32
  let v103 : BitVec 32 := Scalar.subi v88 c1_i32_46
  let v104 : BitVec 32 := Scalar.select v102 v103 v88
  let c0_i32_34 : BitVec 32 := 0#32
  let v75 : BitVec 32 := c0_i32_34
  let c4_i32 : BitVec 32 := 4#32
  let c0_i32_35 : BitVec 32 := 0#32
  let v76 : BitVec 1 := Scalar.cmpi .eq c4_i32 c0_i32_35
  let c1_i32_36 : BitVec 32 := 1#32
  let v77 : BitVec 32 := Scalar.select v76 c1_i32_36 c4_i32
  let v78 : BitVec 32 := Scalar.remsi arg0 v77
  let c0_i32_38 : BitVec 32 := 0#32
  let v80 : BitVec 1 := Scalar.cmpi .slt v78 c0_i32_38
  let c0_i32_39 : BitVec 32 := 0#32
  let v81 : BitVec 1 := Scalar.cmpi .slt v77 c0_i32_39
  let v82 : BitVec 1 := Scalar.xori v80 v81
  let c0_i32_37 : BitVec 32 := 0#32
  let v79 : BitVec 1 := Scalar.cmpi .ne v78 c0_i32_37
  let v83 : BitVec 1 := Scalar.andi v82 v79
  let v84 : BitVec 32 := Scalar.addi v78 v77
  let v85 : BitVec 32 := Scalar.select v83 v84 v78
  let c256_i32 : BitVec 32 := 256#32
  let v86 : BitVec 32 := Scalar.muli v85 c256_i32
  let v87 : BitVec 32 := v86
  ![0, v104.toNat, 0, v87.toNat]
def k0_off8 (i : grid0.Coords) : Fin 4 → Nat :=
  let arg0 : BitVec 32 := BitVec.ofNat 32 (i 0).val
  let c2_i32_28 : BitVec 32 := 2#32
  let c0_i32_29 : BitVec 32 := 0#32
  let v65 : BitVec 1 := Scalar.cmpi .eq c2_i32_28 c0_i32_29
  let c1_i32_30 : BitVec 32 := 1#32
  let v66 : BitVec 32 := Scalar.select v65 c1_i32_30 c2_i32_28
  let v67 : BitVec 32 := Scalar.remsi arg0 v66
  let c0_i32_32 : BitVec 32 := 0#32
  let v69 : BitVec 1 := Scalar.cmpi .slt v67 c0_i32_32
  let c0_i32_33 : BitVec 32 := 0#32
  let v70 : BitVec 1 := Scalar.cmpi .slt v66 c0_i32_33
  let v71 : BitVec 1 := Scalar.xori v69 v70
  let c0_i32_31 : BitVec 32 := 0#32
  let v68 : BitVec 1 := Scalar.cmpi .ne v67 c0_i32_31
  let v72 : BitVec 1 := Scalar.andi v71 v68
  let v73 : BitVec 32 := Scalar.addi v67 v66
  let v74 : BitVec 32 := Scalar.select v72 v73 v67
  let c1_i32_58 : BitVec 32 := 1#32
  let c0_i32_34 : BitVec 32 := 0#32
  let v75 : BitVec 32 := c0_i32_34
  let c0_i32_59 : BitVec 32 := 0#32
  ![v74.toNat, 1, 0, 0]
def k0_mult9 : BitVec 32 :=
  let c2048_i32 : BitVec 32 := 2048#32
  c2048_i32
def k0_mult10 (i : grid0.Coords) : BitVec 32 :=
  let arg0 : BitVec 32 := BitVec.ofNat 32 (i 0).val
  let c4_i32_66 : BitVec 32 := 4#32
  let c0_i32_67 : BitVec 32 := 0#32
  let v145 : BitVec 1 := Scalar.cmpi .eq c4_i32_66 c0_i32_67
  let c1_i32_68 : BitVec 32 := 1#32
  let v146 : BitVec 32 := Scalar.select v145 c1_i32_68 c4_i32_66
  let v147 : BitVec 32 := Scalar.remsi arg0 v146
  let c0_i32_70 : BitVec 32 := 0#32
  let v149 : BitVec 1 := Scalar.cmpi .slt v147 c0_i32_70
  let c0_i32_71 : BitVec 32 := 0#32
  let v150 : BitVec 1 := Scalar.cmpi .slt v146 c0_i32_71
  let v151 : BitVec 1 := Scalar.xori v149 v150
  let c0_i32_69 : BitVec 32 := 0#32
  let v148 : BitVec 1 := Scalar.cmpi .ne v147 c0_i32_69
  let v152 : BitVec 1 := Scalar.andi v151 v148
  let v153 : BitVec 32 := Scalar.addi v147 v146
  let v154 : BitVec 32 := Scalar.select v152 v153 v147
  let c256_i32_72 : BitVec 32 := 256#32
  let v155 : BitVec 32 := Scalar.muli v154 c256_i32_72
  v155
def k0_off9 (i : grid0.Coords) : Fin 4 → Nat :=
  let arg0 : BitVec 32 := BitVec.ofNat 32 (i 0).val
  let c2_i32_60 : BitVec 32 := 2#32
  let c0_i32_61 : BitVec 32 := 0#32
  let v134 : BitVec 1 := Scalar.cmpi .eq c2_i32_60 c0_i32_61
  let c1_i32_62 : BitVec 32 := 1#32
  let v135 : BitVec 32 := Scalar.select v134 c1_i32_62 c2_i32_60
  let v136 : BitVec 32 := Scalar.remsi arg0 v135
  let c0_i32_64 : BitVec 32 := 0#32
  let v138 : BitVec 1 := Scalar.cmpi .slt v136 c0_i32_64
  let c0_i32_65 : BitVec 32 := 0#32
  let v139 : BitVec 1 := Scalar.cmpi .slt v135 c0_i32_65
  let v140 : BitVec 1 := Scalar.xori v138 v139
  let c0_i32_63 : BitVec 32 := 0#32
  let v137 : BitVec 1 := Scalar.cmpi .ne v136 c0_i32_63
  let v141 : BitVec 1 := Scalar.andi v140 v137
  let v142 : BitVec 32 := Scalar.addi v136 v135
  let v143 : BitVec 32 := Scalar.select v141 v142 v136
  let c0_i32_88 : BitVec 32 := 0#32
  let c2048_i32 : BitVec 32 := 2048#32
  let v144 : BitVec 32 := c2048_i32
  let c0_i32_89 : BitVec 32 := 0#32
  ![v143.toNat, 0, 2048, 0]
def k0_off10 (i : grid0.Coords) : Fin 4 → Nat :=
  let c0_i32_87 : BitVec 32 := 0#32
  let arg0 : BitVec 32 := BitVec.ofNat 32 (i 0).val
  let c0_i32_74 : BitVec 32 := 0#32
  let v158 : BitVec 1 := Scalar.cmpi .sgt arg0 c0_i32_74
  let v159 : BitVec 32 := Scalar.extui v158
  let c0_i32_75 : BitVec 32 := 0#32
  let v160 : BitVec 1 := Scalar.cmpi .slt arg0 c0_i32_75
  let v161 : BitVec 32 := Scalar.extui v160
  let v162 : BitVec 32 := Scalar.subi v159 v161
  let c4_i32_73 : BitVec 32 := 4#32
  let c0_i32_76 : BitVec 32 := 0#32
  let v163 : BitVec 1 := Scalar.cmpi .sgt c4_i32_73 c0_i32_76
  let v164 : BitVec 32 := Scalar.extui v163
  let c0_i32_77 : BitVec 32 := 0#32
  let v165 : BitVec 1 := Scalar.cmpi .slt c4_i32_73 c0_i32_77
  let v166 : BitVec 32 := Scalar.extui v165
  let v167 : BitVec 32 := Scalar.subi v164 v166
  let v168 : BitVec 1 := Scalar.cmpi .ne v162 v167
  let v169 : BitVec 32 := Scalar.remsi arg0 c4_i32_73
  let c0_i32_78 : BitVec 32 := 0#32
  let v170 : BitVec 1 := Scalar.cmpi .ne v169 c0_i32_78
  let v171 : BitVec 1 := Scalar.andi v168 v170
  let v157 : BitVec 32 := Scalar.divsi arg0 c4_i32_73
  let c1_i32_79 : BitVec 32 := 1#32
  let v172 : BitVec 32 := Scalar.subi v157 c1_i32_79
  let v173 : BitVec 32 := Scalar.select v171 v172 v157
  let c2048_i32 : BitVec 32 := 2048#32
  let v144 : BitVec 32 := c2048_i32
  let c4_i32_66 : BitVec 32 := 4#32
  let c0_i32_67 : BitVec 32 := 0#32
  let v145 : BitVec 1 := Scalar.cmpi .eq c4_i32_66 c0_i32_67
  let c1_i32_68 : BitVec 32 := 1#32
  let v146 : BitVec 32 := Scalar.select v145 c1_i32_68 c4_i32_66
  let v147 : BitVec 32 := Scalar.remsi arg0 v146
  let c0_i32_70 : BitVec 32 := 0#32
  let v149 : BitVec 1 := Scalar.cmpi .slt v147 c0_i32_70
  let c0_i32_71 : BitVec 32 := 0#32
  let v150 : BitVec 1 := Scalar.cmpi .slt v146 c0_i32_71
  let v151 : BitVec 1 := Scalar.xori v149 v150
  let c0_i32_69 : BitVec 32 := 0#32
  let v148 : BitVec 1 := Scalar.cmpi .ne v147 c0_i32_69
  let v152 : BitVec 1 := Scalar.andi v151 v148
  let v153 : BitVec 32 := Scalar.addi v147 v146
  let v154 : BitVec 32 := Scalar.select v152 v153 v147
  let c256_i32_72 : BitVec 32 := 256#32
  let v155 : BitVec 32 := Scalar.muli v154 c256_i32_72
  let v156 : BitVec 32 := v155
  ![0, v173.toNat, 2048, v156.toNat]
def k0_off11 (i : grid0.Coords) : Fin 4 → Nat :=
  let arg0 : BitVec 32 := BitVec.ofNat 32 (i 0).val
  let c2_i32_60 : BitVec 32 := 2#32
  let c0_i32_61 : BitVec 32 := 0#32
  let v134 : BitVec 1 := Scalar.cmpi .eq c2_i32_60 c0_i32_61
  let c1_i32_62 : BitVec 32 := 1#32
  let v135 : BitVec 32 := Scalar.select v134 c1_i32_62 c2_i32_60
  let v136 : BitVec 32 := Scalar.remsi arg0 v135
  let c0_i32_64 : BitVec 32 := 0#32
  let v138 : BitVec 1 := Scalar.cmpi .slt v136 c0_i32_64
  let c0_i32_65 : BitVec 32 := 0#32
  let v139 : BitVec 1 := Scalar.cmpi .slt v135 c0_i32_65
  let v140 : BitVec 1 := Scalar.xori v138 v139
  let c0_i32_63 : BitVec 32 := 0#32
  let v137 : BitVec 1 := Scalar.cmpi .ne v136 c0_i32_63
  let v141 : BitVec 1 := Scalar.andi v140 v137
  let v142 : BitVec 32 := Scalar.addi v136 v135
  let v143 : BitVec 32 := Scalar.select v141 v142 v136
  let c1_i32_91 : BitVec 32 := 1#32
  let c2048_i32 : BitVec 32 := 2048#32
  let v144 : BitVec 32 := c2048_i32
  let c0_i32_92 : BitVec 32 := 0#32
  ![v143.toNat, 1, 2048, 0]
def k0_off12 (i : grid0.Coords) : Fin 4 → Nat :=
  let arg0 : BitVec 32 := BitVec.ofNat 32 (i 0).val
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi arg0 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v33 : Index := Scalar.indexCast v21
  let c0_13 : Index := 0#32
  let c0_14 : Index := 0#32
  let c0_15 : Index := 0#32
  ![v33.toNat, 0, 0, 0]
def k0_off13 (i : grid0.Coords) : Fin 4 → Nat :=
  let arg0 : BitVec 32 := BitVec.ofNat 32 (i 0).val
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi arg0 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v37 : Index := Scalar.indexCast v21
  let c1 : Index := 1#32
  let c0_16 : Index := 0#32
  let c0_17 : Index := 0#32
  ![v37.toNat, 1, 0, 0]
def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg1.toNat, v16.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg1.toNat, v16.toNat, c0_i32_10.toNat, v26.toNat]

abbrev stage0_0 : Fin 2 → Memref sig .tc .vmem S2x1x544x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x544x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference4Ideal.lean ====
abbrev S4x16x544x2048 : Shape := ⟨4, ![4, 16, 544, 2048]⟩
abbrev S2x16x4096x1024 : Shape := ⟨4, ![2, 16, 4096, 1024]⟩
abbrev S_ : Shape := ⟨0, ![]⟩
abbrev S4x16x544x4096 : Shape := ⟨4, ![4, 16, 544, 4096]⟩
abbrev S1x16x4096x1024 : Shape := ⟨4, ![1, 16, 4096, 1024]⟩
abbrev S16x4096x1024 : Shape := ⟨3, ![16, 4096, 1024]⟩
abbrev S16x1024x4x544 : Shape := ⟨4, ![16, 1024, 4, 544]⟩
abbrev S4x16x544x1024 : Shape := ⟨4, ![4, 16, 544, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4x16x544x2048, .i32⟩
  | .hbm, ⟨1, _⟩ => ⟨S2x16x4096x1024, .f32⟩
  | .hbm, ⟨2, _⟩ => ⟨S2x16x4096x1024, .f32⟩
  | .hbm, ⟨3, _⟩ => ⟨S_, .i32⟩
  | .hbm, ⟨4, _⟩ => ⟨S4x16x544x2048, .i32⟩
  | .hbm, ⟨5, _⟩ => ⟨S4x16x544x2048, .i32⟩
  | .hbm, ⟨6, _⟩ => ⟨S4x16x544x2048, .f32⟩
  | .hbm, ⟨7, _⟩ => ⟨S_, .i32⟩
  | .hbm, ⟨8, _⟩ => ⟨S4x16x544x2048, .i32⟩
  | .hbm, ⟨9, _⟩ => ⟨S4x16x544x2048, .i32⟩
  | .hbm, ⟨10, _⟩ => ⟨S4x16x544x2048, .f32⟩
  | .hbm, ⟨11, _⟩ => ⟨S4x16x544x4096, .f32⟩
  | .hbm, ⟨12, _⟩ => ⟨S1x16x4096x1024, .f32⟩
  | .hbm, ⟨13, _⟩ => ⟨S16x4096x1024, .f32⟩
  | .hbm, ⟨14, _⟩ => ⟨S16x1024x4x544, .f32⟩
  | .hbm, ⟨15, _⟩ => ⟨S4x16x544x1024, .f32⟩
  | .hbm, ⟨16, _⟩ => ⟨S4x16x544x1024, .f32⟩
  | .hbm, ⟨17, _⟩ => ⟨S4x16x544x1024, .f32⟩
  | .hbm, ⟨18, _⟩ => ⟨S_, .f32⟩
  | .hbm, ⟨19, _⟩ => ⟨S4x16x544x1024, .f32⟩
  | .hbm, ⟨20, _⟩ => ⟨S4x16x544x1024, .f32⟩
  | .hbm, ⟨21, _⟩ => ⟨S_, .f32⟩
  | .hbm, ⟨22, _⟩ => ⟨S4x16x544x1024, .f32⟩
  | .hbm, ⟨23, _⟩ => ⟨S4x16x544x1024, .f32⟩
  | .hbm, ⟨24, _⟩ => ⟨S4x16x544x1024, .f32⟩
  | .hbm, ⟨25, _⟩ => ⟨S1x16x4096x1024, .f32⟩
  | .hbm, ⟨26, _⟩ => ⟨S16x4096x1024, .f32⟩
  | .hbm, ⟨27, _⟩ => ⟨S16x1024x4x544, .f32⟩
  | .hbm, ⟨28, _⟩ => ⟨S4x16x544x1024, .f32⟩
  | .hbm, ⟨29, _⟩ => ⟨S4x16x544x1024, .f32⟩
  | .hbm, ⟨30, _⟩ => ⟨S4x16x544x1024, .bf16⟩
  | _, _ => ⟨S4x16x544x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Kernel5.lean ====
abbrev S4x16x544x1024 : Shape := ⟨4, ![4, 16, 544, 1024]⟩
abbrev S2x16x1024x4096 : Shape := ⟨4, ![2, 16, 1024, 4096]⟩
abbrev S4x16x544 : Shape := ⟨3, ![4, 16, 544]⟩
abbrev S4x16x544x1 : Shape := ⟨4, ![4, 16, 544, 1]⟩
abbrev S4x16x544x4096 : Shape := ⟨4, ![4, 16, 544, 4096]⟩
abbrev S2x1x544x1024 : Shape := ⟨4, ![2, 1, 544, 1024]⟩
abbrev S2x1x544x1 : Shape := ⟨4, ![2, 1, 544, 1]⟩
abbrev S2x1x544x2048 : Shape := ⟨4, ![2, 1, 544, 2048]⟩
abbrev S2x1x1024x2048 : Shape := ⟨4, ![2, 1, 1024, 2048]⟩
abbrev S2 : Shape := ⟨1, ![2]⟩
abbrev S1 : Shape := ⟨1, ![1]⟩
abbrev S_ : Shape := ⟨0, ![]⟩
abbrev S1x1x512x2048 : Shape := ⟨4, ![1, 1, 512, 2048]⟩
abbrev S512x2048 : Shape := ⟨2, ![512, 2048]⟩
abbrev S2x544x1024 : Shape := ⟨3, ![2, 544, 1024]⟩
abbrev S1088x1024 : Shape := ⟨2, ![1088, 1024]⟩
abbrev S1x1x1024x2048 : Shape := ⟨4, ![1, 1, 1024, 2048]⟩
abbrev S1024x2048 : Shape := ⟨2, ![1024, 2048]⟩
abbrev S1088x2048 : Shape := ⟨2, ![1088, 2048]⟩
abbrev S2x544x1 : Shape := ⟨3, ![2, 544, 1]⟩
abbrev S1088x1 : Shape := ⟨2, ![1088, 1]⟩
abbrev S2x544x2048 : Shape := ⟨3, ![2, 544, 2048]⟩

abbrev nBuf : Space → Nat
  | .hbm => 6
  | .vmem => 7
  | .smem => 0
  | _ => 0

abbrev bufTy : (tb : Table) → Fin (tcTables nBuf tb) → BufTy
  | .hbm, ⟨0, _⟩ => ⟨S4x16x544x1024, .f32⟩
  | .hbm, ⟨1, _⟩ => ⟨S2x16x1024x4096, .f32⟩
  | .hbm, ⟨2, _⟩ => ⟨S4x16x544, .f32⟩
  | .hbm, ⟨3, _⟩ => ⟨S4x16x544x1024, .bf16⟩
  | .hbm, ⟨4, _⟩ => ⟨S4x16x544x1, .f32⟩
  | .hbm, ⟨5, _⟩ => ⟨S4x16x544x4096, .bf16⟩
  | .local _ .vmem, ⟨0, _⟩ => ⟨S2x1x544x1024, .bf16⟩
  | .local _ .vmem, ⟨1, _⟩ => ⟨S2x1x544x1024, .bf16⟩
  | .local _ .vmem, ⟨2, _⟩ => ⟨S2x1x544x1, .f32⟩
  | .local _ .vmem, ⟨3, _⟩ => ⟨S2x1x544x1, .f32⟩
  | .local _ .vmem, ⟨4, _⟩ => ⟨S2x1x544x2048, .bf16⟩
  | .local _ .vmem, ⟨5, _⟩ => ⟨S2x1x544x2048, .bf16⟩
  | .local _ .vmem, ⟨6, _⟩ => ⟨S2x1x1024x2048, .f32⟩
  | _, _ => ⟨S4x16x544x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_24 : BitVec 32 := 0#32
  c0_i32_24
def k0_mult2 : BitVec 32 :=
  let c0_i32_25 : BitVec 32 := 0#32
  c0_i32_25
def k0_mult3 : BitVec 32 :=
  let c512_i32 : BitVec 32 := 512#32
  c512_i32
def k0_mult4 : BitVec 32 :=
  let c0_i32_32 : BitVec 32 := 0#32
  c0_i32_32
def k0_cond2 (i : grid0.Coords) : BitVec 1 :=
  let arg0 : BitVec 32 := BitVec.ofNat 32 (i 0).val
  let c1_i32 : BitVec 32 := 1#32
  let v5 : BitVec 32 := Scalar.addi arg0 c1_i32
  let c32_i32 : BitVec 32 := 32#32
  let v6 : BitVec 1 := Scalar.cmpi .slt v5 c32_i32
  let v7 : BitVec 32 := Scalar.extui v6
  let c0_i32_2 : BitVec 32 := 0#32
  let v8 : BitVec 1 := Scalar.cmpi .ne v7 c0_i32_2
  v8

def k0_mult5 (i : grid0.Coords) : BitVec 32 :=
  let arg1 : BitVec 32 := BitVec.ofNat 32 (i 1).val
  let c512_i32 : BitVec 32 := 512#32
  let v52 : BitVec 32 := Scalar.muli arg1 c512_i32
  v52
def k0_mult6 (i : grid0.Coords) : BitVec 32 :=
  let arg0 : BitVec 32 := BitVec.ofNat 32 (i 0).val
  let c1_i32_24 : BitVec 32 := 1#32
  let v40 : BitVec 32 := Scalar.addi arg0 c1_i32_24
  let c2_i32_32 : BitVec 32 := 2#32
  let c0_i32_33 : BitVec 32 := 0#32
  let v54 : BitVec 1 := Scalar.cmpi .eq c2_i32_32 c0_i32_33
  let c1_i32_34 : BitVec 32 := 1#32
  let v55 : BitVec 32 := Scalar.select v54 c1_i32_34 c2_i32_32
  let v56 : BitVec 32 := Scalar.remsi v40 v55
  let c0_i32_36 : BitVec 32 := 0#32
  let v58 : BitVec 1 := Scalar.cmpi .slt v56 c0_i32_36
  let c0_i32_37 : BitVec 32 := 0#32
  let v59 : BitVec 1 := Scalar.cmpi .slt v55 c0_i32_37
  let v60 : BitVec 1 := Scalar.xori v58 v59
  let c0_i32_35 : BitVec 32 := 0#32
  let v57 : BitVec 1 := Scalar.cmpi .ne v56 c0_i32_35
  let v61 : BitVec 1 := Scalar.andi v60 v57
  let v62 : BitVec 32 := Scalar.addi v56 v55
  let v63 : BitVec 32 := Scalar.select v61 v62 v56
  let c2048_i32 : BitVec 32 := 2048#32
  let v64 : BitVec 32 := Scalar.muli v63 c2048_i32
  v64
def k0_off1 (i : grid0.Coords) : Fin 1 → Nat :=
  let arg0 : BitVec 32 := BitVec.ofNat 32 (i 0).val
  let c1_i32_25 : BitVec 32 := 1#32
  let v41 : BitVec 32 := Scalar.addi arg0 c1_i32_25
  let c2_i32_26 : BitVec 32 := 2#32
  let c0_i32_27 : BitVec 32 := 0#32
  let v42 : BitVec 1 := Scalar.cmpi .eq c2_i32_26 c0_i32_27
  let c1_i32_28 : BitVec 32 := 1#32
  let v43 : BitVec 32 := Scalar.select v42 c1_i32_28 c2_i32_26
  let v44 : BitVec 32 := Scalar.remsi v41 v43
  let c0_i32_30 : BitVec 32 := 0#32
  let v46 : BitVec 1 := Scalar.cmpi .slt v44 c0_i32_30
  let c0_i32_31 : BitVec 32 := 0#32
  let v47 : BitVec 1 := Scalar.cmpi .slt v43 c0_i32_31
  let v48 : BitVec 1 := Scalar.xori v46 v47
  let c0_i32_29 : BitVec 32 := 0#32
  let v45 : BitVec 1 := Scalar.cmpi .ne v44 c0_i32_29
  let v49 : BitVec 1 := Scalar.andi v48 v45
  let v50 : BitVec 32 := Scalar.addi v44 v43
  let v51 : BitVec 32 := Scalar.select v49 v50 v44
  ![v51.toNat]
def k0_off2 (i : grid0.Coords) : Fin 4 → Nat :=
  let arg0 : BitVec 32 := BitVec.ofNat 32 (i 0).val
  let c1_i32_25 : BitVec 32 := 1#32
  let v41 : BitVec 32 := Scalar.addi arg0 c1_i32_25
  let c2_i32_26 : BitVec 32 := 2#32
  let c0_i32_27 : BitVec 32 := 0#32
  let v42 : BitVec 1 := Scalar.cmpi .eq c2_i32_26 c0_i32_27
  let c1_i32_28 : BitVec 32 := 1#32
  let v43 : BitVec 32 := Scalar.select v42 c1_i32_28 c2_i32_26
  let v44 : BitVec 32 := Scalar.remsi v41 v43
  let c0_i32_30 : BitVec 32 := 0#32
  let v46 : BitVec 1 := Scalar.cmpi .slt v44 c0_i32_30
  let c0_i32_31 : BitVec 32 := 0#32
  let v47 : BitVec 1 := Scalar.cmpi .slt v43 c0_i32_31
  let v48 : BitVec 1 := Scalar.xori v46 v47
  let c0_i32_29 : BitVec 32 := 0#32
  let v45 : BitVec 1 := Scalar.cmpi .ne v44 c0_i32_29
  let v49 : BitVec 1 := Scalar.andi v48 v45
  let v50 : BitVec 32 := Scalar.addi v44 v43
  let v51 : BitVec 32 := Scalar.select v49 v50 v44
  let c0_i32_46 : BitVec 32 := 0#32
  let arg1 : BitVec 32 := BitVec.ofNat 32 (i 1).val
  let c512_i32 : BitVec 32 := 512#32
  let v52 : BitVec 32 := Scalar.muli arg1 c512_i32
  let v53 : BitVec 32 := v52
  let c0_i32_47 : BitVec 32 := 0#32
  ![v51.toNat, 0, v53.toNat, 0]
def k0_off3 (i : grid0.Coords) : Fin 4 → Nat :=
  let c0_i32_45 : BitVec 32 := 0#32
  let arg0 : BitVec 32 := BitVec.ofNat 32 (i 0).val
  let c1_i32_24 : BitVec 32 := 1#32
  let v40 : BitVec 32 := Scalar.addi arg0 c1_i32_24
  let c0_i32_39 : BitVec 32 := 0#32
  let v67 : BitVec 1 := Scalar.cmpi .sgt v40 c0_i32_39
  let v68 : BitVec 32 := Scalar.extui v67
  let c0_i32_40 : BitVec 32 := 0#32
  let v69 : BitVec 1 := Scalar.cmpi .slt v40 c0_i32_40
  let v70 : BitVec 32 := Scalar.extui v69
  let v71 : BitVec 32 := Scalar.subi v68 v70
  let c2_i32_38 : BitVec 32 := 2#32
  let c0_i32_41 : BitVec 32 := 0#32
  let v72 : BitVec 1 := Scalar.cmpi .sgt c2_i32_38 c0_i32_41
  let v73 : BitVec 32 := Scalar.extui v72
  let c0_i32_42 : BitVec 32 := 0#32
  let v74 : BitVec 1 := Scalar.cmpi .slt c2_i32_38 c0_i32_42
  let v75 : BitVec 32 := Scalar.extui v74
  let v76 : BitVec 32 := Scalar.subi v73 v75
  let v77 : BitVec 1 := Scalar.cmpi .ne v71 v76
  let v78 : BitVec 32 := Scalar.remsi v40 c2_i32_38
  let c0_i32_43 : BitVec 32 := 0#32
  let v79 : BitVec 1 := Scalar.cmpi .ne v78 c0_i32_43
  let v80 : BitVec 1 := Scalar.andi v77 v79
  let v66 : BitVec 32 := Scalar.divsi v40 c2_i32_38
  let c1_i32_44 : BitVec 32 := 1#32
  let v81 : BitVec 32 := Scalar.subi v66 c1_i32_44
  let v82 : BitVec 32 := Scalar.select v80 v81 v66
  let arg1 : BitVec 32 := BitVec.ofNat 32 (i 1).val
  let c512_i32 : BitVec 32 := 512#32
  let v52 : BitVec 32 := Scalar.muli arg1 c512_i32
  let v53 : BitVec 32 := v52
  let c2_i32_32 : BitVec 32 := 2#32
  let c0_i32_33 : BitVec 32 := 0#32
  let v54 : BitVec 1 := Scalar.cmpi .eq c2_i32_32 c0_i32_33
  let c1_i32_34 : BitVec 32 := 1#32
  let v55 : BitVec 32 := Scalar.select v54 c1_i32_34 c2_i32_32
  let v56 : BitVec 32 := Scalar.remsi v40 v55
  let c0_i32_36 : BitVec 32 := 0#32
  let v58 : BitVec 1 := Scalar.cmpi .slt v56 c0_i32_36
  let c0_i32_37 : BitVec 32 := 0#32
  let v59 : BitVec 1 := Scalar.cmpi .slt v55 c0_i32_37
  let v60 : BitVec 1 := Scalar.xori v58 v59
  let c0_i32_35 : BitVec 32 := 0#32
  let v57 : BitVec 1 := Scalar.cmpi .ne v56 c0_i32_35
  let v61 : BitVec 1 := Scalar.andi v60 v57
  let v62 : BitVec 32 := Scalar.addi v56 v55
  let v63 : BitVec 32 := Scalar.select v61 v62 v56
  let c2048_i32 : BitVec 32 := 2048#32
  let v64 : BitVec 32 := Scalar.muli v63 c2048_i32
  let v65 : BitVec 32 := v64
  ![0, v82.toNat, v53.toNat, v65.toNat]
def k0_cond3 (i : grid0.Coords) : BitVec 1 :=
  let arg1 : BitVec 32 := BitVec.ofNat 32 (i 1).val
  let c0_i32_3 : BitVec 32 := 0#32
  let v9 : BitVec 1 := Scalar.cmpi .eq arg1 c0_i32_3
  let v10 : BitVec 32 := Scalar.extui v9
  let c0_i32_4 : BitVec 32 := 0#32
  let v11 : BitVec 1 := Scalar.cmpi .ne v10 c0_i32_4
  v11

def k0_mult7 : BitVec 32 :=
  let c0_i32_30 : BitVec 32 := 0#32
  c0_i32_30
def k0_mult8 (i : grid0.Coords) : BitVec 32 :=
  let arg0 : BitVec 32 := BitVec.ofNat 32 (i 0).val
  let c2_i32_31 : BitVec 32 := 2#32
  let c0_i32_32 : BitVec 32 := 0#32
  let v51 : BitVec 1 := Scalar.cmpi .eq c2_i32_31 c0_i32_32
  let c1_i32_33 : BitVec 32 := 1#32
  let v52 : BitVec 32 := Scalar.select v51 c1_i32_33 c2_i32_31
  let v53 : BitVec 32 := Scalar.remsi arg0 v52
  let c0_i32_35 : BitVec 32 := 0#32
  let v55 : BitVec 1 := Scalar.cmpi .slt v53 c0_i32_35
  let c0_i32_36 : BitVec 32 := 0#32
  let v56 : BitVec 1 := Scalar.cmpi .slt v52 c0_i32_36
  let v57 : BitVec 1 := Scalar.xori v55 v56
  let c0_i32_34 : BitVec 32 := 0#32
  let v54 : BitVec 1 := Scalar.cmpi .ne v53 c0_i32_34
  let v58 : BitVec 1 := Scalar.andi v57 v54
  let v59 : BitVec 32 := Scalar.addi v53 v52
  let v60 : BitVec 32 := Scalar.select v58 v59 v53
  let c2048_i32 : BitVec 32 := 2048#32
  let v61 : BitVec 32 := Scalar.muli v60 c2048_i32
  v61
def k0_off4 (i : grid0.Coords) : Fin 1 → Nat :=
  let arg0 : BitVec 32 := BitVec.ofNat 32 (i 0).val
  let c2_i32_24 : BitVec 32 := 2#32
  let c0_i32_25 : BitVec 32 := 0#32
  let v40 : BitVec 1 := Scalar.cmpi .eq c2_i32_24 c0_i32_25
  let c1_i32_26 : BitVec 32 := 1#32
  let v41 : BitVec 32 := Scalar.select v40 c1_i32_26 c2_i32_24
  let v42 : BitVec 32 := Scalar.remsi arg0 v41
  let c0_i32_28 : BitVec 32 := 0#32
  let v44 : BitVec 1 := Scalar.cmpi .slt v42 c0_i32_28
  let c0_i32_29 : BitVec 32 := 0#32
  let v45 : BitVec 1 := Scalar.cmpi .slt v41 c0_i32_29
  let v46 : BitVec 1 := Scalar.xori v44 v45
  let c0_i32_27 : BitVec 32 := 0#32
  let v43 : BitVec 1 := Scalar.cmpi .ne v42 c0_i32_27
  let v47 : BitVec 1 := Scalar.andi v46 v43
  let v48 : BitVec 32 := Scalar.addi v42 v41
  let v49 : BitVec 32 := Scalar.select v47 v48 v42
  ![v49.toNat]
def k0_off5 (i : grid0.Coords) : Fin 4 → Nat :=
  let arg0 : BitVec 32 := BitVec.ofNat 32 (i 0).val
  let c2_i32_24 : BitVec 32 := 2#32
  let c0_i32_25 : BitVec 32 := 0#32
  let v40 : BitVec 1 := Scalar.cmpi .eq c2_i32_24 c0_i32_25
  let c1_i32_26 : BitVec 32 := 1#32
  let v41 : BitVec 32 := Scalar.select v40 c1_i32_26 c2_i32_24
  let v42 : BitVec 32 := Scalar.remsi arg0 v41
  let c0_i32_28 : BitVec 32 := 0#32
  let v44 : BitVec 1 := Scalar.cmpi .slt v42 c0_i32_28
  let c0_i32_29 : BitVec 32 := 0#32
  let v45 : BitVec 1 := Scalar.cmpi .slt v41 c0_i32_29
  let v46 : BitVec 1 := Scalar.xori v44 v45
  let c0_i32_27 : BitVec 32 := 0#32
  let v43 : BitVec 1 := Scalar.cmpi .ne v42 c0_i32_27
  let v47 : BitVec 1 := Scalar.andi v46 v43
  let v48 : BitVec 32 := Scalar.addi v42 v41
  let v49 : BitVec 32 := Scalar.select v47 v48 v42
  let c0_i32_45 : BitVec 32 := 0#32
  let c0_i32_30 : BitVec 32 := 0#32
  let v50 : BitVec 32 := c0_i32_30
  let c0_i32_46 : BitVec 32 := 0#32
  ![v49.toNat, 0, 0, 0]
def k0_off6 (i : grid0.Coords) : Fin 4 → Nat :=
  let c0_i32_44 : BitVec 32 := 0#32
  let arg0 : BitVec 32 := BitVec.ofNat 32 (i 0).val
  let c0_i32_38 : BitVec 32 := 0#32
  let v64 : BitVec 1 := Scalar.cmpi .sgt arg0 c0_i32_38
  let v65 : BitVec 32 := Scalar.extui v64
  let c0_i32_39 : BitVec 32 := 0#32
  let v66 : BitVec 1 := Scalar.cmpi .slt arg0 c0_i32_39
  let v67 : BitVec 32 := Scalar.extui v66
  let v68 : BitVec 32 := Scalar.subi v65 v67
  let c2_i32_37 : BitVec 32 := 2#32
  let c0_i32_40 : BitVec 32 := 0#32
  let v69 : BitVec 1 := Scalar.cmpi .sgt c2_i32_37 c0_i32_40
  let v70 : BitVec 32 := Scalar.extui v69
  let c0_i32_41 : BitVec 32 := 0#32
  let v71 : BitVec 1 := Scalar.cmpi .slt c2_i32_37 c0_i32_41
  let v72 : BitVec 32 := Scalar.extui v71
  let v73 : BitVec 32 := Scalar.subi v70 v72
  let v74 : BitVec 1 := Scalar.cmpi .ne v68 v73
  let v75 : BitVec 32 := Scalar.remsi arg0 c2_i32_37
  let c0_i32_42 : BitVec 32 := 0#32
  let v76 : BitVec 1 := Scalar.cmpi .ne v75 c0_i32_42
  let v77 : BitVec 1 := Scalar.andi v74 v76
  let v63 : BitVec 32 := Scalar.divsi arg0 c2_i32_37
  let c1_i32_43 : BitVec 32 := 1#32
  let v78 : BitVec 32 := Scalar.subi v63 c1_i32_43
  let v79 : BitVec 32 := Scalar.select v77 v78 v63
  let c0_i32_30 : BitVec 32 := 0#32
  let v50 : BitVec 32 := c0_i32_30
  let c2_i32_31 : BitVec 32 := 2#32
  let c0_i32_32 : BitVec 32 := 0#32
  let v51 : BitVec 1 := Scalar.cmpi .eq c2_i32_31 c0_i32_32
  let c1_i32_33 : BitVec 32 := 1#32
  let v52 : BitVec 32 := Scalar.select v51 c1_i32_33 c2_i32_31
  let v53 : BitVec 32 := Scalar.remsi arg0 v52
  let c0_i32_35 : BitVec 32 := 0#32
  let v55 : BitVec 1 := Scalar.cmpi .slt v53 c0_i32_35
  let c0_i32_36 : BitVec 32 := 0#32
  let v56 : BitVec 1 := Scalar.cmpi .slt v52 c0_i32_36
  let v57 : BitVec 1 := Scalar.xori v55 v56
  let c0_i32_34 : BitVec 32 := 0#32
  let v54 : BitVec 1 := Scalar.cmpi .ne v53 c0_i32_34
  let v58 : BitVec 1 := Scalar.andi v57 v54
  let v59 : BitVec 32 := Scalar.addi v53 v52
  let v60 : BitVec 32 := Scalar.select v58 v59 v53
  let c2048_i32 : BitVec 32 := 2048#32
  let v61 : BitVec 32 := Scalar.muli v60 c2048_i32
  let v62 : BitVec 32 := v61
  ![0, v79.toNat, 0, v62.toNat]
def k0_mult9 : BitVec 32 :=
  let c512_i32 : BitVec 32 := 512#32
  c512_i32
def k0_mult10 (i : grid0.Coords) : BitVec 32 :=
  let arg0 : BitVec 32 := BitVec.ofNat 32 (i 0).val
  let c2_i32_53 : BitVec 32 := 2#32
  let c0_i32_54 : BitVec 32 := 0#32
  let v97 : BitVec 1 := Scalar.cmpi .eq c2_i32_53 c0_i32_54
  let c1_i32_55 : BitVec 32 := 1#32
  let v98 : BitVec 32 := Scalar.select v97 c1_i32_55 c2_i32_53
  let v99 : BitVec 32 := Scalar.remsi arg0 v98
  let c0_i32_57 : BitVec 32 := 0#32
  let v101 : BitVec 1 := Scalar.cmpi .slt v99 c0_i32_57
  let c0_i32_58 : BitVec 32 := 0#32
  let v102 : BitVec 1 := Scalar.cmpi .slt v98 c0_i32_58
  let v103 : BitVec 1 := Scalar.xori v101 v102
  let c0_i32_56 : BitVec 32 := 0#32
  let v100 : BitVec 1 := Scalar.cmpi .ne v99 c0_i32_56
  let v104 : BitVec 1 := Scalar.andi v103 v100
  let v105 : BitVec 32 := Scalar.addi v99 v98
  let v106 : BitVec 32 := Scalar.select v104 v105 v99
  let c2048_i32_59 : BitVec 32 := 2048#32
  let v107 : BitVec 32 := Scalar.muli v106 c2048_i32_59
  v107
def k0_off7 (i : grid0.Coords) : Fin 4 → Nat :=
  let arg0 : BitVec 32 := BitVec.ofNat 32 (i 0).val
  let c2_i32_47 : BitVec 32 := 2#32
  let c0_i32_48 : BitVec 32 := 0#32
  let v86 : BitVec 1 := Scalar.cmpi .eq c2_i32_47 c0_i32_48
  let c1_i32_49 : BitVec 32 := 1#32
  let v87 : BitVec 32 := Scalar.select v86 c1_i32_49 c2_i32_47
  let v88 : BitVec 32 := Scalar.remsi arg0 v87
  let c0_i32_51 : BitVec 32 := 0#32
  let v90 : BitVec 1 := Scalar.cmpi .slt v88 c0_i32_51
  let c0_i32_52 : BitVec 32 := 0#32
  let v91 : BitVec 1 := Scalar.cmpi .slt v87 c0_i32_52
  let v92 : BitVec 1 := Scalar.xori v90 v91
  let c0_i32_50 : BitVec 32 := 0#32
  let v89 : BitVec 1 := Scalar.cmpi .ne v88 c0_i32_50
  let v93 : BitVec 1 := Scalar.andi v92 v89
  let v94 : BitVec 32 := Scalar.addi v88 v87
  let v95 : BitVec 32 := Scalar.select v93 v94 v88
  let c0_i32_68 : BitVec 32 := 0#32
  let c512_i32 : BitVec 32 := 512#32
  let v96 : BitVec 32 := c512_i32
  let c0_i32_69 : BitVec 32 := 0#32
  ![v95.toNat, 0, 512, 0]
def k0_off8 (i : grid0.Coords) : Fin 4 → Nat :=
  let c0_i32_67 : BitVec 32 := 0#32
  let arg0 : BitVec 32 := BitVec.ofNat 32 (i 0).val
  let c0_i32_61 : BitVec 32 := 0#32
  let v110 : BitVec 1 := Scalar.cmpi .sgt arg0 c0_i32_61
  let v111 : BitVec 32 := Scalar.extui v110
  let c0_i32_62 : BitVec 32 := 0#32
  let v112 : BitVec 1 := Scalar.cmpi .slt arg0 c0_i32_62
  let v113 : BitVec 32 := Scalar.extui v112
  let v114 : BitVec 32 := Scalar.subi v111 v113
  let c2_i32_60 : BitVec 32 := 2#32
  let c0_i32_63 : BitVec 32 := 0#32
  let v115 : BitVec 1 := Scalar.cmpi .sgt c2_i32_60 c0_i32_63
  let v116 : BitVec 32 := Scalar.extui v115
  let c0_i32_64 : BitVec 32 := 0#32
  let v117 : BitVec 1 := Scalar.cmpi .slt c2_i32_60 c0_i32_64
  let v118 : BitVec 32 := Scalar.extui v117
  let v119 : BitVec 32 := Scalar.subi v116 v118
  let v120 : BitVec 1 := Scalar.cmpi .ne v114 v119
  let v121 : BitVec 32 := Scalar.remsi arg0 c2_i32_60
  let c0_i32_65 : BitVec 32 := 0#32
  let v122 : BitVec 1 := Scalar.cmpi .ne v121 c0_i32_65
  let v123 : BitVec 1 := Scalar.andi v120 v122
  let v109 : BitVec 32 := Scalar.divsi arg0 c2_i32_60
  let c1_i32_66 : BitVec 32 := 1#32
  let v124 : BitVec 32 := Scalar.subi v109 c1_i32_66
  let v125 : BitVec 32 := Scalar.select v123 v124 v109
  let c512_i32 : BitVec 32 := 512#32
  let v96 : BitVec 32 := c512_i32
  let c2_i32_53 : BitVec 32 := 2#32
  let c0_i32_54 : BitVec 32 := 0#32
  let v97 : BitVec 1 := Scalar.cmpi .eq c2_i32_53 c0_i32_54
  let c1_i32_55 : BitVec 32 := 1#32
  let v98 : BitVec 32 := Scalar.select v97 c1_i32_55 c2_i32_53
  let v99 : BitVec 32 := Scalar.remsi arg0 v98
  let c0_i32_57 : BitVec 32 := 0#32
  let v101 : BitVec 1 := Scalar.cmpi .slt v99 c0_i32_57
  let c0_i32_58 : BitVec 32 := 0#32
  let v102 : BitVec 1 := Scalar.cmpi .slt v98 c0_i32_58
  let v103 : BitVec 1 := Scalar.xori v101 v102
  let c0_i32_56 : BitVec 32 := 0#32
  let v100 : BitVec 1 := Scalar.cmpi .ne v99 c0_i32_56
  let v104 : BitVec 1 := Scalar.andi v103 v100
  let v105 : BitVec 32 := Scalar.addi v99 v98
  let v106 : BitVec 32 := Scalar.select v104 v105 v99
  let c2048_i32_59 : BitVec 32 := 2048#32
  let v107 : BitVec 32 := Scalar.muli v106 c2048_i32_59
  let v108 : BitVec 32 := v107
  ![0, v125.toNat, 512, v108.toNat]
def k0_off9 (i : grid0.Coords) : Fin 4 → Nat :=
  let arg0 : BitVec 32 := BitVec.ofNat 32 (i 0).val
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi arg0 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v25 : Index := Scalar.indexCast v21
  let c0_13 : Index := 0#32
  let c0_14 : Index := 0#32
  let c0_15 : Index := 0#32
  ![v25.toNat, 0, 0, 0]
def cc0_transform_0 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg1.toNat, v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg1.toNat, v16.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg1.toNat, v16.toNat, c0_i32_10.toNat, v26.toNat]

abbrev stage0_0 : Fin 2 → Memref sig .tc .vmem S2x1x544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x544x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x544x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4x16x544x1024 : Shape := ⟨4, ![4, 16, 544, 1024]⟩
abbrev S2x16x1024x4096 : Shape := ⟨4, ![2, 16, 1024, 4096]⟩
abbrev S4x16x544 : Shape := ⟨3, ![4, 16, 544]⟩
abbrev S1x16x1024x4096 : Shape := ⟨4, ![1, 16, 1024, 4096]⟩
abbrev S16x1024x4096 : Shape := ⟨3, ![16, 1024, 4096]⟩
abbrev S16x4096x4x544 : Shape := ⟨4, ![16, 4096, 4, 544]⟩
abbrev S4x16x544x4096 : Shape := ⟨4, ![4, 16, 544, 4096]⟩
abbrev S4x16x544x1 : Shape := ⟨4, ![4, 16, 544, 1]⟩

abbrev nBuf : Space → Nat
  | .hbm => 11
  | .vmem => 0
  | .smem => 0
  | _ => 0

abbrev bufTy : (tb : Table) → Fin (tcTables nBuf tb) → BufTy
  | .hbm, ⟨0, _⟩ => ⟨S4x16x544x1024, .f32⟩
  | .hbm, ⟨1, _⟩ => ⟨S2x16x1024x4096, .f32⟩
  | .hbm, ⟨2, _⟩ => ⟨S4x16x544, .f32⟩
  | .hbm, ⟨3, _⟩ => ⟨S1x16x1024x4096, .f32⟩
  | .hbm, ⟨4, _⟩ => ⟨S16x1024x4096, .f32⟩
  | .hbm, ⟨5, _⟩ => ⟨S16x4096x4x544, .f32⟩
  | .hbm, ⟨6, _⟩ => ⟨S4x16x544x4096, .f32⟩
  | .hbm, ⟨7, _⟩ => ⟨S4x16x544x1, .f32⟩
  | .hbm, ⟨8, _⟩ => ⟨S4x16x544x4096, .f32⟩
  | .hbm, ⟨9, _⟩ => ⟨S4x16x544x4096, .f32⟩
  | .hbm, ⟨10, _⟩ => ⟨S4x16x544x4096, .bf16⟩
  | _, _ => ⟨S4x16x544x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S17408x4096 : Shape := ⟨2, ![17408, 4096]⟩
abbrev S2x4096x9232 : Shape := ⟨3, ![2, 4096, 9232]⟩
abbrev S2x16 : Shape := ⟨2, ![2, 16]⟩
abbrev S2x9232x4096 : Shape := ⟨3, ![2, 9232, 4096]⟩
abbrev S1x16 : Shape := ⟨2, ![1, 16]⟩
abbrev S16 : Shape := ⟨1, ![16]⟩
abbrev S16x1 : Shape := ⟨2, ![16, 1]⟩
abbrev S16x17408 : Shape := ⟨2, ![16, 17408]⟩
abbrev S1024x4096 : Shape := ⟨2, ![1024, 4096]⟩
abbrev S1x16x4096 : Shape := ⟨3, ![1, 16, 4096]⟩
abbrev S16x1024 : Shape := ⟨2, ![16, 1024]⟩
abbrev S16x4096 : Shape := ⟨2, ![16, 4096]⟩

abbrev nBuf : Space → Nat
  | .hbm => 9
  | .vmem => 6
  | .smem => 0
  | _ => 0

abbrev bufTy : (tb : Table) → Fin (tcTables nBuf tb) → BufTy
  | .hbm, ⟨0, _⟩ => ⟨S17408x4096, .f32⟩
  | .hbm, ⟨1, _⟩ => ⟨S2x4096x9232, .f32⟩
  | .hbm, ⟨2, _⟩ => ⟨S2x16, .f32⟩
  | .hbm, ⟨3, _⟩ => ⟨S17408x4096, .bf16⟩
  | .hbm, ⟨4, _⟩ => ⟨S2x9232x4096, .f32⟩
  | .hbm, ⟨5, _⟩ => ⟨S1x16, .f32⟩
  | .hbm, ⟨6, _⟩ => ⟨S16, .f32⟩
  | .hbm, ⟨7, _⟩ => ⟨S16x1, .f32⟩
  | .hbm, ⟨8, _⟩ => ⟨S16x17408, .f32⟩
  | .local _ .vmem, ⟨0, _⟩ => ⟨S1024x4096, .bf16⟩
  | .local _ .vmem, ⟨1, _⟩ => ⟨S1024x4096, .bf16⟩
  | .local _ .vmem, ⟨2, _⟩ => ⟨S1x16x4096, .f32⟩
  | .local _ .vmem, ⟨3, _⟩ => ⟨S16x1, .f32⟩
  | .local _ .vmem, ⟨4, _⟩ => ⟨S16x1024, .f32⟩
  | .local _ .vmem, ⟨5, _⟩ => ⟨S16x1024, .f32⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c576_i32 : BitVec 32 := 576#32
  let c0_i32_0 : BitVec 32 := 0#32
  let c0_i32_1 : BitVec 32 := 0#32
  ![c0_i32.toNat, c576_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S17408x4096 : Shape := ⟨2, ![17408, 4096]⟩
abbrev S2x4096x9232 : Shape := ⟨3, ![2, 4096, 9232]⟩
abbrev S2x16 : Shape := ⟨2, ![2, 16]⟩
abbrev S1x4096x9232 : Shape := ⟨3, ![1, 4096, 9232]⟩
abbrev S4096x9232 : Shape := ⟨2, ![4096, 9232]⟩
abbrev S4096x16 : Shape := ⟨2, ![4096, 16]⟩
abbrev S17408x16 : Shape := ⟨2, ![17408, 16]⟩
abbrev S1x16 : Shape := ⟨2, ![1, 16]⟩
abbrev S16 : Shape := ⟨1, ![16]⟩
abbrev S16x17408 : Shape := ⟨2, ![16, 17408]⟩

abbrev nBuf : Space → Nat
  | .hbm => 13
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S2x4096x9232, .f32⟩
  | .hbm, ⟨2, _⟩ => ⟨S2x16, .f32⟩
  | .hbm, ⟨3, _⟩ => ⟨S1x4096x9232, .f32⟩
  | .hbm, ⟨4, _⟩ => ⟨S4096x9232, .f32⟩
  | .hbm, ⟨5, _⟩ => ⟨S4096x16, .f32⟩
  | .hbm, ⟨6, _⟩ => ⟨S17408x16, .f32⟩
  | .hbm, ⟨7, _⟩ => ⟨S1x16, .f32⟩
  | .hbm, ⟨8, _⟩ => ⟨S16, .f32⟩
  | .hbm, ⟨9, _⟩ => ⟨S1x16, .f32⟩
  | .hbm, ⟨10, _⟩ => ⟨S17408x16, .f32⟩
  | .hbm, ⟨11, _⟩ => ⟨S17408x16, .f32⟩
  | .hbm, ⟨12, _⟩ => ⟨S16x17408, .f32⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel7.lean ====
abbrev S17408x9216 : Shape := ⟨2, ![17408, 9216]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S17408x1024 : Shape := ⟨2, ![17408, 1024]⟩
abbrev S256x1024 : Shape := ⟨2, ![256, 1024]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S128x1 : Shape := ⟨2, ![128, 1]⟩

abbrev nBuf : Space → Nat
  | .hbm => 9
  | .vmem => 10
  | .smem => 0
  | _ => 0

abbrev bufTy : (tb : Table) → Fin (tcTables nBuf tb) → BufTy
  | .hbm, ⟨0, _⟩ => ⟨S17408x9216, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S128x8, .f32⟩
  | .hbm, ⟨8, _⟩ => ⟨S17408x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S256x1024, .bf16⟩
  | .local _ .vmem, ⟨9, _⟩ => ⟨S256x1024, .bf16⟩
  | _, _ => ⟨S17408x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S17408x9216 : Shape := ⟨2, ![17408, 9216]⟩
abbrev S1024 : Shape := ⟨1, ![1024]⟩
abbrev S8x128x128 : Shape := ⟨3, ![8, 128, 128]⟩
abbrev S8x128 : Shape := ⟨2, ![8, 128]⟩
abbrev S17408x1024 : Shape := ⟨2, ![17408, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S136x128x8x128 : Shape := ⟨4, ![136, 128, 8, 128]⟩
abbrev S8x136x128x128 : Shape := ⟨4, ![8, 136, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 81
  | .vmem => 0
  | .smem => 0
  | _ => 0

abbrev bufTy : (tb : Table) → Fin (tcTables nBuf tb) → BufTy
  | .hbm, ⟨0, _⟩ => ⟨S17408x9216, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S17408x1024, .f32⟩
  | .hbm, ⟨6, _⟩ => ⟨S17408x1024, .f32⟩
  | .hbm, ⟨7, _⟩ => ⟨S17408x1024, .f32⟩
  | .hbm, ⟨8, _⟩ => ⟨S_, .f32⟩
  | .hbm, ⟨9, _⟩ => ⟨S17408x1024, .f32⟩
  | .hbm, ⟨10, _⟩ => ⟨S17408x1024, .f32⟩
  | .hbm, ⟨11, _⟩ => ⟨S17408x1024, .f32⟩
  | .hbm, ⟨12, _⟩ => ⟨S_, .f32⟩
  | .hbm, ⟨13, _⟩ => ⟨S17408x1024, .f32⟩
  | .hbm, ⟨14, _⟩ => ⟨S17408x1024, .f32⟩
  | .hbm, ⟨15, _⟩ => ⟨S17408x1024, .f32⟩
  | .hbm, ⟨16, _⟩ => ⟨S_, .f32⟩
  | .hbm, ⟨17, _⟩ => ⟨S17408x1024, .f32⟩
  | .hbm, ⟨18, _⟩ => ⟨S17408x1024, .f32⟩
  | .hbm, ⟨19, _⟩ => ⟨S_, .f32⟩
  | .hbm, ⟨20, _⟩ => ⟨S17408x1024, .f32⟩
  | .hbm, ⟨21, _⟩ => ⟨S17408x1024, .f32⟩
  | .hbm, ⟨22, _⟩ => ⟨S17408x1024, .f32⟩
  | .hbm, ⟨23, _⟩ => ⟨S17408x1024, .f32⟩
  | .hbm, ⟨24, _⟩ => ⟨S17408x1024, .f32⟩
  | .hbm, ⟨25, _⟩ => ⟨S17408x1024, .f32⟩
  | .hbm, ⟨26, _⟩ => ⟨S_, .f32⟩
  | .hbm, ⟨27, _⟩ => ⟨S17408x1024, .f32⟩
  | .hbm, ⟨28, _⟩ => ⟨S17408x1024, .f32⟩
  | .hbm, ⟨29, _⟩ => ⟨S17408x1024, .f32⟩
  | .hbm, ⟨30, _⟩ => ⟨S_, .f32⟩
  | .hbm, ⟨31, _⟩ => ⟨S17408x1024, .f32⟩
  | .hbm, ⟨32, _⟩ => ⟨S17408x1024, .f32⟩
  | .hbm, ⟨33, _⟩ => ⟨S17408x1024, .f32⟩
  | .hbm, ⟨34, _⟩ => ⟨S_, .f32⟩
  | .hbm, ⟨35, _⟩ => ⟨S17408x1024, .f32⟩
  | .hbm, ⟨36, _⟩ => ⟨S17408x1024, .f32⟩
  | .hbm, ⟨37, _⟩ => ⟨S_, .f32⟩
  | .hbm, ⟨38, _⟩ => ⟨S17408x1024, .f32⟩
  | .hbm, ⟨39, _⟩ => ⟨S17408x1024, .f32⟩
  | .hbm, ⟨40, _⟩ => ⟨S17408x1024, .f32⟩
  | .hbm, ⟨41, _⟩ => ⟨S_, .f32⟩
  | .hbm, ⟨42, _⟩ => ⟨S17408, .f32⟩
  | .hbm, ⟨43, _⟩ => ⟨S17408x1, .f32⟩
  | .hbm, ⟨44, _⟩ => ⟨S_, .f32⟩
  | .hbm, ⟨45, _⟩ => ⟨S17408x1, .f32⟩
  | .hbm, ⟨46, _⟩ => ⟨S17408x1, .f32⟩
  | .hbm, ⟨47, _⟩ => ⟨S17408x1024, .f32⟩
  | .hbm, ⟨48, _⟩ => ⟨S17408x1024, .f32⟩
  | .hbm, ⟨49, _⟩ => ⟨S17408x1024, .f32⟩
  | .hbm, ⟨50, _⟩ => ⟨S_, .f32⟩
  | .hbm, ⟨51, _⟩ => ⟨S17408, .f32⟩
  | .hbm, ⟨52, _⟩ => ⟨S17408x1, .f32⟩
  | .hbm, ⟨53, _⟩ => ⟨S_, .f32⟩
  | .hbm, ⟨54, _⟩ => ⟨S17408x1, .f32⟩
  | .hbm, ⟨55, _⟩ => ⟨S17408x1, .f32⟩
  | .hbm, ⟨56, _⟩ => ⟨S17408x1024, .f32⟩
  | .hbm, ⟨57, _⟩ => ⟨S17408x1024, .f32⟩
  | .hbm, ⟨58, _⟩ => ⟨S_, .f32⟩
  | .hbm, ⟨59, _⟩ => ⟨S17408x1, .f32⟩
  | .hbm, ⟨60, _⟩ => ⟨S17408x1, .f32⟩
  | .hbm, ⟨61, _⟩ => ⟨S17408x1, .f32⟩
  | .hbm, ⟨62, _⟩ => ⟨S17408x1024, .f32⟩
  | .hbm, ⟨63, _⟩ => ⟨S17408x1024, .f32⟩
  | .hbm, ⟨64, _⟩ => ⟨S1x1024, .f32⟩
  | .hbm, ⟨65, _⟩ => ⟨S17408x1024, .f32⟩
  | .hbm, ⟨66, _⟩ => ⟨S17408x1024, .f32⟩
  | .hbm, ⟨67, _⟩ => ⟨S1x1024, .f32⟩
  | .hbm, ⟨68, _⟩ => ⟨S17408x1024, .f32⟩
  | .hbm, ⟨69, _⟩ => ⟨S17408x1024, .f32⟩
  | .hbm, ⟨70, _⟩ => ⟨S136x128x8x128, .f32⟩
  | .hbm, ⟨71, _⟩ => ⟨S8x136x128x128, .f32⟩
  | .hbm, ⟨72, _⟩ => ⟨S136x128x8x128, .f32⟩
  | .hbm, ⟨73, _⟩ => ⟨S128x8, .f32⟩
  | .hbm, ⟨74, _⟩ => ⟨S128x8x1, .f32⟩
  | .hbm, ⟨75, _⟩ => ⟨S1x128x8x1, .f32⟩
  | .hbm, ⟨76, _⟩ => ⟨S136x128x8x128, .f32⟩
  | .hbm, ⟨77, _⟩ => ⟨S136x128x8x128, .f32⟩
  | .hbm, ⟨78, _⟩ => ⟨S17408x1024, .f32⟩
  | .hbm, ⟨79, _⟩ => ⟨S17408x1024, .f32⟩
  | .hbm, ⟨80, _⟩ => ⟨S17408x1024, .bf16⟩
  | _, _ => ⟨S17408x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Kernel8.lean ====
abbrev S17408x1024 : Shape := ⟨2, ![17408, 1024]⟩
abbrev S17408x9216 : Shape := ⟨2, ![17408, 9216]⟩
abbrev S1024 : Shape := ⟨1, ![1024]⟩
abbrev S1x1024 : Shape := ⟨2, ![1, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 6
  | .vmem => 9
  | .smem => 0
  | _ => 0

abbrev bufTy : (tb : Table) → Fin (tcTables nBuf tb) → BufTy
  | .hbm, ⟨0, _⟩ => ⟨S17408x1024, .f32⟩
  | .hbm, ⟨1, _⟩ => ⟨S17408x1024, .f32⟩
  | .hbm, ⟨2, _⟩ => ⟨S17408x9216, .f32⟩
  | .hbm, ⟨3, _⟩ => ⟨S1024, .f32⟩
  | .hbm, ⟨4, _⟩ => ⟨S1x1024, .f32⟩
  | .hbm, ⟨5, _⟩ => ⟨S17408x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S17408x1024 : Shape := ⟨2, ![17408, 1024]⟩
abbrev S17408x9216 : Shape := ⟨2, ![17408, 9216]⟩
abbrev S1024 : Shape := ⟨1, ![1024]⟩
abbrev S17408x4x256 : Shape := ⟨3, ![17408, 4, 256]⟩
abbrev S_ : Shape := ⟨0, ![]⟩
abbrev S17408x4 : Shape := ⟨2, ![17408, 4]⟩
abbrev S17408x4x1 : Shape := ⟨3, ![17408, 4, 1]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x1024, .f32⟩
  | .hbm, ⟨2, _⟩ => ⟨S17408x9216, .f32⟩
  | .hbm, ⟨3, _⟩ => ⟨S1024, .f32⟩
  | .hbm, ⟨4, _⟩ => ⟨S17408x1024, .f32⟩
  | .hbm, ⟨5, _⟩ => ⟨S17408x4x256, .f32⟩
  | .hbm, ⟨6, _⟩ => ⟨S17408x4x256, .f32⟩
  | .hbm, ⟨7, _⟩ => ⟨S_, .f32⟩
  | .hbm, ⟨8, _⟩ => ⟨S17408x4, .f32⟩
  | .hbm, ⟨9, _⟩ => ⟨S17408x4x1, .f32⟩
  | .hbm, ⟨10, _⟩ => ⟨S_, .f32⟩
  | .hbm, ⟨11, _⟩ => ⟨S17408x4x1, .f32⟩
  | .hbm, ⟨12, _⟩ => ⟨S17408x4x1, .f32⟩
  | .hbm, ⟨13, _⟩ => ⟨S_, .f32⟩
  | .hbm, ⟨14, _⟩ => ⟨S17408x4x1, .f32⟩
  | .hbm, ⟨15, _⟩ => ⟨S17408x4x1, .f32⟩
  | .hbm, ⟨16, _⟩ => ⟨S17408x4x1, .f32⟩
  | .hbm, ⟨17, _⟩ => ⟨S17408x4x256, .f32⟩
  | .hbm, ⟨18, _⟩ => ⟨S17408x4x256, .f32⟩
  | .hbm, ⟨19, _⟩ => ⟨S17408x1024, .f32⟩
  | .hbm, ⟨20, _⟩ => ⟨S1x1024, .f32⟩
  | .hbm, ⟨21, _⟩ => ⟨S17408x1024, .f32⟩
  | .hbm, ⟨22, _⟩ => ⟨S17408x1024, .f32⟩
  | .hbm, ⟨23, _⟩ => ⟨S17408x1024, .f32⟩
  | .hbm, ⟨24, _⟩ => ⟨S17408x1024, .f32⟩
  | .hbm, ⟨25, _⟩ => ⟨S17408x1024, .f32⟩
  | .hbm, ⟨26, _⟩ => ⟨S_, .f32⟩
  | .hbm, ⟨27, _⟩ => ⟨S17408x1024, .f32⟩
  | .hbm, ⟨28, _⟩ => ⟨S17408x1024, .f32⟩
  | .hbm, ⟨29, _⟩ => ⟨S_, .f32⟩
  | .hbm, ⟨30, _⟩ => ⟨S17408x1024, .f32⟩
  | .hbm, ⟨31, _⟩ => ⟨S17408x1024, .f32⟩
  | .hbm, ⟨32, _⟩ => ⟨S17408x1024, .f32⟩
  | .hbm, ⟨33, _⟩ => ⟨S17408x1024, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel9.lean ====
abbrev S4x4096 : Shape := ⟨2, ![4, 4096]⟩
abbrev S4096 : Shape := ⟨1, ![4096]⟩
abbrev S2x4096x24576 : Shape := ⟨3, ![2, 4096, 24576]⟩
abbrev S2x24576 : Shape := ⟨2, ![2, 24576]⟩
abbrev S1x4096 : Shape := ⟨2, ![1, 4096]⟩
abbrev S5x4096 : Shape := ⟨2, ![5, 4096]⟩
abbrev S_ : Shape := ⟨0, ![]⟩
abbrev S3x4096 : Shape := ⟨2, ![3, 4096]⟩
abbrev S8x4096 : Shape := ⟨2, ![8, 4096]⟩
abbrev S2x1x24576 : Shape := ⟨3, ![2, 1, 24576]⟩
abbrev S2x8x24576 : Shape := ⟨3, ![2, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S2x4096x24576, .f32⟩
  | .hbm, ⟨3, _⟩ => ⟨S2x24576, .f32⟩
  | .hbm, ⟨4, _⟩ => ⟨S1x4096, .f32⟩
  | .hbm, ⟨5, _⟩ => ⟨S5x4096, .f32⟩
  | .hbm, ⟨6, _⟩ => ⟨S_, .f32⟩
  | .hbm, ⟨7, _⟩ => ⟨S3x4096, .f32⟩
  | .hbm, ⟨8, _⟩ => ⟨S8x4096, .f32⟩
  | .hbm, ⟨9, _⟩ => ⟨S2x1x24576, .f32⟩
  | .hbm, ⟨10, _⟩ => ⟨S2x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4x4096 : Shape := ⟨2, ![4, 4096]⟩
abbrev S4096 : Shape := ⟨1, ![4096]⟩
abbrev S2x4096x24576 : Shape := ⟨3, ![2, 4096, 24576]⟩
abbrev S2x24576 : Shape := ⟨2, ![2, 24576]⟩
abbrev S1x4096 : Shape := ⟨2, ![1, 4096]⟩
abbrev S5x4096 : Shape := ⟨2, ![5, 4096]⟩
abbrev S_ : Shape := ⟨0, ![]⟩
abbrev S3x4096 : Shape := ⟨2, ![3, 4096]⟩
abbrev S8x4096 : Shape := ⟨2, ![8, 4096]⟩
abbrev S2x24576x8 : Shape := ⟨3, ![2, 24576, 8]⟩
abbrev S2x8x24576 : Shape := ⟨3, ![2, 8, 24576]⟩
abbrev S2x1x24576 : Shape := ⟨3, ![2, 1, 24576]⟩

abbrev nBuf : Space → Nat
  | .hbm => 23
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S2x4096x24576, .f32⟩
  | .hbm, ⟨3, _⟩ => ⟨S2x24576, .f32⟩
  | .hbm, ⟨4, _⟩ => ⟨S1x4096, .f32⟩
  | .hbm, ⟨5, _⟩ => ⟨S5x4096, .f32⟩
  | .hbm, ⟨6, _⟩ => ⟨S_, .f32⟩
  | .hbm, ⟨7, _⟩ => ⟨S3x4096, .f32⟩
  | .hbm, ⟨8, _⟩ => ⟨S8x4096, .f32⟩
  | .hbm, ⟨9, _⟩ => ⟨S8x4096, .f32⟩
  | .hbm, ⟨10, _⟩ => ⟨S8x4096, .f32⟩
  | .hbm, ⟨11, _⟩ => ⟨S_, .f32⟩
  | .hbm, ⟨12, _⟩ => ⟨S8x4096, .f32⟩
  | .hbm, ⟨13, _⟩ => ⟨S8x4096, .f32⟩
  | .hbm, ⟨14, _⟩ => ⟨S_, .f32⟩
  | .hbm, ⟨15, _⟩ => ⟨S8x4096, .f32⟩
  | .hbm, ⟨16, _⟩ => ⟨S8x4096, .f32⟩
  | .hbm, ⟨17, _⟩ => ⟨S8x4096, .f32⟩
  | .hbm, ⟨18, _⟩ => ⟨S2x24576x8, .f32⟩
  | .hbm, ⟨19, _⟩ => ⟨S2x8x24576, .f32⟩
  | .hbm, ⟨20, _⟩ => ⟨S2x1x24576, .f32⟩
  | .hbm, ⟨21, _⟩ => ⟨S2x8x24576, .f32⟩
  | .hbm, ⟨22, _⟩ => ⟨S2x8x24576, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel10.lean ====
abbrev S4x4096x4096 : Shape := ⟨3, ![4, 4096, 4096]⟩
abbrev S4x256x4096 : Shape := ⟨3, ![4, 256, 4096]⟩
abbrev S4x6x4096 : Shape := ⟨3, ![4, 6, 4096]⟩
abbrev S6x4096 : Shape := ⟨2, ![6, 4096]⟩
abbrev S1x6x4096 : Shape := ⟨3, ![1, 6, 4096]⟩
abbrev S5x6x4096 : Shape := ⟨3, ![5, 6, 4096]⟩
abbrev S_ : Shape := ⟨0, ![]⟩
abbrev S3x6x4096 : Shape := ⟨3, ![3, 6, 4096]⟩
abbrev S8x6x4096 : Shape := ⟨3, ![8, 6, 4096]⟩
abbrev S16384x4096 : Shape := ⟨2, ![16384, 4096]⟩
abbrev S1024x4096 : Shape := ⟨2, ![1024, 4096]⟩
abbrev S8x6x1x4096 : Shape := ⟨4, ![8, 6, 1, 4096]⟩
abbrev S17408x4096 : Shape := ⟨2, ![17408, 4096]⟩
abbrev S256x4096 : Shape := ⟨2, ![256, 4096]⟩
abbrev S1x1x1x4096 : Shape := ⟨4, ![1, 1, 1, 4096]⟩
abbrev S256 : Shape := ⟨1, ![256]⟩
abbrev S256x1 : Shape := ⟨2, ![256, 1]⟩
abbrev S1x4096 : Shape := ⟨2, ![1, 4096]⟩

abbrev nBuf : Space → Nat
  | .hbm => 13
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S4x256x4096, .f32⟩
  | .hbm, ⟨2, _⟩ => ⟨S4x6x4096, .f32⟩
  | .hbm, ⟨3, _⟩ => ⟨S6x4096, .f32⟩
  | .hbm, ⟨4, _⟩ => ⟨S1x6x4096, .f32⟩
  | .hbm, ⟨5, _⟩ => ⟨S5x6x4096, .f32⟩
  | .hbm, ⟨6, _⟩ => ⟨S_, .f32⟩
  | .hbm, ⟨7, _⟩ => ⟨S3x6x4096, .f32⟩
  | .hbm, ⟨8, _⟩ => ⟨S8x6x4096, .f32⟩
  | .hbm, ⟨9, _⟩ => ⟨S16384x4096, .f32⟩
  | .hbm, ⟨10, _⟩ => ⟨S1024x4096, .f32⟩
  | .hbm, ⟨11, _⟩ => ⟨S8x6x1x4096, .f32⟩
  | .hbm, ⟨12, _⟩ => ⟨S17408x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S1x1x1x4096, .f32⟩
  | .local _ .vmem, ⟨7, _⟩ => ⟨S1x1x1x4096, .f32⟩
  | .local _ .vmem, ⟨8, _⟩ => ⟨S256x4096, .bf16⟩
  | .local _ .vmem, ⟨9, _⟩ => ⟨S256x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  let c0_i32_7 : BitVec 32 := 0#32
  ![v17.toNat, c0_i32_4.toNat, c0_i32_5.toNat, c0_i32_6.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c1_i32_4 : BitVec 32 := 1#32
  let c0_i32_5 : BitVec 32 := 0#32
  let c0_i32_6 : BitVec 32 := 0#32
  let c0_i32_7 : BitVec 32 := 0#32
  ![v17.toNat, c1_i32_4.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S4x4096x4096 : Shape := ⟨3, ![4, 4096, 4096]⟩
abbrev S4x256x4096 : Shape := ⟨3, ![4, 256, 4096]⟩
abbrev S4x6x4096 : Shape := ⟨3, ![4, 6, 4096]⟩
abbrev S6x4096 : Shape := ⟨2, ![6, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x256 : Shape := ⟨2, ![4, 256]⟩
abbrev S4x256x1 : Shape := ⟨3, ![4, 256, 1]⟩
abbrev S1x4096 : Shape := ⟨2, ![1, 4096]⟩
abbrev S4096 : Shape := ⟨1, ![4096]⟩
abbrev S1x1x4096 : Shape := ⟨3, ![1, 1, 4096]⟩
abbrev S16384x4096 : Shape := ⟨2, ![16384, 4096]⟩
abbrev S1024x4096 : Shape := ⟨2, ![1024, 4096]⟩
abbrev S17408x4096 : Shape := ⟨2, ![17408, 4096]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x256x4096, .f32⟩
  | .hbm, ⟨2, _⟩ => ⟨S4x6x4096, .f32⟩
  | .hbm, ⟨3, _⟩ => ⟨S6x4096, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x4096, .f32⟩
  | .hbm, ⟨26, _⟩ => ⟨S4x4096x4096, .f32⟩
  | .hbm, ⟨27, _⟩ => ⟨S4x1x4096, .f32⟩
  | .hbm, ⟨28, _⟩ => ⟨S4x4096, .f32⟩
  | .hbm, ⟨29, _⟩ => ⟨S4x1x4096, .f32⟩
  | .hbm, ⟨30, _⟩ => ⟨S_, .f32⟩
  | .hbm, ⟨31, _⟩ => ⟨S4x1x4096, .f32⟩
  | .hbm, ⟨32, _⟩ => ⟨S4x1x4096, .f32⟩
  | .hbm, ⟨33, _⟩ => ⟨S4x4096x4096, .f32⟩
  | .hbm, ⟨34, _⟩ => ⟨S4x4096x4096, .f32⟩
  | .hbm, ⟨35, _⟩ => ⟨S4x1x4096, .f32⟩
  | .hbm, ⟨36, _⟩ => ⟨S4x4096, .f32⟩
  | .hbm, ⟨37, _⟩ => ⟨S4x1x4096, .f32⟩
  | .hbm, ⟨38, _⟩ => ⟨S4x4096x4096, .f32⟩
  | .hbm, ⟨39, _⟩ => ⟨S4x4096x4096, .f32⟩
  | .hbm, ⟨40, _⟩ => ⟨S_, .f32⟩
  | .hbm, ⟨41, _⟩ => ⟨S4x256, .f32⟩
  | .hbm, ⟨42, _⟩ => ⟨S4x256x1, .f32⟩
  | .hbm, ⟨43, _⟩ => ⟨S_, .f32⟩
  | .hbm, ⟨44, _⟩ => ⟨S4x256x1, .f32⟩
  | .hbm, ⟨45, _⟩ => ⟨S4x256x1, .f32⟩
  | .hbm, ⟨46, _⟩ => ⟨S4x256x4096, .f32⟩
  | .hbm, ⟨47, _⟩ => ⟨S4x256x4096, .f32⟩
  | .hbm, ⟨48, _⟩ => ⟨S4x256x4096, .f32⟩
  | .hbm, ⟨49, _⟩ => ⟨S_, .f32⟩
  | .hbm, ⟨50, _⟩ => ⟨S4x256, .f32⟩
  | .hbm, ⟨51, _⟩ => ⟨S4x256x1, .f32⟩
  | .hbm, ⟨52, _⟩ => ⟨S_, .f32⟩
  | .hbm, ⟨53, _⟩ => ⟨S4x256x1, .f32⟩
  | .hbm, ⟨54, _⟩ => ⟨S4x256x1, .f32⟩
  | .hbm, ⟨55, _⟩ => ⟨S4x256x4096, .f32⟩
  | .hbm, ⟨56, _⟩ => ⟨S4x256x4096, .f32⟩
  | .hbm, ⟨57, _⟩ => ⟨S_, .f32⟩
  | .hbm, ⟨58, _⟩ => ⟨S4x256x1, .f32⟩
  | .hbm, ⟨59, _⟩ => ⟨S4x256x1, .f32⟩
  | .hbm, ⟨60, _⟩ => ⟨S4x256x1, .f32⟩
  | .hbm, ⟨61, _⟩ => ⟨S4x256x4096, .f32⟩
  | .hbm, ⟨62, _⟩ => ⟨S4x256x4096, .f32⟩
  | .hbm, ⟨63, _⟩ => ⟨S1x4096, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S1x1x4096, .f32⟩
  | .hbm, ⟨69, _⟩ => ⟨S4x256x4096, .f32⟩
  | .hbm, ⟨70, _⟩ => ⟨S4x256x4096, .f32⟩
  | .hbm, ⟨71, _⟩ => ⟨S1x4096, .f32⟩
  | .hbm, ⟨72, _⟩ => ⟨S4096, .f32⟩
  | .hbm, ⟨73, _⟩ => ⟨S1x1x4096, .f32⟩
  | .hbm, ⟨74, _⟩ => ⟨S4x256x4096, .f32⟩
  | .hbm, ⟨75, _⟩ => ⟨S4x256x4096, .f32⟩
  | .hbm, ⟨76, _⟩ => ⟨S16384x4096, .f32⟩
  | .hbm, ⟨77, _⟩ => ⟨S1024x4096, .f32⟩
  | .hbm, ⟨78, _⟩ => ⟨S17408x4096, .f32⟩
  | .hbm, ⟨79, _⟩ => ⟨S17408x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Proof.Softmax.lean ====
/-
  The arithmetic of one attention head over the extended reals, free of any program.

  The kernel keeps its scores divided by log 2 so that a power of two stands for the exponential, and it normalises
  after the weighted sum of the values, by a second weighted sum whose values are all one. The reference takes the
  exponential, normalises every weight, and sums then. On real scores the two agree whatever the values are.
-/
module

public import Idealize.ShloMosaic.Lib.Pointwise

@[expose] public section

noncomputable section

namespace Cert.Head

open Idealize.ShloMosaic

/-- The word both programs start a maximum from is minus infinity. -/
theorem ninf : Ideal.ofBits .f32 0xFF800000#32 = (⊥ : EReal) := by
  simp [Ideal.ofBits, Ideal.ieee]

/-- The word of the head width. -/
theorem width : Ideal.ofBits .f32 0x43000000#32 = ((128 : ℝ) : EReal) := by
  simp [Ideal.ofBits, Ideal.ieee]; rw [← EReal.coe_mul]; norm_num

/-- The word of two. -/
theorem two : Ideal.ofBits .f32 0x40000000#32 = ((2 : ℝ) : EReal) := by
  simp [Ideal.ofBits, Ideal.ieee]; rw [← EReal.coe_mul]; norm_num

/-- One head of the kernel on given scores: base-two weights against the values, over the same weights against `W`. -/
def kHead {n : ℕ} (s V W : Fin n → EReal) : EReal :=
  Ideal.div
    (∑ x, Ideal.exp2 (s x - Finset.fold max (Ideal.ofBits .f32 0xFF800000#32) s Finset.univ) * V x)
    (∑ x, Ideal.exp2 (s x - Finset.fold max (Ideal.ofBits .f32 0xFF800000#32) s Finset.univ) * W x)

/-- The weight the reference gives an entry before normalising. -/
def rWeight {n : ℕ} (s : Fin n → EReal) (x : Fin n) : EReal :=
  Ideal.exp (s x - max (Ideal.ofBits .f32 0xFF800000#32)
    (Finset.fold max (Ideal.ofBits .f32 0xFF800000#32) s Finset.univ))

/-- One head of the reference on given scores: softmax weights against the values. -/
def rHead {n : ℕ} (s V : Fin n → EReal) : EReal :=
  ∑ x, Ideal.div (rWeight s x) (∑ y, rWeight s y) * V x

/-- A maximum folded from minus infinity is the value at any index where the values peak. -/
theorem fold_peak {n : ℕ} (s : Fin n → EReal) (p : Fin n) (hp : ∀ x, s x ≤ s p) :
    Finset.fold max (Ideal.ofBits .f32 0xFF800000#32) s Finset.univ = s p := by
  rw [ninf]
  exact le_antisymm (Finset.sup_le (f := s) (s := Finset.univ) fun x _ => hp x)
    (Finset.le_sup (f := s) (Finset.mem_univ p))

/-- A nonnegative real factor moves into a finite sum, whatever the summands. -/
theorem sum_mul_real {ι : Type} (t : Finset ι) (f : ι → EReal) (r : ℝ) (hr : 0 ≤ r) :
    (∑ x ∈ t, f x) * (r : EReal) = ∑ x ∈ t, f x * (r : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hr) (EReal.coe_ne_top r) _ _

/-- A finite sum of reals, read in the extended reals. -/
theorem coe_sum {ι : Type} (t : Finset ι) (f : ι → ℝ) : ((∑ x ∈ t, f x : ℝ) : EReal) = ∑ x ∈ t, (f x : EReal) := by
  classical
  induction t using Finset.induction_on with
  | empty => simp
  | insert a t ha ih => rw [Finset.sum_insert ha, Finset.sum_insert ha, EReal.coe_add, ih]

/-- Two to the difference of two scores divided by log 2 is the exponential of the difference. -/
theorem exp2_scaled (a b : ℝ) :
    Ideal.exp2 (((a / Real.log 2 : ℝ) : EReal) - ((b / Real.log 2 : ℝ) : EReal)) = ((Real.exp (a - b) : ℝ) : EReal) := by
  have hl : Real.log 2 ≠ 0 := (Real.log_pos (by norm_num)).ne'
  rw [← EReal.coe_sub, Ideal.exp2_coe]
  congr 1
  show (2 : ℝ) ^ (a / Real.log 2 - b / Real.log 2) = _
  rw [Real.rpow_def_of_pos (by norm_num)]
  congr 1
  field_simp

/-- **The two heads agree on real scores.** -/
theorem head_eq_of_scores {n : ℕ} (hn : 0 < n) (r : Fin n → ℝ) (sk sr V W : Fin n → EReal)
    (hk : ∀ x, sk x = ((r x / Real.log 2 : ℝ) : EReal)) (hr : ∀ x, sr x = ((r x : ℝ) : EReal))
    (hW : ∀ x, W x = 1) : kHead sk V W = rHead sr V := by
  have hl : 0 < Real.log 2 := Real.log_pos (by norm_num)
  haveI : Nonempty (Fin n) := ⟨⟨0, hn⟩⟩
  obtain ⟨p, -, hp⟩ := Finset.exists_max_image Finset.univ r Finset.univ_nonempty
  have fk : Finset.fold max (Ideal.ofBits .f32 0xFF800000#32) sk Finset.univ = sk p :=
    fold_peak sk p fun x => by
      rw [hk, hk]; exact EReal.coe_le_coe_iff.mpr (div_le_div_of_nonneg_right (hp x (Finset.mem_univ x)) hl.le)
  have fr : Finset.fold max (Ideal.ofBits .f32 0xFF800000#32) sr Finset.univ = sr p :=
    fold_peak sr p fun x => by rw [hr, hr]; exact EReal.coe_le_coe_iff.mpr (hp x (Finset.mem_univ x))
  have hw : ∀ x, rWeight sr x = ((Real.exp (r x - r p) : ℝ) : EReal) := fun x => by
    unfold rWeight
    rw [fr, ninf, max_eq_right bot_le, hr, hr, ← EReal.coe_sub, Ideal.exp_coe]
  have hx : ∀ x, Ideal.exp2 (sk x - sk p) = ((Real.exp (r x - r p) : ℝ) : EReal) := fun x => by
    rw [hk, hk, exp2_scaled]
  have hpos : 0 < ∑ x, Real.exp (r x - r p) := Finset.sum_pos (fun x _ => Real.exp_pos _) Finset.univ_nonempty
  unfold kHead rHead
  simp only [fk, hx, hw, hW, mul_one, ← coe_sum]
  simp only [Ideal.div_coe hpos.ne']
  rw [sum_mul_real _ _ _ (one_div_nonneg.mpr hpos.le)]
  exact Finset.sum_congr rfl fun x _ => by rw [mul_assoc, mul_assoc, mul_comm (V x)]

/-- The divisor of the queries in the kernel: the root of the width times log 2. -/
def kScale : EReal :=
  Ideal.sqrt (Ideal.ofBits .f32 0x43000000#32) * Ideal.log (Ideal.ofBits .f32 0x40000000#32)

/-- The divisor of the scores in the reference: the root of the width. -/
def rScale : EReal := Ideal.sqrt (Ideal.ofBits .f32 0x43000000#32)

theorem rScale_eq : rScale = ((Real.sqrt 128 : ℝ) : EReal) := by
  unfold rScale
  rw [width, Ideal.sqrt_coe, if_neg (by norm_num)]

theorem kScale_eq : kScale = ((Real.sqrt 128 * Real.log 2 : ℝ) : EReal) := by
  unfold kScale
  rw [width, two, Ideal.sqrt_coe, if_neg (by norm_num), Ideal.log_coe, if_neg (by norm_num), EReal.coe_mul]

/-- **One head, from finite queries and keys.** The kernel divides the query once by both factors and weighs with a
    power of two; the reference divides the score by the root of the width and weighs with the exponential. -/
theorem head_eq {n : ℕ} (hn : 0 < n) (q : Fin 128 → EReal) (K : Fin n → Fin 128 → EReal) (V W : Fin n → EReal)
    (hq : ∀ e, ∃ a : ℝ, q e = a) (hK : ∀ x e, ∃ a : ℝ, K x e = a) (hW : ∀ x, W x = 1) :
    kHead (fun x => ∑ e, Ideal.div (q e) kScale * K x e) V W
      = rHead (fun x => Ideal.div (∑ e, q e * K x e) rScale) V := by
  choose qr hqr using hq
  choose kr hkr using hK
  have h1 : 0 < Real.sqrt 128 := Real.sqrt_pos.mpr (by norm_num)
  have h2 : 0 < Real.log 2 := Real.log_pos (by norm_num)
  refine head_eq_of_scores hn (fun x => (∑ e, qr e * kr x e) / Real.sqrt 128) _ _ V W (fun x => ?_) (fun x => ?_) hW
  · simp only [kScale_eq, hqr, hkr, Ideal.div_coe (mul_pos h1 h2).ne', ← EReal.coe_mul, ← coe_sum]
    congr 1
    rw [div_div, div_eq_mul_inv (∑ e, qr e * kr x e), Finset.sum_mul]
    exact Finset.sum_congr rfl fun e _ => by rw [one_div]; ring
  · simp only [rScale_eq, hqr, hkr, ← EReal.coe_mul, ← coe_sum]
    rw [Ideal.div_coe h1.ne', ← EReal.coe_mul, one_div, div_eq_mul_inv]

/-- The same, for scores, values and ones given entry by entry. -/
theorem head_agree {n : ℕ} (hn : 0 < n) {s V W : Fin n → EReal} (q : Fin 128 → EReal) (K : Fin n → Fin 128 → EReal)
    (V' : Fin n → EReal) (hs : ∀ x, s x = ∑ e, Ideal.div (q e) kScale * K x e) (hV : ∀ x, V x = V' x)
    (hW : ∀ x, W x = 1) (hq : ∀ e, ∃ a : ℝ, q e = a) (hK : ∀ x e, ∃ a : ℝ, K x e = a) :
    kHead s V W = rHead (fun x => Ideal.div (∑ e, q e * K x e) rScale) V' := by
  obtain rfl : s = fun x => ∑ e, Ideal.div (q e) kScale * K x e := funext hs
  obtain rfl : V = V' := funext hV
  exact head_eq hn q K V W hq hK hW

end Cert.Head

end
-- ==== Proof.Payload.lean ====
/-
  What the kernel stores, at an index: each of the four heads of a step, over all rows of a batch or over its context
  rows, is `Cert.Head.kHead` of the query row's scores against the values, over lane 128 of the values.
-/
module

public import proofs.«01_k».proof.Proof.Gen.KernelIdeal.Value
public import proofs.«01_k».proof.Proof.Softmax
public import Idealize.ShloMosaic.Lib.Pointwise

@[expose] public section

set_option maxRecDepth 16384

noncomputable section

namespace Cert.KernelIdeal.Att

open Cert.KernelIdeal Cert.KernelIdeal.Gen Cert.Head Idealize.ShloMosaic Idealize.ShloMosaic.TcCoe

/-- Head 0 of a step over all rows. -/
theorem all0 (v6 : Vec Ideal S1x4352x128 .bf16) (v8 : Vec Ideal S1x4352x256 .bf16) (q : Vec Ideal S256x128 .bf16)
    (r : Fin 256) (d : Fin 128) :
    k0_pay7 (F := Ideal) v6 v8 q (ix2 r d)
      = kHead (fun x : Fin 4352 => ∑ e : Fin 128, q (ix2 r e) * v6 (ix3 0 x e))
          (fun x => v8 (ix3 0 x ⟨d.val, by omega⟩)) (fun x => v8 (ix3 0 x ⟨128, by omega⟩)) := by
  pointwise [k0_pay7, k0_pay5, k0_pay6]
  rfl

/-- Head 1 of a step over all rows. -/
theorem all1 (v6 : Vec Ideal S1x4352x128 .bf16) (v8 : Vec Ideal S1x4352x256 .bf16) (q : Vec Ideal S256x128 .bf16)
    (r : Fin 256) (d : Fin 128) :
    k0_pay9 (F := Ideal) v6 v8 q (ix2 r d)
      = kHead (fun x : Fin 4352 => ∑ e : Fin 128, q (ix2 r e) * v6 (ix3 0 x e))
          (fun x => v8 (ix3 0 x ⟨d.val, by omega⟩)) (fun x => v8 (ix3 0 x ⟨128, by omega⟩)) := by
  pointwise [k0_pay9, k0_pay5, k0_pay6]
  rfl

/-- Head 2 of a step over all rows. -/
theorem all2 (v6 : Vec Ideal S1x4352x128 .bf16) (v8 : Vec Ideal S1x4352x256 .bf16) (q : Vec Ideal S256x128 .bf16)
    (r : Fin 256) (d : Fin 128) :
    k0_pay1 (F := Ideal) (k0_pay6 (F := Ideal) v8) (k0_pay8 (F := Ideal) v6 q) (ix2 r d)
      = kHead (fun x : Fin 4352 => ∑ e : Fin 128, q (ix2 r e) * v6 (ix3 0 x e))
          (fun x => v8 (ix3 0 x ⟨d.val, by omega⟩)) (fun x => v8 (ix3 0 x ⟨128, by omega⟩)) := by
  pointwise [k0_pay1, k0_pay6, k0_pay8, k0_pay5]
  rfl

/-- Head 3 of a step over all rows. -/
theorem all3 (v6 : Vec Ideal S1x4352x128 .bf16) (v8 : Vec Ideal S1x4352x256 .bf16) (q : Vec Ideal S256x128 .bf16)
    (r : Fin 256) (d : Fin 128) :
    k0_pay2 (F := Ideal) (k0_pay5 (F := Ideal) v6) (k0_pay6 (F := Ideal) v8) q (ix2 r d)
      = kHead (fun x : Fin 4352 => ∑ e : Fin 128, q (ix2 r e) * v6 (ix3 0 x e))
          (fun x => v8 (ix3 0 x ⟨d.val, by omega⟩)) (fun x => v8 (ix3 0 x ⟨128, by omega⟩)) := by
  pointwise [k0_pay2, k0_pay5, k0_pay6]
  rfl

/-- Head 0 of a step over the context rows. -/
theorem ctx0 (v6 : Vec Ideal S1x256x128 .bf16) (v8 : Vec Ideal S1x256x256 .bf16) (q : Vec Ideal S256x128 .bf16)
    (r : Fin 256) (d : Fin 128) :
    k0_pay12 (F := Ideal) v6 v8 q (ix2 r d)
      = kHead (fun x : Fin 256 => ∑ e : Fin 128, q (ix2 r e) * v6 (ix3 0 x e))
          (fun x => v8 (ix3 0 x ⟨d.val, by omega⟩)) (fun x => v8 (ix3 0 x ⟨128, by omega⟩)) := by
  pointwise [k0_pay12, k0_pay10, k0_pay11]
  rfl

/-- Head 1 of a step over the context rows. -/
theorem ctx1 (v6 : Vec Ideal S1x256x128 .bf16) (v8 : Vec Ideal S1x256x256 .bf16) (q : Vec Ideal S256x128 .bf16)
    (r : Fin 256) (d : Fin 128) :
    k0_pay14 (F := Ideal) v6 v8 q (ix2 r d)
      = kHead (fun x : Fin 256 => ∑ e : Fin 128, q (ix2 r e) * v6 (ix3 0 x e))
          (fun x => v8 (ix3 0 x ⟨d.val, by omega⟩)) (fun x => v8 (ix3 0 x ⟨128, by omega⟩)) := by
  pointwise [k0_pay14, k0_pay10, k0_pay11]
  rfl

/-- Head 2 of a step over the context rows. -/
theorem ctx2 (v6 : Vec Ideal S1x256x128 .bf16) (v8 : Vec Ideal S1x256x256 .bf16) (q : Vec Ideal S256x128 .bf16)
    (r : Fin 256) (d : Fin 128) :
    k0_pay3 (F := Ideal) (k0_pay11 (F := Ideal) v8) (k0_pay13 (F := Ideal) v6 q) (ix2 r d)
      = kHead (fun x : Fin 256 => ∑ e : Fin 128, q (ix2 r e) * v6 (ix3 0 x e))
          (fun x => v8 (ix3 0 x ⟨d.val, by omega⟩)) (fun x => v8 (ix3 0 x ⟨128, by omega⟩)) := by
  pointwise [k0_pay11, k0_pay13, k0_pay3, k0_pay10]
  rfl

/-- Head 3 of a step over the context rows. -/
theorem ctx3 (v6 : Vec Ideal S1x256x128 .bf16) (v8 : Vec Ideal S1x256x256 .bf16) (q : Vec Ideal S256x128 .bf16)
    (r : Fin 256) (d : Fin 128) :
    k0_pay4 (F := Ideal) (k0_pay10 (F := Ideal) v6) (k0_pay11 (F := Ideal) v8) q (ix2 r d)
      = kHead (fun x : Fin 256 => ∑ e : Fin 128, q (ix2 r e) * v6 (ix3 0 x e))
          (fun x => v8 (ix3 0 x ⟨d.val, by omega⟩)) (fun x => v8 (ix3 0 x ⟨128, by omega⟩)) := by
  pointwise [k0_pay10, k0_pay11, k0_pay4]
  rfl

end Cert.KernelIdeal.Att

end
-- ==== Proof.Prepared.lean ====
/-
  What host code prepares for the attention call, at an index: the queries divided by `Cert.Head.kScale`, the keys as
  they are, and beside each head's values a block with a one in its first lane.
-/
module

public import proofs.«01_k».proof.Proof.Gen.KernelIdeal.Value
public import proofs.«01_k».proof.Proof.Softmax
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Att

open Cert.KernelIdeal Cert.KernelIdeal.Gen Cert.Head Idealize.ShloMosaic Idealize.ShloMosaic.TcCoe
open Idealize.SL.Sem
open Idealize.ShloMosaic.Pipeline (Dat)

/-- The prepared queries. -/
def queriesB (Q : FVec Ideal S17408x2048 .f32) : FVec Ideal S17408x2048 .bf16 :=
  truncf .bf16 (Host.divf Q (broadcastInDim S17408x2048 ![] bcast_S_S17408x2048
    (mulf (Host.sqrt (constant S_ .f32 0x43000000#32)) (Host.log (constant S_ .f32 0x40000000#32))))) bitsLt_bf16_f32

/-- The prepared keys. -/
def keysB (K : FVec Ideal S4x4352x512 .f32) : FVec Ideal S4x4352x512 .bf16 := truncf .bf16 K bitsLt_bf16_f32

/-- The block set beside each head's values: one in lane zero, zero elsewhere. -/
def oneB : FVec Ideal S4x4352x4x128 .f32 :=
  broadcastInDim S4x4352x4x128 ![3] bcast_S128_S4x4352x4x128_3
    (uitofp .f32 (cmpi .eq (iotaInDim S128 32 0) (broadcastInDim S128 ![] bcast_S_S128 (constantI S_ 32 0#32))))

/-- Values and that block side by side, head by head. -/
def pairB (X Y : FVec Ideal S4x4352x4x128 .f32) : FVec Ideal S4x4352x4x256 .f32 :=
  concatenate S4x4352x4x256 3 [⟨S4x4352x4x128, X⟩, ⟨S4x4352x4x128, Y⟩] concatenates_S4x4352x4x128_S4x4352x4x128_S4x4352x4x256_d3

/-- The heads' pairs in one row. -/
def flatB (X : FVec Ideal S4x4352x4x256 .f32) : FVec Ideal S4x4352x1024 .bf16 :=
  truncf .bf16 (shapeCast S4x4352x1024 X shapeCasts_S4x4352x4x256_S4x4352x1024) bitsLt_bf16_f32

/-- The values, split into heads. -/
def splitB (X : FVec Ideal S4x4352x512 .f32) : FVec Ideal S4x4352x4x128 .f32 :=
  shapeCast S4x4352x4x128 X shapeCasts_S4x4352x512_S4x4352x4x128

theorem queriesB_at (Q : FVec Ideal S17408x2048 .f32) (R : Fin 17408) (C : Fin 2048) :
    queriesB Q (ix2 R C) = Ideal.div (Q (ix2 R C)) kScale := by
  pointwise [queriesB, kScale]

theorem keysB_at (K : FVec Ideal S4x4352x512 .f32) (b : Fin 4) (x : Fin 4352) (e : Fin 512) :
    keysB K (ix3 b x e) = K (ix3 b x e) := by
  pointwise [keysB]

theorem splitB_at (X : FVec Ideal S4x4352x512 .f32) (b : Fin 4) (x : Fin 4352) (k : Fin 4) (d : Fin 128) :
    splitB X (ix4 b x k d) = X (ix3 b x ⟨k.val * 128 + d.val, by omega⟩) := by
  pointwise [splitB]

theorem flatB_at (X : FVec Ideal S4x4352x4x256 .f32) (b : Fin 4) (x : Fin 4352) (k : Fin 4) (l : Fin 256) :
    flatB X (ix3 b x ⟨k.val * 256 + l.val, by omega⟩) = X (ix4 b x k l) := by
  pointwise [flatB]

theorem pairB_left (X Y : FVec Ideal S4x4352x4x128 .f32) (b : Fin 4) (x : Fin 4352) (k : Fin 4) (d : Fin 128) :
    pairB X Y (ix4 b x k ⟨d.val, by omega⟩) = X (ix4 b x k d) := by
  pointwise [pairB]

theorem pairB_right (X Y : FVec Ideal S4x4352x4x128 .f32) (b : Fin 4) (x : Fin 4352) (k : Fin 4) :
    pairB X Y (ix4 b x k ⟨128, by omega⟩) = Y (ix4 b x k 0) := by
  pointwise [pairB]

theorem oneB_at (b : Fin 4) (x : Fin 4352) (k : Fin 4) : oneB (ix4 b x k 0) = (1 : EReal) := by
  pointwise [oneB]
  show (((1#1 : BitVec 1).toNat : ℝ) : EReal) = 1
  simp

variable (m : (ℓ : Loc nD τ sig) → Buf (Elt Ideal) ℓ) (c : Dev nD)

theorem V_queries : V m c main_v5 = queriesB (m ((c : Thread nD τ).loc main_arg0)) := by
  entry_read; rfl

theorem V_keys : V m c main_v15 = keysB (m ((c : Thread nD τ).loc main_arg1)) := by
  entry_read; rfl

theorem V_values : V m c main_v14 = flatB (pairB (splitB (m ((c : Thread nD τ).loc main_arg2))) oneB) := by
  entry_read; rfl

end Cert.KernelIdeal.Att

end
-- ==== Proof.Idx.lean ====
/-
  Where the attention call's blocks lie, step by step.
-/
module

public import proofs.«01_k».proof.Proof.Gen.KernelIdeal.Value
public import proofs.«01_k».proof.Proof.Softmax
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Att

open Cert.KernelIdeal Cert.KernelIdeal.Gen Cert.Head Idealize.ShloMosaic Idealize.ShloMosaic.TcCoe
open Idealize.SL.Sem
open Idealize.ShloMosaic.Pipeline (Dat)

/-- Where each step's blocks lie: the step's batch is `t / 68`, its head group `t / 17 % 4`, its row tile `t % 17`, and
    the seventeenth row tile is the batch's context tile, behind all latent rows. -/
theorem idx : ∀ t : Fin cfg0.N,
    win0_0.index t = ![if t.val % 17 ≤ 15 then t.val / 68 * 16 + t.val % 17 else 64 + t.val / 68, t.val / 17 % 4]
    ∧ win0_1.index t = ![t.val / 68, 0, t.val / 17 % 4]
    ∧ win0_2.index t = ![t.val / 68, 0, t.val / 17 % 4]
    ∧ win0_3.index t = ![if t.val % 17 ≤ 15 then t.val / 68 * 16 + t.val % 17 else 64 + t.val / 68, t.val / 17 % 4]
    ∧ t.val < 272 :=
  (by decide +kernel : ∀ t : Fin grid0.N, _)

end Cert.KernelIdeal.Att

end
-- ==== Proof.Blocks.lean ====
/-
  What a step's blocks hold, at an index: the queries divided by `Cert.Head.kScale`, one head's keys, its values and a
  one beside them.
-/
module

public import proofs.«01_k».proof.Proof.Prepared
public import proofs.«01_k».proof.Proof.Idx

@[expose] public section

set_option maxRecDepth 16384

noncomputable section

namespace Cert.KernelIdeal.Att

open Cert.KernelIdeal Cert.KernelIdeal.Gen Cert.Head Idealize.ShloMosaic Idealize.ShloMosaic.TcCoe
open Idealize.SL.Sem
open Idealize.ShloMosaic.Pipeline (Dat)

variable (m : (ℓ : Loc nD τ sig) → Buf (Elt Ideal) ℓ) (c : Dev nD)

/-- The query block: 256 rows of one head group, divided by `kScale`. -/
theorem queries_at (t : Fin cfg0.N) (i : Fin 256) (j : Fin 512) (R : Fin 17408) (C : Fin 2048)
    (hR : R.val = (if t.val % 17 ≤ 15 then t.val / 68 * 16 + t.val % 17 else 64 + t.val / 68) * 256 + i.val)
    (hC : C.val = t.val / 17 % 4 * 512 + j.val) :
    (iblk m c 0 t : Vec Ideal S256x512 .bf16) (ix2 i j)
      = Ideal.div ((m ((c : Thread nD τ).loc main_arg0) : FVec Ideal S17408x2048 .f32) (ix2 R C)) kScale := by
  refine Eq.trans ?_ (queriesB_at _ R C)
  blk_simp [iblk]
  rw [V_queries]
  refine congrArg _ ?_
  blk_ext [idx t]

/-- The key block: one head's keys of one batch. -/
theorem keys_at (t : Fin cfg0.N) (b k : Fin 4) (hb : t.val / 68 = b.val) (hk : t.val / 17 % 4 = k.val) (x : Fin 4352) (e : Fin 128) :
    (iblk m c 1 t : Vec Ideal S1x4352x128 .bf16) (ix3 0 x e)
      = (m ((c : Thread nD τ).loc main_arg1) : FVec Ideal S4x4352x512 .f32) (ix3 b x ⟨k.val * 128 + e.val, by omega⟩) := by
  refine Eq.trans ?_ (keysB_at _ b x ⟨k.val * 128 + e.val, by omega⟩)
  blk_simp [iblk]
  rw [V_keys]
  refine congrArg _ ?_
  blk_ext [idx t]

/-- The value block read through its place in the prepared values. -/
theorem block_read (t : Fin cfg0.N) (y : S1x4352x256.Idx) :
    (iblk m c 2 t : Vec Ideal S1x4352x256 .bf16) y
      = (V m c main_v14 : FVec Ideal S4x4352x1024 .bf16) (((cfg0.win 2).blk t).view.emb y) := by
  unfold iblk
  rw [View.read_apply, cast_eq]

/-- Where lane `l` of row `x` of the value block lies. -/
theorem block_place (t : Fin cfg0.N) (b k : Fin 4) (hb : t.val / 68 = b.val) (hk : t.val / 17 % 4 = k.val) (x : Fin 4352) (l : Fin 256) :
    (((cfg0.win 2).blk t).view.emb (ix3 0 x l) : S4x4352x1024.Idx) = ix3 b x ⟨k.val * 256 + l.val, by omega⟩ := by
  blk_ext [idx t]

/-- The value block's first 128 lanes: one head's values of one batch. -/
theorem values_at (t : Fin cfg0.N) (b k : Fin 4) (hb : t.val / 68 = b.val) (hk : t.val / 17 % 4 = k.val) (x : Fin 4352) (e : Fin 128) :
    (iblk m c 2 t : Vec Ideal S1x4352x256 .bf16) (ix3 0 x ⟨e.val, by omega⟩)
      = (m ((c : Thread nD τ).loc main_arg2) : FVec Ideal S4x4352x512 .f32) (ix3 b x ⟨k.val * 128 + e.val, by omega⟩) := by
  refine Eq.trans ?_ ((flatB_at _ b x k ⟨e.val, by omega⟩).trans ((pairB_left _ oneB b x k e).trans (splitB_at _ b x k e)))
  rw [block_read, V_values]
  exact congrArg _ (block_place t b k hb hk x _)

/-- Lane 128 of the value block is one. -/
theorem ones_at (t : Fin cfg0.N) (b k : Fin 4) (hb : t.val / 68 = b.val) (hk : t.val / 17 % 4 = k.val) (x : Fin 4352) :
    (iblk m c 2 t : Vec Ideal S1x4352x256 .bf16) (ix3 0 x ⟨128, by omega⟩) = (1 : EReal) := by
  refine Eq.trans ?_ ((flatB_at _ b x k ⟨128, by omega⟩).trans
    ((pairB_right (splitB (m ((c : Thread nD τ).loc main_arg2))) oneB b x k).trans (oneB_at b x k)))
  rw [block_read, V_values]
  exact congrArg _ (block_place t b k hb hk x _)

end Cert.KernelIdeal.Att

end
-- ==== Proof.HostMax.lean ====
/-
  The reference takes each row's maximum on the host, over the last of five axes. Read at an index it is the maximum
  along that row, for arrays of any extents.
-/
module

public import Idealize.ShloMosaic.Lib.Pointwise

@[expose] public section

noncomputable section

namespace Cert.Head

open Idealize.ShloMosaic

/-- The host's maximum over the last of five axes, at an index: the maximum along that row, from the initial value. -/
theorem hostMax_last {n0 n1 n2 n3 n4 : ℕ} {u : Shape} (v : FVec Ideal ⟨5, ![n0, n1, n2, n3, n4]⟩ .f32)
    (init : FVec Ideal u .f32) (h : (⟨5, ![n0, n1, n2, n3, n4]⟩ : Shape).ReducesTo [4] ⟨4, ![n0, n1, n2, n3]⟩)
    (hu : 0 < u.numel) (b : Fin n0) (k : Fin n1) (g : Fin n2) (i : Fin n3) :
    Host.reduce FloatOps.maximumf v init h hu (ix4 b k g i)
      = Finset.fold max (init (Shape.Idx.first hu)) (fun j : Fin n4 => v (ix5 b k g i j)) Finset.univ := by
  refine (Host.reduce_eq_fold FloatOps.maximumf v init h hu (ix4 b k g i)).trans ?_
  exact h.fold_fiber_r5_a4 (ix4 b k g i) max (init (Shape.Idx.first hu)) v

end Cert.Head

end
-- ==== Proof.Reference.lean ====
/-
  The reference's attention, part by part: split into heads, scores, row maxima, exponentials, softmax times the
  values, heads side by side, latent rows above context rows. Each part is read at an index, and together they give
  every result as `Cert.Head.rHead` of one query row against one head's keys and values.
-/
module

public import proofs.«01_k».proof.Proof.Gen.ReferenceIdeal.Run
public import proofs.«01_k».proof.Proof.Softmax
public import proofs.«01_k».proof.Proof.HostMax
public import Idealize.ShloMosaic.Lib.Pointwise
public import Idealize.ShloMosaic.Lib.Pipeline.ValueKit

@[expose] public section

set_option maxRecDepth 16384

noncomputable section

namespace Cert.ReferenceIdeal.Att

open Cert.ReferenceIdeal Cert.ReferenceIdeal.Gen Cert.Head Idealize.ShloMosaic Idealize.ShloMosaic.TcCoe

/-- The latent queries, split into heads. -/
def qL (Q : FVec Ideal S17408x2048 .f32) : FVec Ideal S4x4x4x4096x128 .f32 :=
  transpose S4x4x4x4096x128 [0, 2, 3, 1, 4] (shapeCast _ (shapeCast _ (extractStridedSlice S16384x2048 ![0, 0] Q slices_S17408x2048_S16384x2048_0_0) shapeCasts_S16384x2048_S4x4096x16x128) shapeCasts_S4x4096x16x128_S4x4096x4x4x128) transposes_S4x4096x4x4x128_S4x4x4x4096x128_0_2_3_1_4

/-- The context queries, split into heads. -/
def qC (Q : FVec Ideal S17408x2048 .f32) : FVec Ideal S4x4x4x256x128 .f32 :=
  transpose S4x4x4x256x128 [0, 2, 3, 1, 4] (shapeCast _ (shapeCast _ (extractStridedSlice S1024x2048 ![16384, 0] Q slices_S17408x2048_S1024x2048_16384_0) shapeCasts_S1024x2048_S4x256x16x128) shapeCasts_S4x256x16x128_S4x256x4x4x128) transposes_S4x256x4x4x128_S4x4x4x256x128_0_2_3_1_4

/-- Keys or values, split into heads. -/
def kv (X : FVec Ideal S4x4352x512 .f32) : FVec Ideal S4x4x4352x128 .f32 :=
  transpose S4x4x4352x128 [0, 2, 1, 3] (shapeCast _ X shapeCasts_S4x4352x512_S4x4352x4x128) transposes_S4x4352x4x128_S4x4x4352x128_0_2_1_3

/-- The context rows of the keys or the values. -/
def kvc (X : FVec Ideal S4x4x4352x128 .f32) : FVec Ideal S4x4x256x128 .f32 :=
  extractStridedSlice S4x4x256x128 ![0, 0, 0, 0] X slices_S4x4x4352x128_S4x4x256x128_0_0_0_0

/-- The latent rows' scores. -/
def scL (qL : FVec Ideal S4x4x4x4096x128 .f32) (kT : FVec Ideal S4x4x4352x128 .f32) : FVec Ideal S4x4x4x4096x4352 .f32 :=
  Host.divf (Host.dotGeneral dot_S4x4x4x4096x128_S4x4x4352x128_S4x4x4x4096x4352_4_3_23_2_01_01 none qL kT) (broadcastInDim S4x4x4x4096x4352 ![] bcast_S_S4x4x4x4096x4352 (Host.sqrt (constant S_ .f32 0x43000000#32)))

/-- The row maxima of the latent scores. -/
def mxL (scL : FVec Ideal S4x4x4x4096x4352 .f32) : FVec Ideal S4x4x4x4096 .f32 :=
  Host.reduce FloatOps.maximumf scL (constant S_ .f32 0xFF800000#32) reducesTo_S4x4x4x4096x4352_S4x4x4x4096_d4 h_S_

/-- The latent rows' exponentials, from the scores and their row maxima. -/
def exL (scL : FVec Ideal S4x4x4x4096x4352 .f32) (mx : FVec Ideal S4x4x4x4096 .f32) : FVec Ideal S4x4x4x4096x4352 .f32 :=
  Host.exp (subf scL (broadcastInDim S4x4x4x4096x4352 ![0, 1, 2, 3, 4] bcast_S4x4x4x4096x1_S4x4x4x4096x4352_0_1_2_3_4 (broadcastInDim S4x4x4x4096x1 ![0, 1, 2, 3] bcast_S4x4x4x4096_S4x4x4x4096x1_0_1_2_3 (maximumf (broadcastInDim S4x4x4x4096 ![] bcast_S_S4x4x4x4096 (constant S_ .f32 0xFF800000#32)) mx))))

/-- The latent rows' softmax times the values. -/
def atL (exL : FVec Ideal S4x4x4x4096x4352 .f32) (vT : FVec Ideal S4x4x4352x128 .f32) : FVec Ideal S4x4x4x4096x128 .f32 :=
  Host.dotGeneral dot_S4x4x4x4096x4352_S4x4x4352x128_S4x4x4x4096x128_4_2_23_3_01_01 none (Host.divf exL (broadcastInDim S4x4x4x4096x4352 ![0, 1, 2, 3, 4] bcast_S4x4x4x4096x1_S4x4x4x4096x4352_0_1_2_3_4 (broadcastInDim S4x4x4x4096x1 ![0, 1, 2, 3] bcast_S4x4x4x4096_S4x4x4x4096x1_0_1_2_3 (Host.reduceAdd exL (constant S_ .f32 0x00000000#32) reducesTo_S4x4x4x4096x4352_S4x4x4x4096_d4 h_S_)))) vT

/-- The latent heads side by side again. -/
def mgL (atL : FVec Ideal S4x4x4x4096x128 .f32) : FVec Ideal S16384x2048 .f32 :=
  shapeCast _ (shapeCast _ (transpose S4x4096x4x4x128 [0, 3, 1, 2, 4] atL transposes_S4x4x4x4096x128_S4x4096x4x4x128_0_3_1_2_4) shapeCasts_S4x4096x4x4x128_S4x4096x2048) shapeCasts_S4x4096x2048_S16384x2048

/-- The context rows' scores. -/
def scC (qC : FVec Ideal S4x4x4x256x128 .f32) (kC : FVec Ideal S4x4x256x128 .f32) : FVec Ideal S4x4x4x256x256 .f32 :=
  Host.divf (Host.dotGeneral dot_S4x4x4x256x128_S4x4x256x128_S4x4x4x256x256_4_3_23_2_01_01 none qC kC) (broadcastInDim S4x4x4x256x256 ![] bcast_S_S4x4x4x256x256 (Host.sqrt (constant S_ .f32 0x43000000#32)))

/-- The row maxima of the context scores. -/
def mxC (scC : FVec Ideal S4x4x4x256x256 .f32) : FVec Ideal S4x4x4x256 .f32 :=
  Host.reduce FloatOps.maximumf scC (constant S_ .f32 0xFF800000#32) reducesTo_S4x4x4x256x256_S4x4x4x256_d4 h_S_

/-- The context rows' exponentials, from the scores and their row maxima. -/
def exC (scC : FVec Ideal S4x4x4x256x256 .f32) (mx : FVec Ideal S4x4x4x256 .f32) : FVec Ideal S4x4x4x256x256 .f32 :=
  Host.exp (subf scC (broadcastInDim S4x4x4x256x256 ![0, 1, 2, 3, 4] bcast_S4x4x4x256x1_S4x4x4x256x256_0_1_2_3_4 (broadcastInDim S4x4x4x256x1 ![0, 1, 2, 3] bcast_S4x4x4x256_S4x4x4x256x1_0_1_2_3 (maximumf (broadcastInDim S4x4x4x256 ![] bcast_S_S4x4x4x256 (constant S_ .f32 0xFF800000#32)) mx))))

/-- The context rows' softmax times the values. -/
def atC (exC : FVec Ideal S4x4x4x256x256 .f32) (vC : FVec Ideal S4x4x256x128 .f32) : FVec Ideal S4x4x4x256x128 .f32 :=
  Host.dotGeneral dot_S4x4x4x256x256_S4x4x256x128_S4x4x4x256x128_4_2_23_3_01_01 none (Host.divf exC (broadcastInDim S4x4x4x256x256 ![0, 1, 2, 3, 4] bcast_S4x4x4x256x1_S4x4x4x256x256_0_1_2_3_4 (broadcastInDim S4x4x4x256x1 ![0, 1, 2, 3] bcast_S4x4x4x256_S4x4x4x256x1_0_1_2_3 (Host.reduceAdd exC (constant S_ .f32 0x00000000#32) reducesTo_S4x4x4x256x256_S4x4x4x256_d4 h_S_)))) vC

/-- The context heads side by side again. -/
def mgC (atC : FVec Ideal S4x4x4x256x128 .f32) : FVec Ideal S1024x2048 .f32 :=
  shapeCast _ (shapeCast _ (transpose S4x256x4x4x128 [0, 3, 1, 2, 4] atC transposes_S4x4x4x256x128_S4x256x4x4x128_0_3_1_2_4) shapeCasts_S4x256x4x4x128_S4x256x2048) shapeCasts_S4x256x2048_S1024x2048

/-- The latent rows above the context rows. -/
def cat (mgL : FVec Ideal S16384x2048 .f32) (mgC : FVec Ideal S1024x2048 .f32) : FVec Ideal S17408x2048 .bf16 :=
  truncf .bf16 (concatenate S17408x2048 0 [⟨S16384x2048, mgL⟩, ⟨S1024x2048, mgC⟩] concatenates_S16384x2048_S1024x2048_S17408x2048_d0) bitsLt_bf16_f32

/-- The latent rows' part of the result. -/
def latent (Q : FVec Ideal S17408x2048 .f32) (K V : FVec Ideal S4x4352x512 .f32) : FVec Ideal S16384x2048 .f32 :=
  mgL (atL (exL (scL (qL Q) (kv K)) (mxL (scL (qL Q) (kv K)))) (kv V))

/-- The context rows' part of the result. -/
def context (Q : FVec Ideal S17408x2048 .f32) (K V : FVec Ideal S4x4352x512 .f32) : FVec Ideal S1024x2048 .f32 :=
  mgC (atC (exC (scC (qC Q) (kvc (kv K))) (mxC (scC (qC Q) (kvc (kv K))))) (kvc (kv V)))

/-- What the reference returns is these parts, one after the other. -/
theorem res_eq (m : (ℓ : Loc nD τ sig) → Buf (Elt Ideal) ℓ) (c : Dev nD) :
    Value.res_out0 m c = cat
      (latent (m ((c.tc : Thread nD τ).loc main_arg0)) (m ((c.tc : Thread nD τ).loc main_arg1)) (m ((c.tc : Thread nD τ).loc main_arg2)))
      (context (m ((c.tc : Thread nD τ).loc main_arg0)) (m ((c.tc : Thread nD τ).loc main_arg1)) (m ((c.tc : Thread nD τ).loc main_arg2))) := rfl

theorem qL_at (Q : FVec Ideal S17408x2048 .f32) (b k g : Fin 4) (i : Fin 4096) (d : Fin 128) :
    qL Q (ix5 b k g i d) = Q (ix2 ⟨b.val * 4096 + i.val, by omega⟩ ⟨k.val * 512 + g.val * 128 + d.val, by omega⟩) := by
  pointwise [qL]

theorem qC_at (Q : FVec Ideal S17408x2048 .f32) (b k g : Fin 4) (i : Fin 256) (d : Fin 128) :
    qC Q (ix5 b k g i d) = Q (ix2 ⟨16384 + (b.val * 256 + i.val), by omega⟩ ⟨k.val * 512 + g.val * 128 + d.val, by omega⟩) := by
  pointwise [qC]

theorem kv_at (X : FVec Ideal S4x4352x512 .f32) (b k : Fin 4) (i : Fin 4352) (d : Fin 128) :
    kv X (ix4 b k i d) = X (ix3 b i ⟨k.val * 128 + d.val, by omega⟩) := by
  pointwise [kv]

theorem kvc_at (X : FVec Ideal S4x4x4352x128 .f32) (b k : Fin 4) (i : Fin 256) (d : Fin 128) :
    kvc X (ix4 b k i d) = X (ix4 b k ⟨i.val, by omega⟩ d) := by
  pointwise [kvc]

theorem scL_at (q : FVec Ideal S4x4x4x4096x128 .f32) (X : FVec Ideal S4x4x4352x128 .f32) (b k g : Fin 4)
    (i : Fin 4096) (j : Fin 4352) :
    scL q X (ix5 b k g i j) = Ideal.div (∑ e : Fin 128, q (ix5 b k g i e) * X (ix4 b k j e)) rScale := by
  pointwise [scL, rScale]

theorem mxL_at (s : FVec Ideal S4x4x4x4096x4352 .f32) (b k g : Fin 4) (i : Fin 4096) :
    mxL s (ix4 b k g i) = Finset.fold max (Ideal.ofBits .f32 0xFF800000#32) (fun j : Fin 4352 => s (ix5 b k g i j)) Finset.univ :=
  hostMax_last s _ _ _ b k g i

theorem exL_at (s : FVec Ideal S4x4x4x4096x4352 .f32) (M : FVec Ideal S4x4x4x4096 .f32) (b k g : Fin 4)
    (i : Fin 4096) (j : Fin 4352) :
    exL s M (ix5 b k g i j) = Ideal.exp (s (ix5 b k g i j) - max (Ideal.ofBits .f32 0xFF800000#32) (M (ix4 b k g i))) := by
  pointwise [exL]

theorem atL_at (s : FVec Ideal S4x4x4x4096x4352 .f32) (Y : FVec Ideal S4x4x4352x128 .f32) (b k g : Fin 4)
    (i : Fin 4096) (d : Fin 128) :
    atL s Y (ix5 b k g i d)
      = ∑ x : Fin 4352, Ideal.div (s (ix5 b k g i x)) (∑ y : Fin 4352, s (ix5 b k g i y)) * Y (ix4 b k x d) := by
  pointwise [atL]

/-- One head's attention, from split queries, keys and values. -/
theorem headL_at (q : FVec Ideal S4x4x4x4096x128 .f32) (X Y : FVec Ideal S4x4x4352x128 .f32) (b k g : Fin 4)
    (i : Fin 4096) (d : Fin 128) :
    atL (exL (scL q X) (mxL (scL q X))) Y (ix5 b k g i d)
      = rHead (fun x : Fin 4352 => Ideal.div (∑ e : Fin 128, q (ix5 b k g i e) * X (ix4 b k x e)) rScale)
          (fun x => Y (ix4 b k x d)) := by
  rw [atL_at]
  simp only [exL_at, mxL_at, scL_at]
  rfl

theorem mgL_at (X : FVec Ideal S4x4x4x4096x128 .f32) (b k g : Fin 4) (i : Fin 4096) (d : Fin 128) :
    mgL X (ix2 ⟨b.val * 4096 + i.val, by omega⟩ ⟨k.val * 512 + g.val * 128 + d.val, by omega⟩) = X (ix5 b k g i d) := by
  pointwise [mgL]

theorem scC_at (q : FVec Ideal S4x4x4x256x128 .f32) (X : FVec Ideal S4x4x256x128 .f32) (b k g : Fin 4)
    (i : Fin 256) (j : Fin 256) :
    scC q X (ix5 b k g i j) = Ideal.div (∑ e : Fin 128, q (ix5 b k g i e) * X (ix4 b k j e)) rScale := by
  pointwise [scC, rScale]

theorem mxC_at (s : FVec Ideal S4x4x4x256x256 .f32) (b k g : Fin 4) (i : Fin 256) :
    mxC s (ix4 b k g i) = Finset.fold max (Ideal.ofBits .f32 0xFF800000#32) (fun j : Fin 256 => s (ix5 b k g i j)) Finset.univ :=
  hostMax_last s _ _ _ b k g i

theorem exC_at (s : FVec Ideal S4x4x4x256x256 .f32) (M : FVec Ideal S4x4x4x256 .f32) (b k g : Fin 4)
    (i : Fin 256) (j : Fin 256) :
    exC s M (ix5 b k g i j) = Ideal.exp (s (ix5 b k g i j) - max (Ideal.ofBits .f32 0xFF800000#32) (M (ix4 b k g i))) := by
  pointwise [exC]

theorem atC_at (s : FVec Ideal S4x4x4x256x256 .f32) (Y : FVec Ideal S4x4x256x128 .f32) (b k g : Fin 4)
    (i : Fin 256) (d : Fin 128) :
    atC s Y (ix5 b k g i d)
      = ∑ x : Fin 256, Ideal.div (s (ix5 b k g i x)) (∑ y : Fin 256, s (ix5 b k g i y)) * Y (ix4 b k x d) := by
  pointwise [atC]

/-- One head's attention, from split queries, keys and values. -/
theorem headC_at (q : FVec Ideal S4x4x4x256x128 .f32) (X Y : FVec Ideal S4x4x256x128 .f32) (b k g : Fin 4)
    (i : Fin 256) (d : Fin 128) :
    atC (exC (scC q X) (mxC (scC q X))) Y (ix5 b k g i d)
      = rHead (fun x : Fin 256 => Ideal.div (∑ e : Fin 128, q (ix5 b k g i e) * X (ix4 b k x e)) rScale)
          (fun x => Y (ix4 b k x d)) := by
  rw [atC_at]
  simp only [exC_at, mxC_at, scC_at]
  rfl

theorem mgC_at (X : FVec Ideal S4x4x4x256x128 .f32) (b k g : Fin 4) (i : Fin 256) (d : Fin 128) :
    mgC X (ix2 ⟨b.val * 256 + i.val, by omega⟩ ⟨k.val * 512 + g.val * 128 + d.val, by omega⟩) = X (ix5 b k g i d) := by
  pointwise [mgC]

theorem cat_latent (X : FVec Ideal S16384x2048 .f32) (Y : FVec Ideal S1024x2048 .f32) (R : Fin 16384) (C : Fin 2048) :
    cat X Y (ix2 ⟨R.val, by omega⟩ C) = X (ix2 R C) := by
  pointwise [cat]

theorem cat_context (X : FVec Ideal S16384x2048 .f32) (Y : FVec Ideal S1024x2048 .f32) (R : Fin 1024) (C : Fin 2048) :
    cat X Y (ix2 ⟨16384 + R.val, by omega⟩ C) = Y (ix2 R C) := by
  pointwise [cat]

/-- A latent result: one query row's head over all rows of its batch. -/
theorem latent_at (Q : FVec Ideal S17408x2048 .f32) (K V : FVec Ideal S4x4352x512 .f32) (b k g : Fin 4)
    (i : Fin 4096) (d : Fin 128) :
    cat (latent Q K V) (context Q K V)
        (ix2 ⟨b.val * 4096 + i.val, by omega⟩ ⟨k.val * 512 + g.val * 128 + d.val, by omega⟩)
      = rHead (fun x : Fin 4352 => Ideal.div (∑ e : Fin 128,
            Q (ix2 ⟨b.val * 4096 + i.val, by omega⟩ ⟨k.val * 512 + g.val * 128 + e.val, by omega⟩)
              * K (ix3 b x ⟨k.val * 128 + e.val, by omega⟩)) rScale)
          (fun x => V (ix3 b x ⟨k.val * 128 + d.val, by omega⟩)) := by
  refine (cat_latent (latent Q K V) (context Q K V) ⟨b.val * 4096 + i.val, by omega⟩ _).trans ?_
  rw [latent, mgL_at, headL_at]
  simp only [qL_at, kv_at]

/-- A context result: one query row's head over the context rows of its batch. -/
theorem context_at (Q : FVec Ideal S17408x2048 .f32) (K V : FVec Ideal S4x4352x512 .f32) (b k g : Fin 4)
    (i : Fin 256) (d : Fin 128) :
    cat (latent Q K V) (context Q K V)
        (ix2 ⟨16384 + (b.val * 256 + i.val), by omega⟩ ⟨k.val * 512 + g.val * 128 + d.val, by omega⟩)
      = rHead (fun x : Fin 256 => Ideal.div (∑ e : Fin 128,
            Q (ix2 ⟨16384 + (b.val * 256 + i.val), by omega⟩ ⟨k.val * 512 + g.val * 128 + e.val, by omega⟩)
              * K (ix3 b ⟨x.val, by omega⟩ ⟨k.val * 128 + e.val, by omega⟩)) rScale)
          (fun x => V (ix3 b ⟨x.val, by omega⟩ ⟨k.val * 128 + d.val, by omega⟩)) := by
  refine (cat_context (latent Q K V) (context Q K V) ⟨b.val * 256 + i.val, by omega⟩ _).trans ?_
  rw [context, mgC_at, headC_at]
  simp only [qC_at, kvc_at, kv_at]

end Cert.ReferenceIdeal.Att

end
-- ==== Proof.Final.lean ====
/-
  The attention call's result array: every block a step writes is the reference's attention there.
-/
module

public import proofs.«01_k».proof.Proof.Payload
public import proofs.«01_k».proof.Proof.Blocks
public import proofs.«01_k».proof.Proof.Reference

@[expose] public section

set_option maxRecDepth 16384

noncomputable section

namespace Cert.KernelIdeal.Att

open Cert.KernelIdeal Cert.KernelIdeal.Gen Cert.Head Idealize.ShloMosaic Idealize.ShloMosaic.TcCoe
open Idealize.SL.Sem
open Idealize.ShloMosaic.Pipeline (Dat)

variable (m : (ℓ : Loc nD τ sig) → Buf (Elt Ideal) ℓ) (c : Dev nD)

/-- A finite array holds reals. -/
abbrev Reals {s : Shape} (X : FVec Ideal s .f32) : Prop := ∀ i, ∃ a : ℝ, X i = (a : EReal)

/-- The reference's attention of the launch arrays. -/
abbrev result : FVec Ideal S17408x2048 .bf16 :=
  Cert.ReferenceIdeal.Att.cat
    (Cert.ReferenceIdeal.Att.latent (m ((c : Thread nD τ).loc main_arg0)) (m ((c : Thread nD τ).loc main_arg1)) (m ((c : Thread nD τ).loc main_arg2)))
    (Cert.ReferenceIdeal.Att.context (m ((c : Thread nD τ).loc main_arg0)) (m ((c : Thread nD τ).loc main_arg1)) (m ((c : Thread nD τ).loc main_arg2)))

/-- A latent step's head `h`: queries at column `h * 128`, all rows of the batch. -/
theorem latent_step (hQ : Reals (m ((c : Thread nD τ).loc main_arg0) : FVec Ideal S17408x2048 .f32))
    (hK : Reals (m ((c : Thread nD τ).loc main_arg1) : FVec Ideal S4x4352x512 .f32))
    (t : Fin cfg0.N) (h0 : t.val % 17 ≤ 15) (h : Fin 4) (q : Vec Ideal S256x128 .bf16)
    (hq : ∀ (r : Fin 256) (e : Fin 128), q (ix2 r e)
      = (iblk m c 0 t : Vec Ideal S256x512 .bf16) (ix2 r ⟨h.val * 128 + e.val, by omega⟩))
    (r : Fin 256) (d : Fin 128) (j : S17408x2048.Idx)
    (hj0 : (j 0).val = (t.val / 68 * 16 + t.val % 17) * 256 + r.val)
    (hj1 : (j 1).val = t.val / 17 % 4 * 512 + h.val * 128 + d.val) :
    kHead (fun x : Fin 4352 => ∑ e : Fin 128, q (ix2 r e) * (iblk m c 1 t : Vec Ideal S1x4352x128 .bf16) (ix3 0 x e))
        (fun x => (iblk m c 2 t : Vec Ideal S1x4352x256 .bf16) (ix3 0 x ⟨d.val, by omega⟩))
        (fun x => (iblk m c 2 t : Vec Ideal S1x4352x256 .bf16) (ix3 0 x ⟨128, by omega⟩))
      = result m c j := by
  have ht := (idx t).2.2.2.2
  have hj : j = ix2 ⟨(⟨t.val / 68, by omega⟩ : Fin 4).val * 4096 + (⟨t.val % 17 * 256 + r.val, by omega⟩ : Fin 4096).val, by dsimp only; omega⟩
      ⟨(⟨t.val / 17 % 4, by omega⟩ : Fin 4).val * 512 + h.val * 128 + d.val, by dsimp only; omega⟩ := by
    blk_ext
  rw [hj]
  refine (head_agree (by norm_num) _ _ _ (fun x => ?_) (fun x => ?_) (fun x => ?_) (fun e => hQ _) (fun x e => hK _)).trans
    (Cert.ReferenceIdeal.Att.latent_at _ _ _ ⟨t.val / 68, by omega⟩ ⟨t.val / 17 % 4, by omega⟩ h ⟨t.val % 17 * 256 + r.val, by omega⟩ d).symm
  · refine Finset.sum_congr rfl fun e _ => ?_
    rw [hq, keys_at m c t ⟨t.val / 68, by omega⟩ ⟨t.val / 17 % 4, by omega⟩ rfl rfl x e]
    refine congrArg (· * _) (queries_at m c t _ _ _ _ ?_ ?_)
    · rw [if_pos h0]; dsimp only; omega
    · dsimp only; omega
  · exact values_at m c t _ _ rfl rfl x d
  · exact ones_at m c t ⟨t.val / 68, by omega⟩ ⟨t.val / 17 % 4, by omega⟩ rfl rfl x

/-- A context step's head `h`: queries at column `h * 128`, the context rows of the batch. -/
theorem context_step (hQ : Reals (m ((c : Thread nD τ).loc main_arg0) : FVec Ideal S17408x2048 .f32))
    (hK : Reals (m ((c : Thread nD τ).loc main_arg1) : FVec Ideal S4x4352x512 .f32))
    (t : Fin cfg0.N) (h0 : ¬t.val % 17 ≤ 15) (h : Fin 4) (q : Vec Ideal S256x128 .bf16)
    (v6 : Vec Ideal S1x256x128 .bf16) (v8 : Vec Ideal S1x256x256 .bf16)
    (hq : ∀ (r : Fin 256) (e : Fin 128), q (ix2 r e)
      = (iblk m c 0 t : Vec Ideal S256x512 .bf16) (ix2 r ⟨h.val * 128 + e.val, by omega⟩))
    (h6 : ∀ (x : Fin 256) (e : Fin 128), v6 (ix3 0 x e) = (iblk m c 1 t : Vec Ideal S1x4352x128 .bf16) (ix3 0 ⟨x.val, by omega⟩ e))
    (h8 : ∀ (x : Fin 256) (l : Fin 256), v8 (ix3 0 x l) = (iblk m c 2 t : Vec Ideal S1x4352x256 .bf16) (ix3 0 ⟨x.val, by omega⟩ l))
    (r : Fin 256) (d : Fin 128) (j : S17408x2048.Idx)
    (hj0 : (j 0).val = (64 + t.val / 68) * 256 + r.val)
    (hj1 : (j 1).val = t.val / 17 % 4 * 512 + h.val * 128 + d.val) :
    kHead (fun x : Fin 256 => ∑ e : Fin 128, q (ix2 r e) * v6 (ix3 0 x e))
        (fun x => v8 (ix3 0 x ⟨d.val, by omega⟩)) (fun x => v8 (ix3 0 x ⟨128, by omega⟩))
      = result m c j := by
  have ht := (idx t).2.2.2.2
  have hj : j = ix2 ⟨16384 + ((⟨t.val / 68, by omega⟩ : Fin 4).val * 256 + r.val), by dsimp only; omega⟩
      ⟨(⟨t.val / 17 % 4, by omega⟩ : Fin 4).val * 512 + h.val * 128 + d.val, by dsimp only; omega⟩ := by
    blk_ext
  rw [hj]
  refine (head_agree (by norm_num) _ _ _ (fun x => ?_) (fun x => ?_) (fun x => ?_) (fun e => hQ _) (fun x e => hK _)).trans
    (Cert.ReferenceIdeal.Att.context_at _ _ _ ⟨t.val / 68, by omega⟩ ⟨t.val / 17 % 4, by omega⟩ h r d).symm
  · refine Finset.sum_congr rfl fun e _ => ?_
    rw [hq, h6, keys_at m c t ⟨t.val / 68, by omega⟩ ⟨t.val / 17 % 4, by omega⟩ rfl rfl ⟨x.val, by omega⟩ e]
    refine congrArg (· * _) (queries_at m c t _ _ _ _ ?_ ?_)
    · rw [if_neg h0]; dsimp only; omega
    · dsimp only; omega
  · rw [h8]
    exact values_at m c t _ _ rfl rfl ⟨x.val, by omega⟩ d
  · rw [h8]
    exact ones_at m c t ⟨t.val / 68, by omega⟩ ⟨t.val / 17 % 4, by omega⟩ rfl rfl ⟨x.val, by omega⟩

/-- A head's queries are a load at its columns. -/
theorem load_queries (B : Vec Ideal S256x512 .bf16) (h : Fin 4) (o : ℕ) (ho : o = h.val * 128)
    (inb : ∀ a, (![0, o] : Fin 2 → ℕ) a + (![256, 128] : Fin 2 → ℕ) a ≤ S256x512.size a) (r : Fin 256) (e : Fin 128) :
    View.ld B (Rect.unit ![0, o] ![256, 128] inb) (ix2 r e) = B (ix2 r ⟨h.val * 128 + e.val, by omega⟩) := by
  subst ho
  refine (View.ld_apply _ _ _).trans (congrArg B ?_)
  funext a
  fin_cases a <;> exact Fin.ext (by simp)

/-- The context keys are a load of the first rows. -/
theorem load_keys (B : Vec Ideal S1x4352x128 .bf16)
    (inb : ∀ a, (![0, 0, 0] : Fin 3 → ℕ) a + (![1, 256, 128] : Fin 3 → ℕ) a ≤ S1x4352x128.size a) (x : Fin 256) (e : Fin 128) :
    View.ld B (Rect.unit ![0, 0, 0] ![1, 256, 128] inb) (ix3 0 x e) = B (ix3 0 ⟨x.val, by omega⟩ e) := by
  refine (View.ld_apply _ _ _).trans (congrArg B ?_)
  funext a
  fin_cases a <;> exact Fin.ext (by simp)

/-- The context values are a load of the first rows. -/
theorem load_values (B : Vec Ideal S1x4352x256 .bf16)
    (inb : ∀ a, (![0, 0, 0] : Fin 3 → ℕ) a + (![1, 256, 256] : Fin 3 → ℕ) a ≤ S1x4352x256.size a) (x l : Fin 256) :
    View.ld B (Rect.unit ![0, 0, 0] ![1, 256, 256] inb) (ix3 0 x l) = B (ix3 0 ⟨x.val, by omega⟩ l) := by
  refine (View.ld_apply _ _ _).trans (congrArg B ?_)
  funext a
  fin_cases a <;> exact Fin.ext (by simp)

/-- **The attention call's result array is the reference's attention.** -/
theorem final (hQ : Reals (m ((c : Thread nD τ).loc main_arg0) : FVec Ideal S17408x2048 .f32))
    (hK : Reals (m ((c : Thread nD τ).loc main_arg1) : FVec Ideal S4x4352x512 .f32)) :
    (dats m 0 c).arrAt 3 cfg0.N = result m c := by
  refine (dats m 0 c).arrAt_eq_of_covers 3 _ (by decide +kernel) fun t _ y => ?_
  blk_simp
  rw [after0_3]
  by_cases hc : t.val % 17 ≤ 15
  · rw [outsAt0_A m c t hc (by omega)]
    frame_out
    canon_tiles x h
    case piece0 =>
      idx_vars x
      refine (all3 _ _ _ _ _).trans (latent_step m c hQ hK t hc 3 _ (fun r e => load_queries _ 3 _ rfl _ r e) _ _ _ ?_ ?_)
      · blk_simp [idx t, if_pos hc]
        omega
      · blk_simp [idx t]
        omega
    case piece1 =>
      idx_vars x
      refine (all2 _ _ _ _ _).trans (latent_step m c hQ hK t hc 2 _ (fun r e => load_queries _ 2 _ rfl _ r e) _ _ _ ?_ ?_)
      · blk_simp [idx t, if_pos hc]
        omega
      · blk_simp [idx t]
        omega
    case piece2 =>
      idx_vars x
      refine (all1 _ _ _ _ _).trans (latent_step m c hQ hK t hc 1 _ (fun r e => load_queries _ 1 _ rfl _ r e) _ _ _ ?_ ?_)
      · blk_simp [idx t, if_pos hc]
        omega
      · blk_simp [idx t]
        omega
    case piece3 =>
      idx_vars x
      refine (all0 _ _ _ _ _).trans (latent_step m c hQ hK t hc 0 _ (fun r e => load_queries _ 0 _ rfl _ r e) _ _ _ ?_ ?_)
      · blk_simp [idx t, if_pos hc]
        omega
      · blk_simp [idx t]
        omega
  · have hf : t.val % 17 = 16 := by omega
    rw [outsAt0_B m c t hc hf]
    frame_out
    canon_tiles x h
    case piece0 =>
      idx_vars x
      refine (ctx3 _ _ _ _ _).trans (context_step m c hQ hK t hc 3 _ _ _ (fun r e => load_queries _ 3 _ rfl _ r e) (load_keys _ _) (load_values _ _) _ _ _ ?_ ?_)
      · blk_simp [idx t, if_neg hc]
        omega
      · blk_simp [idx t]
        omega
    case piece1 =>
      idx_vars x
      refine (ctx2 _ _ _ _ _).trans (context_step m c hQ hK t hc 2 _ _ _ (fun r e => load_queries _ 2 _ rfl _ r e) (load_keys _ _) (load_values _ _) _ _ _ ?_ ?_)
      · blk_simp [idx t, if_neg hc]
        omega
      · blk_simp [idx t]
        omega
    case piece2 =>
      idx_vars x
      refine (ctx1 _ _ _ _ _).trans (context_step m c hQ hK t hc 1 _ _ _ (fun r e => load_queries _ 1 _ rfl _ r e) (load_keys _ _) (load_values _ _) _ _ _ ?_ ?_)
      · blk_simp [idx t, if_neg hc]
        omega
      · blk_simp [idx t]
        omega
    case piece3 =>
      idx_vars x
      refine (ctx0 _ _ _ _ _).trans (context_step m c hQ hK t hc 0 _ _ _ (fun r e => load_queries _ 0 _ rfl _ r e) (load_keys _ _) (load_values _ _) _ _ _ ?_ ?_)
      · blk_simp [idx t, if_neg hc]
        omega
      · blk_simp [idx t]
        omega

end Cert.KernelIdeal.Att

end
-- ==== Proof.Finite.lean ====
/-
  What the precondition says: the queries and the keys are real numbers.
-/
module

public import Idealize.ShloMosaic.Lib.ReduceAll
public import Idealize.ShloMosaic.Lib.Pointwise
public import proofs.«01_k».proof.Proof.Gen.Pre_finite

@[expose] public section

noncomputable section

namespace Cert.Head

open Idealize.ShloMosaic

/-- The word the precondition compares with is plus infinity. -/
theorem pinf : Ideal.ofBits .f32 0x7F800000#32 = (⊤ : EReal) := by
  simp [Ideal.ofBits, Ideal.ieee]

/-- An extended real whose absolute value is below plus infinity is a real. -/
theorem real_of_abs_lt (x : EReal) (h : Ideal.cmp .olt (max x (-x)) (Ideal.ofBits .f32 0x7F800000#32) = 1#1) :
    ∃ a : ℝ, x = (a : EReal) := by
  rw [pinf] at h
  have hlt : max x (-x) < ⊤ := by
    by_contra hn
    simp [Ideal.cmp, hn] at h
  induction x using EReal.rec with
  | bot => simp at hlt
  | coe a => exact ⟨a, rfl⟩
  | top => simp at hlt

/-- An array whose every absolute value is below plus infinity holds reals. -/
theorem reals_of_all {s t u z : Shape} {axes : List (Fin s.rank)} [Subsingleton t.Idx] (X : FVec Ideal s .f32)
    (dims : Fin z.rank → Fin s.rank) (hb : z.BroadcastsInDim s dims) (init : u.Idx → BitVec 1) (hr : s.ReducesTo axes t)
    (hu : 0 < u.numel) (j : t.Idx)
    (h : Host.reduce IntOp.andi (cmpf .olt (Host.absf X) (broadcastInDim s dims hb (constant z .f32 0x7F800000#32))) init hr hu j = 1#1)
    (i : s.Idx) : ∃ a : ℝ, X i = (a : EReal) :=
  real_of_abs_lt (X i) (Host.reduce_andi_all _ init hr hu j h i)

/-- A conjunction of two bits is one only if both are. -/
theorem both (a b : BitVec 1) (h : a &&& b = 1#1) : a = 1#1 ∧ b = 1#1 := by
  revert a b; decide

instance : Subsingleton (Cert.Pre_finite.S_).Idx := ⟨fun a b => funext fun i => i.elim0⟩

/-- The precondition, read: queries and keys hold reals. -/
theorem finite_reals [Cert.Pre_finite.Facts] (Q : FVec Ideal Cert.Pre_finite.S17408x2048 .f32)
    (K V : FVec Ideal Cert.Pre_finite.S4x4352x512 .f32)
    (h : Cert.Pre_finite.fn (F := Ideal) Q K V = fun _ => 1#1) :
    (∀ i, ∃ a : ℝ, Q i = (a : EReal)) ∧ (∀ i, ∃ a : ℝ, K i = (a : EReal)) := by
  have h' := both _ _ (congrFun h (fun a => a.elim0))
  exact ⟨reals_of_all Q _ _ _ _ _ _ h'.1, reals_of_all K _ _ _ _ _ _ h'.2⟩

end Cert.Head

end
-- ==== Proof.Claims1.lean ====
/-
  The claims about the attention call.
-/
module

public import proofs.«01_k».proof.Defs
public import proofs.«01_k».proof.Proof.Gen.Kernel.Frame
public import proofs.«01_k».proof.Proof.Final
public import proofs.«01_k».proof.Proof.Finite
public import Idealize.ShloMosaic.Lib.Quiescent

@[expose] public section

noncomputable section

namespace Cert.Proof.Attention

open Idealize.ShloMosaic Idealize.ShloMosaic.TcCoe Idealize.SL.Sem

/-- The reference runs and leaves its arguments and its semaphores alone. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's result array and the reference's are the same. -/
theorem algebraic : Cert.algebraic_KernelIdeal_ReferenceIdeal_pre_finite := by
  intro m ρ m' ρ' hpre hagree
  refine ⟨fun c => Cert.KernelIdeal.Att.result m c, ?_, ?_⟩
  · refine (θ_run Cert.KernelIdeal.defs _ _).mono (fun r h c => ⟨(h c).1.trans ?_, (h c).2⟩)
      (Cert.KernelIdeal.Value.run_blocks (F := Ideal) m ρ)
    have hf := Cert.Head.finite_reals _ _ _ (hpre c)
    exact Cert.KernelIdeal.Att.final m c hf.1 hf.2
  · refine (θ_run Cert.ReferenceIdeal.defs _ _).mono (fun r h c => ⟨(h c).1.trans ?_, (h c).2⟩)
      (Cert.ReferenceIdeal.Value.run (F := Ideal) m' ρ')
    refine (Cert.ReferenceIdeal.Att.res_eq m' c).trans ?_
    rw [(hagree c).1, (hagree c).2.1, (hagree c).2.2]

end Cert.Proof.Attention

end
-- ==== Proof.ProjReference.lean ====
/-
  What the reference of the input projection returns, at an index.
-/
module

public import proofs.«01_k».proof.Proof.Gen.Reference2Ideal.Run
public import Idealize.ShloMosaic.Lib.Pointwise

@[expose] public section

set_option maxRecDepth 16384

noncomputable section

namespace Cert.Reference2Ideal.Proj

open Cert.Reference2Ideal Cert.Reference2Ideal.Gen Idealize.ShloMosaic Idealize.ShloMosaic.TcCoe Idealize.SL.Sem

/-- The activations times the first layer's weight, its last columns left out. -/
def product (A : FVec Ideal S17408x4096 .f32) (W : FVec Ideal S2x4096x9232 .f32) : FVec Ideal S17408x9216 .f32 :=
  extractStridedSlice S17408x9216 ![0, 0] (Host.dotGeneral dot_S17408x4096_S4096x9232_S17408x9232_1_0_0_1_n_n none A (shapeCast _ (extractStridedSlice S1x4096x9232 ![0, 0, 0] W slices_S2x4096x9232_S1x4096x9232_0_0_0) shapeCasts_S1x4096x9232_S4096x9232)) slices_S17408x9232_S17408x9216_0_0

theorem product_at (A : FVec Ideal S17408x4096 .f32) (W : FVec Ideal S2x4096x9232 .f32) (r : Fin 17408) (j : Fin 9216) :
    product A W (ix2 r j) = ∑ e : Fin 4096, A (ix2 r e) * W (ix3 0 e ⟨j.val, by omega⟩) := by
  pointwise [product]

end Cert.Reference2Ideal.Proj

end
-- ==== Proof.Projection.lean ====
/-
  The input projection: every block a step writes is the reference's product there.
-/
module

public import proofs.«01_k».proof.Proof.Gen.Kernel2Ideal.Value
public import proofs.«01_k».proof.Proof.ProjReference
public import Idealize.ShloMosaic.Lib.Pipeline.ValueKit
public import Idealize.ShloMosaic.Lib.Claim

@[expose] public section

set_option maxRecDepth 16384

noncomputable section

namespace Cert.Kernel2Ideal.Proj

open Cert.Kernel2Ideal Cert.Kernel2Ideal.Gen Idealize.ShloMosaic Idealize.ShloMosaic.TcCoe
open Idealize.SL.Sem
open Idealize.ShloMosaic.Pipeline (Dat)

/-- The activations as the call takes them. -/
def actB (A : FVec Ideal S17408x4096 .f32) : FVec Ideal S17408x4096 .bf16 := truncf .bf16 A bitsLt_bf16_f32

/-- The weights as the call takes them: output columns first. -/
def weightB (W : FVec Ideal S2x4096x9232 .f32) : FVec Ideal S2x9232x4096 .f32 :=
  transpose S2x9232x4096 [0, 2, 1] W transposes_S2x4096x9232_S2x9232x4096_0_2_1

theorem actB_at (A : FVec Ideal S17408x4096 .f32) (r : Fin 17408) (e : Fin 4096) : actB A (ix2 r e) = A (ix2 r e) := by
  pointwise [actB]

theorem weightB_at (W : FVec Ideal S2x4096x9232 .f32) (l : Fin 2) (j : Fin 9232) (e : Fin 4096) :
    weightB W (ix3 l j e) = W (ix3 l e j) := by
  pointwise [weightB]

/-- One step's product. -/
theorem step_at (v0 : Vec Ideal S1024x4096 .bf16) (v2 : Vec Ideal S1x1024x4096 .f32) (i j : Fin 1024) :
    k0_pay1 v0 v2 (ix2 i j) = ∑ e : Fin 4096, v0 (ix2 i e) * v2 (ix3 0 j e) := by
  pointwise [k0_pay1]

/-- Where each step's blocks lie: the row tiles run inside the column tiles. -/
theorem idx : ∀ t : Fin cfg0.N, win0_0.index t = ![t.val % 17, 0] ∧ win0_1.index t = ![0, t.val / 17, 0]
    ∧ win0_2.index t = ![t.val % 17, t.val / 17] ∧ t.val < 153 :=
  (by decide +kernel : ∀ t : Fin grid0.N, _)

variable (m : (ℓ : Loc nD τ sig) → Buf (Elt Ideal) ℓ) (c : Dev nD)

theorem V_act : V m c main_v0 = actB (m ((c : Thread nD τ).loc main_arg0)) := by
  entry_read; rfl

theorem V_weight : V m c main_v1 = weightB (m ((c : Thread nD τ).loc main_arg1)) := by
  entry_read; rfl

theorem act_read (t : Fin cfg0.N) (y : S1024x4096.Idx) :
    (iblk m c 0 t : Vec Ideal S1024x4096 .bf16) y = (V m c main_v0 : FVec Ideal S17408x4096 .bf16) (((cfg0.win 0).blk t).view.emb y) := by
  unfold iblk
  rw [View.read_apply, cast_eq]

theorem act_place (t : Fin cfg0.N) (i : Fin 1024) (e : Fin 4096) (R : Fin 17408) (hR : R.val = t.val % 17 * 1024 + i.val) :
    (((cfg0.win 0).blk t).view.emb (ix2 i e) : S17408x4096.Idx) = ix2 R e := by
  blk_ext [idx t]

/-- The activation block at an index. -/
theorem act_at (t : Fin cfg0.N) (i : Fin 1024) (e : Fin 4096) (R : Fin 17408) (hR : R.val = t.val % 17 * 1024 + i.val) :
    (iblk m c 0 t : Vec Ideal S1024x4096 .bf16) (ix2 i e) = (m ((c : Thread nD τ).loc main_arg0) : FVec Ideal S17408x4096 .f32) (ix2 R e) := by
  rw [act_read, V_act, act_place t i e R hR, actB_at]

theorem weight_read (t : Fin cfg0.N) (j : Fin 1024) (e : Fin 4096) (J : Fin 9232) (hJ : J.val = t.val / 17 * 1024 + j.val) :
    (X0_1 m c t : Vec Ideal S1x1024x4096 .f32) (ix3 0 j e) = (V m c main_v1 : FVec Ideal S2x9232x4096 .f32) (ix3 0 J e) := by
  unfold X0_1 Pipeline.Window.fill
  rw [dif_pos (moved0_1 t _)]
  unfold iblk
  rw [View.read_apply, cast_eq]
  refine congrArg _ ?_
  blk_ext [idx t]

/-- The weight block at an index. -/
theorem weight_at (t : Fin cfg0.N) (j : Fin 1024) (e : Fin 4096) (J : Fin 9232) (hJ : J.val = t.val / 17 * 1024 + j.val) :
    (X0_1 m c t : Vec Ideal S1x1024x4096 .f32) (ix3 0 j e) = (m ((c : Thread nD τ).loc main_arg1) : FVec Ideal S2x4096x9232 .f32) (ix3 0 e J) := by
  rw [weight_read m c t j e J hJ, V_weight, weightB_at]

/-- The reference's product of the launch arrays. -/
abbrev result : FVec Ideal S17408x9216 .f32 :=
  Cert.Reference2Ideal.Proj.product (m ((c : Thread nD τ).loc main_arg0)) (m ((c : Thread nD τ).loc main_arg1))

theorem tile (t : Fin cfg0.N) (i j : Fin 1024) (J : S17408x9216.Idx)
    (hj0 : (J 0).val = t.val % 17 * 1024 + i.val) (hj1 : (J 1).val = t.val / 17 * 1024 + j.val) :
    k0_pay1 (iblk m c 0 t : Vec Ideal S1024x4096 .bf16) (X0_1 m c t : Vec Ideal S1x1024x4096 .f32) (ix2 i j) = result m c J := by
  have ht := (idx t).2.2.2
  have hJ : J = ix2 ⟨t.val % 17 * 1024 + i.val, by omega⟩ ⟨t.val / 17 * 1024 + j.val, by omega⟩ := by blk_ext
  rw [hJ, step_at]
  refine Eq.trans ?_ (Cert.Reference2Ideal.Proj.product_at _ _ _ _).symm
  refine Finset.sum_congr rfl fun e _ => ?_
  rw [act_at m c t i e ⟨t.val % 17 * 1024 + i.val, by omega⟩ rfl, weight_at m c t j e ⟨t.val / 17 * 1024 + j.val, by omega⟩ rfl]

/-- **The input projection's result array is the reference's product.** -/
theorem final : (dats m 0 c).arrAt 2 cfg0.N = result m c := by
  refine (dats m 0 c).arrAt_eq_of_covers 2 _ (by decide +kernel) fun t _ y => ?_
  blk_simp
  rw [after0_2]
  unfold outsAt0
  frame_out
  idx_vars y
  refine (tile m c t _ _ _ ?_ ?_)
  · blk_simp [idx t]
  · blk_simp [idx t]

end Cert.Kernel2Ideal.Proj

end
-- ==== Proof.Claims2.lean ====
/-
  The claims about the input projection.
-/
module

public import proofs.«01_k».proof.Defs
public import proofs.«01_k».proof.Proof.Projection
public import Idealize.ShloMosaic.Lib.Quiescent

@[expose] public section

noncomputable section

namespace Cert.Proof.Projection

open Idealize.ShloMosaic Idealize.ShloMosaic.TcCoe Idealize.SL.Sem

/-- The reference runs and leaves its arguments and its semaphores alone. -/
theorem reference_frame (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
        ∧ r.2.sem = fun _ => 0) :=
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The kernel's result array and the reference's are the same. -/
theorem algebraic : Cert.algebraic_Kernel2Ideal_Reference2Ideal := by
  intro m ρ m' ρ' _ hagree
  refine ⟨fun c => Cert.Kernel2Ideal.Proj.result m c, ?_, ?_⟩
  · refine (θ_run Cert.Kernel2Ideal.defs _ _).mono (fun r h c => ⟨(h c).1.trans ?_, (h c).2⟩)
      (Cert.Kernel2Ideal.Value.run_blocks (F := Ideal) m ρ)
    exact Cert.Kernel2Ideal.Proj.final m c
  · refine (θ_run Cert.Reference2Ideal.defs _ _).mono (fun r h c => ⟨(h c).1.trans ?_, (h c).2⟩)
      (Cert.Reference2Ideal.Value.run (F := Ideal) m' ρ')
    show Cert.Reference2Ideal.Proj.product (m' ((c : Thread Cert.Reference2Ideal.nD Cert.Reference2Ideal.τ).loc Cert.Reference2Ideal.main_arg0)) (m' ((c : Thread Cert.Reference2Ideal.nD Cert.Reference2Ideal.τ).loc Cert.Reference2Ideal.main_arg1)) = _
    rw [(hagree c).1, (hagree c).2]

end Cert.Proof.Projection

end
-- ==== Proof.OutPayload.lean ====
/-
  The output projection's step and the arrays host code prepares for it, at an index.
-/
module

public import proofs.«01_k».proof.Proof.Gen.Kernel3Ideal.Value
public import Idealize.ShloMosaic.Lib.Pointwise
public import Idealize.ShloMosaic.Lib.Pipeline.ValueKit
public import Idealize.ShloMosaic.Lib.Claim

@[expose] public section

set_option maxRecDepth 16384

noncomputable section

namespace Cert.Kernel3Ideal.Out

open Cert.Kernel3Ideal Cert.Kernel3Ideal.Gen Idealize.ShloMosaic Idealize.ShloMosaic.TcCoe
open Idealize.SL.Sem
open Idealize.ShloMosaic.Pipeline (Dat)

/-! ## The step -/

/-- The residual's factor. -/
def factor : EReal := Ideal.ofBits .f32 0x3FB504F3#32

/-- The attention rows' product. -/
def wide (a : Vec Ideal S1024x2048 .bf16) (w : Vec Ideal S1x2048x512 .bf16) : FVec Ideal S1024x512 .f32 :=
  matmul dot_S1024x2048_S2048x512_S1024x512_1_0_0_1_n_n none
    (shapeCast S1024x2048 a shapeCasts_S1024x2048_S1024x2048 : FVec Ideal S1024x2048 .bf16)
    (shapeCast S2048x512 w shapeCasts_S1x2048x512_S2048x512 : FVec Ideal S2048x512 .bf16) (constant S1024x512 .f32 0x00000000#32)

/-- Another mixer's product. -/
def narrow (a : Vec Ideal S1024x1024 .bf16) (w : Vec Ideal S1x1024x512 .bf16) : FVec Ideal S1024x512 .f32 :=
  matmul dot_S1024x1024_S1024x512_S1024x512_1_0_0_1_n_n none
    (shapeCast S1024x1024 a shapeCasts_S1024x1024_S1024x1024 : FVec Ideal S1024x1024 .bf16)
    (shapeCast S1024x512 w shapeCasts_S1x1024x512_S1024x512 : FVec Ideal S1024x512 .bf16) (constant S1024x512 .f32 0x00000000#32)

/-- The residual plus the gated sum of products. -/
def blend (h x : FVec Ideal S1024x512 .f32) (g : Vec Ideal S1x1x1x512 .f32) : FVec Ideal S1024x512 .f32 :=
  addf (mulf (broadcast S1024x512 (Scalar.ofBits .f32 0x3FB504F3#32)) h)
    (mulf (broadcastTo S1024x512 (shapeCast S1x512 g shapeCasts_S1x1x1x512_S1x512) broadcasts_S1x512_S1024x512) x)

/-- One index of the three products, added. -/
def summed (a : Vec Ideal S1024x2048 .bf16) (wa : Vec Ideal S1x2048x512 .bf16)
    (g : Vec Ideal S1024x1024 .bf16) (wg : Vec Ideal S1x1024x512 .bf16) (l : Vec Ideal S1024x1024 .bf16)
    (wl : Vec Ideal S1x1024x512 .bf16) (i : Fin 1024) (j : Fin 512) : EReal :=
  (∑ e : Fin 2048, a (ix2 i e) * wa (ix3 0 e j)) + (∑ e : Fin 1024, g (ix2 i e) * wg (ix3 0 e j))
    + ∑ e : Fin 1024, l (ix2 i e) * wl (ix3 0 e j)

theorem wide_at (a : Vec Ideal S1024x2048 .bf16) (w : Vec Ideal S1x2048x512 .bf16) (i : Fin 1024) (j : Fin 512) :
    wide a w (ix2 i j) = ∑ k : Fin 2048, a (ix2 i k) * w (ix3 0 k j) := by
  pointwise [wide]

theorem narrow_at (a : Vec Ideal S1024x1024 .bf16) (w : Vec Ideal S1x1024x512 .bf16) (i : Fin 1024) (j : Fin 512) :
    narrow a w (ix2 i j) = ∑ k : Fin 1024, a (ix2 i k) * w (ix3 0 k j) := by
  pointwise [narrow]

theorem blend_at (h x : FVec Ideal S1024x512 .f32) (g : Vec Ideal S1x1x1x512 .f32) (i : Fin 1024) (j : Fin 512) :
    blend h x g (ix2 i j) = factor * h (ix2 i j) + g (ix4 0 0 0 j) * x (ix2 i j) := by
  pointwise [blend, factor]

theorem pay_eq (p : grid0.Coords) (a : Vec Ideal S1024x2048 .bf16) (wa : Vec Ideal S1x2048x512 .bf16)
    (g : Vec Ideal S1024x1024 .bf16) (wg : Vec Ideal S1x1024x512 .bf16) (l : Vec Ideal S1024x1024 .bf16)
    (wl : Vec Ideal S1x1024x512 .bf16) (h k : Vec Ideal S1024x512 .f32) (d : Vec Ideal S1x1x1x512 .f32) :
    k0_pay1 p a wa g wg l wl h k d
      = blend (Scalar.select (Scalar.cmpi .slt (BitVec.ofNat 32 (p 0).val) 16#32)
          (shapeCast S1024x512 h shapeCasts_S1024x512_S1024x512) (shapeCast S1024x512 k shapeCasts_S1024x512_S1024x512))
          (addf (addf (wide a wa) (narrow g wg)) (narrow l wl)) d := rfl

/-- A step's payload: the residual rows `h` of the latent tiles, `k` of the context tile. -/
theorem pay_at (p : grid0.Coords) (a : Vec Ideal S1024x2048 .bf16) (wa : Vec Ideal S1x2048x512 .bf16)
    (g : Vec Ideal S1024x1024 .bf16) (wg : Vec Ideal S1x1024x512 .bf16) (l : Vec Ideal S1024x1024 .bf16)
    (wl : Vec Ideal S1x1024x512 .bf16) (h k : Vec Ideal S1024x512 .f32) (d : Vec Ideal S1x1x1x512 .f32)
    (i : Fin 1024) (j : Fin 512) :
    k0_pay1 p a wa g wg l wl h k d (ix2 i j)
      = factor * (if Scalar.cmpi .slt (BitVec.ofNat 32 (p 0).val) 16#32 = 1#1 then h (ix2 i j) else k (ix2 i j))
        + d (ix4 0 0 0 j) * summed a wa g wg l wl i j := by
  rw [pay_eq, blend_at]
  show factor * _ + _ * ((wide a wa (ix2 i j) + narrow g wg (ix2 i j)) + narrow l wl (ix2 i j)) = _
  rw [wide_at, narrow_at, narrow_at]
  unfold summed
  congr 2
  unfold Scalar.select
  split
  · next hs => refine Eq.trans ?_ (if_pos hs).symm; pointwise
  · next hs => refine Eq.trans ?_ (if_neg hs).symm; pointwise

/-! ## The prepared arrays -/

/-- The latent residual, its samples' rows one after the other. -/
def latentB (H : FVec Ideal S4x4096x4096 .f32) : FVec Ideal S16384x4096 .f32 :=
  shapeCast S16384x4096 H shapeCasts_S4x4096x4096_S16384x4096

/-- The context residual, likewise. -/
def contextB (H : FVec Ideal S4x256x4096 .f32) : FVec Ideal S1024x4096 .f32 :=
  shapeCast S1024x4096 H shapeCasts_S4x256x4096_S1024x4096

/-- The samples' modulations, then the context's. -/
def pairB (D : FVec Ideal S4x6x4096 .f32) (E : FVec Ideal S1x6x4096 .f32) : FVec Ideal S5x6x4096 .f32 :=
  concatenate S5x6x4096 0 [⟨S4x6x4096, D⟩, ⟨S1x6x4096, E⟩] concatenates_S4x6x4096_S1x6x4096_S5x6x4096_d0

/-- Those, then zeros. -/
def padB (D : FVec Ideal S5x6x4096 .f32) (Z : FVec Ideal S3x6x4096 .f32) : FVec Ideal S8x6x4096 .f32 :=
  concatenate S8x6x4096 0 [⟨S5x6x4096, D⟩, ⟨S3x6x4096, Z⟩] concatenates_S5x6x4096_S3x6x4096_S8x6x4096_d0

/-- The context's modulation as one more sample. -/
def soloB (E : FVec Ideal S6x4096 .f32) : FVec Ideal S1x6x4096 .f32 :=
  broadcastInDim S1x6x4096 ![1, 2] bcast_S6x4096_S1x6x4096_1_2 E

/-- The modulations as the call takes them. -/
def modB (D : FVec Ideal S4x6x4096 .f32) (E : FVec Ideal S6x4096 .f32) : FVec Ideal S8x6x1x4096 .f32 :=
  shapeCast S8x6x1x4096 (padB (pairB D (soloB E)) (broadcastInDim S3x6x4096 ![] bcast_S_S3x6x4096 (constant S_ .f32 0x00000000#32)))
    shapeCasts_S8x6x4096_S8x6x1x4096

theorem latentB_at (H : FVec Ideal S4x4096x4096 .f32) (b : Fin 4) (s d : Fin 4096) :
    latentB H (ix2 ⟨b.val * 4096 + s.val, by omega⟩ d) = H (ix3 b s d) := by
  pointwise [latentB]

theorem contextB_at (H : FVec Ideal S4x256x4096 .f32) (b : Fin 4) (s : Fin 256) (d : Fin 4096) :
    contextB H (ix2 ⟨b.val * 256 + s.val, by omega⟩ d) = H (ix3 b s d) := by
  pointwise [contextB]

theorem pairB_sample (D : FVec Ideal S4x6x4096 .f32) (E : FVec Ideal S1x6x4096 .f32)
    (b : Fin 4) (d : Fin 4096) : pairB D E (ix3 ⟨b.val, by omega⟩ 2 d) = D (ix3 b 2 d) := by
  pointwise [pairB]

theorem pairB_context (D : FVec Ideal S4x6x4096 .f32) (E : FVec Ideal S1x6x4096 .f32)
    (d : Fin 4096) : pairB D E (ix3 ⟨4, by omega⟩ 2 d) = E (ix3 0 2 d) := by
  pointwise [pairB]

theorem padB_at (D : FVec Ideal S5x6x4096 .f32) (Z : FVec Ideal S3x6x4096 .f32)
    (b : Fin 5) (d : Fin 4096) : padB D Z (ix3 ⟨b.val, by omega⟩ 2 d) = D (ix3 b 2 d) := by
  pointwise [padB]

theorem soloB_at (E : FVec Ideal S6x4096 .f32) (k : Fin 6) (d : Fin 4096) : soloB E (ix3 0 k d) = E (ix2 k d) := by
  pointwise [soloB]

theorem modB_pad (D : FVec Ideal S4x6x4096 .f32) (E : FVec Ideal S6x4096 .f32) (b : Fin 8) (d : Fin 4096) :
    modB D E (ix4 b 2 0 d)
      = padB (pairB D (soloB E)) (broadcastInDim S3x6x4096 ![] bcast_S_S3x6x4096 (constant S_ .f32 0x00000000#32)) (ix3 b 2 d) := by
  pointwise [modB]

theorem modB_sample (D : FVec Ideal S4x6x4096 .f32) (E : FVec Ideal S6x4096 .f32) (b : Fin 4) (d : Fin 4096) :
    modB D E (ix4 ⟨b.val, by omega⟩ 2 0 d) = D (ix3 b 2 d) := by
  refine (modB_pad D E ⟨b.val, by omega⟩ d).trans ((padB_at _ _ ⟨b.val, by omega⟩ d).trans ?_)
  exact pairB_sample _ _ b d

theorem modB_context (D : FVec Ideal S4x6x4096 .f32) (E : FVec Ideal S6x4096 .f32) (d : Fin 4096) :
    modB D E (ix4 ⟨4, by omega⟩ 2 0 d) = E (ix2 2 d) := by
  refine (modB_pad D E ⟨4, by omega⟩ d).trans ((padB_at _ _ ⟨4, by omega⟩ d).trans ?_)
  rw [pairB_context, soloB_at]

end Cert.Kernel3Ideal.Out

end
-- ==== Proof.OutBlocks.lean ====
/-
  What each block of the output projection holds at a step, from the launch arrays.
-/
module

public import proofs.«01_k».proof.Proof.OutPayload

@[expose] public section

set_option maxRecDepth 16384

noncomputable section

namespace Cert.Kernel3Ideal.Out

open Cert.Kernel3Ideal Cert.Kernel3Ideal.Gen Idealize.ShloMosaic Idealize.ShloMosaic.TcCoe
open Idealize.SL.Sem
open Idealize.ShloMosaic.Pipeline (Dat)

/-- Where the mixers' and the weight's blocks lie: the column tiles run inside the row tiles. -/
theorem idxA : ∀ t : Fin cfg0.N, win0_0.index t = ![t.val / 8, 0] ∧ win0_1.index t = ![t.val / 8, 0]
    ∧ win0_2.index t = ![t.val / 8, 0] ∧ win0_3.index t = ![0, 0, t.val % 8] ∧ win0_4.index t = ![0, 2, t.val % 8]
    ∧ win0_5.index t = ![0, 3, t.val % 8] ∧ win0_9.index t = ![t.val / 8, t.val % 8] ∧ t.val < 136 :=
  (by decide +kernel : ∀ t : Fin grid0.N, _)

/-- Where the residual's and the modulation's blocks lie. -/
theorem idxB : ∀ t : Fin cfg0.N, win0_6.index t = ![min (t.val / 8) 15, t.val % 8]
    ∧ win0_7.index t = ![t.val / 8 - 16, t.val % 8] ∧ win0_8.index t = ![t.val / 32, 2, 0, t.val % 8] :=
  (by decide +kernel : ∀ t : Fin grid0.N, _)

/-- Which steps are latent. -/
theorem latent_step : ∀ t : Fin cfg0.N,
    (Scalar.cmpi .slt (BitVec.ofNat 32 ((grid0.coords t) 0).val) 16#32 = 1#1) = (t.val / 8 < 16) := by
  have h : ∀ t : Fin grid0.N,
      (Scalar.cmpi .slt (BitVec.ofNat 32 ((grid0.coords t) 0).val) 16#32 = 1#1) ↔ (t.val / 8 < 16) := by decide +kernel
  exact fun t => propext (h t)

variable (m : (ℓ : Loc nD τ sig) → Buf (Elt Ideal) ℓ) (c : Dev nD)

theorem V_att : V m c main_v6 = (truncf .bf16 (m ((c : Thread nD τ).loc main_arg0) : FVec Ideal S17408x2048 .f32) bitsLt_bf16_f32 : FVec Ideal S17408x2048 .bf16) := by
  entry_read; rfl
theorem V_gm : V m c main_v7 = (truncf .bf16 (m ((c : Thread nD τ).loc main_arg1) : FVec Ideal S17408x1024 .f32) bitsLt_bf16_f32 : FVec Ideal S17408x1024 .bf16) := by
  entry_read; rfl
theorem V_ml : V m c main_v8 = (truncf .bf16 (m ((c : Thread nD τ).loc main_arg2) : FVec Ideal S17408x1024 .f32) bitsLt_bf16_f32 : FVec Ideal S17408x1024 .bf16) := by
  entry_read; rfl
theorem V_weight : V m c main_v9 = (truncf .bf16 (m ((c : Thread nD τ).loc main_arg3) : FVec Ideal S2x4096x4096 .f32) bitsLt_bf16_f32 : FVec Ideal S2x4096x4096 .bf16) := by
  entry_read; rfl
theorem V_latent : V m c main_v4 = latentB (m ((c : Thread nD τ).loc main_arg4)) := by
  entry_read; rfl
theorem V_context : V m c main_v5 = contextB (m ((c : Thread nD τ).loc main_arg5)) := by
  entry_read; rfl
theorem V_mod : V m c main_v10 = modB (m ((c : Thread nD τ).loc main_arg6)) (m ((c : Thread nD τ).loc main_arg7)) := by
  entry_read; rfl

/-- The attention block at an index. -/
theorem att_at (t : Fin cfg0.N) (i : Fin 1024) (e : Fin 2048) (R : Fin 17408) (hR : R.val = t.val / 8 * 1024 + i.val) :
    (iblk m c 0 t : Vec Ideal S1024x2048 .bf16) (ix2 i e) = (m ((c : Thread nD τ).loc main_arg0) : FVec Ideal S17408x2048 .f32) (ix2 R e) := by
  have hp : (((cfg0.win 0).blk t).view.emb (ix2 i e) : S17408x2048.Idx) = ix2 R e := by blk_ext [idxA t]
  have hr : (iblk m c 0 t : Vec Ideal S1024x2048 .bf16) (ix2 i e)
      = (V m c main_v6 : FVec Ideal S17408x2048 .bf16) (((cfg0.win 0).blk t).view.emb (ix2 i e)) := by
    unfold iblk; rw [View.read_apply, cast_eq]
  rw [hr, V_att, hp]
  pointwise

/-- The second mixer's block at an index. -/
theorem gm_at (t : Fin cfg0.N) (i : Fin 1024) (e : Fin 1024) (R : Fin 17408) (hR : R.val = t.val / 8 * 1024 + i.val) :
    (iblk m c 1 t : Vec Ideal S1024x1024 .bf16) (ix2 i e) = (m ((c : Thread nD τ).loc main_arg1) : FVec Ideal S17408x1024 .f32) (ix2 R e) := by
  have hp : (((cfg0.win 1).blk t).view.emb (ix2 i e) : S17408x1024.Idx) = ix2 R e := by blk_ext [idxA t]
  have hr : (iblk m c 1 t : Vec Ideal S1024x1024 .bf16) (ix2 i e)
      = (V m c main_v7 : FVec Ideal S17408x1024 .bf16) (((cfg0.win 1).blk t).view.emb (ix2 i e)) := by
    unfold iblk; rw [View.read_apply, cast_eq]
  rw [hr, V_gm, hp]
  pointwise

/-- The third mixer's block at an index. -/
theorem ml_at (t : Fin cfg0.N) (i : Fin 1024) (e : Fin 1024) (R : Fin 17408) (hR : R.val = t.val / 8 * 1024 + i.val) :
    (iblk m c 2 t : Vec Ideal S1024x1024 .bf16) (ix2 i e) = (m ((c : Thread nD τ).loc main_arg2) : FVec Ideal S17408x1024 .f32) (ix2 R e) := by
  have hp : (((cfg0.win 2).blk t).view.emb (ix2 i e) : S17408x1024.Idx) = ix2 R e := by blk_ext [idxA t]
  have hr : (iblk m c 2 t : Vec Ideal S1024x1024 .bf16) (ix2 i e)
      = (V m c main_v8 : FVec Ideal S17408x1024 .bf16) (((cfg0.win 2).blk t).view.emb (ix2 i e)) := by
    unfold iblk; rw [View.read_apply, cast_eq]
  rw [hr, V_ml, hp]
  pointwise

/-- The weight's attention rows. -/
theorem weight_att (t : Fin cfg0.N) (e : Fin 2048) (j : Fin 512) (E D : Fin 4096) (hE : E.val = e.val)
    (hD : D.val = t.val % 8 * 512 + j.val) :
    (iblk m c 3 t : Vec Ideal S1x2048x512 .bf16) (ix3 0 e j) = (m ((c : Thread nD τ).loc main_arg3) : FVec Ideal S2x4096x4096 .f32) (ix3 0 E D) := by
  have hp : (((cfg0.win 3).blk t).view.emb (ix3 0 e j) : S2x4096x4096.Idx) = ix3 0 E D := by blk_ext [idxA t]
  have hr : (iblk m c 3 t : Vec Ideal S1x2048x512 .bf16) (ix3 0 e j)
      = (V m c main_v9 : FVec Ideal S2x4096x4096 .bf16) (((cfg0.win 3).blk t).view.emb (ix3 0 e j)) := by
    unfold iblk; rw [View.read_apply, cast_eq]
  rw [hr, V_weight, hp]
  pointwise

/-- The weight's rows of the second mixer. -/
theorem weight_gm (t : Fin cfg0.N) (e : Fin 1024) (j : Fin 512) (E D : Fin 4096) (hE : E.val = 2048 + e.val)
    (hD : D.val = t.val % 8 * 512 + j.val) :
    (iblk m c 4 t : Vec Ideal S1x1024x512 .bf16) (ix3 0 e j) = (m ((c : Thread nD τ).loc main_arg3) : FVec Ideal S2x4096x4096 .f32) (ix3 0 E D) := by
  have hp : (((cfg0.win 4).blk t).view.emb (ix3 0 e j) : S2x4096x4096.Idx) = ix3 0 E D := by blk_ext [idxA t]
  have hr : (iblk m c 4 t : Vec Ideal S1x1024x512 .bf16) (ix3 0 e j)
      = (V m c main_v9 : FVec Ideal S2x4096x4096 .bf16) (((cfg0.win 4).blk t).view.emb (ix3 0 e j)) := by
    unfold iblk; rw [View.read_apply, cast_eq]
  rw [hr, V_weight, hp]
  pointwise

/-- The weight's rows of the third mixer. -/
theorem weight_ml (t : Fin cfg0.N) (e : Fin 1024) (j : Fin 512) (E D : Fin 4096) (hE : E.val = 2048 + 1024 + e.val)
    (hD : D.val = t.val % 8 * 512 + j.val) :
    (iblk m c 5 t : Vec Ideal S1x1024x512 .bf16) (ix3 0 e j) = (m ((c : Thread nD τ).loc main_arg3) : FVec Ideal S2x4096x4096 .f32) (ix3 0 E D) := by
  have hp : (((cfg0.win 5).blk t).view.emb (ix3 0 e j) : S2x4096x4096.Idx) = ix3 0 E D := by blk_ext [idxA t]
  have hr : (iblk m c 5 t : Vec Ideal S1x1024x512 .bf16) (ix3 0 e j)
      = (V m c main_v9 : FVec Ideal S2x4096x4096 .bf16) (((cfg0.win 5).blk t).view.emb (ix3 0 e j)) := by
    unfold iblk; rw [View.read_apply, cast_eq]
  rw [hr, V_weight, hp]
  pointwise

/-- The latent residual's block at an index, of a latent step. -/
theorem latent_at (t : Fin cfg0.N) (i : Fin 1024) (j : Fin 512) (b : Fin 4) (s D : Fin 4096) (h : t.val / 8 < 16)
    (hR : b.val * 4096 + s.val = t.val / 8 * 1024 + i.val) (hD : D.val = t.val % 8 * 512 + j.val) :
    (iblk m c 6 t : Vec Ideal S1024x512 .f32) (ix2 i j) = (m ((c : Thread nD τ).loc main_arg4) : FVec Ideal S4x4096x4096 .f32) (ix3 b s D) := by
  have hmin : min (t.val / 8) 15 = t.val / 8 := by omega
  have hp : (((cfg0.win 6).blk t).view.emb (ix2 i j) : S16384x4096.Idx) = ix2 ⟨b.val * 4096 + s.val, by omega⟩ D := by
    blk_ext [idxB t, hmin]
  have hr : (iblk m c 6 t : Vec Ideal S1024x512 .f32) (ix2 i j)
      = (V m c main_v4 : FVec Ideal S16384x4096 .f32) (((cfg0.win 6).blk t).view.emb (ix2 i j)) := by
    unfold iblk; rw [View.read_apply, cast_eq]
  rw [hr, V_latent, hp, latentB_at]

theorem context_place (t : Fin cfg0.N) (i : Fin 1024) (j : Fin 512) (D : Fin 4096) (h : t.val / 8 - 16 = 0)
    (hD : D.val = t.val % 8 * 512 + j.val) :
    (((cfg0.win 7).blk t).view.emb (ix2 i j) : S1024x4096.Idx) = ix2 i D := by
  blk_ext [idxB t, h]

/-- The context residual's block at an index, of a context step. -/
theorem context_at (t : Fin cfg0.N) (i : Fin 1024) (j : Fin 512) (b : Fin 4) (s : Fin 256) (D : Fin 4096) (h : t.val / 8 = 16)
    (hR : b.val * 256 + s.val = i.val) (hD : D.val = t.val % 8 * 512 + j.val) :
    (iblk m c 7 t : Vec Ideal S1024x512 .f32) (ix2 i j) = (m ((c : Thread nD τ).loc main_arg5) : FVec Ideal S4x256x4096 .f32) (ix3 b s D) := by
  have hi : i = ⟨b.val * 256 + s.val, by omega⟩ := Fin.ext hR.symm
  have hr : (iblk m c 7 t : Vec Ideal S1024x512 .f32) (ix2 i j)
      = (V m c main_v5 : FVec Ideal S1024x4096 .f32) (((cfg0.win 7).blk t).view.emb (ix2 i j)) := by
    unfold iblk; rw [View.read_apply, cast_eq]
  rw [hr, V_context, context_place t i j D (by omega) hD]
  rw [hi, contextB_at]

theorem mod_read (t : Fin cfg0.N) (j : Fin 512) (b : Fin 8) (D : Fin 4096) (hb : b.val = t.val / 32)
    (hD : D.val = t.val % 8 * 512 + j.val) :
    (iblk m c 8 t : Vec Ideal S1x1x1x512 .f32) (ix4 0 0 0 j)
      = modB (m ((c : Thread nD τ).loc main_arg6)) (m ((c : Thread nD τ).loc main_arg7)) (ix4 b 2 0 D) := by
  have hp : (((cfg0.win 8).blk t).view.emb (ix4 0 0 0 j) : S8x6x1x4096.Idx) = ix4 b 2 0 D := by
    blk_ext [idxB t]
  have hr : (iblk m c 8 t : Vec Ideal S1x1x1x512 .f32) (ix4 0 0 0 j)
      = (V m c main_v10 : FVec Ideal S8x6x1x4096 .f32) (((cfg0.win 8).blk t).view.emb (ix4 0 0 0 j)) := by
    unfold iblk; rw [View.read_apply, cast_eq]
  rw [hr, V_mod, hp]

/-- The gate's block, of a latent step. -/
theorem gate_latent (t : Fin cfg0.N) (j : Fin 512) (b : Fin 4) (D : Fin 4096) (hb : b.val = t.val / 32)
    (hD : D.val = t.val % 8 * 512 + j.val) :
    (iblk m c 8 t : Vec Ideal S1x1x1x512 .f32) (ix4 0 0 0 j) = (m ((c : Thread nD τ).loc main_arg6) : FVec Ideal S4x6x4096 .f32) (ix3 b 2 D) := by
  rw [mod_read m c t j ⟨b.val, by omega⟩ D hb hD, modB_sample]

/-- The gate's block, of a context step. -/
theorem gate_context (t : Fin cfg0.N) (j : Fin 512) (D : Fin 4096) (hb : t.val / 32 = 4)
    (hD : D.val = t.val % 8 * 512 + j.val) :
    (iblk m c 8 t : Vec Ideal S1x1x1x512 .f32) (ix4 0 0 0 j) = (m ((c : Thread nD τ).loc main_arg7) : FVec Ideal S6x4096 .f32) (ix2 2 D) := by
  rw [mod_read m c t j ⟨4, by omega⟩ D hb.symm hD, modB_context]

end Cert.Kernel3Ideal.Out

end
-- ==== Proof.OutReference.lean ====
/-
  What the reference of the output projection returns, at an index.
-/
module

public import proofs.«01_k».proof.Proof.Gen.Reference3Ideal.Run
public import Idealize.ShloMosaic.Lib.Pointwise

@[expose] public section

set_option maxRecDepth 16384

noncomputable section

namespace Cert.Reference3Ideal.Out

open Cert.Reference3Ideal Cert.Reference3Ideal.Gen Idealize.ShloMosaic Idealize.ShloMosaic.TcCoe Idealize.SL.Sem

/-- A sum over three stretches, one after the other. -/
theorem sum_three {a b c n : ℕ} (h : n = a + b + c) (f : Fin n → EReal) :
    ∑ k, f k = (∑ k : Fin a, f ⟨k.val, by omega⟩) + (∑ k : Fin b, f ⟨a + k.val, by omega⟩) + ∑ k : Fin c, f ⟨a + b + k.val, by omega⟩ := by
  subst h
  rw [Fin.sum_univ_add, Fin.sum_univ_add]
  rfl

/-- The residual's factor. -/
def alpha : EReal := Ideal.ofBits .f32 0x3FB504F3#32

/-- The three mixers' outputs side by side. -/
def heads (A : FVec Ideal S17408x2048 .f32) (G M : FVec Ideal S17408x1024 .f32) : FVec Ideal S17408x4096 .f32 :=
  concatenate S17408x4096 1 [⟨S17408x2048, A⟩, ⟨S17408x1024, G⟩, ⟨S17408x1024, M⟩] concatenates_S17408x2048_S17408x1024_S17408x1024_S17408x4096_d1

/-- Their product with the first layer's output weight. -/
def mix (H : FVec Ideal S17408x4096 .f32) (W : FVec Ideal S2x4096x4096 .f32) : FVec Ideal S17408x4096 .f32 :=
  Host.dotGeneral dot_S17408x4096_S4096x4096_S17408x4096_1_0_0_1_n_n none H (shapeCast _ (extractStridedSlice S1x4096x4096 ![0, 0, 0] W slices_S2x4096x4096_S1x4096x4096_0_0_0) shapeCasts_S1x4096x4096_S4096x4096)

/-- The latent rows: residual plus gated product. -/
def latent (X : FVec Ideal S17408x4096 .f32) (H : FVec Ideal S4x4096x4096 .f32) (D : FVec Ideal S4x6x4096 .f32) : FVec Ideal S16384x4096 .f32 :=
  shapeCast _ (addf (mulf (broadcastInDim S4x4096x4096 ![] bcast_S_S4x4096x4096 (constant S_ .f32 0x3FB504F3#32)) H) (mulf (broadcastInDim S4x4096x4096 ![0, 1, 2] bcast_S4x1x4096_S4x4096x4096_0_1_2 (broadcastInDim S4x1x4096 ![0, 2] bcast_S4x4096_S4x1x4096_0_2 (shapeCast _ (extractStridedSlice S4x1x4096 ![0, 2, 0] D slices_S4x6x4096_S4x1x4096_0_2_0) shapeCasts_S4x1x4096_S4x4096))) (shapeCast _ (extractStridedSlice S16384x4096 ![0, 0] X slices_S17408x4096_S16384x4096_0_0) shapeCasts_S16384x4096_S4x4096x4096))) shapeCasts_S4x4096x4096_S16384x4096

/-- The context rows: residual plus gated product. -/
def context (X : FVec Ideal S17408x4096 .f32) (H : FVec Ideal S4x256x4096 .f32) (D : FVec Ideal S6x4096 .f32) : FVec Ideal S1024x4096 .f32 :=
  shapeCast _ (addf (mulf (broadcastInDim S4x256x4096 ![] bcast_S_S4x256x4096 (constant S_ .f32 0x3FB504F3#32)) H) (mulf (broadcastInDim S4x256x4096 ![0, 1, 2] bcast_S1x1x4096_S4x256x4096_0_1_2 (broadcastInDim S1x1x4096 ![2] bcast_S4096_S1x1x4096_2 (shapeCast _ (extractStridedSlice S1x4096 ![2, 0] D slices_S6x4096_S1x4096_2_0) shapeCasts_S1x4096_S4096))) (shapeCast _ (extractStridedSlice S1024x4096 ![16384, 0] X slices_S17408x4096_S1024x4096_16384_0) shapeCasts_S1024x4096_S4x256x4096))) shapeCasts_S4x256x4096_S1024x4096

/-- The latent rows above the context rows. -/
def rows (L : FVec Ideal S16384x4096 .f32) (C : FVec Ideal S1024x4096 .f32) : FVec Ideal S17408x4096 .f32 :=
  concatenate S17408x4096 0 [⟨S16384x4096, L⟩, ⟨S1024x4096, C⟩] concatenates_S16384x4096_S1024x4096_S17408x4096_d0

/-- The whole reference. -/
def residual (A : FVec Ideal S17408x2048 .f32) (G M : FVec Ideal S17408x1024 .f32) (W : FVec Ideal S2x4096x4096 .f32)
    (HL : FVec Ideal S4x4096x4096 .f32) (HC : FVec Ideal S4x256x4096 .f32) (DL : FVec Ideal S4x6x4096 .f32)
    (DC : FVec Ideal S6x4096 .f32) : FVec Ideal S17408x4096 .f32 :=
  rows (latent (mix (heads A G M) W) HL DL) (context (mix (heads A G M) W) HC DC)

theorem heads_left (A : FVec Ideal S17408x2048 .f32) (G M : FVec Ideal S17408x1024 .f32) (r : Fin 17408) (k : Fin 2048) :
    heads A G M (ix2 r ⟨k.val, by omega⟩) = A (ix2 r k) := by
  pointwise [heads]

theorem heads_middle (A : FVec Ideal S17408x2048 .f32) (G M : FVec Ideal S17408x1024 .f32) (r : Fin 17408) (k : Fin 1024) :
    heads A G M (ix2 r ⟨2048 + k.val, by omega⟩) = G (ix2 r k) := by
  pointwise [heads]

theorem heads_right (A : FVec Ideal S17408x2048 .f32) (G M : FVec Ideal S17408x1024 .f32) (r : Fin 17408) (k : Fin 1024) :
    heads A G M (ix2 r ⟨2048 + 1024 + k.val, by omega⟩) = M (ix2 r k) := by
  pointwise [heads]
  rw [dif_neg (by omega), dif_neg (by omega)]
  exact congrArg M (congrArg (ix2 r) (Fin.ext (by simp only []; omega)))

theorem mix_at (H : FVec Ideal S17408x4096 .f32) (W : FVec Ideal S2x4096x4096 .f32) (r : Fin 17408) (d : Fin 4096) :
    mix H W (ix2 r d) = ∑ k : Fin 4096, H (ix2 r k) * W (ix3 0 k d) := by
  pointwise [mix]

theorem latent_at (X : FVec Ideal S17408x4096 .f32) (H : FVec Ideal S4x4096x4096 .f32) (D : FVec Ideal S4x6x4096 .f32)
    (b : Fin 4) (s d : Fin 4096) :
    latent X H D (ix2 ⟨b.val * 4096 + s.val, by omega⟩ d)
      = alpha * H (ix3 b s d) + D (ix3 b 2 d) * X (ix2 ⟨b.val * 4096 + s.val, by omega⟩ d) := by
  pointwise [latent, alpha]

theorem context_at (X : FVec Ideal S17408x4096 .f32) (H : FVec Ideal S4x256x4096 .f32) (D : FVec Ideal S6x4096 .f32)
    (b : Fin 4) (s : Fin 256) (d : Fin 4096) :
    context X H D (ix2 ⟨b.val * 256 + s.val, by omega⟩ d)
      = alpha * H (ix3 b s d) + D (ix2 2 d) * X (ix2 ⟨16384 + (b.val * 256 + s.val), by omega⟩ d) := by
  pointwise [context, alpha]

theorem rows_latent (L : FVec Ideal S16384x4096 .f32) (C : FVec Ideal S1024x4096 .f32) (r : Fin 16384) (d : Fin 4096) :
    rows L C (ix2 ⟨r.val, by omega⟩ d) = L (ix2 r d) := by
  pointwise [rows]

theorem rows_context (L : FVec Ideal S16384x4096 .f32) (C : FVec Ideal S1024x4096 .f32) (r : Fin 1024) (d : Fin 4096) :
    rows L C (ix2 ⟨16384 + r.val, by omega⟩ d) = C (ix2 r d) := by
  pointwise [rows]

variable (A : FVec Ideal S17408x2048 .f32) (G M : FVec Ideal S17408x1024 .f32) (W : FVec Ideal S2x4096x4096 .f32)
    (HL : FVec Ideal S4x4096x4096 .f32) (HC : FVec Ideal S4x256x4096 .f32) (DL : FVec Ideal S4x6x4096 .f32)
    (DC : FVec Ideal S6x4096 .f32)

/-- One row's product, mixer by mixer. -/
theorem mix_split (r : Fin 17408) (d : Fin 4096) :
    mix (heads A G M) W (ix2 r d)
      = (∑ k : Fin 2048, A (ix2 r k) * W (ix3 0 ⟨k.val, by omega⟩ d))
        + (∑ k : Fin 1024, G (ix2 r k) * W (ix3 0 ⟨2048 + k.val, by omega⟩ d))
        + ∑ k : Fin 1024, M (ix2 r k) * W (ix3 0 ⟨2048 + 1024 + k.val, by omega⟩ d) := by
  rw [mix_at, sum_three (a := 2048) (b := 1024) (c := 1024) (by norm_num)]
  simp only [heads_left, heads_middle, heads_right]

theorem residual_latent (b : Fin 4) (s d : Fin 4096) :
    residual A G M W HL HC DL DC (ix2 ⟨b.val * 4096 + s.val, by omega⟩ d)
      = alpha * HL (ix3 b s d) + DL (ix3 b 2 d) * mix (heads A G M) W (ix2 ⟨b.val * 4096 + s.val, by omega⟩ d) := by
  refine (rows_latent _ _ ⟨b.val * 4096 + s.val, by omega⟩ d).trans ?_
  rw [latent_at]

theorem residual_context (b : Fin 4) (s : Fin 256) (d : Fin 4096) :
    residual A G M W HL HC DL DC (ix2 ⟨16384 + (b.val * 256 + s.val), by omega⟩ d)
      = alpha * HC (ix3 b s d) + DC (ix2 2 d) * mix (heads A G M) W (ix2 ⟨16384 + (b.val * 256 + s.val), by omega⟩ d) := by
  refine (rows_context _ _ ⟨b.val * 256 + s.val, by omega⟩ d).trans ?_
  rw [context_at]

end Cert.Reference3Ideal.Out

end
-- ==== Proof.OutFinal.lean ====
/-
  The output projection: every block a step writes is the reference's there.
-/
module

public import proofs.«01_k».proof.Proof.OutBlocks
public import proofs.«01_k».proof.Proof.OutReference

@[expose] public section

set_option maxRecDepth 16384

noncomputable section

namespace Cert.Kernel3Ideal.Out

open Cert.Kernel3Ideal Cert.Kernel3Ideal.Gen Idealize.ShloMosaic Idealize.ShloMosaic.TcCoe
open Idealize.SL.Sem
open Idealize.ShloMosaic.Pipeline (Dat)

variable (m : (ℓ : Loc nD τ sig) → Buf (Elt Ideal) ℓ) (c : Dev nD)

/-- The reference's result of the launch arrays. -/
abbrev result : FVec Ideal S17408x4096 .f32 :=
  Cert.Reference3Ideal.Out.residual (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The reference's product of the launch arrays. -/
abbrev product : FVec Ideal S17408x4096 .f32 :=
  Cert.Reference3Ideal.Out.mix (Cert.Reference3Ideal.Out.heads (m ((c : Thread nD τ).loc main_arg0)) (m ((c : Thread nD τ).loc main_arg1))
    (m ((c : Thread nD τ).loc main_arg2))) (m ((c : Thread nD τ).loc main_arg3))

/-- A step's three products add up to the reference's one. -/
theorem sums (t : Fin cfg0.N) (i : Fin 1024) (j : Fin 512) (R : Fin 17408) (D : Fin 4096)
    (hR : R.val = t.val / 8 * 1024 + i.val) (hD : D.val = t.val % 8 * 512 + j.val) :
    summed (iblk m c 0 t : Vec Ideal S1024x2048 .bf16) (iblk m c 3 t : Vec Ideal S1x2048x512 .bf16)
        (iblk m c 1 t : Vec Ideal S1024x1024 .bf16) (iblk m c 4 t : Vec Ideal S1x1024x512 .bf16)
        (iblk m c 2 t : Vec Ideal S1024x1024 .bf16) (iblk m c 5 t : Vec Ideal S1x1024x512 .bf16) i j
      = product m c (ix2 R D) := by
  refine Eq.trans ?_ (Cert.Reference3Ideal.Out.mix_split _ _ _ _ _ _).symm
  unfold summed
  refine congrArg₂ _ (congrArg₂ _ ?_ ?_) ?_
  · refine Finset.sum_congr rfl fun e _ => ?_
    rw [att_at m c t i e R hR, weight_att m c t e j ⟨e.val, by omega⟩ D rfl hD]
  · refine Finset.sum_congr rfl fun e _ => ?_
    rw [gm_at m c t i e R hR, weight_gm m c t e j ⟨2048 + e.val, by omega⟩ D rfl hD]
  · refine Finset.sum_congr rfl fun e _ => ?_
    rw [ml_at m c t i e R hR, weight_ml m c t e j ⟨2048 + 1024 + e.val, by omega⟩ D rfl hD]

/-- What a step writes at an index. -/
abbrev wrote (t : Fin cfg0.N) : FVec Ideal S1024x512 .f32 :=
  k0_pay1 (grid0.coords t) (iblk m c 0 t : Vec Ideal S1024x2048 .bf16) (iblk m c 3 t : Vec Ideal S1x2048x512 .bf16)
    (iblk m c 1 t : Vec Ideal S1024x1024 .bf16) (iblk m c 4 t : Vec Ideal S1x1024x512 .bf16)
    (iblk m c 2 t : Vec Ideal S1024x1024 .bf16) (iblk m c 5 t : Vec Ideal S1x1024x512 .bf16)
    (iblk m c 6 t : Vec Ideal S1024x512 .f32) (iblk m c 7 t : Vec Ideal S1024x512 .f32)
    (iblk m c 8 t : Vec Ideal S1x1x1x512 .f32)

theorem tile_latent (t : Fin cfg0.N) (h : t.val / 8 < 16) (i : Fin 1024) (j : Fin 512) (J : S17408x4096.Idx)
    (hj0 : (J 0).val = t.val / 8 * 1024 + i.val) (hj1 : (J 1).val = t.val % 8 * 512 + j.val) :
    wrote m c t (ix2 i j) = result m c J := by
  have ht := (idxA t).2.2.2.2.2.2.2
  have hb : (t.val / 8 * 1024 + i.val) / 4096 = t.val / 32 := by omega
  have hs := Nat.div_add_mod' (t.val / 8 * 1024 + i.val) 4096
  have hJ : J = ix2 ⟨(⟨(t.val / 8 * 1024 + i.val) / 4096, by omega⟩ : Fin 4).val * 4096
      + (⟨(t.val / 8 * 1024 + i.val) % 4096, Nat.mod_lt _ (by norm_num)⟩ : Fin 4096).val, by simp only []; omega⟩
      ⟨t.val % 8 * 512 + j.val, by omega⟩ := by blk_ext
  rw [hJ]
  unfold wrote
  rw [pay_at, if_pos ((latent_step t).mpr h)]
  refine Eq.trans ?_ (Cert.Reference3Ideal.Out.residual_latent _ _ _ _ _ _ _ _ _ _ _).symm
  rw [sums m c t i j ⟨t.val / 8 * 1024 + i.val, by omega⟩ ⟨t.val % 8 * 512 + j.val, by omega⟩ rfl rfl,
    latent_at m c t i j ⟨(t.val / 8 * 1024 + i.val) / 4096, by omega⟩ ⟨(t.val / 8 * 1024 + i.val) % 4096, Nat.mod_lt _ (by norm_num)⟩
      ⟨t.val % 8 * 512 + j.val, by omega⟩ h hs rfl,
    gate_latent m c t j ⟨(t.val / 8 * 1024 + i.val) / 4096, by omega⟩ ⟨t.val % 8 * 512 + j.val, by omega⟩ hb rfl]
  refine congrArg₂ _ rfl (congrArg₂ _ rfl (congrArg _ (congrArg₂ ix2 (Fin.ext hs.symm) rfl)))

theorem tile_context (t : Fin cfg0.N) (h : ¬ t.val / 8 < 16) (i : Fin 1024) (j : Fin 512) (J : S17408x4096.Idx)
    (hj0 : (J 0).val = t.val / 8 * 1024 + i.val) (hj1 : (J 1).val = t.val % 8 * 512 + j.val) :
    wrote m c t (ix2 i j) = result m c J := by
  have ht := (idxA t).2.2.2.2.2.2.2
  have h16 : t.val / 8 = 16 := by omega
  have hs := Nat.div_add_mod' i.val 256
  have hJ : J = ix2 ⟨16384 + ((⟨i.val / 256, by omega⟩ : Fin 4).val * 256
      + (⟨i.val % 256, Nat.mod_lt _ (by norm_num)⟩ : Fin 256).val), by simp only []; omega⟩
      ⟨t.val % 8 * 512 + j.val, by omega⟩ := by blk_ext
  rw [hJ]
  unfold wrote
  rw [pay_at, if_neg (fun hc => h ((latent_step t).mp hc))]
  refine Eq.trans ?_ (Cert.Reference3Ideal.Out.residual_context _ _ _ _ _ _ _ _ _ _ _).symm
  rw [sums m c t i j ⟨t.val / 8 * 1024 + i.val, by omega⟩ ⟨t.val % 8 * 512 + j.val, by omega⟩ rfl rfl,
    context_at m c t i j ⟨i.val / 256, by omega⟩ ⟨i.val % 256, Nat.mod_lt _ (by norm_num)⟩
      ⟨t.val % 8 * 512 + j.val, by omega⟩ h16 hs rfl,
    gate_context m c t j ⟨t.val % 8 * 512 + j.val, by omega⟩ (by omega) rfl]
  refine congrArg₂ _ rfl (congrArg₂ _ rfl (congrArg _ (congrArg₂ ix2 (Fin.ext ?_) rfl)))
  simp only []
  omega

theorem tile (t : Fin cfg0.N) (i : Fin 1024) (j : Fin 512) (J : S17408x4096.Idx)
    (hj0 : (J 0).val = t.val / 8 * 1024 + i.val) (hj1 : (J 1).val = t.val % 8 * 512 + j.val) :
    wrote m c t (ix2 i j) = result m c J := by
  by_cases h : t.val / 8 < 16
  · exact tile_latent m c t h i j J hj0 hj1
  · exact tile_context m c t h i j J hj0 hj1

/-- **The output projection's result array is the reference's.** -/
theorem final : (dats m 0 c).arrAt 9 cfg0.N = result m c := by
  refine (dats m 0 c).arrAt_eq_of_covers 9 _ (by decide +kernel) fun t _ y => ?_
  blk_simp
  rw [after0_9]
  unfold out0_9
  frame_out
  idx_vars y
  refine (tile m c t _ _ _ ?_ ?_)
  · blk_simp [idxA t]
  · blk_simp [idxA t]

end Cert.Kernel3Ideal.Out

end
-- ==== Proof.Claims3.lean ====
/-
  The claims about the output projection.
-/
module

public import proofs.«01_k».proof.Defs
public import proofs.«01_k».proof.Proof.OutFinal
public import Idealize.ShloMosaic.Lib.Quiescent

@[expose] public section

noncomputable section

namespace Cert.Proof.Output

open Idealize.ShloMosaic Idealize.ShloMosaic.TcCoe Idealize.SL.Sem

/-- The reference runs and leaves its arguments and its semaphores alone. -/
theorem reference_frame (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
        ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
        ∧ r.2.sem = fun _ => 0) :=
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The kernel's result array and the reference's are the same. -/
theorem algebraic : Cert.algebraic_Kernel3Ideal_Reference3Ideal := by
  intro m ρ m' ρ' _ hagree
  refine ⟨fun c => Cert.Kernel3Ideal.Out.result m c, ?_, ?_⟩
  · refine (θ_run Cert.Kernel3Ideal.defs _ _).mono (fun r h c => ⟨(h c).1.trans ?_, (h c).2⟩)
      (Cert.Kernel3Ideal.Value.run_blocks (F := Ideal) m ρ)
    exact Cert.Kernel3Ideal.Out.final m c
  · refine (θ_run Cert.Reference3Ideal.defs _ _).mono (fun r h c => ⟨(h c).1.trans ?_, (h c).2⟩)
      (Cert.Reference3Ideal.Value.run (F := Ideal) m' ρ')
    show Cert.Reference3Ideal.Out.residual (m' ((c : Thread Cert.Reference3Ideal.nD Cert.Reference3Ideal.τ).loc Cert.Reference3Ideal.main_arg0)) (m' ((c : Thread Cert.Reference3Ideal.nD Cert.Reference3Ideal.τ).loc Cert.Reference3Ideal.main_arg1)) (m' ((c : Thread Cert.Reference3Ideal.nD Cert.Reference3Ideal.τ).loc Cert.Reference3Ideal.main_arg2)) (m' ((c : Thread Cert.Reference3Ideal.nD Cert.Reference3Ideal.τ).loc Cert.Reference3Ideal.main_arg3)) (m' ((c : Thread Cert.Reference3Ideal.nD Cert.Reference3Ideal.τ).loc Cert.Reference3Ideal.main_arg4)) (m' ((c : Thread Cert.Reference3Ideal.nD Cert.Reference3Ideal.τ).loc Cert.Reference3Ideal.main_arg5)) (m' ((c : Thread Cert.Reference3Ideal.nD Cert.Reference3Ideal.τ).loc Cert.Reference3Ideal.main_arg6)) (m' ((c : Thread Cert.Reference3Ideal.nD Cert.Reference3Ideal.τ).loc Cert.Reference3Ideal.main_arg7)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2]

end Cert.Proof.Output

end
-- ==== Proof.UpIdealRing.lean ====
/- The slots, cells and transfers of the call's weight streaming, and its states. -/
module

public import proofs.«01_k».proof.Proof.Gen.Kernel4Ideal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4Ideal.Own

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The shape of a slot. -/
abbrev S1x2x4096x256 : Shape := ⟨4, ![1, 2, 4096, 256]⟩
/-- The assertions of this kernel's resources. -/
abbrev Res (F : FTy → Type) [FloatOps F] : Type _ := sProp (MT nD τ sig Unit (Elt F) ℕ (Pipeline.UD sig nD τ) ℕ)

/-! ## The operands: memrefs, cells, blocks -/

/-- The scratch, whole. -/
abbrev scM0_0 : Memref sig .tc .vmem S2x2x4096x256 .f32 := Memref.whole cc0_scratch0

/-- Weight operand 0, whole. -/
abbrev hbM0_0 : Memref sig .tc .hbm S2x16x4096x1024 .f32 := Memref.whole main_arg1
/-- Weight operand 1, whole. -/
abbrev hbM0_1 : Memref sig .tc .hbm S2x16x4096x1024 .f32 := Memref.whole main_arg2
/-- The contents type of the buffer that memref `M` lies in on core `c`. -/
abbrev HbBuf0 (c : Dev nD) {sp : Space} {S : Shape} {e : EltTy} (M : Memref sig .tc sp S e) : Type := Buf (Elt F) (M.view.loc (c : Thread nD τ))
/-- That buffer held whole at `f`. -/
abbrev hbPt0 (c : Dev nD) {sp : Space} {S : Shape} {e : EltTy} (M : Memref sig .tc sp S e) (f : HbBuf0 (F := F) c M) : Res F :=
  M.view.loc (c : Thread nD τ) ↦{fullShare} f

instance : NeZero grid0.N := ⟨by rw [N_0]; decide⟩

theorem inb_slot (s : Fin 2) : ∀ a, (![s.val, 0, 0, 0] : Fin 4 → Nat) a + S1x2x4096x256.size a ≤ S2x2x4096x256.size a := by
  have := s.isLt; intro a; fin_cases a <;> simp <;> omega
theorem inb_cell (s : Fin 2) : ∀ a, (![s.val] : Fin 1 → Nat) a + S1.size a ≤ S2.size a := by
  have := s.isLt; intro a; fin_cases a <;> simp <;> omega
/-- Slot `s` of the scratch, whole. -/
def slotM (s : Fin 2) : Memref sig .tc .vmem S1x2x4096x256 .f32 :=
  scM0_0.slice (Rect.unit (s := S2x2x4096x256) ![s.val, 0, 0, 0] S1x2x4096x256.size (inb_slot s)) (fun _ => rfl)
/-- Semaphore cell `s`. -/
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 4 := by decide
theorem cellR_1 : cellR 1 = SemLoc.dma 5 := by decide

theorem inb_part0 (s : Fin 2) : ∀ a, (![s.val, 0, 0, 0] : Fin 4 → Nat) a + S1x1x2048x256.size a ≤ S2x2x4096x256.size a := by
  have := s.isLt; intro a; fin_cases a <;> simp <;> omega
theorem inb_src0 (b : Fin 64) : ∀ a, (![0, (b.val / 4), 0, 256 * (b.val % 4)] : Fin 4 → Nat) a + S1x1x2048x256.size a ≤ S2x16x4096x1024.size a := by
  have := b.isLt; intro a; fin_cases a <;> simp <;> omega
/-- Part 0 of slot `s`: where transfer 0 of a tile lands. -/
def part0 (s : Fin 2) : Memref sig .tc .vmem S2048x256 .f32 :=
  (scM0_0.slice (Rect.unit (s := S2x2x4096x256) ![s.val, 0, 0, 0] S1x1x2048x256.size (inb_part0 s)) (fun _ => rfl)).squeeze S2048x256 squeezes_S1x1x2048x256_S2048x256
/-- What transfer 0 of tile `b` reads. -/
def src0 (b : Fin 64) : Memref sig .tc .hbm S2048x256 .f32 :=
  (hbM0_0.slice (Rect.unit (s := S2x16x4096x1024) ![0, (b.val / 4), 0, 256 * (b.val % 4)] S1x1x2048x256.size (inb_src0 b)) (fun _ => rfl)).squeeze S2048x256 squeezes_S1x1x2048x256_S2048x256

theorem inb_part1 (s : Fin 2) : ∀ a, (![s.val, 1, 0, 0] : Fin 4 → Nat) a + S1x1x2048x256.size a ≤ S2x2x4096x256.size a := by
  have := s.isLt; intro a; fin_cases a <;> simp <;> omega
theorem inb_src1 (b : Fin 64) : ∀ a, (![0, (b.val / 4), 0, 256 * (b.val % 4)] : Fin 4 → Nat) a + S1x1x2048x256.size a ≤ S2x16x4096x1024.size a := by
  have := b.isLt; intro a; fin_cases a <;> simp <;> omega
/-- Part 1 of slot `s`: where transfer 1 of a tile lands. -/
def part1 (s : Fin 2) : Memref sig .tc .vmem S2048x256 .f32 :=
  (scM0_0.slice (Rect.unit (s := S2x2x4096x256) ![s.val, 1, 0, 0] S1x1x2048x256.size (inb_part1 s)) (fun _ => rfl)).squeeze S2048x256 squeezes_S1x1x2048x256_S2048x256
/-- What transfer 1 of tile `b` reads. -/
def src1 (b : Fin 64) : Memref sig .tc .hbm S2048x256 .f32 :=
  (hbM0_1.slice (Rect.unit (s := S2x16x4096x1024) ![0, (b.val / 4), 0, 256 * (b.val % 4)] S1x1x2048x256.size (inb_src1 b)) (fun _ => rfl)).squeeze S2048x256 squeezes_S1x1x2048x256_S2048x256

theorem inb_part2 (s : Fin 2) : ∀ a, (![s.val, 0, 2048, 0] : Fin 4 → Nat) a + S1x1x2048x256.size a ≤ S2x2x4096x256.size a := by
  have := s.isLt; intro a; fin_cases a <;> simp <;> omega
theorem inb_src2 (b : Fin 64) : ∀ a, (![0, (b.val / 4), 2048, 256 * (b.val % 4)] : Fin 4 → Nat) a + S1x1x2048x256.size a ≤ S2x16x4096x1024.size a := by
  have := b.isLt; intro a; fin_cases a <;> simp <;> omega
/-- Part 2 of slot `s`: where transfer 2 of a tile lands. -/
def part2 (s : Fin 2) : Memref sig .tc .vmem S2048x256 .f32 :=
  (scM0_0.slice (Rect.unit (s := S2x2x4096x256) ![s.val, 0, 2048, 0] S1x1x2048x256.size (inb_part2 s)) (fun _ => rfl)).squeeze S2048x256 squeezes_S1x1x2048x256_S2048x256
/-- What transfer 2 of tile `b` reads. -/
def src2 (b : Fin 64) : Memref sig .tc .hbm S2048x256 .f32 :=
  (hbM0_0.slice (Rect.unit (s := S2x16x4096x1024) ![0, (b.val / 4), 2048, 256 * (b.val % 4)] S1x1x2048x256.size (inb_src2 b)) (fun _ => rfl)).squeeze S2048x256 squeezes_S1x1x2048x256_S2048x256

theorem inb_part3 (s : Fin 2) : ∀ a, (![s.val, 1, 2048, 0] : Fin 4 → Nat) a + S1x1x2048x256.size a ≤ S2x2x4096x256.size a := by
  have := s.isLt; intro a; fin_cases a <;> simp <;> omega
theorem inb_src3 (b : Fin 64) : ∀ a, (![0, (b.val / 4), 2048, 256 * (b.val % 4)] : Fin 4 → Nat) a + S1x1x2048x256.size a ≤ S2x16x4096x1024.size a := by
  have := b.isLt; intro a; fin_cases a <;> simp <;> omega
/-- Part 3 of slot `s`: where transfer 3 of a tile lands. -/
def part3 (s : Fin 2) : Memref sig .tc .vmem S2048x256 .f32 :=
  (scM0_0.slice (Rect.unit (s := S2x2x4096x256) ![s.val, 1, 2048, 0] S1x1x2048x256.size (inb_part3 s)) (fun _ => rfl)).squeeze S2048x256 squeezes_S1x1x2048x256_S2048x256
/-- What transfer 3 of tile `b` reads. -/
def src3 (b : Fin 64) : Memref sig .tc .hbm S2048x256 .f32 :=
  (hbM0_1.slice (Rect.unit (s := S2x16x4096x1024) ![0, (b.val / 4), 2048, 256 * (b.val % 4)] S1x1x2048x256.size (inb_src3 b)) (fun _ => rfl)).squeeze S2048x256 squeezes_S1x1x2048x256_S2048x256

/-! ## What a slot holds once a tile has landed -/

/-- Where the weights hold the element that tile `b` brings to place `i` of a slot. -/
def tileIx (b : Fin 64) (i : S2x2x4096x256.Idx) : S2x16x4096x1024.Idx := fun a =>
  ⟨(![0, b.val / 4, (i 2).val, 256 * (b.val % 4) + (i 3).val] : Fin 4 → Nat) a, by
    have := b.isLt
    have h2 : (i 2).val < 4096 := (i 2).isLt
    have h3 : (i 3).val < 256 := (i 3).isLt
    fin_cases a <;> simp <;> omega⟩

section Ring
variable (c : Dev nD) (W0 : HbBuf0 (F := F) c hbM0_0) (W1 : HbBuf0 (F := F) c hbM0_1)

/-- The scratch with tile `b` in it (in every slot: only one slot's elements are ever held at it). -/
def tileBuf (b : Fin 64) : HbBuf0 (F := F) c scM0_0 := fun (i : S2x2x4096x256.Idx) => (if (i 1).val = 0 then W0 (tileIx b i) else W1 (tileIx b i))

/-- The share of the weights lent to transfer 0 of slot `s`. -/
abbrev qs0 (s : Fin 2) : PosShare TreeShare := if s.val = 0 then fullShare.left.left else fullShare.right.left
/-- Part 0 of slot `s` held at `f`. -/
abbrev partP0 (s : Fin 2) (f : HbBuf0 (F := F) c (part0 s)) : Res F := (part0 s).view.loc (c : Thread nD τ) ↦[(part0 s).view.set]{fullShare} f
/-- What transfer 0 of tile `b` reads, held at its share. -/
abbrev srcP0 (s : Fin 2) (b : Fin 64) : Res F := (src0 b).view.loc (c : Thread nD τ) ↦[(src0 b).view.set]{qs0 s} W0
/-- The rest of that copy of the weights. -/
def restP0 (s : Fin 2) (b : Fin 64) : Res F := ((c : Thread nD τ).loc main_arg1) ↦[Finset.univ \ (src0 b).view.set]{qs0 s} W0
/-- The copy whole. -/
abbrev wholeP0 (s : Fin 2) : Res F := ((c : Thread nD τ).loc main_arg1) ↦[Finset.univ]{qs0 s} W0
/-- Part 0 of slot `s` after its transfer of tile `b`. -/
abbrev landed0 (s : Fin 2) (b : Fin 64) : HbBuf0 (F := F) c (part0 s) :=
  (part0 s).view.writes (Elt F) (part0 s).view.junk [⟨Rect.whole S2048x256, ReadAs.same.apply ((src0 b).view.read (Elt F) W0)⟩]
theorem src0_split (s : Fin 2) (b : Fin 64) : wholeP0 (F := F) c W0 s ⊣⊢ iprop(srcP0 c W0 s b ∗ restP0 c W0 s b) := by
  unfold restP0; exact pointsTo_split_subset (Finset.subset_univ _)

/-- The share of the weights lent to transfer 1 of slot `s`. -/
abbrev qs1 (s : Fin 2) : PosShare TreeShare := if s.val = 0 then fullShare.left.left else fullShare.right.left
/-- Part 1 of slot `s` held at `f`. -/
abbrev partP1 (s : Fin 2) (f : HbBuf0 (F := F) c (part1 s)) : Res F := (part1 s).view.loc (c : Thread nD τ) ↦[(part1 s).view.set]{fullShare} f
/-- What transfer 1 of tile `b` reads, held at its share. -/
abbrev srcP1 (s : Fin 2) (b : Fin 64) : Res F := (src1 b).view.loc (c : Thread nD τ) ↦[(src1 b).view.set]{qs1 s} W1
/-- The rest of that copy of the weights. -/
def restP1 (s : Fin 2) (b : Fin 64) : Res F := ((c : Thread nD τ).loc main_arg2) ↦[Finset.univ \ (src1 b).view.set]{qs1 s} W1
/-- The copy whole. -/
abbrev wholeP1 (s : Fin 2) : Res F := ((c : Thread nD τ).loc main_arg2) ↦[Finset.univ]{qs1 s} W1
/-- Part 1 of slot `s` after its transfer of tile `b`. -/
abbrev landed1 (s : Fin 2) (b : Fin 64) : HbBuf0 (F := F) c (part1 s) :=
  (part1 s).view.writes (Elt F) (part1 s).view.junk [⟨Rect.whole S2048x256, ReadAs.same.apply ((src1 b).view.read (Elt F) W1)⟩]
theorem src1_split (s : Fin 2) (b : Fin 64) : wholeP1 (F := F) c W1 s ⊣⊢ iprop(srcP1 c W1 s b ∗ restP1 c W1 s b) := by
  unfold restP1; exact pointsTo_split_subset (Finset.subset_univ _)

/-- The share of the weights lent to transfer 2 of slot `s`. -/
abbrev qs2 (s : Fin 2) : PosShare TreeShare := if s.val = 0 then fullShare.left.right else fullShare.right.right
/-- Part 2 of slot `s` held at `f`. -/
abbrev partP2 (s : Fin 2) (f : HbBuf0 (F := F) c (part2 s)) : Res F := (part2 s).view.loc (c : Thread nD τ) ↦[(part2 s).view.set]{fullShare} f
/-- What transfer 2 of tile `b` reads, held at its share. -/
abbrev srcP2 (s : Fin 2) (b : Fin 64) : Res F := (src2 b).view.loc (c : Thread nD τ) ↦[(src2 b).view.set]{qs2 s} W0
/-- The rest of that copy of the weights. -/
def restP2 (s : Fin 2) (b : Fin 64) : Res F := ((c : Thread nD τ).loc main_arg1) ↦[Finset.univ \ (src2 b).view.set]{qs2 s} W0
/-- The copy whole. -/
abbrev wholeP2 (s : Fin 2) : Res F := ((c : Thread nD τ).loc main_arg1) ↦[Finset.univ]{qs2 s} W0
/-- Part 2 of slot `s` after its transfer of tile `b`. -/
abbrev landed2 (s : Fin 2) (b : Fin 64) : HbBuf0 (F := F) c (part2 s) :=
  (part2 s).view.writes (Elt F) (part2 s).view.junk [⟨Rect.whole S2048x256, ReadAs.same.apply ((src2 b).view.read (Elt F) W0)⟩]
theorem src2_split (s : Fin 2) (b : Fin 64) : wholeP2 (F := F) c W0 s ⊣⊢ iprop(srcP2 c W0 s b ∗ restP2 c W0 s b) := by
  unfold restP2; exact pointsTo_split_subset (Finset.subset_univ _)

/-- The share of the weights lent to transfer 3 of slot `s`. -/
abbrev qs3 (s : Fin 2) : PosShare TreeShare := if s.val = 0 then fullShare.left.right else fullShare.right.right
/-- Part 3 of slot `s` held at `f`. -/
abbrev partP3 (s : Fin 2) (f : HbBuf0 (F := F) c (part3 s)) : Res F := (part3 s).view.loc (c : Thread nD τ) ↦[(part3 s).view.set]{fullShare} f
/-- What transfer 3 of tile `b` reads, held at its share. -/
abbrev srcP3 (s : Fin 2) (b : Fin 64) : Res F := (src3 b).view.loc (c : Thread nD τ) ↦[(src3 b).view.set]{qs3 s} W1
/-- The rest of that copy of the weights. -/
def restP3 (s : Fin 2) (b : Fin 64) : Res F := ((c : Thread nD τ).loc main_arg2) ↦[Finset.univ \ (src3 b).view.set]{qs3 s} W1
/-- The copy whole. -/
abbrev wholeP3 (s : Fin 2) : Res F := ((c : Thread nD τ).loc main_arg2) ↦[Finset.univ]{qs3 s} W1
/-- Part 3 of slot `s` after its transfer of tile `b`. -/
abbrev landed3 (s : Fin 2) (b : Fin 64) : HbBuf0 (F := F) c (part3 s) :=
  (part3 s).view.writes (Elt F) (part3 s).view.junk [⟨Rect.whole S2048x256, ReadAs.same.apply ((src3 b).view.read (Elt F) W1)⟩]
theorem src3_split (s : Fin 2) (b : Fin 64) : wholeP3 (F := F) c W1 s ⊣⊢ iprop(srcP3 c W1 s b ∗ restP3 c W1 s b) := by
  unfold restP3; exact pointsTo_split_subset (Finset.subset_univ _)

/-- What the transfers of tile `b` into slot `s` deliver, one by one: the part landed, and what was read back. -/
abbrev deliver (s : Fin 2) (b : Fin 64) : Fin 4 → Res F :=
  ![iprop(partP0 c s (landed0 c W0 s b) ∗ srcP0 c W0 s b), iprop(partP1 c s (landed1 c W1 s b) ∗ srcP1 c W1 s b), iprop(partP2 c s (landed2 c W0 s b) ∗ srcP2 c W0 s b), iprop(partP3 c s (landed3 c W1 s b) ∗ srcP3 c W1 s b)]
/-- One transfer's amount. -/
abbrev NN : ℕ := (part0 0).view.amount (cellR 0)
/-- The batch of a tile's transfers on the slot's cell, `k` of them started. -/
abbrev batchP (s : Fin 2) (b : Fin 64) (k : ℕ) : Res F :=
  Transfers.Batch countersEmb (c : Thread nD τ) (cellR s) default NN (deliver c W0 W1 s b) k 0
/-- A write of a whole view, at one of its places. -/
theorem wholeWrite_emb {κ : Kind} {sp : Space} {S : Shape} {e : EltTy} (v : View sig κ sp S e) (f : v.ty.Contents (Elt F)) (w : S.Idx → Elt F e) (x : S.Idx) :
    v.writes (Elt F) f [⟨Rect.whole S, w⟩] (v.emb x) = _root_.cast (congrArg (Elt F) v.elt_eq.symm) (w x) := by
  have h := View.write_univ_eq_writes_whole v f [] w
  rw [View.writes_nil] at h
  exact (congrFun h.symm (v.emb x)).trans (View.write_emb_of_mem f w (Finset.mem_univ x))
theorem storablePt (ℓ : Loc nD τ sig) (I : Finset (Idx ℓ)) (q : PosShare TreeShare) (f : Buf (Elt F) ℓ) :
    Storable (upEmb : UEmb _ (MT nD τ sig Unit (Elt F) ℕ (Pipeline.UD sig nD τ) ℕ)) (ℓ ↦[I]{q} f) := inferInstance
theorem storableDeliver (s : Fin 2) (b : Fin 64) : ∀ w, Storable (upEmb : UEmb _ (MT nD τ sig Unit (Elt F) ℕ (Pipeline.UD sig nD τ) ℕ)) (deliver (F := F) c W0 W1 s b w) := by
  intro w; fin_cases w <;> exact @Storable.sep _ _ _ _ _ _ _ _ (storablePt _ _ _ _) (storablePt _ _ _ _)
abbrev cellP (s : Fin 2) : Res F := semVal ((c : Thread nD τ), cellR s) 0
theorem cellP_0 : cellP (F := F) c 0 = semVal ((c : Thread nD τ), SemLoc.dma 4) 0 := congrArg (fun x => (semVal ((c : Thread nD τ), x) 0 : Res F)) cellR_0
theorem cellP_1 : cellP (F := F) c 1 = semVal ((c : Thread nD τ), SemLoc.dma 5) 0 := congrArg (fun x => (semVal ((c : Thread nD τ), x) 0 : Res F)) cellR_1
/-- Slot `s` held whole at `f`. -/
abbrev slotP (s : Fin 2) (f : HbBuf0 (F := F) c (slotM s)) : Res F := (slotM s).view.loc (c : Thread nD τ) ↦[(slotM s).view.set]{fullShare} f

/-- Slot `s` free: its cell at zero, the slot at anything, its copies of the weights whole. -/
def freeP (s : Fin 2) : Res F := iprop(cellP (F := F) c s ∗ (∃ f, slotP (F := F) c s f) ∗ wholeP0 c W0 s ∗ wholeP1 c W1 s ∗ wholeP2 c W0 s ∗ wholeP3 c W1 s)
/-- Slot `s` holding tile `b`. -/
def keptP (s : Fin 2) (b : Fin 64) : Res F := iprop(cellP (F := F) c s ∗ slotP c s (tileBuf c W0 W1 b) ∗ wholeP0 c W0 s ∗ wholeP1 c W1 s ∗ wholeP2 c W0 s ∗ wholeP3 c W1 s)
/-- The first part of tile `b` under way into slot `s`, the second part's place and source still held. -/
def halfP (s : Fin 2) (b : Fin 64) : Res F := iprop(batchP c W0 W1 s b 2 ∗ (∃ f, partP2 (F := F) c s f) ∗ wholeP2 c W0 s ∗ (∃ f, partP3 (F := F) c s f) ∗ wholeP3 c W1 s ∗ restP0 c W0 s b ∗ restP1 c W1 s b)
/-- All of tile `b` under way into slot `s`. -/
def fullP (s : Fin 2) (b : Fin 64) : Res F := iprop(batchP c W0 W1 s b 4 ∗ restP0 c W0 s b ∗ restP1 c W1 s b ∗ restP2 c W0 s b ∗ restP3 c W1 s b)

/-! ## A slot is its parts -/

theorem slotM_set (s : Fin 2) : (slotM s).view.set = (Rect.unit (s := S2x2x4096x256) ![s.val, 0, 0, 0] S1x2x4096x256.size (inb_slot s)).set :=
  View.set_slice_whole _ _
theorem part0_set (s : Fin 2) : (part0 s).view.set = (Rect.unit (s := S2x2x4096x256) ![s.val, 0, 0, 0] S1x1x2048x256.size (inb_part0 s)).set := by
  simp only [part0, Memref.view_squeeze, View.set_reshape]; exact View.set_slice_whole _ _
theorem part1_set (s : Fin 2) : (part1 s).view.set = (Rect.unit (s := S2x2x4096x256) ![s.val, 1, 0, 0] S1x1x2048x256.size (inb_part1 s)).set := by
  simp only [part1, Memref.view_squeeze, View.set_reshape]; exact View.set_slice_whole _ _
theorem part2_set (s : Fin 2) : (part2 s).view.set = (Rect.unit (s := S2x2x4096x256) ![s.val, 0, 2048, 0] S1x1x2048x256.size (inb_part2 s)).set := by
  simp only [part2, Memref.view_squeeze, View.set_reshape]; exact View.set_slice_whole _ _
theorem part3_set (s : Fin 2) : (part3 s).view.set = (Rect.unit (s := S2x2x4096x256) ![s.val, 1, 2048, 0] S1x1x2048x256.size (inb_part3 s)).set := by
  simp only [part3, Memref.view_squeeze, View.set_reshape]; exact View.set_slice_whole _ _
theorem slot_union (s : Fin 2) : (Rect.unit (s := S2x2x4096x256) ![s.val, 0, 0, 0] S1x2x4096x256.size (inb_slot s)).set = (Rect.unit (s := S2x2x4096x256) ![s.val, 0, 0, 0] S1x1x2048x256.size (inb_part0 s)).set ∪ ((Rect.unit (s := S2x2x4096x256) ![s.val, 1, 0, 0] S1x1x2048x256.size (inb_part1 s)).set ∪ ((Rect.unit (s := S2x2x4096x256) ![s.val, 0, 2048, 0] S1x1x2048x256.size (inb_part2 s)).set ∪ (Rect.unit (s := S2x2x4096x256) ![s.val, 1, 2048, 0] S1x1x2048x256.size (inb_part3 s)).set)) := by
  ext i
  have h0 : (i 0).val < 2 := (i 0).isLt
  have h1 : (i 1).val < 2 := (i 1).isLt
  have h2 : (i 2).val < 4096 := (i 2).isLt
  have h3 : (i 3).val < 256 := (i 3).isLt
  simp only [Finset.mem_union, Rect.mem_set_unit, Fin.forall_fin_succ, Fin.forall_fin_zero_pi, IsEmpty.forall_iff, _root_.and_true]
  simp [Fin.succ, Shape.size]
  omega
theorem parts_disjoint0 (s : Fin 2) : Disjoint (Rect.unit (s := S2x2x4096x256) ![s.val, 0, 0, 0] S1x1x2048x256.size (inb_part0 s)).set ((Rect.unit (s := S2x2x4096x256) ![s.val, 1, 0, 0] S1x1x2048x256.size (inb_part1 s)).set ∪ ((Rect.unit (s := S2x2x4096x256) ![s.val, 0, 2048, 0] S1x1x2048x256.size (inb_part2 s)).set ∪ (Rect.unit (s := S2x2x4096x256) ![s.val, 1, 2048, 0] S1x1x2048x256.size (inb_part3 s)).set)) := by
  rw [Finset.disjoint_left]
  intro i hi hi'
  simp only [Finset.mem_union, Rect.mem_set_unit, Fin.forall_fin_succ, IsEmpty.forall_iff, _root_.and_true] at hi hi'
  simp [Fin.succ, Shape.size] at hi hi'
  omega
theorem parts_disjoint1 (s : Fin 2) : Disjoint (Rect.unit (s := S2x2x4096x256) ![s.val, 1, 0, 0] S1x1x2048x256.size (inb_part1 s)).set ((Rect.unit (s := S2x2x4096x256) ![s.val, 0, 2048, 0] S1x1x2048x256.size (inb_part2 s)).set ∪ (Rect.unit (s := S2x2x4096x256) ![s.val, 1, 2048, 0] S1x1x2048x256.size (inb_part3 s)).set) := by
  rw [Finset.disjoint_left]
  intro i hi hi'
  simp only [Finset.mem_union, Rect.mem_set_unit, Fin.forall_fin_succ, IsEmpty.forall_iff, _root_.and_true] at hi hi'
  simp [Fin.succ, Shape.size] at hi hi'
  omega
theorem parts_disjoint2 (s : Fin 2) : Disjoint (Rect.unit (s := S2x2x4096x256) ![s.val, 0, 2048, 0] S1x1x2048x256.size (inb_part2 s)).set ((Rect.unit (s := S2x2x4096x256) ![s.val, 1, 2048, 0] S1x1x2048x256.size (inb_part3 s)).set) := by
  rw [Finset.disjoint_left]
  intro i hi hi'
  simp only [Finset.mem_union, Rect.mem_set_unit, Fin.forall_fin_succ, IsEmpty.forall_iff, _root_.and_true] at hi hi'
  simp [Fin.succ, Shape.size] at hi hi'
  omega
theorem partP0_eq (s : Fin 2) (f : HbBuf0 (F := F) c scM0_0) : partP0 (F := F) c s f = (((c : Thread nD τ).loc cc0_scratch0) ↦[(Rect.unit (s := S2x2x4096x256) ![s.val, 0, 0, 0] S1x1x2048x256.size (inb_part0 s)).set]{fullShare} f : Res F) := by
  unfold partP0; rw [part0_set]; rfl
theorem partP1_eq (s : Fin 2) (f : HbBuf0 (F := F) c scM0_0) : partP1 (F := F) c s f = (((c : Thread nD τ).loc cc0_scratch0) ↦[(Rect.unit (s := S2x2x4096x256) ![s.val, 1, 0, 0] S1x1x2048x256.size (inb_part1 s)).set]{fullShare} f : Res F) := by
  unfold partP1; rw [part1_set]; rfl
theorem partP2_eq (s : Fin 2) (f : HbBuf0 (F := F) c scM0_0) : partP2 (F := F) c s f = (((c : Thread nD τ).loc cc0_scratch0) ↦[(Rect.unit (s := S2x2x4096x256) ![s.val, 0, 2048, 0] S1x1x2048x256.size (inb_part2 s)).set]{fullShare} f : Res F) := by
  unfold partP2; rw [part2_set]; rfl
theorem partP3_eq (s : Fin 2) (f : HbBuf0 (F := F) c scM0_0) : partP3 (F := F) c s f = (((c : Thread nD τ).loc cc0_scratch0) ↦[(Rect.unit (s := S2x2x4096x256) ![s.val, 1, 2048, 0] S1x1x2048x256.size (inb_part3 s)).set]{fullShare} f : Res F) := by
  unfold partP3; rw [part3_set]; rfl
theorem slotP_eq (s : Fin 2) (f : HbBuf0 (F := F) c scM0_0) : slotP (F := F) c s f = (((c : Thread nD τ).loc cc0_scratch0) ↦[(Rect.unit (s := S2x2x4096x256) ![s.val, 0, 0, 0] S1x2x4096x256.size (inb_slot s)).set]{fullShare} f : Res F) := by
  unfold slotP; rw [slotM_set]; rfl
/-- A slot held whole is its parts held. -/
theorem slot_parts (s : Fin 2) (f : HbBuf0 (F := F) c scM0_0) : slotP (F := F) c s f ⊣⊢ iprop(partP0 (F := F) c s f ∗ partP1 (F := F) c s f ∗ partP2 (F := F) c s f ∗ partP3 (F := F) c s f) := by
  rw [slotP_eq, slot_union, partP0_eq, partP1_eq, partP2_eq, partP3_eq]
  refine (pointsTo_union (parts_disjoint0 s)).trans (sep_congr_right ?_)
  refine (pointsTo_union (parts_disjoint1 s)).trans (sep_congr_right ?_)
  exact pointsTo_union (parts_disjoint2 s)

theorem part0_emb (s : Fin 2) (x : S2048x256.Idx) : (part0 s).view.emb x = (Rect.unit (s := S2x2x4096x256) ![s.val, 0, 0, 0] S1x1x2048x256.size (inb_part0 s)).emb (Shape.reshapeEquiv squeezes_S1x1x2048x256_S2048x256.numel_eq x) := rfl
theorem src0_emb (b : Fin 64) (x : S2048x256.Idx) : (src0 b).view.emb x = (Rect.unit (s := S2x16x4096x1024) ![0, (b.val / 4), 0, 256 * (b.val % 4)] S1x1x2048x256.size (inb_src0 b)).emb (Shape.reshapeEquiv squeezes_S1x1x2048x256_S2048x256.numel_eq x) := rfl
theorem boxes0 (s : Fin 2) (b : Fin 64) (y : S1x1x2048x256.Idx) : (Rect.unit (s := S2x16x4096x1024) ![0, (b.val / 4), 0, 256 * (b.val % 4)] S1x1x2048x256.size (inb_src0 b)).emb y = tileIx b ((Rect.unit (s := S2x2x4096x256) ![s.val, 0, 0, 0] S1x1x2048x256.size (inb_part0 s)).emb y) := by
  have y0 : (y 0).val < 1 := (y 0).isLt
  have y1 : (y 1).val < 1 := (y 1).isLt
  funext a
  apply Fin.ext
  rw [Rect.emb_apply]
  fin_cases a <;> simp [tileIx, Rect.emb_apply] <;> omega

theorem boxes0_at (s : Fin 2) (y : S1x1x2048x256.Idx) : (((Rect.unit (s := S2x2x4096x256) ![s.val, 0, 0, 0] S1x1x2048x256.size (inb_part0 s)).emb y) 1).val = 0 := by
  have y1 : (y 1).val < 1 := (y 1).isLt
  rw [Rect.emb_apply]; simp; omega

/-- Part 0 landed holds the tile's elements. -/
theorem landed0_eq (s : Fin 2) (b : Fin 64) : partP0 (F := F) c s (landed0 c W0 s b) = partP0 c s (tileBuf c W0 W1 b) := by
  refine pointsTo_congr fun i hi => ?_
  obtain ⟨x, -, rfl⟩ := Finset.mem_map.mp hi
  refine (wholeWrite_emb (part0 s).view _ _ x).trans ?_
  show W0 ((src0 b).view.emb x) = tileBuf c W0 W1 b ((part0 s).view.emb x)
  rw [src0_emb, part0_emb]
  unfold tileBuf
  rw [if_pos (boxes0_at s _)]
  exact congrArg W0 (boxes0 s b _)

theorem part1_emb (s : Fin 2) (x : S2048x256.Idx) : (part1 s).view.emb x = (Rect.unit (s := S2x2x4096x256) ![s.val, 1, 0, 0] S1x1x2048x256.size (inb_part1 s)).emb (Shape.reshapeEquiv squeezes_S1x1x2048x256_S2048x256.numel_eq x) := rfl
theorem src1_emb (b : Fin 64) (x : S2048x256.Idx) : (src1 b).view.emb x = (Rect.unit (s := S2x16x4096x1024) ![0, (b.val / 4), 0, 256 * (b.val % 4)] S1x1x2048x256.size (inb_src1 b)).emb (Shape.reshapeEquiv squeezes_S1x1x2048x256_S2048x256.numel_eq x) := rfl
theorem boxes1 (s : Fin 2) (b : Fin 64) (y : S1x1x2048x256.Idx) : (Rect.unit (s := S2x16x4096x1024) ![0, (b.val / 4), 0, 256 * (b.val % 4)] S1x1x2048x256.size (inb_src1 b)).emb y = tileIx b ((Rect.unit (s := S2x2x4096x256) ![s.val, 1, 0, 0] S1x1x2048x256.size (inb_part1 s)).emb y) := by
  have y0 : (y 0).val < 1 := (y 0).isLt
  have y1 : (y 1).val < 1 := (y 1).isLt
  funext a
  apply Fin.ext
  rw [Rect.emb_apply]
  fin_cases a <;> simp [tileIx, Rect.emb_apply] <;> omega

theorem boxes1_at (s : Fin 2) (y : S1x1x2048x256.Idx) : (((Rect.unit (s := S2x2x4096x256) ![s.val, 1, 0, 0] S1x1x2048x256.size (inb_part1 s)).emb y) 1).val = 1 := by
  have y1 : (y 1).val < 1 := (y 1).isLt
  rw [Rect.emb_apply]; simp; omega

/-- Part 1 landed holds the tile's elements. -/
theorem landed1_eq (s : Fin 2) (b : Fin 64) : partP1 (F := F) c s (landed1 c W1 s b) = partP1 c s (tileBuf c W0 W1 b) := by
  refine pointsTo_congr fun i hi => ?_
  obtain ⟨x, -, rfl⟩ := Finset.mem_map.mp hi
  refine (wholeWrite_emb (part1 s).view _ _ x).trans ?_
  show W1 ((src1 b).view.emb x) = tileBuf c W0 W1 b ((part1 s).view.emb x)
  rw [src1_emb, part1_emb]
  unfold tileBuf
  rw [if_neg (by rw [boxes1_at]; decide)]
  exact congrArg W1 (boxes1 s b _)

theorem part2_emb (s : Fin 2) (x : S2048x256.Idx) : (part2 s).view.emb x = (Rect.unit (s := S2x2x4096x256) ![s.val, 0, 2048, 0] S1x1x2048x256.size (inb_part2 s)).emb (Shape.reshapeEquiv squeezes_S1x1x2048x256_S2048x256.numel_eq x) := rfl
theorem src2_emb (b : Fin 64) (x : S2048x256.Idx) : (src2 b).view.emb x = (Rect.unit (s := S2x16x4096x1024) ![0, (b.val / 4), 2048, 256 * (b.val % 4)] S1x1x2048x256.size (inb_src2 b)).emb (Shape.reshapeEquiv squeezes_S1x1x2048x256_S2048x256.numel_eq x) := rfl
theorem boxes2 (s : Fin 2) (b : Fin 64) (y : S1x1x2048x256.Idx) : (Rect.unit (s := S2x16x4096x1024) ![0, (b.val / 4), 2048, 256 * (b.val % 4)] S1x1x2048x256.size (inb_src2 b)).emb y = tileIx b ((Rect.unit (s := S2x2x4096x256) ![s.val, 0, 2048, 0] S1x1x2048x256.size (inb_part2 s)).emb y) := by
  have y0 : (y 0).val < 1 := (y 0).isLt
  have y1 : (y 1).val < 1 := (y 1).isLt
  funext a
  apply Fin.ext
  rw [Rect.emb_apply]
  fin_cases a <;> simp [tileIx, Rect.emb_apply] <;> omega

theorem boxes2_at (s : Fin 2) (y : S1x1x2048x256.Idx) : (((Rect.unit (s := S2x2x4096x256) ![s.val, 0, 2048, 0] S1x1x2048x256.size (inb_part2 s)).emb y) 1).val = 0 := by
  have y1 : (y 1).val < 1 := (y 1).isLt
  rw [Rect.emb_apply]; simp; omega

/-- Part 2 landed holds the tile's elements. -/
theorem landed2_eq (s : Fin 2) (b : Fin 64) : partP2 (F := F) c s (landed2 c W0 s b) = partP2 c s (tileBuf c W0 W1 b) := by
  refine pointsTo_congr fun i hi => ?_
  obtain ⟨x, -, rfl⟩ := Finset.mem_map.mp hi
  refine (wholeWrite_emb (part2 s).view _ _ x).trans ?_
  show W0 ((src2 b).view.emb x) = tileBuf c W0 W1 b ((part2 s).view.emb x)
  rw [src2_emb, part2_emb]
  unfold tileBuf
  rw [if_pos (boxes2_at s _)]
  exact congrArg W0 (boxes2 s b _)

theorem part3_emb (s : Fin 2) (x : S2048x256.Idx) : (part3 s).view.emb x = (Rect.unit (s := S2x2x4096x256) ![s.val, 1, 2048, 0] S1x1x2048x256.size (inb_part3 s)).emb (Shape.reshapeEquiv squeezes_S1x1x2048x256_S2048x256.numel_eq x) := rfl
theorem src3_emb (b : Fin 64) (x : S2048x256.Idx) : (src3 b).view.emb x = (Rect.unit (s := S2x16x4096x1024) ![0, (b.val / 4), 2048, 256 * (b.val % 4)] S1x1x2048x256.size (inb_src3 b)).emb (Shape.reshapeEquiv squeezes_S1x1x2048x256_S2048x256.numel_eq x) := rfl
theorem boxes3 (s : Fin 2) (b : Fin 64) (y : S1x1x2048x256.Idx) : (Rect.unit (s := S2x16x4096x1024) ![0, (b.val / 4), 2048, 256 * (b.val % 4)] S1x1x2048x256.size (inb_src3 b)).emb y = tileIx b ((Rect.unit (s := S2x2x4096x256) ![s.val, 1, 2048, 0] S1x1x2048x256.size (inb_part3 s)).emb y) := by
  have y0 : (y 0).val < 1 := (y 0).isLt
  have y1 : (y 1).val < 1 := (y 1).isLt
  funext a
  apply Fin.ext
  rw [Rect.emb_apply]
  fin_cases a <;> simp [tileIx, Rect.emb_apply] <;> omega

theorem boxes3_at (s : Fin 2) (y : S1x1x2048x256.Idx) : (((Rect.unit (s := S2x2x4096x256) ![s.val, 1, 2048, 0] S1x1x2048x256.size (inb_part3 s)).emb y) 1).val = 1 := by
  have y1 : (y 1).val < 1 := (y 1).isLt
  rw [Rect.emb_apply]; simp; omega

/-- Part 3 landed holds the tile's elements. -/
theorem landed3_eq (s : Fin 2) (b : Fin 64) : partP3 (F := F) c s (landed3 c W1 s b) = partP3 c s (tileBuf c W0 W1 b) := by
  refine pointsTo_congr fun i hi => ?_
  obtain ⟨x, -, rfl⟩ := Finset.mem_map.mp hi
  refine (wholeWrite_emb (part3 s).view _ _ x).trans ?_
  show W1 ((src3 b).view.emb x) = tileBuf c W0 W1 b ((part3 s).view.emb x)
  rw [src3_emb, part3_emb]
  unfold tileBuf
  rw [if_neg (by rw [boxes3_at]; decide)]
  exact congrArg W1 (boxes3 s b _)

end Ring

end Cert.Kernel4Ideal.Own

end
-- ==== Proof.UpIdealCanon.lean ====
/- The body's operands at a grid point, named by the slots, cells and sources of the call's weight streaming. -/
module

public import proofs.«01_k».proof.Proof.UpIdealRing

@[expose] public section

set_option maxRecDepth 16384

noncomputable section

namespace Cert.Kernel4Ideal.Own

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## When each branch of the body runs -/

/-- The first point starts the first tile. -/
abbrev cond0_0 (i : grid0.Coords) : Prop := k0_cond1 i = 1#1
theorem hcond0_0 : ∀ t : Fin cfg0.N, cond0_0 (grid0.coords t) ↔ t.val = 0 :=
  (by decide +kernel : ∀ t : Fin grid0.N, cond0_0 (grid0.coords t) ↔ t.val = 0)
/-- A point with a tile after its own starts half of that tile. -/
abbrev cond0_1 (i : grid0.Coords) : Prop := k0_cond2 i = 1#1
theorem hcond0_1 : ∀ t : Fin cfg0.N, cond0_1 (grid0.coords t) ↔ t.val / 2 + 1 < 64 :=
  (by decide +kernel : ∀ t : Fin grid0.N, cond0_1 (grid0.coords t) ↔ t.val / 2 + 1 < 64)
/-- A tile's first point waits for it. -/
abbrev cond0_2 (i : grid0.Coords) : Prop := k0_cond3 i = 1#1
theorem hcond0_2 : ∀ t : Fin cfg0.N, cond0_2 (grid0.coords t) ↔ t.val % 2 = 0 :=
  (by decide +kernel : ∀ t : Fin grid0.N, cond0_2 (grid0.coords t) ↔ t.val % 2 = 0)

/-! ## The body's operands are the slots, cells and sources above -/

section Canon
omit [FloatOps F]

set_option synthInstance.maxSize 4096 in
theorem coff1 : ∀ t : Fin grid0.N, cond0_0 (grid0.coords t) → (![0, 0, 0, 0] : Fin 4 → Nat) = ![(Ring.sl 2 (t.val / 2)).val, 0, 0, 0] := by decide +kernel
@[sl_canon] theorem canon1 (t : Fin grid0.N) (h0 : cond0_0 (grid0.coords t)) :
    (scM0_0.slice (Rect.unit (s := S2x2x4096x256) (![0, 0, 0, 0]) S1x1x2048x256.size inb_S2x2x4096x256_S1x1x2048x256_0_0_0_0) (fun _ => rfl)).squeeze S2048x256 squeezes_S1x1x2048x256_S2048x256 = part0 (Ring.sl 2 (t.val / 2)) :=
  congrArg (fun M : Memref sig .tc .vmem S1x1x2048x256 .f32 => M.squeeze S2048x256 squeezes_S1x1x2048x256_S2048x256) (Memref.slice_unit_congr _ (coff1 t h0) _ _ (fun _ => rfl) (fun _ => rfl))
set_option synthInstance.maxSize 4096 in
theorem coff2 : ∀ t : Fin grid0.N, cond0_0 (grid0.coords t) → (![0, 0, 0, 0] : Fin 4 → Nat) = ![0, ((Ring.bk 64 (t.val / 2)).val / 4), 0, 256 * ((Ring.bk 64 (t.val / 2)).val % 4)] := by decide +kernel
@[sl_canon] theorem canon2 (t : Fin grid0.N) (h0 : cond0_0 (grid0.coords t)) :
    (hbM0_0.slice (Rect.unit (s := S2x16x4096x1024) (![0, 0, 0, 0]) S1x1x2048x256.size inb_S2x16x4096x1024_S1x1x2048x256_0_0_0_0) (fun _ => rfl)).squeeze S2048x256 squeezes_S1x1x2048x256_S2048x256 = src0 (Ring.bk 64 (t.val / 2)) :=
  congrArg (fun M : Memref sig .tc .hbm S1x1x2048x256 .f32 => M.squeeze S2048x256 squeezes_S1x1x2048x256_S2048x256) (Memref.slice_unit_congr _ (coff2 t h0) _ _ (fun _ => rfl) (fun _ => rfl))
set_option synthInstance.maxSize 4096 in
theorem coff3 : ∀ t : Fin grid0.N, cond0_0 (grid0.coords t) → (![0, 1, 0, 0] : Fin 4 → Nat) = ![(Ring.sl 2 (t.val / 2)).val, 1, 0, 0] := by decide +kernel
@[sl_canon] theorem canon3 (t : Fin grid0.N) (h0 : cond0_0 (grid0.coords t)) :
    (scM0_0.slice (Rect.unit (s := S2x2x4096x256) (![0, 1, 0, 0]) S1x1x2048x256.size inb_S2x2x4096x256_S1x1x2048x256_0_1_0_0) (fun _ => rfl)).squeeze S2048x256 squeezes_S1x1x2048x256_S2048x256 = part1 (Ring.sl 2 (t.val / 2)) :=
  congrArg (fun M : Memref sig .tc .vmem S1x1x2048x256 .f32 => M.squeeze S2048x256 squeezes_S1x1x2048x256_S2048x256) (Memref.slice_unit_congr _ (coff3 t h0) _ _ (fun _ => rfl) (fun _ => rfl))
set_option synthInstance.maxSize 4096 in
theorem coff4 : ∀ t : Fin grid0.N, cond0_0 (grid0.coords t) → (![0, 0, 0, 0] : Fin 4 → Nat) = ![0, ((Ring.bk 64 (t.val / 2)).val / 4), 0, 256 * ((Ring.bk 64 (t.val / 2)).val % 4)] := by decide +kernel
@[sl_canon] theorem canon4 (t : Fin grid0.N) (h0 : cond0_0 (grid0.coords t)) :
    (hbM0_1.slice (Rect.unit (s := S2x16x4096x1024) (![0, 0, 0, 0]) S1x1x2048x256.size inb_S2x16x4096x1024_S1x1x2048x256_0_0_0_0) (fun _ => rfl)).squeeze S2048x256 squeezes_S1x1x2048x256_S2048x256 = src1 (Ring.bk 64 (t.val / 2)) :=
  congrArg (fun M : Memref sig .tc .hbm S1x1x2048x256 .f32 => M.squeeze S2048x256 squeezes_S1x1x2048x256_S2048x256) (Memref.slice_unit_congr _ (coff4 t h0) _ _ (fun _ => rfl) (fun _ => rfl))
set_option synthInstance.maxSize 4096 in
theorem coff5 : ∀ t : Fin grid0.N, cond0_0 (grid0.coords t) → (![0, 0, 2048, 0] : Fin 4 → Nat) = ![(Ring.sl 2 (t.val / 2)).val, 0, 2048, 0] := by decide +kernel
@[sl_canon] theorem canon5 (t : Fin grid0.N) (h0 : cond0_0 (grid0.coords t)) :
    (scM0_0.slice (Rect.unit (s := S2x2x4096x256) (![0, 0, 2048, 0]) S1x1x2048x256.size inb_S2x2x4096x256_S1x1x2048x256_0_0_2048_0) (fun _ => rfl)).squeeze S2048x256 squeezes_S1x1x2048x256_S2048x256 = part2 (Ring.sl 2 (t.val / 2)) :=
  congrArg (fun M : Memref sig .tc .vmem S1x1x2048x256 .f32 => M.squeeze S2048x256 squeezes_S1x1x2048x256_S2048x256) (Memref.slice_unit_congr _ (coff5 t h0) _ _ (fun _ => rfl) (fun _ => rfl))
set_option synthInstance.maxSize 4096 in
theorem coff6 : ∀ t : Fin grid0.N, cond0_0 (grid0.coords t) → (![0, 0, 2048, 0] : Fin 4 → Nat) = ![0, ((Ring.bk 64 (t.val / 2)).val / 4), 2048, 256 * ((Ring.bk 64 (t.val / 2)).val % 4)] := by decide +kernel
@[sl_canon] theorem canon6 (t : Fin grid0.N) (h0 : cond0_0 (grid0.coords t)) :
    (hbM0_0.slice (Rect.unit (s := S2x16x4096x1024) (![0, 0, 2048, 0]) S1x1x2048x256.size inb_S2x16x4096x1024_S1x1x2048x256_0_0_2048_0) (fun _ => rfl)).squeeze S2048x256 squeezes_S1x1x2048x256_S2048x256 = src2 (Ring.bk 64 (t.val / 2)) :=
  congrArg (fun M : Memref sig .tc .hbm S1x1x2048x256 .f32 => M.squeeze S2048x256 squeezes_S1x1x2048x256_S2048x256) (Memref.slice_unit_congr _ (coff6 t h0) _ _ (fun _ => rfl) (fun _ => rfl))
set_option synthInstance.maxSize 4096 in
theorem coff7 : ∀ t : Fin grid0.N, cond0_0 (grid0.coords t) → (![0, 1, 2048, 0] : Fin 4 → Nat) = ![(Ring.sl 2 (t.val / 2)).val, 1, 2048, 0] := by decide +kernel
@[sl_canon] theorem canon7 (t : Fin grid0.N) (h0 : cond0_0 (grid0.coords t)) :
    (scM0_0.slice (Rect.unit (s := S2x2x4096x256) (![0, 1, 2048, 0]) S1x1x2048x256.size inb_S2x2x4096x256_S1x1x2048x256_0_1_2048_0) (fun _ => rfl)).squeeze S2048x256 squeezes_S1x1x2048x256_S2048x256 = part3 (Ring.sl 2 (t.val / 2)) :=
  congrArg (fun M : Memref sig .tc .vmem S1x1x2048x256 .f32 => M.squeeze S2048x256 squeezes_S1x1x2048x256_S2048x256) (Memref.slice_unit_congr _ (coff7 t h0) _ _ (fun _ => rfl) (fun _ => rfl))
set_option synthInstance.maxSize 4096 in
theorem coff8 : ∀ t : Fin grid0.N, cond0_0 (grid0.coords t) → (![0, 0, 2048, 0] : Fin 4 → Nat) = ![0, ((Ring.bk 64 (t.val / 2)).val / 4), 2048, 256 * ((Ring.bk 64 (t.val / 2)).val % 4)] := by decide +kernel
@[sl_canon] theorem canon8 (t : Fin grid0.N) (h0 : cond0_0 (grid0.coords t)) :
    (hbM0_1.slice (Rect.unit (s := S2x16x4096x1024) (![0, 0, 2048, 0]) S1x1x2048x256.size inb_S2x16x4096x1024_S1x1x2048x256_0_0_2048_0) (fun _ => rfl)).squeeze S2048x256 squeezes_S1x1x2048x256_S2048x256 = src3 (Ring.bk 64 (t.val / 2)) :=
  congrArg (fun M : Memref sig .tc .hbm S1x1x2048x256 .f32 => M.squeeze S2048x256 squeezes_S1x1x2048x256_S2048x256) (Memref.slice_unit_congr _ (coff8 t h0) _ _ (fun _ => rfl) (fun _ => rfl))
set_option synthInstance.maxSize 4096 in
theorem coff9 : ∀ t : Fin grid0.N, cond0_0 (grid0.coords t) → (![0] : Fin 1 → Nat) = ![(Ring.sl 2 (t.val / 2)).val] := by decide +kernel
@[sl_canon] theorem canon9 (t : Fin grid0.N) (h0 : cond0_0 (grid0.coords t)) :
    (cc0_scratch1.slice (Rect.unit (s := S2) (![0]) S1.size inb_S2_S1_0)).squeeze S_ squeezes_S1_S_ = cellA (Ring.sl 2 (t.val / 2)) :=
  congrArg (fun A : DmaSems sig S1 => A.squeeze S_ squeezes_S1_S_) (SemArray.slice_unit_congr _ (coff9 t h0) _ _)
set_option synthInstance.maxSize 4096 in
theorem coff10 : ∀ t : Fin grid0.N, cond0_1 (grid0.coords t) → (k0_off1 (grid0.coords t) : Fin 1 → Nat) = ![(Ring.sl 2 ((t.val / 2) + 1)).val] := by decide +kernel
@[sl_canon] theorem canon10 (t : Fin grid0.N) (h0 : cond0_1 (grid0.coords t)) :
    (cc0_scratch1.slice (Rect.unit (s := S2) (k0_off1 (grid0.coords t)) S1.size (k0_off1_inb (grid0.coords t) h0))).squeeze S_ squeezes_S1_S_ = cellA (Ring.sl 2 ((t.val / 2) + 1)) :=
  congrArg (fun A : DmaSems sig S1 => A.squeeze S_ squeezes_S1_S_) (SemArray.slice_unit_congr _ (coff10 t h0) _ _)
set_option synthInstance.maxSize 4096 in
theorem coff11 : ∀ t : Fin grid0.N, cond0_1 (grid0.coords t) → cond0_2 (grid0.coords t) → (k0_off2 (grid0.coords t) : Fin 4 → Nat) = ![(Ring.sl 2 ((t.val / 2) + 1)).val, 0, 0, 0] := by decide +kernel
@[sl_canon] theorem canon11 (t : Fin grid0.N) (h0 : cond0_1 (grid0.coords t)) (h1 : cond0_2 (grid0.coords t)) :
    (scM0_0.slice (Rect.unit (s := S2x2x4096x256) (k0_off2 (grid0.coords t)) S1x1x2048x256.size (k0_off2_inb (grid0.coords t) h0)) (fun _ => rfl)).squeeze S2048x256 squeezes_S1x1x2048x256_S2048x256 = part0 (Ring.sl 2 ((t.val / 2) + 1)) :=
  congrArg (fun M : Memref sig .tc .vmem S1x1x2048x256 .f32 => M.squeeze S2048x256 squeezes_S1x1x2048x256_S2048x256) (Memref.slice_unit_congr _ (coff11 t h0 h1) _ _ (fun _ => rfl) (fun _ => rfl))
set_option synthInstance.maxSize 4096 in
theorem coff12 : ∀ t : Fin grid0.N, cond0_1 (grid0.coords t) → cond0_2 (grid0.coords t) → (k0_off3 (grid0.coords t) : Fin 4 → Nat) = ![0, ((Ring.bk 64 ((t.val / 2) + 1)).val / 4), 0, 256 * ((Ring.bk 64 ((t.val / 2) + 1)).val % 4)] := by decide +kernel
@[sl_canon] theorem canon12 (t : Fin grid0.N) (h0 : cond0_1 (grid0.coords t)) (h1 : cond0_2 (grid0.coords t)) :
    (hbM0_0.slice (Rect.unit (s := S2x16x4096x1024) (k0_off3 (grid0.coords t)) S1x1x2048x256.size (k0_off3_inb (grid0.coords t) h0)) (fun _ => rfl)).squeeze S2048x256 squeezes_S1x1x2048x256_S2048x256 = src0 (Ring.bk 64 ((t.val / 2) + 1)) :=
  congrArg (fun M : Memref sig .tc .hbm S1x1x2048x256 .f32 => M.squeeze S2048x256 squeezes_S1x1x2048x256_S2048x256) (Memref.slice_unit_congr _ (coff12 t h0 h1) _ _ (fun _ => rfl) (fun _ => rfl))
set_option synthInstance.maxSize 4096 in
theorem coff13 : ∀ t : Fin grid0.N, cond0_1 (grid0.coords t) → cond0_2 (grid0.coords t) → (k0_off4 (grid0.coords t) : Fin 4 → Nat) = ![(Ring.sl 2 ((t.val / 2) + 1)).val, 1, 0, 0] := by decide +kernel
@[sl_canon] theorem canon13 (t : Fin grid0.N) (h0 : cond0_1 (grid0.coords t)) (h1 : cond0_2 (grid0.coords t)) :
    (scM0_0.slice (Rect.unit (s := S2x2x4096x256) (k0_off4 (grid0.coords t)) S1x1x2048x256.size (k0_off4_inb (grid0.coords t) h0)) (fun _ => rfl)).squeeze S2048x256 squeezes_S1x1x2048x256_S2048x256 = part1 (Ring.sl 2 ((t.val / 2) + 1)) :=
  congrArg (fun M : Memref sig .tc .vmem S1x1x2048x256 .f32 => M.squeeze S2048x256 squeezes_S1x1x2048x256_S2048x256) (Memref.slice_unit_congr _ (coff13 t h0 h1) _ _ (fun _ => rfl) (fun _ => rfl))
set_option synthInstance.maxSize 4096 in
theorem coff14 : ∀ t : Fin grid0.N, cond0_1 (grid0.coords t) → cond0_2 (grid0.coords t) → (k0_off3 (grid0.coords t) : Fin 4 → Nat) = ![0, ((Ring.bk 64 ((t.val / 2) + 1)).val / 4), 0, 256 * ((Ring.bk 64 ((t.val / 2) + 1)).val % 4)] := by decide +kernel
@[sl_canon] theorem canon14 (t : Fin grid0.N) (h0 : cond0_1 (grid0.coords t)) (h1 : cond0_2 (grid0.coords t)) :
    (hbM0_1.slice (Rect.unit (s := S2x16x4096x1024) (k0_off3 (grid0.coords t)) S1x1x2048x256.size (k0_off3_inb (grid0.coords t) h0)) (fun _ => rfl)).squeeze S2048x256 squeezes_S1x1x2048x256_S2048x256 = src1 (Ring.bk 64 ((t.val / 2) + 1)) :=
  congrArg (fun M : Memref sig .tc .hbm S1x1x2048x256 .f32 => M.squeeze S2048x256 squeezes_S1x1x2048x256_S2048x256) (Memref.slice_unit_congr _ (coff14 t h0 h1) _ _ (fun _ => rfl) (fun _ => rfl))
set_option synthInstance.maxSize 4096 in
theorem coff15 : ∀ t : Fin grid0.N, cond0_1 (grid0.coords t) → ¬cond0_2 (grid0.coords t) → (k0_off2 (grid0.coords t) : Fin 4 → Nat) = ![(Ring.sl 2 ((t.val / 2) + 1)).val, 0, 2048, 0] := by decide +kernel
@[sl_canon] theorem canon15 (t : Fin grid0.N) (h0 : cond0_1 (grid0.coords t)) (h1 : ¬cond0_2 (grid0.coords t)) :
    (scM0_0.slice (Rect.unit (s := S2x2x4096x256) (k0_off2 (grid0.coords t)) S1x1x2048x256.size (k0_off2_inb (grid0.coords t) h0)) (fun _ => rfl)).squeeze S2048x256 squeezes_S1x1x2048x256_S2048x256 = part2 (Ring.sl 2 ((t.val / 2) + 1)) :=
  congrArg (fun M : Memref sig .tc .vmem S1x1x2048x256 .f32 => M.squeeze S2048x256 squeezes_S1x1x2048x256_S2048x256) (Memref.slice_unit_congr _ (coff15 t h0 h1) _ _ (fun _ => rfl) (fun _ => rfl))
set_option synthInstance.maxSize 4096 in
theorem coff16 : ∀ t : Fin grid0.N, cond0_1 (grid0.coords t) → ¬cond0_2 (grid0.coords t) → (k0_off3 (grid0.coords t) : Fin 4 → Nat) = ![0, ((Ring.bk 64 ((t.val / 2) + 1)).val / 4), 2048, 256 * ((Ring.bk 64 ((t.val / 2) + 1)).val % 4)] := by decide +kernel
@[sl_canon] theorem canon16 (t : Fin grid0.N) (h0 : cond0_1 (grid0.coords t)) (h1 : ¬cond0_2 (grid0.coords t)) :
    (hbM0_0.slice (Rect.unit (s := S2x16x4096x1024) (k0_off3 (grid0.coords t)) S1x1x2048x256.size (k0_off3_inb (grid0.coords t) h0)) (fun _ => rfl)).squeeze S2048x256 squeezes_S1x1x2048x256_S2048x256 = src2 (Ring.bk 64 ((t.val / 2) + 1)) :=
  congrArg (fun M : Memref sig .tc .hbm S1x1x2048x256 .f32 => M.squeeze S2048x256 squeezes_S1x1x2048x256_S2048x256) (Memref.slice_unit_congr _ (coff16 t h0 h1) _ _ (fun _ => rfl) (fun _ => rfl))
set_option synthInstance.maxSize 4096 in
theorem coff17 : ∀ t : Fin grid0.N, cond0_1 (grid0.coords t) → ¬cond0_2 (grid0.coords t) → (k0_off4 (grid0.coords t) : Fin 4 → Nat) = ![(Ring.sl 2 ((t.val / 2) + 1)).val, 1, 2048, 0] := by decide +kernel
@[sl_canon] theorem canon17 (t : Fin grid0.N) (h0 : cond0_1 (grid0.coords t)) (h1 : ¬cond0_2 (grid0.coords t)) :
    (scM0_0.slice (Rect.unit (s := S2x2x4096x256) (k0_off4 (grid0.coords t)) S1x1x2048x256.size (k0_off4_inb (grid0.coords t) h0)) (fun _ => rfl)).squeeze S2048x256 squeezes_S1x1x2048x256_S2048x256 = part3 (Ring.sl 2 ((t.val / 2) + 1)) :=
  congrArg (fun M : Memref sig .tc .vmem S1x1x2048x256 .f32 => M.squeeze S2048x256 squeezes_S1x1x2048x256_S2048x256) (Memref.slice_unit_congr _ (coff17 t h0 h1) _ _ (fun _ => rfl) (fun _ => rfl))
set_option synthInstance.maxSize 4096 in
theorem coff18 : ∀ t : Fin grid0.N, cond0_1 (grid0.coords t) → ¬cond0_2 (grid0.coords t) → (k0_off3 (grid0.coords t) : Fin 4 → Nat) = ![0, ((Ring.bk 64 ((t.val / 2) + 1)).val / 4), 2048, 256 * ((Ring.bk 64 ((t.val / 2) + 1)).val % 4)] := by decide +kernel
@[sl_canon] theorem canon18 (t : Fin grid0.N) (h0 : cond0_1 (grid0.coords t)) (h1 : ¬cond0_2 (grid0.coords t)) :
    (hbM0_1.slice (Rect.unit (s := S2x16x4096x1024) (k0_off3 (grid0.coords t)) S1x1x2048x256.size (k0_off3_inb (grid0.coords t) h0)) (fun _ => rfl)).squeeze S2048x256 squeezes_S1x1x2048x256_S2048x256 = src3 (Ring.bk 64 ((t.val / 2) + 1)) :=
  congrArg (fun M : Memref sig .tc .hbm S1x1x2048x256 .f32 => M.squeeze S2048x256 squeezes_S1x1x2048x256_S2048x256) (Memref.slice_unit_congr _ (coff18 t h0 h1) _ _ (fun _ => rfl) (fun _ => rfl))
set_option synthInstance.maxSize 4096 in
theorem coff19 : ∀ t : Fin grid0.N, cond0_2 (grid0.coords t) → (k0_off5 (grid0.coords t) : Fin 1 → Nat) = ![(Ring.sl 2 (t.val / 2)).val] := by decide +kernel
@[sl_canon] theorem canon19 (t : Fin grid0.N) (h0 : cond0_2 (grid0.coords t)) :
    (cc0_scratch1.slice (Rect.unit (s := S2) (k0_off5 (grid0.coords t)) S1.size (k0_off5_inb (grid0.coords t) h0))).squeeze S_ squeezes_S1_S_ = cellA (Ring.sl 2 (t.val / 2)) :=
  congrArg (fun A : DmaSems sig S1 => A.squeeze S_ squeezes_S1_S_) (SemArray.slice_unit_congr _ (coff19 t h0) _ _)
set_option synthInstance.maxSize 4096 in
theorem coff20 : ∀ t : Fin grid0.N, cond0_2 (grid0.coords t) → (k0_off6 (grid0.coords t) : Fin 4 → Nat) = ![(Ring.sl 2 (t.val / 2)).val, 0, 0, 0] := by decide +kernel
@[sl_canon] theorem canon20 (t : Fin grid0.N) (h0 : cond0_2 (grid0.coords t)) :
    (scM0_0.slice (Rect.unit (s := S2x2x4096x256) (k0_off6 (grid0.coords t)) S1x1x2048x256.size (k0_off6_inb (grid0.coords t) h0)) (fun _ => rfl)).squeeze S2048x256 squeezes_S1x1x2048x256_S2048x256 = part0 (Ring.sl 2 (t.val / 2)) :=
  congrArg (fun M : Memref sig .tc .vmem S1x1x2048x256 .f32 => M.squeeze S2048x256 squeezes_S1x1x2048x256_S2048x256) (Memref.slice_unit_congr _ (coff20 t h0) _ _ (fun _ => rfl) (fun _ => rfl))
set_option synthInstance.maxSize 4096 in
theorem coff21 : ∀ t : Fin grid0.N, cond0_2 (grid0.coords t) → (k0_off7 (grid0.coords t) : Fin 4 → Nat) = ![0, ((Ring.bk 64 (t.val / 2)).val / 4), 0, 256 * ((Ring.bk 64 (t.val / 2)).val % 4)] := by decide +kernel
@[sl_canon] theorem canon21 (t : Fin grid0.N) (h0 : cond0_2 (grid0.coords t)) :
    (hbM0_0.slice (Rect.unit (s := S2x16x4096x1024) (k0_off7 (grid0.coords t)) S1x1x2048x256.size (k0_off7_inb (grid0.coords t) h0)) (fun _ => rfl)).squeeze S2048x256 squeezes_S1x1x2048x256_S2048x256 = src0 (Ring.bk 64 (t.val / 2)) :=
  congrArg (fun M : Memref sig .tc .hbm S1x1x2048x256 .f32 => M.squeeze S2048x256 squeezes_S1x1x2048x256_S2048x256) (Memref.slice_unit_congr _ (coff21 t h0) _ _ (fun _ => rfl) (fun _ => rfl))
set_option synthInstance.maxSize 4096 in
theorem coff22 : ∀ t : Fin grid0.N, cond0_2 (grid0.coords t) → (k0_off8 (grid0.coords t) : Fin 4 → Nat) = ![(Ring.sl 2 (t.val / 2)).val, 1, 0, 0] := by decide +kernel
@[sl_canon] theorem canon22 (t : Fin grid0.N) (h0 : cond0_2 (grid0.coords t)) :
    (scM0_0.slice (Rect.unit (s := S2x2x4096x256) (k0_off8 (grid0.coords t)) S1x1x2048x256.size (k0_off8_inb (grid0.coords t) h0)) (fun _ => rfl)).squeeze S2048x256 squeezes_S1x1x2048x256_S2048x256 = part1 (Ring.sl 2 (t.val / 2)) :=
  congrArg (fun M : Memref sig .tc .vmem S1x1x2048x256 .f32 => M.squeeze S2048x256 squeezes_S1x1x2048x256_S2048x256) (Memref.slice_unit_congr _ (coff22 t h0) _ _ (fun _ => rfl) (fun _ => rfl))
set_option synthInstance.maxSize 4096 in
theorem coff23 : ∀ t : Fin grid0.N, cond0_2 (grid0.coords t) → (k0_off7 (grid0.coords t) : Fin 4 → Nat) = ![0, ((Ring.bk 64 (t.val / 2)).val / 4), 0, 256 * ((Ring.bk 64 (t.val / 2)).val % 4)] := by decide +kernel
@[sl_canon] theorem canon23 (t : Fin grid0.N) (h0 : cond0_2 (grid0.coords t)) :
    (hbM0_1.slice (Rect.unit (s := S2x16x4096x1024) (k0_off7 (grid0.coords t)) S1x1x2048x256.size (k0_off7_inb (grid0.coords t) h0)) (fun _ => rfl)).squeeze S2048x256 squeezes_S1x1x2048x256_S2048x256 = src1 (Ring.bk 64 (t.val / 2)) :=
  congrArg (fun M : Memref sig .tc .hbm S1x1x2048x256 .f32 => M.squeeze S2048x256 squeezes_S1x1x2048x256_S2048x256) (Memref.slice_unit_congr _ (coff23 t h0) _ _ (fun _ => rfl) (fun _ => rfl))
set_option synthInstance.maxSize 4096 in
theorem coff24 : ∀ t : Fin grid0.N, cond0_2 (grid0.coords t) → (k0_off9 (grid0.coords t) : Fin 4 → Nat) = ![(Ring.sl 2 (t.val / 2)).val, 0, 2048, 0] := by decide +kernel
@[sl_canon] theorem canon24 (t : Fin grid0.N) (h0 : cond0_2 (grid0.coords t)) :
    (scM0_0.slice (Rect.unit (s := S2x2x4096x256) (k0_off9 (grid0.coords t)) S1x1x2048x256.size (k0_off9_inb (grid0.coords t) h0)) (fun _ => rfl)).squeeze S2048x256 squeezes_S1x1x2048x256_S2048x256 = part2 (Ring.sl 2 (t.val / 2)) :=
  congrArg (fun M : Memref sig .tc .vmem S1x1x2048x256 .f32 => M.squeeze S2048x256 squeezes_S1x1x2048x256_S2048x256) (Memref.slice_unit_congr _ (coff24 t h0) _ _ (fun _ => rfl) (fun _ => rfl))
set_option synthInstance.maxSize 4096 in
theorem coff25 : ∀ t : Fin grid0.N, cond0_2 (grid0.coords t) → (k0_off10 (grid0.coords t) : Fin 4 → Nat) = ![0, ((Ring.bk 64 (t.val / 2)).val / 4), 2048, 256 * ((Ring.bk 64 (t.val / 2)).val % 4)] := by decide +kernel
@[sl_canon] theorem canon25 (t : Fin grid0.N) (h0 : cond0_2 (grid0.coords t)) :
    (hbM0_0.slice (Rect.unit (s := S2x16x4096x1024) (k0_off10 (grid0.coords t)) S1x1x2048x256.size (k0_off10_inb (grid0.coords t) h0)) (fun _ => rfl)).squeeze S2048x256 squeezes_S1x1x2048x256_S2048x256 = src2 (Ring.bk 64 (t.val / 2)) :=
  congrArg (fun M : Memref sig .tc .hbm S1x1x2048x256 .f32 => M.squeeze S2048x256 squeezes_S1x1x2048x256_S2048x256) (Memref.slice_unit_congr _ (coff25 t h0) _ _ (fun _ => rfl) (fun _ => rfl))
set_option synthInstance.maxSize 4096 in
theorem coff26 : ∀ t : Fin grid0.N, cond0_2 (grid0.coords t) → (k0_off11 (grid0.coords t) : Fin 4 → Nat) = ![(Ring.sl 2 (t.val / 2)).val, 1, 2048, 0] := by decide +kernel
@[sl_canon] theorem canon26 (t : Fin grid0.N) (h0 : cond0_2 (grid0.coords t)) :
    (scM0_0.slice (Rect.unit (s := S2x2x4096x256) (k0_off11 (grid0.coords t)) S1x1x2048x256.size (k0_off11_inb (grid0.coords t) h0)) (fun _ => rfl)).squeeze S2048x256 squeezes_S1x1x2048x256_S2048x256 = part3 (Ring.sl 2 (t.val / 2)) :=
  congrArg (fun M : Memref sig .tc .vmem S1x1x2048x256 .f32 => M.squeeze S2048x256 squeezes_S1x1x2048x256_S2048x256) (Memref.slice_unit_congr _ (coff26 t h0) _ _ (fun _ => rfl) (fun _ => rfl))
set_option synthInstance.maxSize 4096 in
theorem coff27 : ∀ t : Fin grid0.N, cond0_2 (grid0.coords t) → (k0_off10 (grid0.coords t) : Fin 4 → Nat) = ![0, ((Ring.bk 64 (t.val / 2)).val / 4), 2048, 256 * ((Ring.bk 64 (t.val / 2)).val % 4)] := by decide +kernel
@[sl_canon] theorem canon27 (t : Fin grid0.N) (h0 : cond0_2 (grid0.coords t)) :
    (hbM0_1.slice (Rect.unit (s := S2x16x4096x1024) (k0_off10 (grid0.coords t)) S1x1x2048x256.size (k0_off10_inb (grid0.coords t) h0)) (fun _ => rfl)).squeeze S2048x256 squeezes_S1x1x2048x256_S2048x256 = src3 (Ring.bk 64 (t.val / 2)) :=
  congrArg (fun M : Memref sig .tc .hbm S1x1x2048x256 .f32 => M.squeeze S2048x256 squeezes_S1x1x2048x256_S2048x256) (Memref.slice_unit_congr _ (coff27 t h0) _ _ (fun _ => rfl) (fun _ => rfl))
set_option synthInstance.maxSize 4096 in
theorem coff28 : ∀ t : Fin grid0.N, k0_off12 (grid0.coords t) = ![(Ring.sl 2 (t.val / 2)).val, 0, 0, 0] := by decide +kernel
/-- A load of the landed weights is within the tile's slot. -/
instance (priority := high) closedOff28 (t : Fin grid0.N) : ClosedOff (k0_off12 (grid0.coords t)) := ⟨![(Ring.sl 2 (t.val / 2)).val, 0, 0, 0], coff28 t⟩
set_option synthInstance.maxSize 4096 in
theorem coff29 : ∀ t : Fin grid0.N, k0_off13 (grid0.coords t) = ![(Ring.sl 2 (t.val / 2)).val, 1, 0, 0] := by decide +kernel
/-- A load of the landed weights is within the tile's slot. -/
instance (priority := high) closedOff29 (t : Fin grid0.N) : ClosedOff (k0_off13 (grid0.coords t)) := ⟨![(Ring.sl 2 (t.val / 2)).val, 1, 0, 0], coff29 t⟩
end Canon

end Cert.Kernel4Ideal.Own

end
-- ==== Proof.UpIdealRunA.lean ====
/- The body run at the first grid point. -/
module

public import proofs.«01_k».proof.Proof.Gen.Kernel4Ideal.Skeleton
public import proofs.«01_k».proof.Proof.UpIdealCanon

@[expose] public section

set_option maxRecDepth 16384

noncomputable section

namespace Cert.Kernel4Ideal.Own

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The body at the first point: both slots free; tile 0 is started whole, the next tile's first half is started, tile 0 is waited for and read.
    The pieces it stores into the result's block are found by the run. -/
noncomputable def runA (c : Dev nD) (t : Fin cfg0.N) (arg2 : Memref sig .tc .vmem S2x1x544x2048 .i32) (harg2 : arg2.IsWhole) (arg5 : Memref sig .tc .vmem S2x1x544x256 .bf16) (harg5 : arg5.IsWhole) (hc0 : cond0_0 (grid0.coords t)) (hc1 : cond0_1 (grid0.coords t)) (hc2 : cond0_2 (grid0.coords t))
    (x0 : Vec F S2x1x544x2048 .i32) (W0 : HbBuf0 (F := F) c hbM0_0) (W1 : HbBuf0 (F := F) c hbM0_1) :
    { L2 : List (View.Piece (Elt F) S2x1x544x256 .bf16) //
      ∀ (W : Waits sig Unit) (Q : PUnit → Res F),
        iprop(owns (c : Thread nD τ) arg2 fullShare x0 ∗ (∃ d, owns (c : Thread nD τ) arg5 fullShare d) ∗ freeP c W0 W1 (Ring.sl 2 (t.val / 2)) ∗ freeP c W0 W1 (Ring.sl 2 ((t.val / 2) + 1)) ∗ owes (c : Thread nD τ) 0 W
            ∗ (iprop(owns (c : Thread nD τ) arg2 fullShare x0 ∗ (∃ f, arg5.view.loc (c : Thread nD τ) ↦[arg5.view.set]{fullShare} arg5.view.writes (Elt F) f L2) ∗ keptP c W0 W1 (Ring.sl 2 (t.val / 2)) (Ring.bk 64 (t.val / 2)) ∗ halfP c W0 W1 (Ring.sl 2 ((t.val / 2) + 1)) (Ring.bk 64 ((t.val / 2) + 1)) ∗ (∃ W', owes (c : Thread nD τ) 0 W')) -∗ Q ⟨⟩))
          ⊢ wp frame (wpE (defs₀ (F := F)) Variants.none c none) Set.univ (cc0_expert_up (grid0.coords t) arg2 harg2 (Memref.whole main_arg1) (Memref.isWhole_whole _) (Memref.whole main_arg2) (Memref.isWhole_whole _) arg5 harg5 scM0_0 (Memref.isWhole_whole _) cc0_scratch1) Q } := by
  refine ⟨?_, fun W Q => ?run⟩
  case run =>
    haveI : Fact (cond0_0 (grid0.coords t)) := ⟨hc0⟩
    haveI : Fact (cond0_1 (grid0.coords t)) := ⟨hc1⟩
    haveI : Fact (cond0_2 (grid0.coords t)) := ⟨hc2⟩
    simp only [cc0_expert_up_eq_skeleton]; unfold cc0_expert_up_skel
    simp only [k0_part6_eq_skeleton, k0_part5_eq_skeleton, k0_part1_eq_skeleton, k0_part2_eq_skeleton, k0_part3_eq_skeleton, k0_part4_eq_skeleton]
    unfold owns freeP keptP halfP
    iintro ⟨⟨%y0, %hy0, H0⟩, ⟨%d2, %f2, -, H2⟩, ⟨Hc0, ⟨%f0, Hs0⟩, Hw0_0, Hw1_0, Hw2_0, Hw3_0⟩, ⟨Hc1, ⟨%f1, Hs1⟩, Hw0_1, Hw1_1, Hw2_1, Hw3_1⟩, HW, Hk⟩
    ihave Hq0 := (slot_parts (F := F) c (Ring.sl 2 (t.val / 2)) f0).1 $$ Hs0
    icases Hq0 with ⟨Hp0_0, Hp1_0, Hp2_0, Hp3_0⟩
    ihave Hx0_0 := (src0_split c W0 (Ring.sl 2 (t.val / 2)) (Ring.bk 64 (t.val / 2))).1 $$ Hw0_0
    icases Hx0_0 with ⟨Hh0_0, Hr0_0⟩
    ihave Hx1_0 := (src1_split c W1 (Ring.sl 2 (t.val / 2)) (Ring.bk 64 (t.val / 2))).1 $$ Hw1_0
    icases Hx1_0 with ⟨Hh1_0, Hr1_0⟩
    ihave Hx2_0 := (src2_split c W0 (Ring.sl 2 (t.val / 2)) (Ring.bk 64 (t.val / 2))).1 $$ Hw2_0
    icases Hx2_0 with ⟨Hh2_0, Hr2_0⟩
    ihave Hx3_0 := (src3_split c W1 (Ring.sl 2 (t.val / 2)) (Ring.bk 64 (t.val / 2))).1 $$ Hw3_0
    icases Hx3_0 with ⟨Hh3_0, Hr3_0⟩
    haveI := storableDeliver (F := F) c W0 W1 (Ring.sl 2 (t.val / 2)) (Ring.bk 64 (t.val / 2))
    imod (Transfers.batch_alloc' (Lvl := ℕ) countersEmb (c : Thread nD τ) default NN (deliver c W0 W1 (Ring.sl 2 (t.val / 2)) (Ring.bk 64 (t.val / 2))) (sm := cellR (Ring.sl 2 (t.val / 2))) (E := Set.univ)) $$ Hc0 with Hb0
    ihave Hq1 := (slot_parts (F := F) c (Ring.sl 2 ((t.val / 2) + 1)) f1).1 $$ Hs1
    icases Hq1 with ⟨Hp0_1, Hp1_1, Hp2_1, Hp3_1⟩
    ihave Hx0_1 := (src0_split c W0 (Ring.sl 2 ((t.val / 2) + 1)) (Ring.bk 64 ((t.val / 2) + 1))).1 $$ Hw0_1
    icases Hx0_1 with ⟨Hh0_1, Hr0_1⟩
    ihave Hx1_1 := (src1_split c W1 (Ring.sl 2 ((t.val / 2) + 1)) (Ring.bk 64 ((t.val / 2) + 1))).1 $$ Hw1_1
    icases Hx1_1 with ⟨Hh1_1, Hr1_1⟩
    haveI := storableDeliver (F := F) c W0 W1 (Ring.sl 2 ((t.val / 2) + 1)) (Ring.bk 64 ((t.val / 2) + 1))
    imod (Transfers.batch_alloc' (Lvl := ℕ) countersEmb (c : Thread nD τ) default NN (deliver c W0 W1 (Ring.sl 2 ((t.val / 2) + 1)) (Ring.bk 64 ((t.val / 2) + 1))) (sm := cellR (Ring.sl 2 ((t.val / 2) + 1))) (E := Set.univ)) $$ Hc1 with Hb1
    obtain rfl := harg2.eq_unread hy0
    sl_exec (disch := first | sl_exact hc0 | sl_exact hc1 | sl_exact hc2)
    ihave Hs0 : slotP (F := F) c (Ring.sl 2 (t.val / 2)) (tileBuf c W0 W1 (Ring.bk 64 (t.val / 2))) $$ [Hb0_dst0 Hb0_dst1 Hb0_dst2 Hb0_dst3]
    · iapply (slot_parts (F := F) c (Ring.sl 2 (t.val / 2)) (tileBuf c W0 W1 (Ring.bk 64 (t.val / 2)))).2
      isplitl [Hb0_dst0]; · iapply (Entails.of_eq (landed0_eq c W0 W1 (Ring.sl 2 (t.val / 2)) (Ring.bk 64 (t.val / 2)))); iexact Hb0_dst0
      isplitl [Hb0_dst1]; · iapply (Entails.of_eq (landed1_eq c W0 W1 (Ring.sl 2 (t.val / 2)) (Ring.bk 64 (t.val / 2)))); iexact Hb0_dst1
      isplitl [Hb0_dst2]; · iapply (Entails.of_eq (landed2_eq c W0 W1 (Ring.sl 2 (t.val / 2)) (Ring.bk 64 (t.val / 2)))); iexact Hb0_dst2
      iapply (Entails.of_eq (landed3_eq c W0 W1 (Ring.sl 2 (t.val / 2)) (Ring.bk 64 (t.val / 2)))); iexact Hb0_dst3
    sl_exec (disch := first | sl_exact hc0 | sl_exact hc1 | sl_exact hc2)
    sl_step
    iapply Hk
    isplitl [H0]
    · iexists _; isplitr; · ipureintro; exact harg2.read_unread _
      iexact H0
    isplitl [H2]; · iexists _; iexact H2
    isplitl [Hb0 Hs0 Hb0_src0 Hr0_0 Hb0_src1 Hr1_0 Hb0_src2 Hr2_0 Hb0_src3 Hr3_0]
    · isplitl [Hb0]; · iexact Hb0
      isplitl [Hs0]; · iexact Hs0
      isplitl [Hb0_src0 Hr0_0]
      · iapply (src0_split c W0 (Ring.sl 2 (t.val / 2)) (Ring.bk 64 (t.val / 2))).2; isplitl [Hb0_src0]; · iexact Hb0_src0
        iexact Hr0_0
      isplitl [Hb0_src1 Hr1_0]
      · iapply (src1_split c W1 (Ring.sl 2 (t.val / 2)) (Ring.bk 64 (t.val / 2))).2; isplitl [Hb0_src1]; · iexact Hb0_src1
        iexact Hr1_0
      isplitl [Hb0_src2 Hr2_0]
      · iapply (src2_split c W0 (Ring.sl 2 (t.val / 2)) (Ring.bk 64 (t.val / 2))).2; isplitl [Hb0_src2]; · iexact Hb0_src2
        iexact Hr2_0
      iapply (src3_split c W1 (Ring.sl 2 (t.val / 2)) (Ring.bk 64 (t.val / 2))).2; isplitl [Hb0_src3]; · iexact Hb0_src3
      iexact Hr3_0
    isplitl [Hb1 Hp2_1 Hw2_1 Hp3_1 Hw3_1 Hr0_1 Hr1_1]
    · isplitl [Hb1]; · iexact Hb1
      isplitl [Hp2_1]; · iexists _; iexact Hp2_1
      isplitl [Hw2_1]; · iexact Hw2_1
      isplitl [Hp3_1]; · iexists _; iexact Hp3_1
      isplitl [Hw3_1]; · iexact Hw3_1
      isplitl [Hr0_1]; · iexact Hr0_1
      iexact Hr1_1
    iexists _; iexact HW

end Cert.Kernel4Ideal.Own

end
-- ==== Proof.UpIdealRunC.lean ====
/- The body run at a tile's first point. -/
module

public import proofs.«01_k».proof.Proof.Gen.Kernel4Ideal.Skeleton
public import proofs.«01_k».proof.Proof.UpIdealRunA

@[expose] public section

set_option maxRecDepth 16384

noncomputable section

namespace Cert.Kernel4Ideal.Own

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The body at a tile's first point, another tile to follow: the next tile's first half is started, this tile is waited for and read.
    The pieces it stores into the result's block are found by the run. -/
noncomputable def runC (c : Dev nD) (t : Fin cfg0.N) (arg2 : Memref sig .tc .vmem S2x1x544x2048 .i32) (harg2 : arg2.IsWhole) (arg5 : Memref sig .tc .vmem S2x1x544x256 .bf16) (harg5 : arg5.IsWhole) (hc0 : ¬cond0_0 (grid0.coords t)) (hc1 : cond0_1 (grid0.coords t)) (hc2 : cond0_2 (grid0.coords t))
    (x0 : Vec F S2x1x544x2048 .i32) (W0 : HbBuf0 (F := F) c hbM0_0) (W1 : HbBuf0 (F := F) c hbM0_1) :
    { L2 : List (View.Piece (Elt F) S2x1x544x256 .bf16) //
      ∀ (W : Waits sig Unit) (Q : PUnit → Res F),
        iprop(owns (c : Thread nD τ) arg2 fullShare x0 ∗ (∃ d, owns (c : Thread nD τ) arg5 fullShare d) ∗ fullP c W0 W1 (Ring.sl 2 (t.val / 2)) (Ring.bk 64 (t.val / 2)) ∗ freeP c W0 W1 (Ring.sl 2 ((t.val / 2) + 1)) ∗ owes (c : Thread nD τ) 0 W
            ∗ (iprop(owns (c : Thread nD τ) arg2 fullShare x0 ∗ (∃ f, arg5.view.loc (c : Thread nD τ) ↦[arg5.view.set]{fullShare} arg5.view.writes (Elt F) f L2) ∗ keptP c W0 W1 (Ring.sl 2 (t.val / 2)) (Ring.bk 64 (t.val / 2)) ∗ halfP c W0 W1 (Ring.sl 2 ((t.val / 2) + 1)) (Ring.bk 64 ((t.val / 2) + 1)) ∗ (∃ W', owes (c : Thread nD τ) 0 W')) -∗ Q ⟨⟩))
          ⊢ wp frame (wpE (defs₀ (F := F)) Variants.none c none) Set.univ (cc0_expert_up (grid0.coords t) arg2 harg2 (Memref.whole main_arg1) (Memref.isWhole_whole _) (Memref.whole main_arg2) (Memref.isWhole_whole _) arg5 harg5 scM0_0 (Memref.isWhole_whole _) cc0_scratch1) Q } := by
  refine ⟨?_, fun W Q => ?run⟩
  case run =>
    haveI : Fact (¬cond0_0 (grid0.coords t)) := ⟨hc0⟩
    haveI : Fact (cond0_1 (grid0.coords t)) := ⟨hc1⟩
    haveI : Fact (cond0_2 (grid0.coords t)) := ⟨hc2⟩
    simp only [cc0_expert_up_eq_skeleton]; unfold cc0_expert_up_skel
    simp only [k0_part6_eq_skeleton, k0_part5_eq_skeleton, k0_part1_eq_skeleton, k0_part2_eq_skeleton, k0_part3_eq_skeleton, k0_part4_eq_skeleton]
    unfold owns freeP keptP halfP fullP
    iintro ⟨⟨%y0, %hy0, H0⟩, ⟨%d2, %f2, -, H2⟩, ⟨Hb0, Hr0_0, Hr1_0, Hr2_0, Hr3_0⟩, ⟨Hc1, ⟨%f1, Hs1⟩, Hw0_1, Hw1_1, Hw2_1, Hw3_1⟩, HW, Hk⟩
    ihave Hq1 := (slot_parts (F := F) c (Ring.sl 2 ((t.val / 2) + 1)) f1).1 $$ Hs1
    icases Hq1 with ⟨Hp0_1, Hp1_1, Hp2_1, Hp3_1⟩
    ihave Hx0_1 := (src0_split c W0 (Ring.sl 2 ((t.val / 2) + 1)) (Ring.bk 64 ((t.val / 2) + 1))).1 $$ Hw0_1
    icases Hx0_1 with ⟨Hh0_1, Hr0_1⟩
    ihave Hx1_1 := (src1_split c W1 (Ring.sl 2 ((t.val / 2) + 1)) (Ring.bk 64 ((t.val / 2) + 1))).1 $$ Hw1_1
    icases Hx1_1 with ⟨Hh1_1, Hr1_1⟩
    haveI := storableDeliver (F := F) c W0 W1 (Ring.sl 2 ((t.val / 2) + 1)) (Ring.bk 64 ((t.val / 2) + 1))
    imod (Transfers.batch_alloc' (Lvl := ℕ) countersEmb (c : Thread nD τ) default NN (deliver c W0 W1 (Ring.sl 2 ((t.val / 2) + 1)) (Ring.bk 64 ((t.val / 2) + 1))) (sm := cellR (Ring.sl 2 ((t.val / 2) + 1))) (E := Set.univ)) $$ Hc1 with Hb1
    obtain rfl := harg2.eq_unread hy0
    sl_exec (disch := first | sl_exact hc0 | sl_exact hc1 | sl_exact hc2)
    ihave Hs0 : slotP (F := F) c (Ring.sl 2 (t.val / 2)) (tileBuf c W0 W1 (Ring.bk 64 (t.val / 2))) $$ [Hb0_dst0 Hb0_dst1 Hb0_dst2 Hb0_dst3]
    · iapply (slot_parts (F := F) c (Ring.sl 2 (t.val / 2)) (tileBuf c W0 W1 (Ring.bk 64 (t.val / 2)))).2
      isplitl [Hb0_dst0]; · iapply (Entails.of_eq (landed0_eq c W0 W1 (Ring.sl 2 (t.val / 2)) (Ring.bk 64 (t.val / 2)))); iexact Hb0_dst0
      isplitl [Hb0_dst1]; · iapply (Entails.of_eq (landed1_eq c W0 W1 (Ring.sl 2 (t.val / 2)) (Ring.bk 64 (t.val / 2)))); iexact Hb0_dst1
      isplitl [Hb0_dst2]; · iapply (Entails.of_eq (landed2_eq c W0 W1 (Ring.sl 2 (t.val / 2)) (Ring.bk 64 (t.val / 2)))); iexact Hb0_dst2
      iapply (Entails.of_eq (landed3_eq c W0 W1 (Ring.sl 2 (t.val / 2)) (Ring.bk 64 (t.val / 2)))); iexact Hb0_dst3
    sl_exec (disch := first | sl_exact hc0 | sl_exact hc1 | sl_exact hc2)
    sl_step
    iapply Hk
    isplitl [H0]
    · iexists _; isplitr; · ipureintro; exact harg2.read_unread _
      iexact H0
    isplitl [H2]; · iexists _; iexact H2
    isplitl [Hb0 Hs0 Hb0_src0 Hr0_0 Hb0_src1 Hr1_0 Hb0_src2 Hr2_0 Hb0_src3 Hr3_0]
    · isplitl [Hb0]; · iexact Hb0
      isplitl [Hs0]; · iexact Hs0
      isplitl [Hb0_src0 Hr0_0]
      · iapply (src0_split c W0 (Ring.sl 2 (t.val / 2)) (Ring.bk 64 (t.val / 2))).2; isplitl [Hb0_src0]; · iexact Hb0_src0
        iexact Hr0_0
      isplitl [Hb0_src1 Hr1_0]
      · iapply (src1_split c W1 (Ring.sl 2 (t.val / 2)) (Ring.bk 64 (t.val / 2))).2; isplitl [Hb0_src1]; · iexact Hb0_src1
        iexact Hr1_0
      isplitl [Hb0_src2 Hr2_0]
      · iapply (src2_split c W0 (Ring.sl 2 (t.val / 2)) (Ring.bk 64 (t.val / 2))).2; isplitl [Hb0_src2]; · iexact Hb0_src2
        iexact Hr2_0
      iapply (src3_split c W1 (Ring.sl 2 (t.val / 2)) (Ring.bk 64 (t.val / 2))).2; isplitl [Hb0_src3]; · iexact Hb0_src3
      iexact Hr3_0
    isplitl [Hb1 Hp2_1 Hw2_1 Hp3_1 Hw3_1 Hr0_1 Hr1_1]
    · isplitl [Hb1]; · iexact Hb1
      isplitl [Hp2_1]; · iexists _; iexact Hp2_1
      isplitl [Hw2_1]; · iexact Hw2_1
      isplitl [Hp3_1]; · iexists _; iexact Hp3_1
      isplitl [Hw3_1]; · iexact Hw3_1
      isplitl [Hr0_1]; · iexact Hr0_1
      iexact Hr1_1
    iexists _; iexact HW

end Cert.Kernel4Ideal.Own

end
-- ==== Proof.UpIdealRunD.lean ====
/- The body run at the last tile's first point. -/
module

public import proofs.«01_k».proof.Proof.Gen.Kernel4Ideal.Skeleton
public import proofs.«01_k».proof.Proof.UpIdealRunC

@[expose] public section

set_option maxRecDepth 16384

noncomputable section

namespace Cert.Kernel4Ideal.Own

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The body at the last tile's first point: the tile is waited for and read.
    The pieces it stores into the result's block are found by the run. -/
noncomputable def runD (c : Dev nD) (t : Fin cfg0.N) (arg2 : Memref sig .tc .vmem S2x1x544x2048 .i32) (harg2 : arg2.IsWhole) (arg5 : Memref sig .tc .vmem S2x1x544x256 .bf16) (harg5 : arg5.IsWhole) (hc0 : ¬cond0_0 (grid0.coords t)) (hc1 : ¬cond0_1 (grid0.coords t)) (hc2 : cond0_2 (grid0.coords t))
    (x0 : Vec F S2x1x544x2048 .i32) (W0 : HbBuf0 (F := F) c hbM0_0) (W1 : HbBuf0 (F := F) c hbM0_1) :
    { L2 : List (View.Piece (Elt F) S2x1x544x256 .bf16) //
      ∀ (W : Waits sig Unit) (Q : PUnit → Res F),
        iprop(owns (c : Thread nD τ) arg2 fullShare x0 ∗ (∃ d, owns (c : Thread nD τ) arg5 fullShare d) ∗ fullP c W0 W1 (Ring.sl 2 (t.val / 2)) (Ring.bk 64 (t.val / 2)) ∗ owes (c : Thread nD τ) 0 W
            ∗ (iprop(owns (c : Thread nD τ) arg2 fullShare x0 ∗ (∃ f, arg5.view.loc (c : Thread nD τ) ↦[arg5.view.set]{fullShare} arg5.view.writes (Elt F) f L2) ∗ keptP c W0 W1 (Ring.sl 2 (t.val / 2)) (Ring.bk 64 (t.val / 2)) ∗ (∃ W', owes (c : Thread nD τ) 0 W')) -∗ Q ⟨⟩))
          ⊢ wp frame (wpE (defs₀ (F := F)) Variants.none c none) Set.univ (cc0_expert_up (grid0.coords t) arg2 harg2 (Memref.whole main_arg1) (Memref.isWhole_whole _) (Memref.whole main_arg2) (Memref.isWhole_whole _) arg5 harg5 scM0_0 (Memref.isWhole_whole _) cc0_scratch1) Q } := by
  refine ⟨?_, fun W Q => ?run⟩
  case run =>
    haveI : Fact (¬cond0_0 (grid0.coords t)) := ⟨hc0⟩
    haveI : Fact (¬cond0_1 (grid0.coords t)) := ⟨hc1⟩
    haveI : Fact (cond0_2 (grid0.coords t)) := ⟨hc2⟩
    simp only [cc0_expert_up_eq_skeleton]; unfold cc0_expert_up_skel
    simp only [k0_part6_eq_skeleton, k0_part5_eq_skeleton, k0_part1_eq_skeleton, k0_part2_eq_skeleton, k0_part3_eq_skeleton, k0_part4_eq_skeleton]
    unfold owns keptP fullP
    iintro ⟨⟨%y0, %hy0, H0⟩, ⟨%d2, %f2, -, H2⟩, ⟨Hb0, Hr0_0, Hr1_0, Hr2_0, Hr3_0⟩, HW, Hk⟩
    obtain rfl := harg2.eq_unread hy0
    sl_exec (disch := first | sl_exact hc0 | sl_exact hc1 | sl_exact hc2)
    ihave Hs0 : slotP (F := F) c (Ring.sl 2 (t.val / 2)) (tileBuf c W0 W1 (Ring.bk 64 (t.val / 2))) $$ [Hb0_dst0 Hb0_dst1 Hb0_dst2 Hb0_dst3]
    · iapply (slot_parts (F := F) c (Ring.sl 2 (t.val / 2)) (tileBuf c W0 W1 (Ring.bk 64 (t.val / 2)))).2
      isplitl [Hb0_dst0]; · iapply (Entails.of_eq (landed0_eq c W0 W1 (Ring.sl 2 (t.val / 2)) (Ring.bk 64 (t.val / 2)))); iexact Hb0_dst0
      isplitl [Hb0_dst1]; · iapply (Entails.of_eq (landed1_eq c W0 W1 (Ring.sl 2 (t.val / 2)) (Ring.bk 64 (t.val / 2)))); iexact Hb0_dst1
      isplitl [Hb0_dst2]; · iapply (Entails.of_eq (landed2_eq c W0 W1 (Ring.sl 2 (t.val / 2)) (Ring.bk 64 (t.val / 2)))); iexact Hb0_dst2
      iapply (Entails.of_eq (landed3_eq c W0 W1 (Ring.sl 2 (t.val / 2)) (Ring.bk 64 (t.val / 2)))); iexact Hb0_dst3
    sl_exec (disch := first | sl_exact hc0 | sl_exact hc1 | sl_exact hc2)
    sl_step
    iapply Hk
    isplitl [H0]
    · iexists _; isplitr; · ipureintro; exact harg2.read_unread _
      iexact H0
    isplitl [H2]; · iexists _; iexact H2
    isplitl [Hb0 Hs0 Hb0_src0 Hr0_0 Hb0_src1 Hr1_0 Hb0_src2 Hr2_0 Hb0_src3 Hr3_0]
    · isplitl [Hb0]; · iexact Hb0
      isplitl [Hs0]; · iexact Hs0
      isplitl [Hb0_src0 Hr0_0]
      · iapply (src0_split c W0 (Ring.sl 2 (t.val / 2)) (Ring.bk 64 (t.val / 2))).2; isplitl [Hb0_src0]; · iexact Hb0_src0
        iexact Hr0_0
      isplitl [Hb0_src1 Hr1_0]
      · iapply (src1_split c W1 (Ring.sl 2 (t.val / 2)) (Ring.bk 64 (t.val / 2))).2; isplitl [Hb0_src1]; · iexact Hb0_src1
        iexact Hr1_0
      isplitl [Hb0_src2 Hr2_0]
      · iapply (src2_split c W0 (Ring.sl 2 (t.val / 2)) (Ring.bk 64 (t.val / 2))).2; isplitl [Hb0_src2]; · iexact Hb0_src2
        iexact Hr2_0
      iapply (src3_split c W1 (Ring.sl 2 (t.val / 2)) (Ring.bk 64 (t.val / 2))).2; isplitl [Hb0_src3]; · iexact Hb0_src3
      iexact Hr3_0
    iexists _; iexact HW

end Cert.Kernel4Ideal.Own

end
-- ==== Proof.UpIdealRunE.lean ====
/- The body run at a tile's second point. -/
module

public import proofs.«01_k».proof.Proof.Gen.Kernel4Ideal.Skeleton
public import proofs.«01_k».proof.Proof.UpIdealRunD

@[expose] public section

set_option maxRecDepth 16384

noncomputable section

namespace Cert.Kernel4Ideal.Own

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The body at a tile's second point, another tile to follow: the next tile's second half is started, the landed tile is read.
    The pieces it stores into the result's block are found by the run. -/
noncomputable def runE (c : Dev nD) (t : Fin cfg0.N) (arg2 : Memref sig .tc .vmem S2x1x544x2048 .i32) (harg2 : arg2.IsWhole) (arg5 : Memref sig .tc .vmem S2x1x544x256 .bf16) (harg5 : arg5.IsWhole) (hc0 : ¬cond0_0 (grid0.coords t)) (hc1 : cond0_1 (grid0.coords t)) (hc2 : ¬cond0_2 (grid0.coords t))
    (x0 : Vec F S2x1x544x2048 .i32) (W0 : HbBuf0 (F := F) c hbM0_0) (W1 : HbBuf0 (F := F) c hbM0_1) :
    { L2 : List (View.Piece (Elt F) S2x1x544x256 .bf16) //
      ∀ (W : Waits sig Unit) (Q : PUnit → Res F),
        iprop(owns (c : Thread nD τ) arg2 fullShare x0 ∗ (∃ d, owns (c : Thread nD τ) arg5 fullShare d) ∗ keptP c W0 W1 (Ring.sl 2 (t.val / 2)) (Ring.bk 64 (t.val / 2)) ∗ halfP c W0 W1 (Ring.sl 2 ((t.val / 2) + 1)) (Ring.bk 64 ((t.val / 2) + 1)) ∗ owes (c : Thread nD τ) 0 W
            ∗ (iprop(owns (c : Thread nD τ) arg2 fullShare x0 ∗ (∃ f, arg5.view.loc (c : Thread nD τ) ↦[arg5.view.set]{fullShare} arg5.view.writes (Elt F) f L2) ∗ keptP c W0 W1 (Ring.sl 2 (t.val / 2)) (Ring.bk 64 (t.val / 2)) ∗ fullP c W0 W1 (Ring.sl 2 ((t.val / 2) + 1)) (Ring.bk 64 ((t.val / 2) + 1)) ∗ (∃ W', owes (c : Thread nD τ) 0 W')) -∗ Q ⟨⟩))
          ⊢ wp frame (wpE (defs₀ (F := F)) Variants.none c none) Set.univ (cc0_expert_up (grid0.coords t) arg2 harg2 (Memref.whole main_arg1) (Memref.isWhole_whole _) (Memref.whole main_arg2) (Memref.isWhole_whole _) arg5 harg5 scM0_0 (Memref.isWhole_whole _) cc0_scratch1) Q } := by
  refine ⟨?_, fun W Q => ?run⟩
  case run =>
    haveI : Fact (¬cond0_0 (grid0.coords t)) := ⟨hc0⟩
    haveI : Fact (cond0_1 (grid0.coords t)) := ⟨hc1⟩
    haveI : Fact (¬cond0_2 (grid0.coords t)) := ⟨hc2⟩
    simp only [cc0_expert_up_eq_skeleton]; unfold cc0_expert_up_skel
    simp only [k0_part6_eq_skeleton, k0_part5_eq_skeleton, k0_part1_eq_skeleton, k0_part2_eq_skeleton, k0_part3_eq_skeleton, k0_part4_eq_skeleton]
    unfold owns keptP halfP fullP
    iintro ⟨⟨%y0, %hy0, H0⟩, ⟨%d2, %f2, -, H2⟩, ⟨Hc0, Hs0, Hw0_0, Hw1_0, Hw2_0, Hw3_0⟩, ⟨Hb1, ⟨%g2_1, Hp2_1⟩, Hw2_1, ⟨%g3_1, Hp3_1⟩, Hw3_1, Hr0_1, Hr1_1⟩, HW, Hk⟩
    ihave Hx2_1 := (src2_split c W0 (Ring.sl 2 ((t.val / 2) + 1)) (Ring.bk 64 ((t.val / 2) + 1))).1 $$ Hw2_1
    icases Hx2_1 with ⟨Hh2_1, Hr2_1⟩
    ihave Hx3_1 := (src3_split c W1 (Ring.sl 2 ((t.val / 2) + 1)) (Ring.bk 64 ((t.val / 2) + 1))).1 $$ Hw3_1
    icases Hx3_1 with ⟨Hh3_1, Hr3_1⟩
    obtain rfl := harg2.eq_unread hy0
    sl_exec (disch := first | sl_exact hc0 | sl_exact hc1 | sl_exact hc2)
    sl_step
    iapply Hk
    isplitl [H0]
    · iexists _; isplitr; · ipureintro; exact harg2.read_unread _
      iexact H0
    isplitl [H2]; · iexists _; iexact H2
    isplitl [Hc0 Hs0 Hw0_0 Hw1_0 Hw2_0 Hw3_0]
    · isplitl [Hc0]; · iexact Hc0
      isplitl [Hs0]; · iexact Hs0
      isplitl [Hw0_0]; · iexact Hw0_0
      isplitl [Hw1_0]; · iexact Hw1_0
      isplitl [Hw2_0]; · iexact Hw2_0
      iexact Hw3_0
    isplitl [Hb1 Hr0_1 Hr1_1 Hr2_1 Hr3_1]
    · isplitl [Hb1]; · iexact Hb1
      isplitl [Hr0_1]; · iexact Hr0_1
      isplitl [Hr1_1]; · iexact Hr1_1
      isplitl [Hr2_1]; · iexact Hr2_1
      iexact Hr3_1
    iexists _; iexact HW

end Cert.Kernel4Ideal.Own

end
-- ==== Proof.UpIdealRunG.lean ====
/- The body run at the last point. -/
module

public import proofs.«01_k».proof.Proof.Gen.Kernel4Ideal.Skeleton
public import proofs.«01_k».proof.Proof.UpIdealRunE

@[expose] public section

set_option maxRecDepth 16384

noncomputable section

namespace Cert.Kernel4Ideal.Own

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The body at the last point: the landed tile is read.
    The pieces it stores into the result's block are found by the run. -/
noncomputable def runG (c : Dev nD) (t : Fin cfg0.N) (arg2 : Memref sig .tc .vmem S2x1x544x2048 .i32) (harg2 : arg2.IsWhole) (arg5 : Memref sig .tc .vmem S2x1x544x256 .bf16) (harg5 : arg5.IsWhole) (hc0 : ¬cond0_0 (grid0.coords t)) (hc1 : ¬cond0_1 (grid0.coords t)) (hc2 : ¬cond0_2 (grid0.coords t))
    (x0 : Vec F S2x1x544x2048 .i32) (W0 : HbBuf0 (F := F) c hbM0_0) (W1 : HbBuf0 (F := F) c hbM0_1) :
    { L2 : List (View.Piece (Elt F) S2x1x544x256 .bf16) //
      ∀ (W : Waits sig Unit) (Q : PUnit → Res F),
        iprop(owns (c : Thread nD τ) arg2 fullShare x0 ∗ (∃ d, owns (c : Thread nD τ) arg5 fullShare d) ∗ keptP c W0 W1 (Ring.sl 2 (t.val / 2)) (Ring.bk 64 (t.val / 2)) ∗ owes (c : Thread nD τ) 0 W
            ∗ (iprop(owns (c : Thread nD τ) arg2 fullShare x0 ∗ (∃ f, arg5.view.loc (c : Thread nD τ) ↦[arg5.view.set]{fullShare} arg5.view.writes (Elt F) f L2) ∗ keptP c W0 W1 (Ring.sl 2 (t.val / 2)) (Ring.bk 64 (t.val / 2)) ∗ (∃ W', owes (c : Thread nD τ) 0 W')) -∗ Q ⟨⟩))
          ⊢ wp frame (wpE (defs₀ (F := F)) Variants.none c none) Set.univ (cc0_expert_up (grid0.coords t) arg2 harg2 (Memref.whole main_arg1) (Memref.isWhole_whole _) (Memref.whole main_arg2) (Memref.isWhole_whole _) arg5 harg5 scM0_0 (Memref.isWhole_whole _) cc0_scratch1) Q } := by
  refine ⟨?_, fun W Q => ?run⟩
  case run =>
    haveI : Fact (¬cond0_0 (grid0.coords t)) := ⟨hc0⟩
    haveI : Fact (¬cond0_1 (grid0.coords t)) := ⟨hc1⟩
    haveI : Fact (¬cond0_2 (grid0.coords t)) := ⟨hc2⟩
    simp only [cc0_expert_up_eq_skeleton]; unfold cc0_expert_up_skel
    simp only [k0_part6_eq_skeleton, k0_part5_eq_skeleton, k0_part1_eq_skeleton, k0_part2_eq_skeleton, k0_part3_eq_skeleton, k0_part4_eq_skeleton]
    unfold owns keptP
    iintro ⟨⟨%y0, %hy0, H0⟩, ⟨%d2, %f2, -, H2⟩, ⟨Hc0, Hs0, Hw0_0, Hw1_0, Hw2_0, Hw3_0⟩, HW, Hk⟩
    obtain rfl := harg2.eq_unread hy0
    sl_exec (disch := first | sl_exact hc0 | sl_exact hc1 | sl_exact hc2)
    sl_step
    iapply Hk
    isplitl [H0]
    · iexists _; isplitr; · ipureintro; exact harg2.read_unread _
      iexact H0
    isplitl [H2]; · iexists _; iexact H2
    isplitl [Hc0 Hs0 Hw0_0 Hw1_0 Hw2_0 Hw3_0]
    · isplitl [Hc0]; · iexact Hc0
      isplitl [Hs0]; · iexact Hs0
      isplitl [Hw0_0]; · iexact Hw0_0
      isplitl [Hw1_0]; · iexact Hw1_0
      isplitl [Hw2_0]; · iexact Hw2_0
      iexact Hw3_0
    iexists _; iexact HW

end Cert.Kernel4Ideal.Own

end
-- ==== Proof.UpIdealFrame.lean ====
/- The states of the weight streaming between points. -/
module

public import Idealize.ShloMosaic.Lib.Pipeline.ValueKit
public import proofs.«01_k».proof.Proof.UpIdealRunG

@[expose] public section

set_option maxRecDepth 16384

noncomputable section

namespace Cert.Kernel4Ideal.Own

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The states between points -/

section States
variable (c : Dev nD) (W0 : HbBuf0 (F := F) c hbM0_0) (W1 : HbBuf0 (F := F) c hbM0_1)
/-- A slot that holds a tile is free to take another. -/
theorem kept_free (s : Fin 2) (b : Fin 64) : keptP (F := F) c W0 W1 s b ⊢ freeP c W0 W1 s := by
  unfold keptP freeP
  iintro ⟨Hc, Hs, Hw⟩
  isplitl [Hc]; · iexact Hc
  isplitl [Hs]; · iexists _; iexact Hs
  iexact Hw
/-- What the region holds of the weight streaming before point `n`: both slots free at the start and the end; before a tile's
    first point, that tile under way and the other slot free; before its second, the tile landed and half of the next under
    way, if there is a next. -/
def stateP (n : ℕ) : Res F :=
  if n = 0 ∨ 128 ≤ n then iprop(freeP c W0 W1 0 ∗ freeP c W0 W1 1)
  else if n % 2 = 0 then iprop(fullP c W0 W1 (Ring.sl 2 (n / 2)) (Ring.bk 64 (n / 2)) ∗ freeP c W0 W1 (Ring.sl 2 (n / 2 + 1)))
  else if n / 2 + 1 < 64 then iprop(keptP c W0 W1 (Ring.sl 2 (n / 2)) (Ring.bk 64 (n / 2)) ∗ halfP c W0 W1 (Ring.sl 2 (n / 2 + 1)) (Ring.bk 64 (n / 2 + 1)))
  else iprop(keptP c W0 W1 (Ring.sl 2 (n / 2)) (Ring.bk 64 (n / 2)) ∗ freeP c W0 W1 (Ring.sl 2 (n / 2 + 1)))
variable (n : ℕ)
theorem state_first (h : n = 0) : stateP (F := F) c W0 W1 n ⊢ iprop(freeP c W0 W1 (Ring.sl 2 (n / 2)) ∗ freeP c W0 W1 (Ring.sl 2 (n / 2 + 1))) := by
  subst h
  unfold stateP; rw [if_pos (Or.inl rfl)]
  exact .rfl
theorem state_even (h0 : ¬n = 0) (hn : n < 128) (h : n % 2 = 0) : stateP (F := F) c W0 W1 n ⊢ iprop(fullP c W0 W1 (Ring.sl 2 (n / 2)) (Ring.bk 64 (n / 2)) ∗ freeP c W0 W1 (Ring.sl 2 (n / 2 + 1))) := by
  unfold stateP; rw [if_neg (show ¬(n = 0 ∨ 128 ≤ n) by omega), if_pos h]
theorem state_odd (hn : n < 128) (h : ¬n % 2 = 0) (h1 : n / 2 + 1 < 64) : stateP (F := F) c W0 W1 n ⊢ iprop(keptP c W0 W1 (Ring.sl 2 (n / 2)) (Ring.bk 64 (n / 2)) ∗ halfP c W0 W1 (Ring.sl 2 (n / 2 + 1)) (Ring.bk 64 (n / 2 + 1))) := by
  unfold stateP; rw [if_neg (show ¬(n = 0 ∨ 128 ≤ n) by omega), if_neg h, if_pos h1]
theorem state_last (hn : n < 128) (h : ¬n % 2 = 0) (h1 : ¬n / 2 + 1 < 64) : stateP (F := F) c W0 W1 n ⊢ iprop(keptP c W0 W1 (Ring.sl 2 (n / 2)) (Ring.bk 64 (n / 2)) ∗ freeP c W0 W1 (Ring.sl 2 (n / 2 + 1))) := by
  unfold stateP; rw [if_neg (show ¬(n = 0 ∨ 128 ≤ n) by omega), if_neg h, if_neg h1]
theorem after_even (h : n % 2 = 0) (h1 : n / 2 + 1 < 64) : iprop(keptP c W0 W1 (Ring.sl 2 (n / 2)) (Ring.bk 64 (n / 2)) ∗ halfP c W0 W1 (Ring.sl 2 (n / 2 + 1)) (Ring.bk 64 (n / 2 + 1))) ⊢ stateP (F := F) c W0 W1 (n + 1) := by
  unfold stateP
  rw [if_neg (show ¬(n + 1 = 0 ∨ 128 ≤ n + 1) by omega), if_neg (show ¬(n + 1) % 2 = 0 by omega), show (n + 1) / 2 = n / 2 by omega, if_pos h1]
theorem after_even_last (hn : n < 128) (h : n % 2 = 0) (h1 : ¬n / 2 + 1 < 64) : iprop(keptP c W0 W1 (Ring.sl 2 (n / 2)) (Ring.bk 64 (n / 2)) ∗ freeP c W0 W1 (Ring.sl 2 (n / 2 + 1))) ⊢ stateP (F := F) c W0 W1 (n + 1) := by
  unfold stateP
  rw [if_neg (show ¬(n + 1 = 0 ∨ 128 ≤ n + 1) by omega), if_neg (show ¬(n + 1) % 2 = 0 by omega), show (n + 1) / 2 = n / 2 by omega, if_neg h1]
theorem after_odd (h : ¬n % 2 = 0) (h1 : n / 2 + 1 < 64) : iprop(keptP c W0 W1 (Ring.sl 2 (n / 2)) (Ring.bk 64 (n / 2)) ∗ fullP c W0 W1 (Ring.sl 2 (n / 2 + 1)) (Ring.bk 64 (n / 2 + 1))) ⊢ stateP (F := F) c W0 W1 (n + 1) := by
  unfold stateP
  rw [if_neg (show ¬(n + 1 = 0 ∨ 128 ≤ n + 1) by omega), if_pos (show (n + 1) % 2 = 0 by omega), show (n + 1) / 2 = n / 2 + 1 by omega,
    show n / 2 + 1 + 1 = n / 2 + 2 from rfl, Ring.sl_add]
  iintro ⟨Hk, Hf⟩
  isplitl [Hf]; · iexact Hf
  iapply (kept_free (F := F) c W0 W1 (Ring.sl 2 (n / 2)) (Ring.bk 64 (n / 2))); iexact Hk
theorem after_last (hn : n < 128) (h : ¬n % 2 = 0) (h1 : ¬n / 2 + 1 < 64) : iprop(keptP c W0 W1 (Ring.sl 2 (n / 2)) (Ring.bk 64 (n / 2)) ∗ freeP c W0 W1 (Ring.sl 2 (n / 2 + 1))) ⊢ stateP (F := F) c W0 W1 (n + 1) := by
  unfold stateP
  rw [if_pos (show n + 1 = 0 ∨ 128 ≤ n + 1 by omega), show n / 2 = 63 by omega, show Ring.sl 2 63 = 1 from rfl, show Ring.sl 2 (63 + 1) = 0 from rfl]
  iintro ⟨Hk, Hf⟩
  isplitl [Hf]; · iexact Hf
  iapply (kept_free (F := F) c W0 W1 1 (Ring.bk 64 63)); iexact Hk

/-! ## What the launch hands over, and takes back -/

/-- The places of slot `s` in the scratch. -/
def slotSet (s : Fin 2) : Finset S2x2x4096x256.Idx := (Rect.unit (s := S2x2x4096x256) ![s.val, 0, 0, 0] S1x2x4096x256.size (inb_slot s)).set
theorem mem_slotSet (s : Fin 2) (i : S2x2x4096x256.Idx) : i ∈ slotSet s ↔ (i 0).val = s.val := by
  have h0 : (i 0).val < 2 := (i 0).isLt
  have h1 : (i 1).val < 2 := (i 1).isLt
  have h2 : (i 2).val < 4096 := (i 2).isLt
  have h3 : (i 3).val < 256 := (i 3).isLt
  simp only [slotSet, Rect.mem_set_unit, Fin.forall_fin_succ, IsEmpty.forall_iff, _root_.and_true]
  simp [Fin.succ, Shape.size]
  omega
theorem slots_disjoint (s s' : Fin 2) (h : s ≠ s') : Disjoint (slotSet s) (slotSet s') := by
  rw [Finset.disjoint_left]
  intro i hi hi'
  rw [mem_slotSet] at hi hi'
  exact h (Fin.ext (hi.symm.trans hi'))
theorem slots_cover : Finset.univ.biUnion slotSet = Finset.univ := by
  ext i
  simp only [Finset.mem_biUnion, Finset.mem_univ, true_and, iff_true]
  exact ⟨⟨(i 0).val, (i 0).isLt⟩, (mem_slotSet _ i).mpr rfl⟩
theorem slotP_set (s : Fin 2) (f : HbBuf0 (F := F) c scM0_0) : slotP (F := F) c s f = (((c : Thread nD τ).loc cc0_scratch0) ↦[slotSet s]{fullShare} f : Res F) :=
  slotP_eq c s f
set_option maxHeartbeats 1000000 in
theorem slots_in : iprop(∃ d, owns (c : Thread nD τ) scM0_0 fullShare d) ⊢ (iprop((∃ f, slotP (F := F) c 0 f) ∗ ∃ f, slotP (F := F) c 1 f) : Res F) := by
  simp only [scM0_0, owns_whole]
  exact Ring.slots2_split (U := Pipeline.UD sig nD τ) (ℓ := (c : Thread nD τ).loc cc0_scratch0) (q := fullShare) slotSet slots_disjoint slots_cover
    (slotP c 0) (slotP c 1) (slotP_set c 0) (slotP_set c 1)
set_option maxHeartbeats 1000000 in
theorem slots_out : (iprop((∃ f, slotP (F := F) c 0 f) ∗ ∃ f, slotP (F := F) c 1 f) : Res F) ⊢ iprop(∃ d, owns (c : Thread nD τ) scM0_0 fullShare d) := by
  simp only [scM0_0, owns_whole]
  exact Ring.slots2_join (U := Pipeline.UD sig nD τ) (ℓ := (c : Thread nD τ).loc cc0_scratch0) (q := fullShare) slotSet slots_disjoint slots_cover
    (slotP c 0) (slotP c 1) (slotP_set c 0) (slotP_set c 1)
/-- A weight operand held whole is its four shares. -/
theorem shares0 : (hbPt0 c hbM0_0 W0 : Res F) ⊣⊢ iprop((wholeP0 c W0 0 ∗ wholeP2 c W0 0) ∗ (wholeP0 c W0 1 ∗ wholeP2 c W0 1)) :=
  (pointsTo_share (PosShare.mem_left_op_right fullShare)).trans
    (sep_congr (pointsTo_share (PosShare.mem_left_op_right fullShare.left)) (pointsTo_share (PosShare.mem_left_op_right fullShare.right)))
/-- A weight operand held whole is its four shares. -/
theorem shares1 : (hbPt0 c hbM0_1 W1 : Res F) ⊣⊢ iprop((wholeP1 c W1 0 ∗ wholeP3 c W1 0) ∗ (wholeP1 c W1 1 ∗ wholeP3 c W1 1)) :=
  (pointsTo_share (PosShare.mem_left_op_right fullShare)).trans
    (sep_congr (pointsTo_share (PosShare.mem_left_op_right fullShare.left)) (pointsTo_share (PosShare.mem_left_op_right fullShare.right)))
/-- The launch's pieces — the scratch whole, the cells at zero, the weights whole — are the two slots free, -/
theorem ring_in : iprop((∃ d, owns (c : Thread nD τ) scM0_0 fullShare d) ∗ (semVal ((c : Thread nD τ), SemLoc.dma 4) 0 ∗ semVal ((c : Thread nD τ), SemLoc.dma 5) 0) ∗ hbPt0 c hbM0_0 W0 ∗ hbPt0 c hbM0_1 W1) ⊢ stateP (F := F) c W0 W1 0 := by
  unfold stateP; rw [if_pos (Or.inl rfl)]
  unfold freeP
  rw [cellP_0, cellP_1]
  iintro ⟨HS, ⟨Hc0, Hc1⟩, ⟨Hh0, Hh1⟩⟩
  ihave HS' := (slots_in (F := F) c) $$ HS
  icases HS' with ⟨HS0, HS1⟩
  ihave Hx0 := (shares0 (F := F) c W0).1 $$ Hh0
  icases Hx0 with ⟨⟨Hw0_0, Hw2_0⟩, ⟨Hw0_1, Hw2_1⟩⟩
  ihave Hx1 := (shares1 (F := F) c W1).1 $$ Hh1
  icases Hx1 with ⟨⟨Hw1_0, Hw3_0⟩, ⟨Hw1_1, Hw3_1⟩⟩
  isplitl [Hc0 HS0 Hw0_0 Hw1_0 Hw2_0 Hw3_0]
  · isplitl [Hc0]; · iexact Hc0
    isplitl [HS0]; · iexact HS0
    isplitl [Hw0_0]; · iexact Hw0_0
    isplitl [Hw1_0]; · iexact Hw1_0
    isplitl [Hw2_0]; · iexact Hw2_0
    iexact Hw3_0
  isplitl [Hc1]; · iexact Hc1
  isplitl [HS1]; · iexact HS1
  isplitl [Hw0_1]; · iexact Hw0_1
  isplitl [Hw1_1]; · iexact Hw1_1
  isplitl [Hw2_1]; · iexact Hw2_1
  iexact Hw3_1
/-- and back. -/
theorem ring_out : stateP (F := F) c W0 W1 128 ⊢ iprop((∃ d, owns (c : Thread nD τ) scM0_0 fullShare d) ∗ (semVal ((c : Thread nD τ), SemLoc.dma 4) 0 ∗ semVal ((c : Thread nD τ), SemLoc.dma 5) 0) ∗ hbPt0 c hbM0_0 W0 ∗ hbPt0 c hbM0_1 W1) := by
  unfold stateP; rw [if_pos (Or.inr (le_refl 128))]
  unfold freeP
  rw [cellP_0, cellP_1]
  iintro ⟨⟨Hc0, HS0, Hw0_0, Hw1_0, Hw2_0, Hw3_0⟩, ⟨Hc1, HS1, Hw0_1, Hw1_1, Hw2_1, Hw3_1⟩⟩
  isplitl [HS0 HS1]
  · iapply (slots_out (F := F) c); isplitl [HS0]; · iexact HS0
    iexact HS1
  isplitl [Hc0 Hc1]
  · isplitl [Hc0]; · iexact Hc0
    iexact Hc1
  isplitl [Hw0_0 Hw2_0 Hw0_1 Hw2_1]
  · iapply (shares0 (F := F) c W0).2
    isplitl [Hw0_0 Hw2_0]
    · isplitl [Hw0_0]; · iexact Hw0_0
      iexact Hw2_0
    isplitl [Hw0_1]; · iexact Hw0_1
    iexact Hw2_1
  iapply (shares1 (F := F) c W1).2
  isplitl [Hw1_0 Hw3_0]
  · isplitl [Hw1_0]; · iexact Hw1_0
    iexact Hw3_0
  isplitl [Hw1_1]; · iexact Hw1_1
  iexact Hw3_1
/-- What point `t` loads of its tile. -/
def tileLoad0 (t : Fin cfg0.N) : Vec F S1x1x4096x256 .f32 :=
  scM0_0.view.readAt (Elt F) (Rect.unit (s := S2x2x4096x256) (k0_off12 (grid0.coords t)) S1x1x4096x256.size (k0_off12_inb (grid0.coords t))).toLoadRect (tileBuf (F := F) c W0 W1 (Ring.bk 64 (t.val / 2)))
/-- What point `t` loads of its tile. -/
def tileLoad1 (t : Fin cfg0.N) : Vec F S1x1x4096x256 .f32 :=
  scM0_0.view.readAt (Elt F) (Rect.unit (s := S2x2x4096x256) (k0_off13 (grid0.coords t)) S1x1x4096x256.size (k0_off13_inb (grid0.coords t))).toLoadRect (tileBuf (F := F) c W0 W1 (Ring.bk 64 (t.val / 2)))
/-- What the body leaves in the result's block at point `t`, of the blocks it reads. -/
def payAt (t : Fin cfg0.N) (x0 : Vec F S2x1x544x2048 .i32) : Vec F S2x1x544x256 .bf16 := k0_pay1 (k0_pay3 x0) (k0_pay4 x0) (tileLoad0 (F := F) c W0 W1 t) (tileLoad1 (F := F) c W0 W1 t)
end States

set_option maxHeartbeats 1000000 in
/-- Case A leaves `payAt` in the result's block. -/
theorem out_A (c : Dev nD) (t : Fin cfg0.N) (arg2 : Memref sig .tc .vmem S2x1x544x2048 .i32) (harg2 : arg2.IsWhole) (arg5 : Memref sig .tc .vmem S2x1x544x256 .bf16) (harg5 : arg5.IsWhole) (hc0 : cond0_0 (grid0.coords t)) (hc1 : cond0_1 (grid0.coords t)) (hc2 : cond0_2 (grid0.coords t)) (x0 : Vec F S2x1x544x2048 .i32) (W0 : HbBuf0 (F := F) c hbM0_0) (W1 : HbBuf0 (F := F) c hbM0_1) (f) :
    arg5.view.read (Elt F) (arg5.view.writes (Elt F) f (runA c t arg2 harg2 arg5 harg5 hc0 hc1 hc2 x0 W0 W1).1) = payAt c W0 W1 t x0 := by
  refine (View.read_writes_eq_canon _ _ _ fun y => View.cover_of_tiledL (runA c t arg2 harg2 arg5 harg5 hc0 hc1 hc2 x0 W0 W1).1 S2x1x544x256.size (by sl_kernel_rfl) y).trans ?_
  refine (View.canon_cons_unit_lit _ _ _ (fun a => by fin_cases a <;> rfl)).trans ?_
  unfold payAt tileLoad0 tileLoad1
  frame_out

set_option maxHeartbeats 1000000 in
/-- Case C leaves `payAt` in the result's block. -/
theorem out_C (c : Dev nD) (t : Fin cfg0.N) (arg2 : Memref sig .tc .vmem S2x1x544x2048 .i32) (harg2 : arg2.IsWhole) (arg5 : Memref sig .tc .vmem S2x1x544x256 .bf16) (harg5 : arg5.IsWhole) (hc0 : ¬cond0_0 (grid0.coords t)) (hc1 : cond0_1 (grid0.coords t)) (hc2 : cond0_2 (grid0.coords t)) (x0 : Vec F S2x1x544x2048 .i32) (W0 : HbBuf0 (F := F) c hbM0_0) (W1 : HbBuf0 (F := F) c hbM0_1) (f) :
    arg5.view.read (Elt F) (arg5.view.writes (Elt F) f (runC c t arg2 harg2 arg5 harg5 hc0 hc1 hc2 x0 W0 W1).1) = payAt c W0 W1 t x0 := by
  refine (View.read_writes_eq_canon _ _ _ fun y => View.cover_of_tiledL (runC c t arg2 harg2 arg5 harg5 hc0 hc1 hc2 x0 W0 W1).1 S2x1x544x256.size (by sl_kernel_rfl) y).trans ?_
  refine (View.canon_cons_unit_lit _ _ _ (fun a => by fin_cases a <;> rfl)).trans ?_
  unfold payAt tileLoad0 tileLoad1
  frame_out

set_option maxHeartbeats 1000000 in
/-- Case D leaves `payAt` in the result's block. -/
theorem out_D (c : Dev nD) (t : Fin cfg0.N) (arg2 : Memref sig .tc .vmem S2x1x544x2048 .i32) (harg2 : arg2.IsWhole) (arg5 : Memref sig .tc .vmem S2x1x544x256 .bf16) (harg5 : arg5.IsWhole) (hc0 : ¬cond0_0 (grid0.coords t)) (hc1 : ¬cond0_1 (grid0.coords t)) (hc2 : cond0_2 (grid0.coords t)) (x0 : Vec F S2x1x544x2048 .i32) (W0 : HbBuf0 (F := F) c hbM0_0) (W1 : HbBuf0 (F := F) c hbM0_1) (f) :
    arg5.view.read (Elt F) (arg5.view.writes (Elt F) f (runD c t arg2 harg2 arg5 harg5 hc0 hc1 hc2 x0 W0 W1).1) = payAt c W0 W1 t x0 := by
  refine (View.read_writes_eq_canon _ _ _ fun y => View.cover_of_tiledL (runD c t arg2 harg2 arg5 harg5 hc0 hc1 hc2 x0 W0 W1).1 S2x1x544x256.size (by sl_kernel_rfl) y).trans ?_
  refine (View.canon_cons_unit_lit _ _ _ (fun a => by fin_cases a <;> rfl)).trans ?_
  unfold payAt tileLoad0 tileLoad1
  frame_out

set_option maxHeartbeats 1000000 in
/-- Case E leaves `payAt` in the result's block. -/
theorem out_E (c : Dev nD) (t : Fin cfg0.N) (arg2 : Memref sig .tc .vmem S2x1x544x2048 .i32) (harg2 : arg2.IsWhole) (arg5 : Memref sig .tc .vmem S2x1x544x256 .bf16) (harg5 : arg5.IsWhole) (hc0 : ¬cond0_0 (grid0.coords t)) (hc1 : cond0_1 (grid0.coords t)) (hc2 : ¬cond0_2 (grid0.coords t)) (x0 : Vec F S2x1x544x2048 .i32) (W0 : HbBuf0 (F := F) c hbM0_0) (W1 : HbBuf0 (F := F) c hbM0_1) (f) :
    arg5.view.read (Elt F) (arg5.view.writes (Elt F) f (runE c t arg2 harg2 arg5 harg5 hc0 hc1 hc2 x0 W0 W1).1) = payAt c W0 W1 t x0 := by
  refine (View.read_writes_eq_canon _ _ _ fun y => View.cover_of_tiledL (runE c t arg2 harg2 arg5 harg5 hc0 hc1 hc2 x0 W0 W1).1 S2x1x544x256.size (by sl_kernel_rfl) y).trans ?_
  refine (View.canon_cons_unit_lit _ _ _ (fun a => by fin_cases a <;> rfl)).trans ?_
  unfold payAt tileLoad0 tileLoad1
  frame_out

set_option maxHeartbeats 1000000 in
/-- Case G leaves `payAt` in the result's block. -/
theorem out_G (c : Dev nD) (t : Fin cfg0.N) (arg2 : Memref sig .tc .vmem S2x1x544x2048 .i32) (harg2 : arg2.IsWhole) (arg5 : Memref sig .tc .vmem S2x1x544x256 .bf16) (harg5 : arg5.IsWhole) (hc0 : ¬cond0_0 (grid0.coords t)) (hc1 : ¬cond0_1 (grid0.coords t)) (hc2 : ¬cond0_2 (grid0.coords t)) (x0 : Vec F S2x1x544x2048 .i32) (W0 : HbBuf0 (F := F) c hbM0_0) (W1 : HbBuf0 (F := F) c hbM0_1) (f) :
    arg5.view.read (Elt F) (arg5.view.writes (Elt F) f (runG c t arg2 harg2 arg5 harg5 hc0 hc1 hc2 x0 W0 W1).1) = payAt c W0 W1 t x0 := by
  refine (View.read_writes_eq_canon _ _ _ fun y => View.cover_of_tiledL (runG c t arg2 harg2 arg5 harg5 hc0 hc1 hc2 x0 W0 W1).1 S2x1x544x256.size (by sl_kernel_rfl) y).trans ?_
  refine (View.canon_cons_unit_lit _ _ _ (fun a => by fin_cases a <;> rfl)).trans ?_
  unfold payAt tileLoad0 tileLoad1
  frame_out

end Cert.Kernel4Ideal.Own

end
-- ==== Proof.UpIdealCert.lean ====
/- The region's proof data, its run and the frame. -/
module

public import proofs.«01_k».proof.Proof.UpIdealFrame

@[expose] public section

set_option maxRecDepth 16384

noncomputable section

namespace Cert.Kernel4Ideal.Own

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The launch -/

set_option maxHeartbeats 800000 in
/-- The program up to the region: the region alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- Input window 0's staging buffer holds its block at every point. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The arguments are as launched after a run of the region. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

abbrev ms0_0 (t : Fin cfg0.N) : Memref sig .tc .vmem S2x1x544x2048 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1x544x256 .bf16 := win0_1.stage (cfg0.slots t 1)
abbrev hs0_1 (t : Fin cfg0.N) : (ms0_1 t).IsWhole := hstage0_1 ((cfg0.slots t 1).cast nbuf0_1)
/-- The body's own semaphore cells. -/
abbrev osem0 : Fin 2 → SemLoc sig := fun j => (![SemLoc.dma 4, SemLoc.dma 5] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : Res F)
      = iprop(semVal ((c : Thread nD τ), SemLoc.dma 4) 0 ∗ semVal ((c : Thread nD τ), SemLoc.dma 5) 0) := by
  rw [Pipeline.ownSems0_eq_of_list c osem0 [0, 1] (by decide) (by decide)]; rfl
/-- The operands that the body moves itself. -/
def H0 : Finset (Ref sig .tc) := {main_arg1, main_arg2}
theorem H0_sub : H0 ⊆ Pipeline.restRefs sig spec0 := by decide
theorem hbmPts0_eq (c : Dev nD) :
    (bigSep H0 (fun b => ((c : Thread nD τ).loc b) ↦{fullShare} V m c b) : Res F) = iprop(hbPt0 c hbM0_0 (V m c main_arg1) ∗ hbPt0 c hbM0_1 (V m c main_arg2)) := by
  rw [BI.bigSep_eq_bigSepL_of_eq [main_arg1, main_arg2] (by decide) (by decide)]; rfl
theorem PhiD0_eq (c : Dev nD) :
    (Pipeline.ΦD osem0 spec0 H0 (V m) c : Res F)
      = iprop(iprop((∃ d, owns (c : Thread nD τ) scM0_0 fullShare d)) ∗ (∃ r, prngReg c r) ∗ iprop(semVal ((c : Thread nD τ), SemLoc.dma 4) 0 ∗ semVal ((c : Thread nD τ), SemLoc.dma 5) 0) ∗ iprop(hbPt0 c hbM0_0 (V m c main_arg1) ∗ hbPt0 c hbM0_1 (V m c main_arg2))) := by
  rw [Pipeline.ΦD_eq, scopedRest0_eq, ownSems00_eq, hbmPts0_eq]; simp only [scM0_0, owns_whole]; try rfl

/-! ## The proof data -/

/-- What the region keeps before point `k`. -/
def PhiR (c : Dev nD) (k : ℕ) : Res F := iprop((∃ r, prngReg c r) ∗ stateP c (V m c main_arg1) (V m c main_arg2) k)
/-- What the result's block holds after point `t`. -/
def outAt (c : Dev nD) (t : Fin cfg0.N) : Vec F S2x1x544x256 .bf16 := payAt c (V m c main_arg1) (V m c main_arg2) t (iblk m c 0 t)
/-- Each input's buffer at its block, the result's at `outAt`, the weight streaming's state, nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAt m c t
  Φ t := PhiR m c t.val
  q _ := fullShare
  owed _ := 0
theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]
theorem before0_0 (c : Dev nD) (t : Fin cfg0.N) (d) : (dats m 0 c).before 0 t d = iblk m c 0 t :=
  before0_0_of m (dats m 0 c) (A_eq m c 0) (after0_0 m c) t d

/-! ## The body at a point -/

/-- What the body is called with at point `t`, -/
def bodyPre (c : Dev nD) (t : Fin cfg0.N) : Res F :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
/-- and what it returns. -/
def bodyPost (c : Dev nD) (t : Fin cfg0.N) : Res F :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 1600000 in
/-- The body at any point, by its cases: the state before the point opens to what the case's run takes, and what the run
    hands back is the state before the next. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [after0_0, after0_1]
  rw [PhiR_castSucc m c t, PhiR_succ m c t]
  unfold Dat.owesAt Pipeline.owesWithin
  rw [show (dats m 0 c).owed t.castSucc = 0 from rfl, show (dats m 0 c).owed t.succ = 0 from rfl]
  unfold PhiR
  have hgN : grid0.N = 128 := N_0
  have hN : t.val < 128 := lt_of_lt_of_eq t.isLt (show cfg0.N = 128 from N_0)
  by_cases h0 : t.val = 0
  · have h1 : t.val / 2 + 1 < 64 := by omega
    have h2 : t.val % 2 = 0 := by omega
    iintro ⟨⟨Hg, HR⟩, ⟨%W, -, HW⟩, ⟨%d0, H0⟩, ⟨%d1, H1⟩⟩
    ihave HR' := (state_first (F := F) c (V m c main_arg1) (V m c main_arg2) t.val h0) $$ HR
    icases HR' with ⟨Ha, Hb⟩
    iapply ((runA c t _ _ _ _ ((hcond0_0 t).mpr h0) ((hcond0_1 t).mpr h1) ((hcond0_2 t).mpr h2) (iblk m c 0 t) (V m c main_arg1) (V m c main_arg2)).2 W _)
    isplitl [H0]; · iexact H0
    isplitl [H1]; · iexists _; iexact H1
    isplitl [Ha]; · iexact Ha
    isplitl [Hb]; · iexact Hb
    isplitl [HW]; · iexact HW
    iintro ⟨H0, ⟨%e2, H1⟩, Ha, Hb, ⟨%W', HW'⟩⟩
    isplitl [Hg Ha Hb]
    · isplitl [Hg]; · iexact Hg
      iapply (after_even (F := F) c (V m c main_arg1) (V m c main_arg2) t.val h2 h1)
      isplitl [Ha]; · iexact Ha
      iexact Hb
    isplitl [HW']
    · iexists W'; isplitr; · ipureintro; exact fun _ _ => Or.inl trivial
      iexact HW'
    isplitl [H0]; · iexact H0
    unfold owns; iexists _; isplitr
    swap; · iexact H1
    ipureintro; exact out_A c t _ _ _ _ ((hcond0_0 t).mpr h0) ((hcond0_1 t).mpr h1) ((hcond0_2 t).mpr h2) (iblk m c 0 t) (V m c main_arg1) (V m c main_arg2) _
  · by_cases h2 : t.val % 2 = 0
    · by_cases h1 : t.val / 2 + 1 < 64
      · iintro ⟨⟨Hg, HR⟩, ⟨%W, -, HW⟩, ⟨%d0, H0⟩, ⟨%d1, H1⟩⟩
        ihave HR' := (state_even (F := F) c (V m c main_arg1) (V m c main_arg2) t.val h0 hN h2) $$ HR
        icases HR' with ⟨Ha, Hb⟩
        iapply ((runC c t _ _ _ _ (fun h => h0 ((hcond0_0 t).mp h)) ((hcond0_1 t).mpr h1) ((hcond0_2 t).mpr h2) (iblk m c 0 t) (V m c main_arg1) (V m c main_arg2)).2 W _)
        isplitl [H0]; · iexact H0
        isplitl [H1]; · iexists _; iexact H1
        isplitl [Ha]; · iexact Ha
        isplitl [Hb]; · iexact Hb
        isplitl [HW]; · iexact HW
        iintro ⟨H0, ⟨%e2, H1⟩, Ha, Hb, ⟨%W', HW'⟩⟩
        isplitl [Hg Ha Hb]
        · isplitl [Hg]; · iexact Hg
          iapply (after_even (F := F) c (V m c main_arg1) (V m c main_arg2) t.val h2 h1)
          isplitl [Ha]; · iexact Ha
          iexact Hb
        isplitl [HW']
        · iexists W'; isplitr; · ipureintro; exact fun _ _ => Or.inl trivial
          iexact HW'
        isplitl [H0]; · iexact H0
        unfold owns; iexists _; isplitr
        swap; · iexact H1
        ipureintro; exact out_C c t _ _ _ _ (fun h => h0 ((hcond0_0 t).mp h)) ((hcond0_1 t).mpr h1) ((hcond0_2 t).mpr h2) (iblk m c 0 t) (V m c main_arg1) (V m c main_arg2) _
      · iintro ⟨⟨Hg, HR⟩, ⟨%W, -, HW⟩, ⟨%d0, H0⟩, ⟨%d1, H1⟩⟩
        ihave HR' := (state_even (F := F) c (V m c main_arg1) (V m c main_arg2) t.val h0 hN h2) $$ HR
        icases HR' with ⟨Ha, Hb⟩
        iapply ((runD c t _ _ _ _ (fun h => h0 ((hcond0_0 t).mp h)) (fun h => h1 ((hcond0_1 t).mp h)) ((hcond0_2 t).mpr h2) (iblk m c 0 t) (V m c main_arg1) (V m c main_arg2)).2 W _)
        isplitl [H0]; · iexact H0
        isplitl [H1]; · iexists _; iexact H1
        isplitl [Ha]; · iexact Ha
        isplitl [HW]; · iexact HW
        iintro ⟨H0, ⟨%e2, H1⟩, Ha, ⟨%W', HW'⟩⟩
        isplitl [Hg Ha Hb]
        · isplitl [Hg]; · iexact Hg
          iapply (after_even_last (F := F) c (V m c main_arg1) (V m c main_arg2) t.val hN h2 h1)
          isplitl [Ha]; · iexact Ha
          iexact Hb
        isplitl [HW']
        · iexists W'; isplitr; · ipureintro; exact fun _ _ => Or.inl trivial
          iexact HW'
        isplitl [H0]; · iexact H0
        unfold owns; iexists _; isplitr
        swap; · iexact H1
        ipureintro; exact out_D c t _ _ _ _ (fun h => h0 ((hcond0_0 t).mp h)) (fun h => h1 ((hcond0_1 t).mp h)) ((hcond0_2 t).mpr h2) (iblk m c 0 t) (V m c main_arg1) (V m c main_arg2) _
    · by_cases h1 : t.val / 2 + 1 < 64
      · iintro ⟨⟨Hg, HR⟩, ⟨%W, -, HW⟩, ⟨%d0, H0⟩, ⟨%d1, H1⟩⟩
        ihave HR' := (state_odd (F := F) c (V m c main_arg1) (V m c main_arg2) t.val hN h2 h1) $$ HR
        icases HR' with ⟨Ha, Hb⟩
        iapply ((runE c t _ _ _ _ (fun h => h0 ((hcond0_0 t).mp h)) ((hcond0_1 t).mpr h1) (fun h => h2 ((hcond0_2 t).mp h)) (iblk m c 0 t) (V m c main_arg1) (V m c main_arg2)).2 W _)
        isplitl [H0]; · iexact H0
        isplitl [H1]; · iexists _; iexact H1
        isplitl [Ha]; · iexact Ha
        isplitl [Hb]; · iexact Hb
        isplitl [HW]; · iexact HW
        iintro ⟨H0, ⟨%e2, H1⟩, Ha, Hb, ⟨%W', HW'⟩⟩
        isplitl [Hg Ha Hb]
        · isplitl [Hg]; · iexact Hg
          iapply (after_odd (F := F) c (V m c main_arg1) (V m c main_arg2) t.val h2 h1)
          isplitl [Ha]; · iexact Ha
          iexact Hb
        isplitl [HW']
        · iexists W'; isplitr; · ipureintro; exact fun _ _ => Or.inl trivial
          iexact HW'
        isplitl [H0]; · iexact H0
        unfold owns; iexists _; isplitr
        swap; · iexact H1
        ipureintro; exact out_E c t _ _ _ _ (fun h => h0 ((hcond0_0 t).mp h)) ((hcond0_1 t).mpr h1) (fun h => h2 ((hcond0_2 t).mp h)) (iblk m c 0 t) (V m c main_arg1) (V m c main_arg2) _
      · iintro ⟨⟨Hg, HR⟩, ⟨%W, -, HW⟩, ⟨%d0, H0⟩, ⟨%d1, H1⟩⟩
        ihave HR' := (state_last (F := F) c (V m c main_arg1) (V m c main_arg2) t.val hN h2 h1) $$ HR
        icases HR' with ⟨Ha, Hb⟩
        iapply ((runG c t _ _ _ _ (fun h => h0 ((hcond0_0 t).mp h)) (fun h => h1 ((hcond0_1 t).mp h)) (fun h => h2 ((hcond0_2 t).mp h)) (iblk m c 0 t) (V m c main_arg1) (V m c main_arg2)).2 W _)
        isplitl [H0]; · iexact H0
        isplitl [H1]; · iexists _; iexact H1
        isplitl [Ha]; · iexact Ha
        isplitl [HW]; · iexact HW
        iintro ⟨H0, ⟨%e2, H1⟩, Ha, ⟨%W', HW'⟩⟩
        isplitl [Hg Ha Hb]
        · isplitl [Hg]; · iexact Hg
          iapply (after_last (F := F) c (V m c main_arg1) (V m c main_arg2) t.val hN h2 h1)
          isplitl [Ha]; · iexact Ha
          iexact Hb
        isplitl [HW']
        · iexists W'; isplitr; · ipureintro; exact fun _ _ => Or.inl trivial
          iexact HW'
        isplitl [H0]; · iexact H0
        unfold owns; iexists _; isplitr
        swap; · iexact H1
        ipureintro; exact out_G c t _ _ _ _ (fun h => h0 ((hcond0_0 t).mp h)) (fun h => h1 ((hcond0_1 t).mp h)) (fun h => h2 ((hcond0_2 t).mp h)) (iblk m c 0 t) (V m c main_arg1) (V m c main_arg2) _

theorem defs₀_row (t : Fin cfg0.N) :
    defs₀ (F := F) .tc cfg0.body (cfg0.bodyArgs t (cfg0.slots t)) = bodyAt0 t := by
  unfold defs₀; rw [Defs.onTc_tc]
/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
/-- What the launch hands the region is the state before the first point, -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨HS, Hg, Hc, Hh⟩
  isplitl [Hg]; · iexact Hg
  iapply (ring_in (F := F) c (V m c main_arg1) (V m c main_arg2))
  isplitl [HS]; · iexact HS
  isplitl [Hc]; · iexact Hc
  iexact Hh
/-- and the state after the last hands it back. -/
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 128 from N_0]
  iintro ⟨Hg, HR⟩
  ihave HX := (ring_out (F := F) c (V m c main_arg1) (V m c main_arg2)) $$ HR
  icases HX with ⟨HS, Hc, Hh⟩
  isplitl [HS]; · iexact HS
  isplitl [Hg]; · iexact Hg
  isplitl [Hc]; · iexact Hc
  iexact Hh

/-! ## The run and the frame -/

set_option backward.isDefEq.respectTransparency.types false in
/-- The launch: every run ends with the arrays at what the proof data gives, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)
/-- Every run ends with the arrays at what the proof data gives. -/
theorem run_main : θ_run defs (onTc (τ := τ) (main (F := F))) (s₀ m ρ) (Pipeline.FramePost cfgs (dats m) 0 (V m)) :=
  (θ_run defs _ _).mono (fun _ h => h.1) (run_main_quiescent m ρ)
/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)
/-- The frame: the arguments end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-! ## The result's array, block by block -/

section Blocks
theorem flushed (c : Dev nD) (t : Fin cfg0.N) :
    (dats m 0 c).flushed 1 t = (cfg0.win 1).cut (grid0.coords t) (outAt m c t) := by
  show (cfg0.win 1).cut (grid0.coords t) ((dats m 0 c).after 1 t) = _
  rw [after0_1]
/-- The run with the result's array named and the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 1 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.2 c).1 1, h.1 c⟩) (θ_run_and (unchanged m ρ) (run_main m ρ))
end Blocks

end Cert.Kernel4Ideal.Own

end
-- ==== Proof.UpFrames.lean ====
/-
  The up projection's frame at the bit level, from the run of its ideal program, which is stated over any float values.
-/
module

public import proofs.«01_k».proof.Defs
public import proofs.«01_k».proof.Proof.Gen.Kernel4
public import proofs.«01_k».proof.Proof.UpIdealCert

@[expose] public section

noncomputable section

namespace Cert.Proof.Up

open Idealize.ShloMosaic Idealize.SL.Sem

/-- The two programs have the same body. -/
theorem same_body : Cert.Kernel4.defs₀ (F := Bits) = Cert.Kernel4Ideal.defs₀ (F := Bits) := by
  unfold Cert.Kernel4.defs₀ Cert.Kernel4Ideal.defs₀
  congr 1
  funext l x
  match l, x with
  | 0, (t, s) => rfl
  | ⟨_ + 1, h⟩, _ => exact absurd h (Nat.not_lt.2 (Nat.le_add_left _ _))

/-- The two programs have the same body table. -/
theorem same_defs : Cert.Kernel4.defs (F := Bits) = Cert.Kernel4Ideal.defs (F := Bits) :=
  congrArg (Pipeline.defs Cert.Kernel4Ideal.pcfgs) same_body

/-- The kernel at the bit level leaves its arguments and its semaphores alone: its program is the ideal one's text. -/
theorem frame_kernel : Cert.quiescent_Kernel4 (hKernel4 := Cert.Kernel4.Gen.facts) := by
  intro m ρ _
  rw [same_defs]
  exact Cert.Kernel4Ideal.Own.frame (F := Bits) m ρ

end Cert.Proof.Up

end
-- ==== Proof.UpReference.lean ====
/-
  The reference of the up projection: its run, and what it returns at an index.
-/
module

public import proofs.«01_k».proof.Proof.Gen.Reference4Ideal
public import Idealize.ShloMosaic.Lib.StableHlo.Run
public import Idealize.ShloMosaic.Lib.Pointwise

@[expose] public section

set_option maxRecDepth 16384

noncomputable section

namespace Cert.Reference4Ideal.Up

open Cert.Reference4Ideal Cert.Reference4Ideal.Gen Idealize.ShloMosaic Idealize.ShloMosaic.TcCoe Idealize.SL.Sem
open Idealize.ShloMosaic.StableHlo

/-! ## At one number -/

/-- The number a word's lower half packs. -/
def lowOf (w : BitVec 32) : EReal := Ideal.ofBits .f32 (w <<< (16#32))
/-- The number a word's upper half packs. -/
def highOf (w : BitVec 32) : EReal := Ideal.ofBits .f32 (w &&& 4294901760#32)
/-- The logistic gate. -/
def act (x : EReal) : EReal :=
  x * Ideal.div (Ideal.ofBits .f32 0x3F800000#32) (Ideal.ofBits .f32 0x3F800000#32 + Ideal.exp (-x))

/-! ## The reference's arrays -/

/-- The lower halves' numbers. -/
def lows (X : IVec S4x16x544x2048 32) : FVec Ideal S4x16x544x2048 .f32 :=
  bitcastToFloat .f32 (Host.shli X (broadcastInDim S4x16x544x2048 ![] bcast_S_S4x16x544x2048 (constantI S_ 32 16#32)))

/-- The upper halves' numbers. -/
def highs (X : IVec S4x16x544x2048 32) : FVec Ideal S4x16x544x2048 .f32 :=
  bitcastToFloat .f32 (andi X (broadcastInDim S4x16x544x2048 ![] bcast_S_S4x16x544x2048 (constantI S_ 32 4294901760#32)))

/-- Both, side by side. -/
def joined (A B : FVec Ideal S4x16x544x2048 .f32) : FVec Ideal S4x16x544x4096 .f32 :=
  concatenate S4x16x544x4096 3 [⟨S4x16x544x2048, A⟩, ⟨S4x16x544x2048, B⟩] concatenates_S4x16x544x2048_S4x16x544x2048_S4x16x544x4096_d3

/-- A weight's first layer times the rows, expert by expert. -/
def mixed (W : FVec Ideal S2x16x4096x1024 .f32) (H : FVec Ideal S4x16x544x4096 .f32) : FVec Ideal S16x1024x4x544 .f32 :=
  Host.dotGeneral dot_S16x4096x1024_S4x16x544x4096_S16x1024x4x544_1_3_2_02_0_1 none
    (shapeCast _ (extractStridedSlice S1x16x4096x1024 ![0, 0, 0, 0] W slices_S2x16x4096x1024_S1x16x4096x1024_0_0_0_0) shapeCasts_S1x16x4096x1024_S16x4096x1024 : FVec Ideal S16x4096x1024 .f32) H

/-- That product, rows before columns. -/
def turned (P : FVec Ideal S16x1024x4x544 .f32) : FVec Ideal S4x16x544x1024 .f32 :=
  transpose S4x16x544x1024 [2, 0, 3, 1] P transposes_S16x1024x4x544_S4x16x544x1024_2_0_3_1

/-- The logistic gate of an array. -/
def gate (G : FVec Ideal S4x16x544x1024 .f32) : FVec Ideal S4x16x544x1024 .f32 :=
  mulf G (Host.divf (broadcastInDim S4x16x544x1024 ![] bcast_S_S4x16x544x1024 (constant S_ .f32 0x3F800000#32))
    (addf (broadcastInDim S4x16x544x1024 ![] bcast_S_S4x16x544x1024 (constant S_ .f32 0x3F800000#32)) (Host.exp (Host.negf G))))

/-- The gate times the other product. -/
def gated (G U : FVec Ideal S4x16x544x1024 .f32) : FVec Ideal S4x16x544x1024 .bf16 :=
  truncf .bf16 (mulf (gate G) U) bitsLt_bf16_f32

/-- The whole reference. -/
def up (X : IVec S4x16x544x2048 32) (W V : FVec Ideal S2x16x4096x1024 .f32) : FVec Ideal S4x16x544x1024 .bf16 :=
  gated (turned (mixed W (joined (lows X) (highs X)))) (turned (mixed V (joined (lows X) (highs X))))

/-- Sixteen places is within a word. -/
theorem shl16 (u : ArithUnit) (w : BitVec 32) : IntOp.shli u w 16#32 = w <<< (16#32) := by
  unfold IntOp.shli
  exact if_pos (by decide)

theorem mask_word (w : BitVec 32) : IntOp.andi w 4294901760#32 = w &&& 4294901760#32 := by
  unfold IntOp.andi
  rfl

theorem lows_at (X : IVec S4x16x544x2048 32) (b : Fin 4) (e : Fin 16) (r : Fin 544) (k : Fin 2048) :
    lows X (ix4 b e r k) = lowOf (X (ix4 b e r k)) := by
  unfold lows lowOf
  exact congrArg (Ideal.ofBits .f32) (shl16 _ _)

theorem highs_at (X : IVec S4x16x544x2048 32) (b : Fin 4) (e : Fin 16) (r : Fin 544) (k : Fin 2048) :
    highs X (ix4 b e r k) = highOf (X (ix4 b e r k)) := by
  unfold highs highOf
  exact congrArg (Ideal.ofBits .f32) (mask_word _)

theorem joined_left (A B : FVec Ideal S4x16x544x2048 .f32) (b : Fin 4) (e : Fin 16) (r : Fin 544) (k : Fin 2048) :
    joined A B (ix4 b e r ⟨k.val, by omega⟩) = A (ix4 b e r k) := by
  pointwise [joined]

theorem joined_right (A B : FVec Ideal S4x16x544x2048 .f32) (b : Fin 4) (e : Fin 16) (r : Fin 544) (k : Fin 2048) :
    joined A B (ix4 b e r ⟨2048 + k.val, by omega⟩) = B (ix4 b e r k) := by
  pointwise [joined]

theorem mixed_at (W : FVec Ideal S2x16x4096x1024 .f32) (H : FVec Ideal S4x16x544x4096 .f32) (e : Fin 16) (d : Fin 1024) (b : Fin 4) (r : Fin 544) :
    mixed W H (ix4 e d b r) = ∑ k : Fin 4096, W (ix4 0 e k d) * H (ix4 b e r k) := by
  pointwise [mixed]

theorem turned_at (P : FVec Ideal S16x1024x4x544 .f32) (b : Fin 4) (e : Fin 16) (r : Fin 544) (d : Fin 1024) :
    turned P (ix4 b e r d) = P (ix4 e d b r) := by
  pointwise [turned]

theorem gated_at (G U : FVec Ideal S4x16x544x1024 .f32) (b : Fin 4) (e : Fin 16) (r : Fin 544) (d : Fin 1024) :
    gated G U (ix4 b e r d) = act (G (ix4 b e r d)) * (U (ix4 b e r d) : EReal) := by
  pointwise [gated, gate, act]

/-- A sum over two stretches, one after the other. -/
theorem sum_two {a b n : ℕ} (h : n = a + b) (f : Fin n → EReal) :
    ∑ k, f k = (∑ k : Fin a, f ⟨k.val, by omega⟩) + ∑ k : Fin b, f ⟨a + k.val, by omega⟩ := by
  subst h
  rw [Fin.sum_univ_add]
  rfl

/-- One index of a weight's product, the lower halves' part and the upper halves'. -/
def entry (X : IVec S4x16x544x2048 32) (W : FVec Ideal S2x16x4096x1024 .f32) (b : Fin 4) (e : Fin 16) (r : Fin 544) (d : Fin 1024) : EReal :=
  (∑ k : Fin 2048, lowOf (X (ix4 b e r k)) * W (ix4 0 e ⟨k.val, by omega⟩ d))
    + ∑ k : Fin 2048, highOf (X (ix4 b e r k)) * W (ix4 0 e ⟨2048 + k.val, by omega⟩ d)

theorem mixed_entry (X : IVec S4x16x544x2048 32) (W : FVec Ideal S2x16x4096x1024 .f32) (b : Fin 4) (e : Fin 16) (r : Fin 544) (d : Fin 1024) :
    mixed W (joined (lows X) (highs X)) (ix4 e d b r) = entry X W b e r d := by
  rw [mixed_at, sum_two (a := 2048) (b := 2048) (by norm_num)]
  unfold entry
  simp only [joined_left, joined_right, lows_at, highs_at]
  exact congrArg₂ _ (Finset.sum_congr rfl fun k _ => mul_comm _ _) (Finset.sum_congr rfl fun k _ => mul_comm _ _)

/-- The reference's result at an index. -/
theorem up_at (X : IVec S4x16x544x2048 32) (W V : FVec Ideal S2x16x4096x1024 .f32)
    (b : Fin 4) (e : Fin 16) (r : Fin 544) (d : Fin 1024) :
    up X W V (ix4 b e r d) = act (entry X W b e r d) * entry X V b e r d := by
  unfold up
  rw [gated_at, turned_at, turned_at, mixed_entry, mixed_entry]

/-! ## The run -/

section Steps
variable {F : FTy → Type} [FloatOps F]

/-- The reference's operations, one after the other. -/
abbrev steps : List (HloOp τ sig (Elt F)) :=
  [ nullary main_c (constantI S_ 32 16#32),
    unary main_c main_v0 (broadcastInDim S4x16x544x2048 ![] bcast_S_S4x16x544x2048 : (⟨S_, .i32⟩ : BufTy).Contents (Elt F) → (⟨S4x16x544x2048, .i32⟩ : BufTy).Contents (Elt F)),
    binary main_arg0 main_v0 main_v1 (Host.shli : (⟨S4x16x544x2048, .i32⟩ : BufTy).Contents (Elt F) → (⟨S4x16x544x2048, .i32⟩ : BufTy).Contents (Elt F) → (⟨S4x16x544x2048, .i32⟩ : BufTy).Contents (Elt F)),
    unary main_v1 main_v2 (bitcastToFloat .f32 : (⟨S4x16x544x2048, .i32⟩ : BufTy).Contents (Elt F) → (⟨S4x16x544x2048, .f32⟩ : BufTy).Contents (Elt F)),
    nullary main_c_0 (constantI S_ 32 4294901760#32),
    unary main_c_0 main_v3 (broadcastInDim S4x16x544x2048 ![] bcast_S_S4x16x544x2048 : (⟨S_, .i32⟩ : BufTy).Contents (Elt F) → (⟨S4x16x544x2048, .i32⟩ : BufTy).Contents (Elt F)),
    binary main_arg0 main_v3 main_v4 (andi : (⟨S4x16x544x2048, .i32⟩ : BufTy).Contents (Elt F) → (⟨S4x16x544x2048, .i32⟩ : BufTy).Contents (Elt F) → (⟨S4x16x544x2048, .i32⟩ : BufTy).Contents (Elt F)),
    unary main_v4 main_v5 (bitcastToFloat .f32 : (⟨S4x16x544x2048, .i32⟩ : BufTy).Contents (Elt F) → (⟨S4x16x544x2048, .f32⟩ : BufTy).Contents (Elt F)),
    binary main_v2 main_v5 main_v6 ((fun a b => concatenate S4x16x544x4096 3 [⟨S4x16x544x2048, a⟩, ⟨S4x16x544x2048, b⟩] concatenates_S4x16x544x2048_S4x16x544x2048_S4x16x544x4096_d3) : (⟨S4x16x544x2048, .f32⟩ : BufTy).Contents (Elt F) → (⟨S4x16x544x2048, .f32⟩ : BufTy).Contents (Elt F) → (⟨S4x16x544x4096, .f32⟩ : BufTy).Contents (Elt F)),
    unary main_arg1 main_v7 ((extractStridedSlice S1x16x4096x1024 ![0, 0, 0, 0] · slices_S2x16x4096x1024_S1x16x4096x1024_0_0_0_0) : (⟨S2x16x4096x1024, .f32⟩ : BufTy).Contents (Elt F) → (⟨S1x16x4096x1024, .f32⟩ : BufTy).Contents (Elt F)),
    reshape main_v7 main_v8 (rfl : (.f32 : EltTy) = .f32) shapeCasts_S1x16x4096x1024_S16x4096x1024,
    binary main_v8 main_v6 main_v9 ((fun l r => Host.dotGeneral dot_S16x4096x1024_S4x16x544x4096_S16x1024x4x544_1_3_2_02_0_1 none l r) : (⟨S16x4096x1024, .f32⟩ : BufTy).Contents (Elt F) → (⟨S4x16x544x4096, .f32⟩ : BufTy).Contents (Elt F) → (⟨S16x1024x4x544, .f32⟩ : BufTy).Contents (Elt F)),
    unary main_v9 main_v10 ((transpose S4x16x544x1024 [2, 0, 3, 1] · transposes_S16x1024x4x544_S4x16x544x1024_2_0_3_1) : (⟨S16x1024x4x544, .f32⟩ : BufTy).Contents (Elt F) → (⟨S4x16x544x1024, .f32⟩ : BufTy).Contents (Elt F)),
    unary main_v10 main_call0_v0 (Host.negf : (⟨S4x16x544x1024, .f32⟩ : BufTy).Contents (Elt F) → (⟨S4x16x544x1024, .f32⟩ : BufTy).Contents (Elt F)),
    unary main_call0_v0 main_call0_v1 (Host.exp : (⟨S4x16x544x1024, .f32⟩ : BufTy).Contents (Elt F) → (⟨S4x16x544x1024, .f32⟩ : BufTy).Contents (Elt F)),
    nullary main_call0_cst (constant S_ .f32 0x3F800000#32),
    unary main_call0_cst main_call0_v2 (broadcastInDim S4x16x544x1024 ![] bcast_S_S4x16x544x1024 : (⟨S_, .f32⟩ : BufTy).Contents (Elt F) → (⟨S4x16x544x1024, .f32⟩ : BufTy).Contents (Elt F)),
    binary main_call0_v2 main_call0_v1 main_call0_v3 (addf : (⟨S4x16x544x1024, .f32⟩ : BufTy).Contents (Elt F) → (⟨S4x16x544x1024, .f32⟩ : BufTy).Contents (Elt F) → (⟨S4x16x544x1024, .f32⟩ : BufTy).Contents (Elt F)),
    nullary main_call0_cst_0 (constant S_ .f32 0x3F800000#32),
    unary main_call0_cst_0 main_call0_v4 (broadcastInDim S4x16x544x1024 ![] bcast_S_S4x16x544x1024 : (⟨S_, .f32⟩ : BufTy).Contents (Elt F) → (⟨S4x16x544x1024, .f32⟩ : BufTy).Contents (Elt F)),
    binary main_call0_v4 main_call0_v3 main_call0_v5 (Host.divf : (⟨S4x16x544x1024, .f32⟩ : BufTy).Contents (Elt F) → (⟨S4x16x544x1024, .f32⟩ : BufTy).Contents (Elt F) → (⟨S4x16x544x1024, .f32⟩ : BufTy).Contents (Elt F)),
    binary main_v10 main_call0_v5 main_v11 (mulf : (⟨S4x16x544x1024, .f32⟩ : BufTy).Contents (Elt F) → (⟨S4x16x544x1024, .f32⟩ : BufTy).Contents (Elt F) → (⟨S4x16x544x1024, .f32⟩ : BufTy).Contents (Elt F)),
    unary main_arg2 main_v12 ((extractStridedSlice S1x16x4096x1024 ![0, 0, 0, 0] · slices_S2x16x4096x1024_S1x16x4096x1024_0_0_0_0) : (⟨S2x16x4096x1024, .f32⟩ : BufTy).Contents (Elt F) → (⟨S1x16x4096x1024, .f32⟩ : BufTy).Contents (Elt F)),
    reshape main_v12 main_v13 (rfl : (.f32 : EltTy) = .f32) shapeCasts_S1x16x4096x1024_S16x4096x1024,
    binary main_v13 main_v6 main_v14 ((fun l r => Host.dotGeneral dot_S16x4096x1024_S4x16x544x4096_S16x1024x4x544_1_3_2_02_0_1 none l r) : (⟨S16x4096x1024, .f32⟩ : BufTy).Contents (Elt F) → (⟨S4x16x544x4096, .f32⟩ : BufTy).Contents (Elt F) → (⟨S16x1024x4x544, .f32⟩ : BufTy).Contents (Elt F)),
    unary main_v14 main_v15 ((transpose S4x16x544x1024 [2, 0, 3, 1] · transposes_S16x1024x4x544_S4x16x544x1024_2_0_3_1) : (⟨S16x1024x4x544, .f32⟩ : BufTy).Contents (Elt F) → (⟨S4x16x544x1024, .f32⟩ : BufTy).Contents (Elt F)),
    binary main_v11 main_v15 main_v16 (mulf : (⟨S4x16x544x1024, .f32⟩ : BufTy).Contents (Elt F) → (⟨S4x16x544x1024, .f32⟩ : BufTy).Contents (Elt F) → (⟨S4x16x544x1024, .f32⟩ : BufTy).Contents (Elt F)),
    unary main_v16 main_v17 ((truncf .bf16 · bitsLt_bf16_f32) : (⟨S4x16x544x1024, .f32⟩ : BufTy).Contents (Elt F) → (⟨S4x16x544x1024, .bf16⟩ : BufTy).Contents (Elt F)) ]

theorem main_steps (c : Dev nD) : main (F := F) c = seq steps := rfl
theorem noRefs : (Finset.univ.filter fun b : Ref sig .tc => b.isScoped) = ∅ := by decide
theorem noSems : (Finset.univ.filter fun sm : SemLoc sig => sm.isScoped .tc) = ∅ := by decide
theorem steps_sub : (steps : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., unary_bufs_sub ..,
    binary_bufs_sub .., unary_bufs_sub .., reshape_bufs_sub .., binary_bufs_sub .., unary_bufs_sub .., unary_bufs_sub .., unary_bufs_sub .., nullary_bufs_sub ..,
    unary_bufs_sub .., binary_bufs_sub .., nullary_bufs_sub .., unary_bufs_sub .., binary_bufs_sub .., binary_bufs_sub .., unary_bufs_sub .., reshape_bufs_sub ..,
    binary_bufs_sub .., unary_bufs_sub .., binary_bufs_sub .., unary_bufs_sub ..⟩
end Steps

/-- Every run ends with `up` of the arguments, and leaves the arguments alone. -/
theorem run_up (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = up (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v17).trans (by after_results <;> rfl),
      (h c main_arg0).trans (by after_results <;> rfl),
      (h c main_arg1).trans (by after_results <;> rfl),
      (h c main_arg2).trans (by after_results <;> rfl)⟩)
    (run_seq noRefs noSems defs main (fun _ => steps) (main_steps (F := Ideal)) (fun _ => steps_sub (F := Ideal)) m ρ)

end Cert.Reference4Ideal.Up

end
-- ==== Proof.UpPayload.lean ====
/-
  The up projection's step, at an index.
-/
module

public import proofs.«01_k».proof.Proof.UpIdealCert
public import proofs.«01_k».proof.Proof.UpReference
public import Idealize.ShloMosaic.Lib.Pointwise
public import Idealize.ShloMosaic.Lib.Pipeline.ValueKit
public import Idealize.ShloMosaic.Lib.Claim

@[expose] public section

set_option maxRecDepth 16384

noncomputable section

namespace Cert.Kernel4Ideal.Up

open Cert.Kernel4Ideal Cert.Kernel4Ideal.Gen Cert.Kernel4Ideal.Own Idealize.ShloMosaic Idealize.ShloMosaic.TcCoe
open Idealize.SL.Sem
open Idealize.ShloMosaic.Pipeline (Dat)
open Cert.Reference4Ideal.Up (act lowOf highOf shl16 mask_word)

/-- A landed weight as a matrix. -/
def matrix (w : Vec Ideal S1x1x4096x256 .f32) : FVec Ideal S4096x256 .bf16 :=
  truncf .bf16 (shapeCast S4096x256 w shapeCasts_S1x1x4096x256_S4096x256 : FVec Ideal S4096x256 .f32) bitsLt_bf16_f32

/-- Its rows for the lower halves. -/
def above (w : FVec Ideal S4096x256 .bf16) : FVec Ideal S2048x256 .bf16 :=
  extractStridedSlice S2048x256 ![0, 0] w slices_S4096x256_o0_0_S2048x256

/-- Its rows for the upper halves. -/
def below (w : FVec Ideal S4096x256 .bf16) : FVec Ideal S2048x256 .bf16 :=
  extractStridedSlice S2048x256 ![2048, 0] w slices_S4096x256_o2048_0_S2048x256

/-- One product. -/
def product (x : FVec Ideal S1088x2048 .bf16) (w : FVec Ideal S2048x256 .bf16) : FVec Ideal S1088x256 .f32 :=
  matmul dot_S1088x2048_S2048x256_S1088x256_1_0_0_1_n_n none x w (constant S1088x256 .f32 0x00000000#32)

/-- The halves' products, added. -/
def both (L H : FVec Ideal S1088x2048 .bf16) (w : FVec Ideal S4096x256 .bf16) : FVec Ideal S1088x256 .f32 :=
  addf (product L (above w)) (product H (below w))

/-- The logistic gate of the first times the second. -/
def swish (g u : FVec Ideal S1088x256 .f32) : FVec Ideal S1088x256 .f32 :=
  mulf (mulf g (divf (broadcast S1088x256 (Scalar.ofBits .f32 0x3F800000#32))
    (addf (broadcast S1088x256 (Scalar.ofBits .f32 0x3F800000#32)) (exp (subf (broadcast S1088x256 (Scalar.ofBits .f32 0x00000000#32)) g))))) u

/-- The rows of the two samples apart again. -/
def apart (p : FVec Ideal S1088x256 .f32) : FVec Ideal S2x1x544x256 .bf16 :=
  shapeCast S2x1x544x256 (shapeCast S2x544x256 (truncf .bf16 p bitsLt_bf16_f32 : FVec Ideal S1088x256 .bf16) shapeCasts_S1088x256_S2x544x256 : FVec Ideal S2x544x256 .bf16) shapeCasts_S2x544x256_S2x1x544x256

theorem matrix_at (w : Vec Ideal S1x1x4096x256 .f32) (k : Fin 4096) (j : Fin 256) : matrix w (ix2 k j) = w (ix4 0 0 k j) := by
  pointwise [matrix]

theorem above_at (w : FVec Ideal S4096x256 .bf16) (k : Fin 2048) (j : Fin 256) : above w (ix2 k j) = w (ix2 ⟨k.val, by omega⟩ j) := by
  pointwise [above]

theorem below_at (w : FVec Ideal S4096x256 .bf16) (k : Fin 2048) (j : Fin 256) : below w (ix2 k j) = w (ix2 ⟨2048 + k.val, by omega⟩ j) := by
  pointwise [below]

theorem product_at (x : FVec Ideal S1088x2048 .bf16) (w : FVec Ideal S2048x256 .bf16) (i : Fin 1088) (j : Fin 256) :
    product x w (ix2 i j) = ∑ k : Fin 2048, x (ix2 i k) * w (ix2 k j) := by
  pointwise [product]

theorem swish_at (g u : FVec Ideal S1088x256 .f32) (i : Fin 1088) (j : Fin 256) :
    swish g u (ix2 i j) = act (g (ix2 i j)) * (u (ix2 i j) : EReal) := by
  pointwise [swish, act]
  exact congrArg (fun z : EReal => g (ix2 i j) * Ideal.div 1 (1 + Ideal.exp z) * u (ix2 i j)) (zero_sub (g (ix2 i j) : EReal))

theorem apart_at (p : FVec Ideal S1088x256 .f32) (a : Fin 2) (r : Fin 544) (j : Fin 256) :
    apart p (ix4 a 0 r j) = p (ix2 ⟨a.val * 544 + r.val, by omega⟩ j) := by
  pointwise [apart]

theorem words_at (x : Vec Ideal S2x1x544x2048 .i32) (a : Fin 2) (r : Fin 544) (k : Fin 2048) :
    k0_pay2 x (ix2 ⟨a.val * 544 + r.val, by omega⟩ k) = x (ix4 a 0 r k) := by
  pointwise [k0_pay2]

theorem low_at (x : Vec Ideal S2x1x544x2048 .i32) (a : Fin 2) (r : Fin 544) (k : Fin 2048) :
    (k0_pay3 x : FVec Ideal S1088x2048 .bf16) (ix2 ⟨a.val * 544 + r.val, by omega⟩ k) = lowOf (x (ix4 a 0 r k)) := by
  unfold lowOf
  exact congrArg (Ideal.ofBits .f32) ((shl16 _ _).trans (congrArg (fun w : BitVec 32 => w <<< (16#32)) (words_at x a r k)))

theorem high_at (x : Vec Ideal S2x1x544x2048 .i32) (a : Fin 2) (r : Fin 544) (k : Fin 2048) :
    (k0_pay4 x : FVec Ideal S1088x2048 .bf16) (ix2 ⟨a.val * 544 + r.val, by omega⟩ k) = highOf (x (ix4 a 0 r k)) := by
  unfold highOf
  exact congrArg (Ideal.ofBits .f32) ((mask_word _).trans (congrArg (fun w : BitVec 32 => w &&& 4294901760#32) (words_at x a r k)))

/-- One index of a landed weight's product, the lower halves' part and the upper halves'. -/
def dotted (x : Vec Ideal S2x1x544x2048 .i32) (w : Vec Ideal S1x1x4096x256 .f32) (a : Fin 2) (r : Fin 544) (j : Fin 256) : EReal :=
  (∑ k : Fin 2048, lowOf (x (ix4 a 0 r k)) * w (ix4 0 0 ⟨k.val, by omega⟩ j))
    + ∑ k : Fin 2048, highOf (x (ix4 a 0 r k)) * w (ix4 0 0 ⟨2048 + k.val, by omega⟩ j)

theorem both_at (x : Vec Ideal S2x1x544x2048 .i32) (w : Vec Ideal S1x1x4096x256 .f32) (a : Fin 2) (r : Fin 544) (j : Fin 256) :
    both (k0_pay3 x) (k0_pay4 x) (matrix w) (ix2 ⟨a.val * 544 + r.val, by omega⟩ j) = dotted x w a r j := by
  show product _ _ _ + product _ _ _ = _
  rw [product_at, product_at]
  unfold dotted
  simp only [low_at, high_at, above_at, below_at, matrix_at]

theorem pay_eq (L H : FVec Ideal S1088x2048 .bf16) (g u : Vec Ideal S1x1x4096x256 .f32) :
    k0_pay1 L H g u = apart (swish (both L H (matrix g)) (both L H (matrix u))) := rfl

/-- A step's payload. -/
theorem pay_at (x : Vec Ideal S2x1x544x2048 .i32) (g u : Vec Ideal S1x1x4096x256 .f32) (a : Fin 2) (r : Fin 544) (j : Fin 256) :
    k0_pay1 (k0_pay3 x) (k0_pay4 x) g u (ix4 a 0 r j) = act (dotted x g a r j) * dotted x u a r j := by
  rw [pay_eq, apart_at, swish_at, both_at, both_at]

end Cert.Kernel4Ideal.Up

end
-- ==== Proof.UpFinal.lean ====
/-
  The up projection: every block a step writes is the reference's there.
-/
module

public import proofs.«01_k».proof.Proof.UpPayload

@[expose] public section

set_option maxRecDepth 16384

noncomputable section

namespace Cert.Kernel4Ideal.Up

open Cert.Kernel4Ideal Cert.Kernel4Ideal.Gen Cert.Kernel4Ideal.Own Idealize.ShloMosaic Idealize.ShloMosaic.TcCoe
open Idealize.SL.Sem
open Idealize.ShloMosaic.Pipeline (Dat)

/-- Where the blocks lie: the quarters of an expert's columns run inside the experts, the pairs of samples inside those. -/
theorem idxA : ∀ t : Fin cfg0.N, win0_0.index t = ![t.val % 2, t.val / 8, 0, 0]
    ∧ win0_1.index t = ![t.val % 2, t.val / 8, 0, t.val / 2 % 4] ∧ t.val < 128 :=
  (by decide +kernel : ∀ t : Fin grid0.N, _)

/-- The landed gate weights at an index. -/
theorem landed0_at (c : Dev nD) (W : HbBuf0 (F := Ideal) c hbM0_0) (V : HbBuf0 (F := Ideal) c hbM0_1) (t : Fin cfg0.N) (k : Fin 4096) (j : Fin 256)
    (E : Fin 16) (D : Fin 1024) (hE : E.val = t.val / 8) (hD : D.val = t.val / 2 % 4 * 256 + j.val) :
    tileLoad0 (F := Ideal) c W V t (ix4 0 0 k j) = (W : FVec Ideal S2x16x4096x1024 .f32) (ix4 0 E k D) := by
  have hN : t.val < 128 := (idxA t).2.2
  have hb : (Ring.bk 64 (t.val / 2)).val = t.val / 2 := Ring.bk_val (by omega)
  have h1 : k0_off12 (grid0.coords t) 1 = 0 := congrFun (coff28 t) 1
  have h2 : k0_off12 (grid0.coords t) 2 = 0 := congrFun (coff28 t) 2
  have h3 : k0_off12 (grid0.coords t) 3 = 0 := congrFun (coff28 t) 3
  unfold tileLoad0
  have hz : k0_off12 (grid0.coords t) 1 + 1 * 0 = 0 := by omega
  refine Eq.trans (if_pos (e := V (tileIx (Ring.bk 64 (t.val / 2)) ((Rect.unit (s := S2x2x4096x256) (k0_off12 (grid0.coords t)) S1x1x4096x256.size (k0_off12_inb (grid0.coords t))).idx (ix4 0 0 k j)))) hz) ?_
  refine congrArg (W : FVec Ideal S2x16x4096x1024 .f32) (funext fun a => Fin.ext ?_)
  fin_cases a
  · rfl
  · show (Ring.bk 64 (t.val / 2)).val / 4 = E.val
    omega
  · show k0_off12 (grid0.coords t) 2 + 1 * k.val = k.val
    omega
  · show 256 * ((Ring.bk 64 (t.val / 2)).val % 4) + (k0_off12 (grid0.coords t) 3 + 1 * j.val) = D.val
    omega

/-- The landed up weights at an index. -/
theorem landed1_at (c : Dev nD) (W : HbBuf0 (F := Ideal) c hbM0_0) (V : HbBuf0 (F := Ideal) c hbM0_1) (t : Fin cfg0.N) (k : Fin 4096) (j : Fin 256)
    (E : Fin 16) (D : Fin 1024) (hE : E.val = t.val / 8) (hD : D.val = t.val / 2 % 4 * 256 + j.val) :
    tileLoad1 (F := Ideal) c W V t (ix4 0 0 k j) = (V : FVec Ideal S2x16x4096x1024 .f32) (ix4 0 E k D) := by
  have hN : t.val < 128 := (idxA t).2.2
  have hb : (Ring.bk 64 (t.val / 2)).val = t.val / 2 := Ring.bk_val (by omega)
  have h1 : k0_off13 (grid0.coords t) 1 = 1 := congrFun (coff29 t) 1
  have h2 : k0_off13 (grid0.coords t) 2 = 0 := congrFun (coff29 t) 2
  have h3 : k0_off13 (grid0.coords t) 3 = 0 := congrFun (coff29 t) 3
  unfold tileLoad1
  have hz : ¬ k0_off13 (grid0.coords t) 1 + 1 * 0 = 0 := by omega
  refine Eq.trans (if_neg (t := W (tileIx (Ring.bk 64 (t.val / 2)) ((Rect.unit (s := S2x2x4096x256) (k0_off13 (grid0.coords t)) S1x1x4096x256.size (k0_off13_inb (grid0.coords t))).idx (ix4 0 0 k j)))) hz) ?_
  refine congrArg (V : FVec Ideal S2x16x4096x1024 .f32) (funext fun a => Fin.ext ?_)
  fin_cases a
  · rfl
  · show (Ring.bk 64 (t.val / 2)).val / 4 = E.val
    omega
  · show k0_off13 (grid0.coords t) 2 + 1 * k.val = k.val
    omega
  · show 256 * ((Ring.bk 64 (t.val / 2)).val % 4) + (k0_off13 (grid0.coords t) 3 + 1 * j.val) = D.val
    omega

variable (m : (ℓ : Loc nD τ sig) → Buf (Elt Ideal) ℓ) (c : Dev nD)

/-- The words' block at an index. -/
theorem words_block (t : Fin cfg0.N) (a : Fin 2) (r : Fin 544) (k : Fin 2048) (b : Fin 4) (E : Fin 16)
    (hb : b.val = t.val % 2 * 2 + a.val) (hE : E.val = t.val / 8) :
    (iblk m c 0 t : Vec Ideal S2x1x544x2048 .i32) (ix4 a 0 r k) = (m ((c : Thread nD τ).loc main_arg0) : IVec S4x16x544x2048 32) (ix4 b E r k) := by
  have hp : (((cfg0.win 0).blk t).view.emb (ix4 a 0 r k) : S4x16x544x2048.Idx) = ix4 b E r k := by blk_ext [idxA t]
  have hr : (iblk m c 0 t : Vec Ideal S2x1x544x2048 .i32) (ix4 a 0 r k)
      = (V m c main_arg0 : IVec S4x16x544x2048 32) (((cfg0.win 0).blk t).view.emb (ix4 a 0 r k)) := by
    unfold iblk; rw [View.read_apply, cast_eq]
  rw [hr, V_main_arg0, hp]

/-- The reference's result of the launch arrays. -/
abbrev result : FVec Ideal S4x16x544x1024 .bf16 :=
  Cert.Reference4Ideal.Up.up (m ((c : Thread nD τ).loc main_arg0)) (m ((c : Thread nD τ).loc main_arg1)) (m ((c : Thread nD τ).loc main_arg2))

/-- A step's product with a landed weight is the reference's with the whole weight. -/
theorem sums (W : FVec Ideal S2x16x4096x1024 .f32) (w : Vec Ideal S1x1x4096x256 .f32) (t : Fin cfg0.N) (a : Fin 2) (r : Fin 544) (j : Fin 256)
    (b : Fin 4) (E : Fin 16) (D : Fin 1024) (hb : b.val = t.val % 2 * 2 + a.val) (hE : E.val = t.val / 8)
    (hw : ∀ k : Fin 4096, w (ix4 0 0 k j) = W (ix4 0 E k D)) :
    dotted (iblk m c 0 t : Vec Ideal S2x1x544x2048 .i32) w a r j
      = Cert.Reference4Ideal.Up.entry (m ((c : Thread nD τ).loc main_arg0)) W b E r D := by
  unfold dotted Cert.Reference4Ideal.Up.entry
  refine congrArg₂ _ (Finset.sum_congr rfl fun k _ => ?_) (Finset.sum_congr rfl fun k _ => ?_)
  · rw [words_block m c t a r k b E hb hE, hw]
  · rw [words_block m c t a r k b E hb hE, hw]

theorem tile (t : Fin cfg0.N) (a : Fin 2) (r : Fin 544) (j : Fin 256) (J : S4x16x544x1024.Idx)
    (h0 : (J 0).val = t.val % 2 * 2 + a.val) (h1 : (J 1).val = t.val / 8) (h2 : (J 2).val = r.val)
    (h3 : (J 3).val = t.val / 2 % 4 * 256 + j.val) :
    outAt m c t (ix4 a 0 r j) = result m c J := by
  have hJ : J = ix4 (J 0) (J 1) r (J 3) := by
    funext q
    fin_cases q
    · rfl
    · rfl
    · exact Fin.ext h2
    · rfl
  rw [hJ]
  refine Eq.trans (pay_at _ _ _ a r j) ?_
  refine Eq.trans ?_ (Cert.Reference4Ideal.Up.up_at _ _ _ (J 0) (J 1) r (J 3)).symm
  rw [sums m c (m ((c : Thread nD τ).loc main_arg1)) _ t a r j (J 0) (J 1) (J 3) h0 h1
      (fun k => (landed0_at c _ _ t k j (J 1) (J 3) h1 h3).trans (congrFun (V_main_arg1 m c) _)),
    sums m c (m ((c : Thread nD τ).loc main_arg2)) _ t a r j (J 0) (J 1) (J 3) h0 h1
      (fun k => (landed1_at c _ _ t k j (J 1) (J 3) h1 h3).trans (congrFun (V_main_arg2 m c) _))]

/-- **The up projection's result array is the reference's.** -/
theorem final : (dats m 0 c).arrAt 1 cfg0.N = result m c := by
  refine (dats m 0 c).arrAt_eq_of_covers 1 _ (by decide +kernel) fun t _ y => ?_
  blk_simp
  rw [after0_1]
  idx_vars y
  obtain rfl : y1 = 0 := Subsingleton.elim _ _
  refine tile m c t y0 y2 y3 _ ?_ ?_ ?_ ?_
  · blk_simp [idxA t]
  · blk_simp [idxA t]
    rfl
  · blk_simp [idxA t]
  · blk_simp [idxA t]

end Cert.Kernel4Ideal.Up

end
-- ==== Proof.Claims4.lean ====
/-
  The claims about the up projection.
-/
module

public import proofs.«01_k».proof.Defs
public import proofs.«01_k».proof.Proof.UpFinal
public import Idealize.ShloMosaic.Lib.Quiescent

@[expose] public section

noncomputable section

namespace Cert.Proof.Up

open Idealize.ShloMosaic Idealize.ShloMosaic.TcCoe Idealize.SL.Sem

/-- The reference runs and leaves its arguments and its semaphores alone. -/
theorem reference_frame (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
        ∧ r.2.sem = fun _ => 0) :=
  (θ_run Cert.Reference4Ideal.defs _ _).mono
    (fun r h => ⟨fun c => (h c).2, Idealize.ShloMosaic.sem_eq_zero_of_no_sems (by decide) r.2⟩)
    (Cert.Reference4Ideal.Up.run_up m ρ)

/-- The kernel's result array and the reference's are the same. -/
theorem algebraic : Cert.algebraic_Kernel4Ideal_Reference4Ideal := by
  intro m ρ m' ρ' _ hagree
  refine ⟨fun c => Cert.Kernel4Ideal.Up.result m c, ?_, ?_⟩
  · refine (θ_run Cert.Kernel4Ideal.defs _ _).mono (fun r h c => ⟨(h c).1.trans ?_, (h c).2⟩)
      (Cert.Kernel4Ideal.Own.run_blocks (F := Ideal) m ρ)
    exact Cert.Kernel4Ideal.Up.final m c
  · refine (θ_run Cert.Reference4Ideal.defs _ _).mono (fun r h c => ⟨(h c).1.trans ?_, (h c).2⟩)
      (Cert.Reference4Ideal.Up.run_up m' ρ')
    rw [(hagree c).1, (hagree c).2.1, (hagree c).2.2]

end Cert.Proof.Up

end
-- ==== Proof.DownIdealRing.lean ====
/- The slots, cells and transfers of the call's weight streaming, and its states. -/
module

public import proofs.«01_k».proof.Proof.Gen.Kernel5Ideal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel5Ideal.Own

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this kernel's resources. -/
abbrev Res (F : FTy → Type) [FloatOps F] : Type _ := sProp (MT nD τ sig Unit (Elt F) ℕ (Pipeline.UD sig nD τ) ℕ)

/-! ## The operands: memrefs, cells, blocks -/

/-- The scratch, whole. -/
abbrev scM0_0 : Memref sig .tc .vmem S2x1x1024x2048 .f32 := Memref.whole cc0_scratch0

/-- Weight operand 0, whole. -/
abbrev hbM0_0 : Memref sig .tc .hbm S2x16x1024x4096 .f32 := Memref.whole main_arg1
/-- The contents type of the buffer that memref `M` lies in on core `c`. -/
abbrev HbBuf0 (c : Dev nD) {sp : Space} {S : Shape} {e : EltTy} (M : Memref sig .tc sp S e) : Type := Buf (Elt F) (M.view.loc (c : Thread nD τ))
/-- That buffer held whole at `f`. -/
abbrev hbPt0 (c : Dev nD) {sp : Space} {S : Shape} {e : EltTy} (M : Memref sig .tc sp S e) (f : HbBuf0 (F := F) c M) : Res F :=
  M.view.loc (c : Thread nD τ) ↦{fullShare} f

instance : NeZero grid0.N := ⟨by rw [N_0]; decide⟩

theorem inb_slot (s : Fin 2) : ∀ a, (![s.val, 0, 0, 0] : Fin 4 → Nat) a + S1x1x1024x2048.size a ≤ S2x1x1024x2048.size a := by
  have := s.isLt; intro a; fin_cases a <;> simp <;> omega
theorem inb_cell (s : Fin 2) : ∀ a, (![s.val] : Fin 1 → Nat) a + S1.size a ≤ S2.size a := by
  have := s.isLt; intro a; fin_cases a <;> simp <;> omega
/-- Slot `s` of the scratch, whole. -/
def slotM (s : Fin 2) : Memref sig .tc .vmem S1x1x1024x2048 .f32 :=
  scM0_0.slice (Rect.unit (s := S2x1x1024x2048) ![s.val, 0, 0, 0] S1x1x1024x2048.size (inb_slot s)) (fun _ => rfl)
/-- Semaphore cell `s`. -/
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 6 := by decide
theorem cellR_1 : cellR 1 = SemLoc.dma 7 := by decide

theorem inb_part0 (s : Fin 2) : ∀ a, (![s.val, 0, 0, 0] : Fin 4 → Nat) a + S1x1x512x2048.size a ≤ S2x1x1024x2048.size a := by
  have := s.isLt; intro a; fin_cases a <;> simp <;> omega
theorem inb_src0 (b : Fin 32) : ∀ a, (![0, (b.val / 2), 0, 2048 * (b.val % 2)] : Fin 4 → Nat) a + S1x1x512x2048.size a ≤ S2x16x1024x4096.size a := by
  have := b.isLt; intro a; fin_cases a <;> simp <;> omega
/-- Part 0 of slot `s`: where transfer 0 of a tile lands. -/
def part0 (s : Fin 2) : Memref sig .tc .vmem S512x2048 .f32 :=
  (scM0_0.slice (Rect.unit (s := S2x1x1024x2048) ![s.val, 0, 0, 0] S1x1x512x2048.size (inb_part0 s)) (fun _ => rfl)).squeeze S512x2048 squeezes_S1x1x512x2048_S512x2048
/-- What transfer 0 of tile `b` reads. -/
def src0 (b : Fin 32) : Memref sig .tc .hbm S512x2048 .f32 :=
  (hbM0_0.slice (Rect.unit (s := S2x16x1024x4096) ![0, (b.val / 2), 0, 2048 * (b.val % 2)] S1x1x512x2048.size (inb_src0 b)) (fun _ => rfl)).squeeze S512x2048 squeezes_S1x1x512x2048_S512x2048

theorem inb_part1 (s : Fin 2) : ∀ a, (![s.val, 0, 512, 0] : Fin 4 → Nat) a + S1x1x512x2048.size a ≤ S2x1x1024x2048.size a := by
  have := s.isLt; intro a; fin_cases a <;> simp <;> omega
theorem inb_src1 (b : Fin 32) : ∀ a, (![0, (b.val / 2), 512, 2048 * (b.val % 2)] : Fin 4 → Nat) a + S1x1x512x2048.size a ≤ S2x16x1024x4096.size a := by
  have := b.isLt; intro a; fin_cases a <;> simp <;> omega
/-- Part 1 of slot `s`: where transfer 1 of a tile lands. -/
def part1 (s : Fin 2) : Memref sig .tc .vmem S512x2048 .f32 :=
  (scM0_0.slice (Rect.unit (s := S2x1x1024x2048) ![s.val, 0, 512, 0] S1x1x512x2048.size (inb_part1 s)) (fun _ => rfl)).squeeze S512x2048 squeezes_S1x1x512x2048_S512x2048
/-- What transfer 1 of tile `b` reads. -/
def src1 (b : Fin 32) : Memref sig .tc .hbm S512x2048 .f32 :=
  (hbM0_0.slice (Rect.unit (s := S2x16x1024x4096) ![0, (b.val / 2), 512, 2048 * (b.val % 2)] S1x1x512x2048.size (inb_src1 b)) (fun _ => rfl)).squeeze S512x2048 squeezes_S1x1x512x2048_S512x2048

/-! ## What a slot holds once a tile has landed -/

/-- Where the weights hold the element that tile `b` brings to place `i` of a slot. -/
def tileIx (b : Fin 32) (i : S2x1x1024x2048.Idx) : S2x16x1024x4096.Idx := fun a =>
  ⟨(![0, b.val / 2, (i 2).val, 2048 * (b.val % 2) + (i 3).val] : Fin 4 → Nat) a, by
    have := b.isLt
    have h2 : (i 2).val < 1024 := (i 2).isLt
    have h3 : (i 3).val < 2048 := (i 3).isLt
    fin_cases a <;> simp <;> omega⟩

section Ring
variable (c : Dev nD) (W0 : HbBuf0 (F := F) c hbM0_0)

/-- The scratch with tile `b` in it (in every slot: only one slot's elements are ever held at it). -/
def tileBuf (b : Fin 32) : HbBuf0 (F := F) c scM0_0 := fun (i : S2x1x1024x2048.Idx) => (W0 (tileIx b i))

/-- The share of the weights lent to transfer 0 of slot `s`. -/
abbrev qs0 (s : Fin 2) : PosShare TreeShare := if s.val = 0 then fullShare.left.left else fullShare.right.left
/-- Part 0 of slot `s` held at `f`. -/
abbrev partP0 (s : Fin 2) (f : HbBuf0 (F := F) c (part0 s)) : Res F := (part0 s).view.loc (c : Thread nD τ) ↦[(part0 s).view.set]{fullShare} f
/-- What transfer 0 of tile `b` reads, held at its share. -/
abbrev srcP0 (s : Fin 2) (b : Fin 32) : Res F := (src0 b).view.loc (c : Thread nD τ) ↦[(src0 b).view.set]{qs0 s} W0
/-- The rest of that copy of the weights. -/
def restP0 (s : Fin 2) (b : Fin 32) : Res F := ((c : Thread nD τ).loc main_arg1) ↦[Finset.univ \ (src0 b).view.set]{qs0 s} W0
/-- The copy whole. -/
abbrev wholeP0 (s : Fin 2) : Res F := ((c : Thread nD τ).loc main_arg1) ↦[Finset.univ]{qs0 s} W0
/-- Part 0 of slot `s` after its transfer of tile `b`. -/
abbrev landed0 (s : Fin 2) (b : Fin 32) : HbBuf0 (F := F) c (part0 s) :=
  (part0 s).view.writes (Elt F) (part0 s).view.junk [⟨Rect.whole S512x2048, ReadAs.same.apply ((src0 b).view.read (Elt F) W0)⟩]
theorem src0_split (s : Fin 2) (b : Fin 32) : wholeP0 (F := F) c W0 s ⊣⊢ iprop(srcP0 c W0 s b ∗ restP0 c W0 s b) := by
  unfold restP0; exact pointsTo_split_subset (Finset.subset_univ _)

/-- The share of the weights lent to transfer 1 of slot `s`. -/
abbrev qs1 (s : Fin 2) : PosShare TreeShare := if s.val = 0 then fullShare.left.right else fullShare.right.right
/-- Part 1 of slot `s` held at `f`. -/
abbrev partP1 (s : Fin 2) (f : HbBuf0 (F := F) c (part1 s)) : Res F := (part1 s).view.loc (c : Thread nD τ) ↦[(part1 s).view.set]{fullShare} f
/-- What transfer 1 of tile `b` reads, held at its share. -/
abbrev srcP1 (s : Fin 2) (b : Fin 32) : Res F := (src1 b).view.loc (c : Thread nD τ) ↦[(src1 b).view.set]{qs1 s} W0
/-- The rest of that copy of the weights. -/
def restP1 (s : Fin 2) (b : Fin 32) : Res F := ((c : Thread nD τ).loc main_arg1) ↦[Finset.univ \ (src1 b).view.set]{qs1 s} W0
/-- The copy whole. -/
abbrev wholeP1 (s : Fin 2) : Res F := ((c : Thread nD τ).loc main_arg1) ↦[Finset.univ]{qs1 s} W0
/-- Part 1 of slot `s` after its transfer of tile `b`. -/
abbrev landed1 (s : Fin 2) (b : Fin 32) : HbBuf0 (F := F) c (part1 s) :=
  (part1 s).view.writes (Elt F) (part1 s).view.junk [⟨Rect.whole S512x2048, ReadAs.same.apply ((src1 b).view.read (Elt F) W0)⟩]
theorem src1_split (s : Fin 2) (b : Fin 32) : wholeP1 (F := F) c W0 s ⊣⊢ iprop(srcP1 c W0 s b ∗ restP1 c W0 s b) := by
  unfold restP1; exact pointsTo_split_subset (Finset.subset_univ _)

/-- What the transfers of tile `b` into slot `s` deliver, one by one: the part landed, and what was read back. -/
abbrev deliver (s : Fin 2) (b : Fin 32) : Fin 2 → Res F :=
  ![iprop(partP0 c s (landed0 c W0 s b) ∗ srcP0 c W0 s b), iprop(partP1 c s (landed1 c W0 s b) ∗ srcP1 c W0 s b)]
/-- One transfer's amount. -/
abbrev NN : ℕ := (part0 0).view.amount (cellR 0)
/-- The batch of a tile's transfers on the slot's cell, `k` of them started. -/
abbrev batchP (s : Fin 2) (b : Fin 32) (k : ℕ) : Res F :=
  Transfers.Batch countersEmb (c : Thread nD τ) (cellR s) default NN (deliver c W0 s b) k 0
/-- A write of a whole view, at one of its places. -/
theorem wholeWrite_emb {κ : Kind} {sp : Space} {S : Shape} {e : EltTy} (v : View sig κ sp S e) (f : v.ty.Contents (Elt F)) (w : S.Idx → Elt F e) (x : S.Idx) :
    v.writes (Elt F) f [⟨Rect.whole S, w⟩] (v.emb x) = _root_.cast (congrArg (Elt F) v.elt_eq.symm) (w x) := by
  have h := View.write_univ_eq_writes_whole v f [] w
  rw [View.writes_nil] at h
  exact (congrFun h.symm (v.emb x)).trans (View.write_emb_of_mem f w (Finset.mem_univ x))
theorem storablePt (ℓ : Loc nD τ sig) (I : Finset (Idx ℓ)) (q : PosShare TreeShare) (f : Buf (Elt F) ℓ) :
    Storable (upEmb : UEmb _ (MT nD τ sig Unit (Elt F) ℕ (Pipeline.UD sig nD τ) ℕ)) (ℓ ↦[I]{q} f) := inferInstance
theorem storableDeliver (s : Fin 2) (b : Fin 32) : ∀ w, Storable (upEmb : UEmb _ (MT nD τ sig Unit (Elt F) ℕ (Pipeline.UD sig nD τ) ℕ)) (deliver (F := F) c W0 s b w) := by
  intro w; fin_cases w <;> exact @Storable.sep _ _ _ _ _ _ _ _ (storablePt _ _ _ _) (storablePt _ _ _ _)
abbrev cellP (s : Fin 2) : Res F := semVal ((c : Thread nD τ), cellR s) 0
theorem cellP_0 : cellP (F := F) c 0 = semVal ((c : Thread nD τ), SemLoc.dma 6) 0 := congrArg (fun x => (semVal ((c : Thread nD τ), x) 0 : Res F)) cellR_0
theorem cellP_1 : cellP (F := F) c 1 = semVal ((c : Thread nD τ), SemLoc.dma 7) 0 := congrArg (fun x => (semVal ((c : Thread nD τ), x) 0 : Res F)) cellR_1
/-- Slot `s` held whole at `f`. -/
abbrev slotP (s : Fin 2) (f : HbBuf0 (F := F) c (slotM s)) : Res F := (slotM s).view.loc (c : Thread nD τ) ↦[(slotM s).view.set]{fullShare} f

/-- Slot `s` free: its cell at zero, the slot at anything, its copies of the weights whole. -/
def freeP (s : Fin 2) : Res F := iprop(cellP (F := F) c s ∗ (∃ f, slotP (F := F) c s f) ∗ wholeP0 c W0 s ∗ wholeP1 c W0 s)
/-- Slot `s` holding tile `b`. -/
def keptP (s : Fin 2) (b : Fin 32) : Res F := iprop(cellP (F := F) c s ∗ slotP c s (tileBuf c W0 b) ∗ wholeP0 c W0 s ∗ wholeP1 c W0 s)
/-- The first part of tile `b` under way into slot `s`, the second part's place and source still held. -/
def halfP (s : Fin 2) (b : Fin 32) : Res F := iprop(batchP c W0 s b 1 ∗ (∃ f, partP1 (F := F) c s f) ∗ wholeP1 c W0 s ∗ restP0 c W0 s b)
/-- All of tile `b` under way into slot `s`. -/
def fullP (s : Fin 2) (b : Fin 32) : Res F := iprop(batchP c W0 s b 2 ∗ restP0 c W0 s b ∗ restP1 c W0 s b)

/-! ## A slot is its parts -/

theorem slotM_set (s : Fin 2) : (slotM s).view.set = (Rect.unit (s := S2x1x1024x2048) ![s.val, 0, 0, 0] S1x1x1024x2048.size (inb_slot s)).set :=
  View.set_slice_whole _ _
theorem part0_set (s : Fin 2) : (part0 s).view.set = (Rect.unit (s := S2x1x1024x2048) ![s.val, 0, 0, 0] S1x1x512x2048.size (inb_part0 s)).set := by
  simp only [part0, Memref.view_squeeze, View.set_reshape]; exact View.set_slice_whole _ _
theorem part1_set (s : Fin 2) : (part1 s).view.set = (Rect.unit (s := S2x1x1024x2048) ![s.val, 0, 512, 0] S1x1x512x2048.size (inb_part1 s)).set := by
  simp only [part1, Memref.view_squeeze, View.set_reshape]; exact View.set_slice_whole _ _
theorem slot_union (s : Fin 2) : (Rect.unit (s := S2x1x1024x2048) ![s.val, 0, 0, 0] S1x1x1024x2048.size (inb_slot s)).set = (Rect.unit (s := S2x1x1024x2048) ![s.val, 0, 0, 0] S1x1x512x2048.size (inb_part0 s)).set ∪ (Rect.unit (s := S2x1x1024x2048) ![s.val, 0, 512, 0] S1x1x512x2048.size (inb_part1 s)).set := by
  ext i
  have h0 : (i 0).val < 2 := (i 0).isLt
  have h1 : (i 1).val < 1 := (i 1).isLt
  have h2 : (i 2).val < 1024 := (i 2).isLt
  have h3 : (i 3).val < 2048 := (i 3).isLt
  simp only [Finset.mem_union, Rect.mem_set_unit, Fin.forall_fin_succ, Fin.forall_fin_zero_pi, IsEmpty.forall_iff, and_true]
  simp [Fin.succ, Shape.size]
  omega
theorem parts_disjoint0 (s : Fin 2) : Disjoint (Rect.unit (s := S2x1x1024x2048) ![s.val, 0, 0, 0] S1x1x512x2048.size (inb_part0 s)).set ((Rect.unit (s := S2x1x1024x2048) ![s.val, 0, 512, 0] S1x1x512x2048.size (inb_part1 s)).set) := by
  rw [Finset.disjoint_left]
  intro i hi hi'
  simp only [Finset.mem_union, Rect.mem_set_unit, Fin.forall_fin_succ, IsEmpty.forall_iff, and_true] at hi hi'
  simp [Fin.succ, Shape.size] at hi hi'
  omega
theorem partP0_eq (s : Fin 2) (f : HbBuf0 (F := F) c scM0_0) : partP0 (F := F) c s f = (((c : Thread nD τ).loc cc0_scratch0) ↦[(Rect.unit (s := S2x1x1024x2048) ![s.val, 0, 0, 0] S1x1x512x2048.size (inb_part0 s)).set]{fullShare} f : Res F) := by
  unfold partP0; rw [part0_set]; rfl
theorem partP1_eq (s : Fin 2) (f : HbBuf0 (F := F) c scM0_0) : partP1 (F := F) c s f = (((c : Thread nD τ).loc cc0_scratch0) ↦[(Rect.unit (s := S2x1x1024x2048) ![s.val, 0, 512, 0] S1x1x512x2048.size (inb_part1 s)).set]{fullShare} f : Res F) := by
  unfold partP1; rw [part1_set]; rfl
theorem slotP_eq (s : Fin 2) (f : HbBuf0 (F := F) c scM0_0) : slotP (F := F) c s f = (((c : Thread nD τ).loc cc0_scratch0) ↦[(Rect.unit (s := S2x1x1024x2048) ![s.val, 0, 0, 0] S1x1x1024x2048.size (inb_slot s)).set]{fullShare} f : Res F) := by
  unfold slotP; rw [slotM_set]; rfl
/-- A slot held whole is its parts held. -/
theorem slot_parts (s : Fin 2) (f : HbBuf0 (F := F) c scM0_0) : slotP (F := F) c s f ⊣⊢ iprop(partP0 (F := F) c s f ∗ partP1 (F := F) c s f) := by
  rw [slotP_eq, slot_union, partP0_eq, partP1_eq]
  exact pointsTo_union (parts_disjoint0 s)

theorem part0_emb (s : Fin 2) (x : S512x2048.Idx) : (part0 s).view.emb x = (Rect.unit (s := S2x1x1024x2048) ![s.val, 0, 0, 0] S1x1x512x2048.size (inb_part0 s)).emb (Shape.reshapeEquiv squeezes_S1x1x512x2048_S512x2048.numel_eq x) := rfl
theorem src0_emb (b : Fin 32) (x : S512x2048.Idx) : (src0 b).view.emb x = (Rect.unit (s := S2x16x1024x4096) ![0, (b.val / 2), 0, 2048 * (b.val % 2)] S1x1x512x2048.size (inb_src0 b)).emb (Shape.reshapeEquiv squeezes_S1x1x512x2048_S512x2048.numel_eq x) := rfl
theorem boxes0 (s : Fin 2) (b : Fin 32) (y : S1x1x512x2048.Idx) : (Rect.unit (s := S2x16x1024x4096) ![0, (b.val / 2), 0, 2048 * (b.val % 2)] S1x1x512x2048.size (inb_src0 b)).emb y = tileIx b ((Rect.unit (s := S2x1x1024x2048) ![s.val, 0, 0, 0] S1x1x512x2048.size (inb_part0 s)).emb y) := by
  have y0 : (y 0).val < 1 := (y 0).isLt
  have y1 : (y 1).val < 1 := (y 1).isLt
  funext a
  apply Fin.ext
  rw [Rect.emb_apply]
  fin_cases a <;> simp [tileIx, Rect.emb_apply] <;> omega

/-- Part 0 landed holds the tile's elements. -/
theorem landed0_eq (s : Fin 2) (b : Fin 32) : partP0 (F := F) c s (landed0 c W0 s b) = partP0 c s (tileBuf c W0 b) := by
  refine pointsTo_congr fun i hi => ?_
  obtain ⟨x, -, rfl⟩ := Finset.mem_map.mp hi
  refine (wholeWrite_emb (part0 s).view _ _ x).trans ?_
  show W0 ((src0 b).view.emb x) = tileBuf c W0 b ((part0 s).view.emb x)
  rw [src0_emb, part0_emb]
  exact congrArg W0 (boxes0 s b _)

theorem part1_emb (s : Fin 2) (x : S512x2048.Idx) : (part1 s).view.emb x = (Rect.unit (s := S2x1x1024x2048) ![s.val, 0, 512, 0] S1x1x512x2048.size (inb_part1 s)).emb (Shape.reshapeEquiv squeezes_S1x1x512x2048_S512x2048.numel_eq x) := rfl
theorem src1_emb (b : Fin 32) (x : S512x2048.Idx) : (src1 b).view.emb x = (Rect.unit (s := S2x16x1024x4096) ![0, (b.val / 2), 512, 2048 * (b.val % 2)] S1x1x512x2048.size (inb_src1 b)).emb (Shape.reshapeEquiv squeezes_S1x1x512x2048_S512x2048.numel_eq x) := rfl
theorem boxes1 (s : Fin 2) (b : Fin 32) (y : S1x1x512x2048.Idx) : (Rect.unit (s := S2x16x1024x4096) ![0, (b.val / 2), 512, 2048 * (b.val % 2)] S1x1x512x2048.size (inb_src1 b)).emb y = tileIx b ((Rect.unit (s := S2x1x1024x2048) ![s.val, 0, 512, 0] S1x1x512x2048.size (inb_part1 s)).emb y) := by
  have y0 : (y 0).val < 1 := (y 0).isLt
  have y1 : (y 1).val < 1 := (y 1).isLt
  funext a
  apply Fin.ext
  rw [Rect.emb_apply]
  fin_cases a <;> simp [tileIx, Rect.emb_apply] <;> omega

/-- Part 1 landed holds the tile's elements. -/
theorem landed1_eq (s : Fin 2) (b : Fin 32) : partP1 (F := F) c s (landed1 c W0 s b) = partP1 c s (tileBuf c W0 b) := by
  refine pointsTo_congr fun i hi => ?_
  obtain ⟨x, -, rfl⟩ := Finset.mem_map.mp hi
  refine (wholeWrite_emb (part1 s).view _ _ x).trans ?_
  show W0 ((src1 b).view.emb x) = tileBuf c W0 b ((part1 s).view.emb x)
  rw [src1_emb, part1_emb]
  exact congrArg W0 (boxes1 s b _)

end Ring

end Cert.Kernel5Ideal.Own

end
-- ==== Proof.DownIdealCanon.lean ====
/- The body's operands at a grid point, named by the slots, cells and sources of the call's weight streaming. -/
module

public import proofs.«01_k».proof.Proof.DownIdealRing

@[expose] public section

set_option maxRecDepth 16384

noncomputable section

namespace Cert.Kernel5Ideal.Own

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## When each branch of the body runs -/

/-- The first point starts the first tile. -/
abbrev cond0_0 (i : grid0.Coords) : Prop := k0_cond1 i = 1#1
theorem hcond0_0 : ∀ t : Fin cfg0.N, cond0_0 (grid0.coords t) ↔ t.val = 0 :=
  (by decide +kernel : ∀ t : Fin grid0.N, cond0_0 (grid0.coords t) ↔ t.val = 0)
/-- A point with a tile after its own starts half of that tile. -/
abbrev cond0_1 (i : grid0.Coords) : Prop := k0_cond2 i = 1#1
theorem hcond0_1 : ∀ t : Fin cfg0.N, cond0_1 (grid0.coords t) ↔ t.val / 2 + 1 < 32 :=
  (by decide +kernel : ∀ t : Fin grid0.N, cond0_1 (grid0.coords t) ↔ t.val / 2 + 1 < 32)
/-- A tile's first point waits for it. -/
abbrev cond0_2 (i : grid0.Coords) : Prop := k0_cond3 i = 1#1
theorem hcond0_2 : ∀ t : Fin cfg0.N, cond0_2 (grid0.coords t) ↔ t.val % 2 = 0 :=
  (by decide +kernel : ∀ t : Fin grid0.N, cond0_2 (grid0.coords t) ↔ t.val % 2 = 0)

/-! ## The body's operands are the slots, cells and sources above -/

section Canon
omit [FloatOps F]

set_option synthInstance.maxSize 4096 in
theorem coff1 : ∀ t : Fin grid0.N, cond0_0 (grid0.coords t) → (![0, 0, 0, 0] : Fin 4 → Nat) = ![(Ring.sl 2 (t.val / 2)).val, 0, 0, 0] := by decide +kernel
@[sl_canon] theorem canon1 (t : Fin grid0.N) (h0 : cond0_0 (grid0.coords t)) :
    (scM0_0.slice (Rect.unit (s := S2x1x1024x2048) (![0, 0, 0, 0]) S1x1x512x2048.size inb_S2x1x1024x2048_S1x1x512x2048_0_0_0_0) (fun _ => rfl)).squeeze S512x2048 squeezes_S1x1x512x2048_S512x2048 = part0 (Ring.sl 2 (t.val / 2)) :=
  congrArg (fun M : Memref sig .tc .vmem S1x1x512x2048 .f32 => M.squeeze S512x2048 squeezes_S1x1x512x2048_S512x2048) (Memref.slice_unit_congr _ (coff1 t h0) _ _ (fun _ => rfl) (fun _ => rfl))
set_option synthInstance.maxSize 4096 in
theorem coff2 : ∀ t : Fin grid0.N, cond0_0 (grid0.coords t) → (![0, 0, 0, 0] : Fin 4 → Nat) = ![0, ((Ring.bk 32 (t.val / 2)).val / 2), 0, 2048 * ((Ring.bk 32 (t.val / 2)).val % 2)] := by decide +kernel
@[sl_canon] theorem canon2 (t : Fin grid0.N) (h0 : cond0_0 (grid0.coords t)) :
    (hbM0_0.slice (Rect.unit (s := S2x16x1024x4096) (![0, 0, 0, 0]) S1x1x512x2048.size inb_S2x16x1024x4096_S1x1x512x2048_0_0_0_0) (fun _ => rfl)).squeeze S512x2048 squeezes_S1x1x512x2048_S512x2048 = src0 (Ring.bk 32 (t.val / 2)) :=
  congrArg (fun M : Memref sig .tc .hbm S1x1x512x2048 .f32 => M.squeeze S512x2048 squeezes_S1x1x512x2048_S512x2048) (Memref.slice_unit_congr _ (coff2 t h0) _ _ (fun _ => rfl) (fun _ => rfl))
set_option synthInstance.maxSize 4096 in
theorem coff3 : ∀ t : Fin grid0.N, cond0_0 (grid0.coords t) → (![0, 0, 512, 0] : Fin 4 → Nat) = ![(Ring.sl 2 (t.val / 2)).val, 0, 512, 0] := by decide +kernel
@[sl_canon] theorem canon3 (t : Fin grid0.N) (h0 : cond0_0 (grid0.coords t)) :
    (scM0_0.slice (Rect.unit (s := S2x1x1024x2048) (![0, 0, 512, 0]) S1x1x512x2048.size inb_S2x1x1024x2048_S1x1x512x2048_0_0_512_0) (fun _ => rfl)).squeeze S512x2048 squeezes_S1x1x512x2048_S512x2048 = part1 (Ring.sl 2 (t.val / 2)) :=
  congrArg (fun M : Memref sig .tc .vmem S1x1x512x2048 .f32 => M.squeeze S512x2048 squeezes_S1x1x512x2048_S512x2048) (Memref.slice_unit_congr _ (coff3 t h0) _ _ (fun _ => rfl) (fun _ => rfl))
set_option synthInstance.maxSize 4096 in
theorem coff4 : ∀ t : Fin grid0.N, cond0_0 (grid0.coords t) → (![0, 0, 512, 0] : Fin 4 → Nat) = ![0, ((Ring.bk 32 (t.val / 2)).val / 2), 512, 2048 * ((Ring.bk 32 (t.val / 2)).val % 2)] := by decide +kernel
@[sl_canon] theorem canon4 (t : Fin grid0.N) (h0 : cond0_0 (grid0.coords t)) :
    (hbM0_0.slice (Rect.unit (s := S2x16x1024x4096) (![0, 0, 512, 0]) S1x1x512x2048.size inb_S2x16x1024x4096_S1x1x512x2048_0_0_512_0) (fun _ => rfl)).squeeze S512x2048 squeezes_S1x1x512x2048_S512x2048 = src1 (Ring.bk 32 (t.val / 2)) :=
  congrArg (fun M : Memref sig .tc .hbm S1x1x512x2048 .f32 => M.squeeze S512x2048 squeezes_S1x1x512x2048_S512x2048) (Memref.slice_unit_congr _ (coff4 t h0) _ _ (fun _ => rfl) (fun _ => rfl))
set_option synthInstance.maxSize 4096 in
theorem coff5 : ∀ t : Fin grid0.N, cond0_0 (grid0.coords t) → (![0] : Fin 1 → Nat) = ![(Ring.sl 2 (t.val / 2)).val] := by decide +kernel
@[sl_canon] theorem canon5 (t : Fin grid0.N) (h0 : cond0_0 (grid0.coords t)) :
    (cc0_scratch1.slice (Rect.unit (s := S2) (![0]) S1.size inb_S2_S1_0)).squeeze S_ squeezes_S1_S_ = cellA (Ring.sl 2 (t.val / 2)) :=
  congrArg (fun A : DmaSems sig S1 => A.squeeze S_ squeezes_S1_S_) (SemArray.slice_unit_congr _ (coff5 t h0) _ _)
set_option synthInstance.maxSize 4096 in
theorem coff6 : ∀ t : Fin grid0.N, cond0_1 (grid0.coords t) → (k0_off1 (grid0.coords t) : Fin 1 → Nat) = ![(Ring.sl 2 ((t.val / 2) + 1)).val] := by decide +kernel
@[sl_canon] theorem canon6 (t : Fin grid0.N) (h0 : cond0_1 (grid0.coords t)) :
    (cc0_scratch1.slice (Rect.unit (s := S2) (k0_off1 (grid0.coords t)) S1.size (k0_off1_inb (grid0.coords t) h0))).squeeze S_ squeezes_S1_S_ = cellA (Ring.sl 2 ((t.val / 2) + 1)) :=
  congrArg (fun A : DmaSems sig S1 => A.squeeze S_ squeezes_S1_S_) (SemArray.slice_unit_congr _ (coff6 t h0) _ _)
set_option synthInstance.maxSize 4096 in
theorem coff7 : ∀ t : Fin grid0.N, cond0_1 (grid0.coords t) → cond0_2 (grid0.coords t) → (k0_off2 (grid0.coords t) : Fin 4 → Nat) = ![(Ring.sl 2 ((t.val / 2) + 1)).val, 0, 0, 0] := by decide +kernel
@[sl_canon] theorem canon7 (t : Fin grid0.N) (h0 : cond0_1 (grid0.coords t)) (h1 : cond0_2 (grid0.coords t)) :
    (scM0_0.slice (Rect.unit (s := S2x1x1024x2048) (k0_off2 (grid0.coords t)) S1x1x512x2048.size (k0_off2_inb (grid0.coords t) h0)) (fun _ => rfl)).squeeze S512x2048 squeezes_S1x1x512x2048_S512x2048 = part0 (Ring.sl 2 ((t.val / 2) + 1)) :=
  congrArg (fun M : Memref sig .tc .vmem S1x1x512x2048 .f32 => M.squeeze S512x2048 squeezes_S1x1x512x2048_S512x2048) (Memref.slice_unit_congr _ (coff7 t h0 h1) _ _ (fun _ => rfl) (fun _ => rfl))
set_option synthInstance.maxSize 4096 in
theorem coff8 : ∀ t : Fin grid0.N, cond0_1 (grid0.coords t) → cond0_2 (grid0.coords t) → (k0_off3 (grid0.coords t) : Fin 4 → Nat) = ![0, ((Ring.bk 32 ((t.val / 2) + 1)).val / 2), 0, 2048 * ((Ring.bk 32 ((t.val / 2) + 1)).val % 2)] := by decide +kernel
@[sl_canon] theorem canon8 (t : Fin grid0.N) (h0 : cond0_1 (grid0.coords t)) (h1 : cond0_2 (grid0.coords t)) :
    (hbM0_0.slice (Rect.unit (s := S2x16x1024x4096) (k0_off3 (grid0.coords t)) S1x1x512x2048.size (k0_off3_inb (grid0.coords t) h0)) (fun _ => rfl)).squeeze S512x2048 squeezes_S1x1x512x2048_S512x2048 = src0 (Ring.bk 32 ((t.val / 2) + 1)) :=
  congrArg (fun M : Memref sig .tc .hbm S1x1x512x2048 .f32 => M.squeeze S512x2048 squeezes_S1x1x512x2048_S512x2048) (Memref.slice_unit_congr _ (coff8 t h0 h1) _ _ (fun _ => rfl) (fun _ => rfl))
set_option synthInstance.maxSize 4096 in
theorem coff9 : ∀ t : Fin grid0.N, cond0_1 (grid0.coords t) → ¬cond0_2 (grid0.coords t) → (k0_off2 (grid0.coords t) : Fin 4 → Nat) = ![(Ring.sl 2 ((t.val / 2) + 1)).val, 0, 512, 0] := by decide +kernel
@[sl_canon] theorem canon9 (t : Fin grid0.N) (h0 : cond0_1 (grid0.coords t)) (h1 : ¬cond0_2 (grid0.coords t)) :
    (scM0_0.slice (Rect.unit (s := S2x1x1024x2048) (k0_off2 (grid0.coords t)) S1x1x512x2048.size (k0_off2_inb (grid0.coords t) h0)) (fun _ => rfl)).squeeze S512x2048 squeezes_S1x1x512x2048_S512x2048 = part1 (Ring.sl 2 ((t.val / 2) + 1)) :=
  congrArg (fun M : Memref sig .tc .vmem S1x1x512x2048 .f32 => M.squeeze S512x2048 squeezes_S1x1x512x2048_S512x2048) (Memref.slice_unit_congr _ (coff9 t h0 h1) _ _ (fun _ => rfl) (fun _ => rfl))
set_option synthInstance.maxSize 4096 in
theorem coff10 : ∀ t : Fin grid0.N, cond0_1 (grid0.coords t) → ¬cond0_2 (grid0.coords t) → (k0_off3 (grid0.coords t) : Fin 4 → Nat) = ![0, ((Ring.bk 32 ((t.val / 2) + 1)).val / 2), 512, 2048 * ((Ring.bk 32 ((t.val / 2) + 1)).val % 2)] := by decide +kernel
@[sl_canon] theorem canon10 (t : Fin grid0.N) (h0 : cond0_1 (grid0.coords t)) (h1 : ¬cond0_2 (grid0.coords t)) :
    (hbM0_0.slice (Rect.unit (s := S2x16x1024x4096) (k0_off3 (grid0.coords t)) S1x1x512x2048.size (k0_off3_inb (grid0.coords t) h0)) (fun _ => rfl)).squeeze S512x2048 squeezes_S1x1x512x2048_S512x2048 = src1 (Ring.bk 32 ((t.val / 2) + 1)) :=
  congrArg (fun M : Memref sig .tc .hbm S1x1x512x2048 .f32 => M.squeeze S512x2048 squeezes_S1x1x512x2048_S512x2048) (Memref.slice_unit_congr _ (coff10 t h0 h1) _ _ (fun _ => rfl) (fun _ => rfl))
set_option synthInstance.maxSize 4096 in
theorem coff11 : ∀ t : Fin grid0.N, cond0_2 (grid0.coords t) → (k0_off4 (grid0.coords t) : Fin 1 → Nat) = ![(Ring.sl 2 (t.val / 2)).val] := by decide +kernel
@[sl_canon] theorem canon11 (t : Fin grid0.N) (h0 : cond0_2 (grid0.coords t)) :
    (cc0_scratch1.slice (Rect.unit (s := S2) (k0_off4 (grid0.coords t)) S1.size (k0_off4_inb (grid0.coords t) h0))).squeeze S_ squeezes_S1_S_ = cellA (Ring.sl 2 (t.val / 2)) :=
  congrArg (fun A : DmaSems sig S1 => A.squeeze S_ squeezes_S1_S_) (SemArray.slice_unit_congr _ (coff11 t h0) _ _)
set_option synthInstance.maxSize 4096 in
theorem coff12 : ∀ t : Fin grid0.N, cond0_2 (grid0.coords t) → (k0_off5 (grid0.coords t) : Fin 4 → Nat) = ![(Ring.sl 2 (t.val / 2)).val, 0, 0, 0] := by decide +kernel
@[sl_canon] theorem canon12 (t : Fin grid0.N) (h0 : cond0_2 (grid0.coords t)) :
    (scM0_0.slice (Rect.unit (s := S2x1x1024x2048) (k0_off5 (grid0.coords t)) S1x1x512x2048.size (k0_off5_inb (grid0.coords t) h0)) (fun _ => rfl)).squeeze S512x2048 squeezes_S1x1x512x2048_S512x2048 = part0 (Ring.sl 2 (t.val / 2)) :=
  congrArg (fun M : Memref sig .tc .vmem S1x1x512x2048 .f32 => M.squeeze S512x2048 squeezes_S1x1x512x2048_S512x2048) (Memref.slice_unit_congr _ (coff12 t h0) _ _ (fun _ => rfl) (fun _ => rfl))
set_option synthInstance.maxSize 4096 in
theorem coff13 : ∀ t : Fin grid0.N, cond0_2 (grid0.coords t) → (k0_off6 (grid0.coords t) : Fin 4 → Nat) = ![0, ((Ring.bk 32 (t.val / 2)).val / 2), 0, 2048 * ((Ring.bk 32 (t.val / 2)).val % 2)] := by decide +kernel
@[sl_canon] theorem canon13 (t : Fin grid0.N) (h0 : cond0_2 (grid0.coords t)) :
    (hbM0_0.slice (Rect.unit (s := S2x16x1024x4096) (k0_off6 (grid0.coords t)) S1x1x512x2048.size (k0_off6_inb (grid0.coords t) h0)) (fun _ => rfl)).squeeze S512x2048 squeezes_S1x1x512x2048_S512x2048 = src0 (Ring.bk 32 (t.val / 2)) :=
  congrArg (fun M : Memref sig .tc .hbm S1x1x512x2048 .f32 => M.squeeze S512x2048 squeezes_S1x1x512x2048_S512x2048) (Memref.slice_unit_congr _ (coff13 t h0) _ _ (fun _ => rfl) (fun _ => rfl))
set_option synthInstance.maxSize 4096 in
theorem coff14 : ∀ t : Fin grid0.N, cond0_2 (grid0.coords t) → (k0_off7 (grid0.coords t) : Fin 4 → Nat) = ![(Ring.sl 2 (t.val / 2)).val, 0, 512, 0] := by decide +kernel
@[sl_canon] theorem canon14 (t : Fin grid0.N) (h0 : cond0_2 (grid0.coords t)) :
    (scM0_0.slice (Rect.unit (s := S2x1x1024x2048) (k0_off7 (grid0.coords t)) S1x1x512x2048.size (k0_off7_inb (grid0.coords t) h0)) (fun _ => rfl)).squeeze S512x2048 squeezes_S1x1x512x2048_S512x2048 = part1 (Ring.sl 2 (t.val / 2)) :=
  congrArg (fun M : Memref sig .tc .vmem S1x1x512x2048 .f32 => M.squeeze S512x2048 squeezes_S1x1x512x2048_S512x2048) (Memref.slice_unit_congr _ (coff14 t h0) _ _ (fun _ => rfl) (fun _ => rfl))
set_option synthInstance.maxSize 4096 in
theorem coff15 : ∀ t : Fin grid0.N, cond0_2 (grid0.coords t) → (k0_off8 (grid0.coords t) : Fin 4 → Nat) = ![0, ((Ring.bk 32 (t.val / 2)).val / 2), 512, 2048 * ((Ring.bk 32 (t.val / 2)).val % 2)] := by decide +kernel
@[sl_canon] theorem canon15 (t : Fin grid0.N) (h0 : cond0_2 (grid0.coords t)) :
    (hbM0_0.slice (Rect.unit (s := S2x16x1024x4096) (k0_off8 (grid0.coords t)) S1x1x512x2048.size (k0_off8_inb (grid0.coords t) h0)) (fun _ => rfl)).squeeze S512x2048 squeezes_S1x1x512x2048_S512x2048 = src1 (Ring.bk 32 (t.val / 2)) :=
  congrArg (fun M : Memref sig .tc .hbm S1x1x512x2048 .f32 => M.squeeze S512x2048 squeezes_S1x1x512x2048_S512x2048) (Memref.slice_unit_congr _ (coff15 t h0) _ _ (fun _ => rfl) (fun _ => rfl))
set_option synthInstance.maxSize 4096 in
theorem coff16 : ∀ t : Fin grid0.N, k0_off9 (grid0.coords t) = ![(Ring.sl 2 (t.val / 2)).val, 0, 0, 0] := by decide +kernel
/-- A load of the landed weights is within the tile's slot. -/
instance (priority := high) closedOff16 (t : Fin grid0.N) : ClosedOff (k0_off9 (grid0.coords t)) := ⟨![(Ring.sl 2 (t.val / 2)).val, 0, 0, 0], coff16 t⟩
end Canon

end Cert.Kernel5Ideal.Own

end
-- ==== Proof.DownIdealRunA.lean ====
/- The body run at the first grid point. -/
module

public import proofs.«01_k».proof.Proof.Gen.Kernel5Ideal.Skeleton
public import proofs.«01_k».proof.Proof.DownIdealCanon

@[expose] public section

set_option maxRecDepth 16384

noncomputable section

namespace Cert.Kernel5Ideal.Own

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The body at the first point: both slots free; tile 0 is started whole, the next tile's first half is started, tile 0 is waited for and read.
    The pieces it stores into the result's block are found by the run. -/
noncomputable def runA (c : Dev nD) (t : Fin cfg0.N) (arg2 : Memref sig .tc .vmem S2x1x544x1024 .bf16) (harg2 : arg2.IsWhole) (arg4 : Memref sig .tc .vmem S2x1x544x1 .f32) (harg4 : arg4.IsWhole) (arg5 : Memref sig .tc .vmem S2x1x544x2048 .bf16) (harg5 : arg5.IsWhole) (hc0 : cond0_0 (grid0.coords t)) (hc1 : cond0_1 (grid0.coords t)) (hc2 : cond0_2 (grid0.coords t))
    (x0 : Vec F S2x1x544x1024 .bf16) (x1 : Vec F S2x1x544x1 .f32) (W0 : HbBuf0 (F := F) c hbM0_0) :
    { L2 : List (View.Piece (Elt F) S2x1x544x2048 .bf16) //
      ∀ (W : Waits sig Unit) (Q : PUnit → Res F),
        iprop(owns (c : Thread nD τ) arg2 fullShare x0 ∗ owns (c : Thread nD τ) arg4 fullShare x1 ∗ (∃ d, owns (c : Thread nD τ) arg5 fullShare d) ∗ freeP c W0 (Ring.sl 2 (t.val / 2)) ∗ freeP c W0 (Ring.sl 2 ((t.val / 2) + 1)) ∗ owes (c : Thread nD τ) 0 W
            ∗ (iprop(owns (c : Thread nD τ) arg2 fullShare x0 ∗ owns (c : Thread nD τ) arg4 fullShare x1 ∗ (∃ f, arg5.view.loc (c : Thread nD τ) ↦[arg5.view.set]{fullShare} arg5.view.writes (Elt F) f L2) ∗ keptP c W0 (Ring.sl 2 (t.val / 2)) (Ring.bk 32 (t.val / 2)) ∗ halfP c W0 (Ring.sl 2 ((t.val / 2) + 1)) (Ring.bk 32 ((t.val / 2) + 1)) ∗ (∃ W', owes (c : Thread nD τ) 0 W')) -∗ Q ⟨⟩))
          ⊢ wp frame (wpE (defs₀ (F := F)) Variants.none c none) Set.univ (cc0_expert_down (grid0.coords t) arg2 harg2 (Memref.whole main_arg1) (Memref.isWhole_whole _) arg4 harg4 arg5 harg5 scM0_0 (Memref.isWhole_whole _) cc0_scratch1) Q } := by
  refine ⟨?_, fun W Q => ?run⟩
  case run =>
    haveI : Fact (cond0_0 (grid0.coords t)) := ⟨hc0⟩
    haveI : Fact (cond0_1 (grid0.coords t)) := ⟨hc1⟩
    haveI : Fact (cond0_2 (grid0.coords t)) := ⟨hc2⟩
    simp only [cc0_expert_down_eq_skeleton]; unfold cc0_expert_down_skel
    simp only [k0_part4_eq_skeleton, k0_part1_eq_skeleton, k0_part2_eq_skeleton, k0_part3_eq_skeleton]
    unfold owns freeP keptP halfP
    iintro ⟨⟨%y0, %hy0, H0⟩, ⟨%y1, %hy1, H1⟩, ⟨%d2, %f2, -, H2⟩, ⟨Hc0, ⟨%f0, Hs0⟩, Hw0_0, Hw1_0⟩, ⟨Hc1, ⟨%f1, Hs1⟩, Hw0_1, Hw1_1⟩, HW, Hk⟩
    ihave Hq0 := (slot_parts (F := F) c (Ring.sl 2 (t.val / 2)) f0).1 $$ Hs0
    icases Hq0 with ⟨Hp0_0, Hp1_0⟩
    ihave Hx0_0 := (src0_split c W0 (Ring.sl 2 (t.val / 2)) (Ring.bk 32 (t.val / 2))).1 $$ Hw0_0
    icases Hx0_0 with ⟨Hh0_0, Hr0_0⟩
    ihave Hx1_0 := (src1_split c W0 (Ring.sl 2 (t.val / 2)) (Ring.bk 32 (t.val / 2))).1 $$ Hw1_0
    icases Hx1_0 with ⟨Hh1_0, Hr1_0⟩
    haveI := storableDeliver (F := F) c W0 (Ring.sl 2 (t.val / 2)) (Ring.bk 32 (t.val / 2))
    imod (Transfers.batch_alloc' (Lvl := ℕ) countersEmb (c : Thread nD τ) default NN (deliver c W0 (Ring.sl 2 (t.val / 2)) (Ring.bk 32 (t.val / 2))) (sm := cellR (Ring.sl 2 (t.val / 2))) (E := Set.univ)) $$ Hc0 with Hb0
    ihave Hq1 := (slot_parts (F := F) c (Ring.sl 2 ((t.val / 2) + 1)) f1).1 $$ Hs1
    icases Hq1 with ⟨Hp0_1, Hp1_1⟩
    ihave Hx0_1 := (src0_split c W0 (Ring.sl 2 ((t.val / 2) + 1)) (Ring.bk 32 ((t.val / 2) + 1))).1 $$ Hw0_1
    icases Hx0_1 with ⟨Hh0_1, Hr0_1⟩
    haveI := storableDeliver (F := F) c W0 (Ring.sl 2 ((t.val / 2) + 1)) (Ring.bk 32 ((t.val / 2) + 1))
    imod (Transfers.batch_alloc' (Lvl := ℕ) countersEmb (c : Thread nD τ) default NN (deliver c W0 (Ring.sl 2 ((t.val / 2) + 1)) (Ring.bk 32 ((t.val / 2) + 1))) (sm := cellR (Ring.sl 2 ((t.val / 2) + 1))) (E := Set.univ)) $$ Hc1 with Hb1
    obtain rfl := harg2.eq_unread hy0
    obtain rfl := harg4.eq_unread hy1
    sl_exec (disch := first | sl_exact hc0 | sl_exact hc1 | sl_exact hc2)
    ihave Hs0 : slotP (F := F) c (Ring.sl 2 (t.val / 2)) (tileBuf c W0 (Ring.bk 32 (t.val / 2))) $$ [Hb0_dst0 Hb0_dst1]
    · iapply (slot_parts (F := F) c (Ring.sl 2 (t.val / 2)) (tileBuf c W0 (Ring.bk 32 (t.val / 2)))).2
      isplitl [Hb0_dst0]; · iapply (Entails.of_eq (landed0_eq c W0 (Ring.sl 2 (t.val / 2)) (Ring.bk 32 (t.val / 2)))); iexact Hb0_dst0
      iapply (Entails.of_eq (landed1_eq c W0 (Ring.sl 2 (t.val / 2)) (Ring.bk 32 (t.val / 2)))); iexact Hb0_dst1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]; · iexists _; iexact H2
    isplitl [Hb0 Hs0 Hb0_src0 Hr0_0 Hb0_src1 Hr1_0]
    · isplitl [Hb0]; · iexact Hb0
      isplitl [Hs0]; · iexact Hs0
      isplitl [Hb0_src0 Hr0_0]
      · iapply (src0_split c W0 (Ring.sl 2 (t.val / 2)) (Ring.bk 32 (t.val / 2))).2; isplitl [Hb0_src0]; · iexact Hb0_src0
        iexact Hr0_0
      iapply (src1_split c W0 (Ring.sl 2 (t.val / 2)) (Ring.bk 32 (t.val / 2))).2; isplitl [Hb0_src1]; · iexact Hb0_src1
      iexact Hr1_0
    isplitl [Hb1 Hp1_1 Hw1_1 Hr0_1]
    · isplitl [Hb1]; · iexact Hb1
      isplitl [Hp1_1]; · iexists _; iexact Hp1_1
      isplitl [Hw1_1]; · iexact Hw1_1
      iexact Hr0_1
    iexists _; iexact HW

end Cert.Kernel5Ideal.Own

end
-- ==== Proof.DownIdealRunC.lean ====
/- The body run at a tile's first point. -/
module

public import proofs.«01_k».proof.Proof.Gen.Kernel5Ideal.Skeleton
public import proofs.«01_k».proof.Proof.DownIdealRunA

@[expose] public section

set_option maxRecDepth 16384

noncomputable section

namespace Cert.Kernel5Ideal.Own

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The body at a tile's first point, another tile to follow: the next tile's first half is started, this tile is waited for and read.
    The pieces it stores into the result's block are found by the run. -/
noncomputable def runC (c : Dev nD) (t : Fin cfg0.N) (arg2 : Memref sig .tc .vmem S2x1x544x1024 .bf16) (harg2 : arg2.IsWhole) (arg4 : Memref sig .tc .vmem S2x1x544x1 .f32) (harg4 : arg4.IsWhole) (arg5 : Memref sig .tc .vmem S2x1x544x2048 .bf16) (harg5 : arg5.IsWhole) (hc0 : ¬cond0_0 (grid0.coords t)) (hc1 : cond0_1 (grid0.coords t)) (hc2 : cond0_2 (grid0.coords t))
    (x0 : Vec F S2x1x544x1024 .bf16) (x1 : Vec F S2x1x544x1 .f32) (W0 : HbBuf0 (F := F) c hbM0_0) :
    { L2 : List (View.Piece (Elt F) S2x1x544x2048 .bf16) //
      ∀ (W : Waits sig Unit) (Q : PUnit → Res F),
        iprop(owns (c : Thread nD τ) arg2 fullShare x0 ∗ owns (c : Thread nD τ) arg4 fullShare x1 ∗ (∃ d, owns (c : Thread nD τ) arg5 fullShare d) ∗ fullP c W0 (Ring.sl 2 (t.val / 2)) (Ring.bk 32 (t.val / 2)) ∗ freeP c W0 (Ring.sl 2 ((t.val / 2) + 1)) ∗ owes (c : Thread nD τ) 0 W
            ∗ (iprop(owns (c : Thread nD τ) arg2 fullShare x0 ∗ owns (c : Thread nD τ) arg4 fullShare x1 ∗ (∃ f, arg5.view.loc (c : Thread nD τ) ↦[arg5.view.set]{fullShare} arg5.view.writes (Elt F) f L2) ∗ keptP c W0 (Ring.sl 2 (t.val / 2)) (Ring.bk 32 (t.val / 2)) ∗ halfP c W0 (Ring.sl 2 ((t.val / 2) + 1)) (Ring.bk 32 ((t.val / 2) + 1)) ∗ (∃ W', owes (c : Thread nD τ) 0 W')) -∗ Q ⟨⟩))
          ⊢ wp frame (wpE (defs₀ (F := F)) Variants.none c none) Set.univ (cc0_expert_down (grid0.coords t) arg2 harg2 (Memref.whole main_arg1) (Memref.isWhole_whole _) arg4 harg4 arg5 harg5 scM0_0 (Memref.isWhole_whole _) cc0_scratch1) Q } := by
  refine ⟨?_, fun W Q => ?run⟩
  case run =>
    haveI : Fact (¬cond0_0 (grid0.coords t)) := ⟨hc0⟩
    haveI : Fact (cond0_1 (grid0.coords t)) := ⟨hc1⟩
    haveI : Fact (cond0_2 (grid0.coords t)) := ⟨hc2⟩
    simp only [cc0_expert_down_eq_skeleton]; unfold cc0_expert_down_skel
    simp only [k0_part4_eq_skeleton, k0_part1_eq_skeleton, k0_part2_eq_skeleton, k0_part3_eq_skeleton]
    unfold owns freeP keptP halfP fullP
    iintro ⟨⟨%y0, %hy0, H0⟩, ⟨%y1, %hy1, H1⟩, ⟨%d2, %f2, -, H2⟩, ⟨Hb0, Hr0_0, Hr1_0⟩, ⟨Hc1, ⟨%f1, Hs1⟩, Hw0_1, Hw1_1⟩, HW, Hk⟩
    ihave Hq1 := (slot_parts (F := F) c (Ring.sl 2 ((t.val / 2) + 1)) f1).1 $$ Hs1
    icases Hq1 with ⟨Hp0_1, Hp1_1⟩
    ihave Hx0_1 := (src0_split c W0 (Ring.sl 2 ((t.val / 2) + 1)) (Ring.bk 32 ((t.val / 2) + 1))).1 $$ Hw0_1
    icases Hx0_1 with ⟨Hh0_1, Hr0_1⟩
    haveI := storableDeliver (F := F) c W0 (Ring.sl 2 ((t.val / 2) + 1)) (Ring.bk 32 ((t.val / 2) + 1))
    imod (Transfers.batch_alloc' (Lvl := ℕ) countersEmb (c : Thread nD τ) default NN (deliver c W0 (Ring.sl 2 ((t.val / 2) + 1)) (Ring.bk 32 ((t.val / 2) + 1))) (sm := cellR (Ring.sl 2 ((t.val / 2) + 1))) (E := Set.univ)) $$ Hc1 with Hb1
    obtain rfl := harg2.eq_unread hy0
    obtain rfl := harg4.eq_unread hy1
    sl_exec (disch := first | sl_exact hc0 | sl_exact hc1 | sl_exact hc2)
    ihave Hs0 : slotP (F := F) c (Ring.sl 2 (t.val / 2)) (tileBuf c W0 (Ring.bk 32 (t.val / 2))) $$ [Hb0_dst0 Hb0_dst1]
    · iapply (slot_parts (F := F) c (Ring.sl 2 (t.val / 2)) (tileBuf c W0 (Ring.bk 32 (t.val / 2)))).2
      isplitl [Hb0_dst0]; · iapply (Entails.of_eq (landed0_eq c W0 (Ring.sl 2 (t.val / 2)) (Ring.bk 32 (t.val / 2)))); iexact Hb0_dst0
      iapply (Entails.of_eq (landed1_eq c W0 (Ring.sl 2 (t.val / 2)) (Ring.bk 32 (t.val / 2)))); iexact Hb0_dst1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]; · iexists _; iexact H2
    isplitl [Hb0 Hs0 Hb0_src0 Hr0_0 Hb0_src1 Hr1_0]
    · isplitl [Hb0]; · iexact Hb0
      isplitl [Hs0]; · iexact Hs0
      isplitl [Hb0_src0 Hr0_0]
      · iapply (src0_split c W0 (Ring.sl 2 (t.val / 2)) (Ring.bk 32 (t.val / 2))).2; isplitl [Hb0_src0]; · iexact Hb0_src0
        iexact Hr0_0
      iapply (src1_split c W0 (Ring.sl 2 (t.val / 2)) (Ring.bk 32 (t.val / 2))).2; isplitl [Hb0_src1]; · iexact Hb0_src1
      iexact Hr1_0
    isplitl [Hb1 Hp1_1 Hw1_1 Hr0_1]
    · isplitl [Hb1]; · iexact Hb1
      isplitl [Hp1_1]; · iexists _; iexact Hp1_1
      isplitl [Hw1_1]; · iexact Hw1_1
      iexact Hr0_1
    iexists _; iexact HW

end Cert.Kernel5Ideal.Own

end
-- ==== Proof.DownIdealRunD.lean ====
/- The body run at the last tile's first point. -/
module

public import proofs.«01_k».proof.Proof.Gen.Kernel5Ideal.Skeleton
public import proofs.«01_k».proof.Proof.DownIdealRunC

@[expose] public section

set_option maxRecDepth 16384

noncomputable section

namespace Cert.Kernel5Ideal.Own

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The body at the last tile's first point: the tile is waited for and read.
    The pieces it stores into the result's block are found by the run. -/
noncomputable def runD (c : Dev nD) (t : Fin cfg0.N) (arg2 : Memref sig .tc .vmem S2x1x544x1024 .bf16) (harg2 : arg2.IsWhole) (arg4 : Memref sig .tc .vmem S2x1x544x1 .f32) (harg4 : arg4.IsWhole) (arg5 : Memref sig .tc .vmem S2x1x544x2048 .bf16) (harg5 : arg5.IsWhole) (hc0 : ¬cond0_0 (grid0.coords t)) (hc1 : ¬cond0_1 (grid0.coords t)) (hc2 : cond0_2 (grid0.coords t))
    (x0 : Vec F S2x1x544x1024 .bf16) (x1 : Vec F S2x1x544x1 .f32) (W0 : HbBuf0 (F := F) c hbM0_0) :
    { L2 : List (View.Piece (Elt F) S2x1x544x2048 .bf16) //
      ∀ (W : Waits sig Unit) (Q : PUnit → Res F),
        iprop(owns (c : Thread nD τ) arg2 fullShare x0 ∗ owns (c : Thread nD τ) arg4 fullShare x1 ∗ (∃ d, owns (c : Thread nD τ) arg5 fullShare d) ∗ fullP c W0 (Ring.sl 2 (t.val / 2)) (Ring.bk 32 (t.val / 2)) ∗ owes (c : Thread nD τ) 0 W
            ∗ (iprop(owns (c : Thread nD τ) arg2 fullShare x0 ∗ owns (c : Thread nD τ) arg4 fullShare x1 ∗ (∃ f, arg5.view.loc (c : Thread nD τ) ↦[arg5.view.set]{fullShare} arg5.view.writes (Elt F) f L2) ∗ keptP c W0 (Ring.sl 2 (t.val / 2)) (Ring.bk 32 (t.val / 2)) ∗ (∃ W', owes (c : Thread nD τ) 0 W')) -∗ Q ⟨⟩))
          ⊢ wp frame (wpE (defs₀ (F := F)) Variants.none c none) Set.univ (cc0_expert_down (grid0.coords t) arg2 harg2 (Memref.whole main_arg1) (Memref.isWhole_whole _) arg4 harg4 arg5 harg5 scM0_0 (Memref.isWhole_whole _) cc0_scratch1) Q } := by
  refine ⟨?_, fun W Q => ?run⟩
  case run =>
    haveI : Fact (¬cond0_0 (grid0.coords t)) := ⟨hc0⟩
    haveI : Fact (¬cond0_1 (grid0.coords t)) := ⟨hc1⟩
    haveI : Fact (cond0_2 (grid0.coords t)) := ⟨hc2⟩
    simp only [cc0_expert_down_eq_skeleton]; unfold cc0_expert_down_skel
    simp only [k0_part4_eq_skeleton, k0_part1_eq_skeleton, k0_part2_eq_skeleton, k0_part3_eq_skeleton]
    unfold owns keptP fullP
    iintro ⟨⟨%y0, %hy0, H0⟩, ⟨%y1, %hy1, H1⟩, ⟨%d2, %f2, -, H2⟩, ⟨Hb0, Hr0_0, Hr1_0⟩, HW, Hk⟩
    obtain rfl := harg2.eq_unread hy0
    obtain rfl := harg4.eq_unread hy1
    sl_exec (disch := first | sl_exact hc0 | sl_exact hc1 | sl_exact hc2)
    ihave Hs0 : slotP (F := F) c (Ring.sl 2 (t.val / 2)) (tileBuf c W0 (Ring.bk 32 (t.val / 2))) $$ [Hb0_dst0 Hb0_dst1]
    · iapply (slot_parts (F := F) c (Ring.sl 2 (t.val / 2)) (tileBuf c W0 (Ring.bk 32 (t.val / 2)))).2
      isplitl [Hb0_dst0]; · iapply (Entails.of_eq (landed0_eq c W0 (Ring.sl 2 (t.val / 2)) (Ring.bk 32 (t.val / 2)))); iexact Hb0_dst0
      iapply (Entails.of_eq (landed1_eq c W0 (Ring.sl 2 (t.val / 2)) (Ring.bk 32 (t.val / 2)))); iexact Hb0_dst1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]; · iexists _; iexact H2
    isplitl [Hb0 Hs0 Hb0_src0 Hr0_0 Hb0_src1 Hr1_0]
    · isplitl [Hb0]; · iexact Hb0
      isplitl [Hs0]; · iexact Hs0
      isplitl [Hb0_src0 Hr0_0]
      · iapply (src0_split c W0 (Ring.sl 2 (t.val / 2)) (Ring.bk 32 (t.val / 2))).2; isplitl [Hb0_src0]; · iexact Hb0_src0
        iexact Hr0_0
      iapply (src1_split c W0 (Ring.sl 2 (t.val / 2)) (Ring.bk 32 (t.val / 2))).2; isplitl [Hb0_src1]; · iexact Hb0_src1
      iexact Hr1_0
    iexists _; iexact HW

end Cert.Kernel5Ideal.Own

end
-- ==== Proof.DownIdealRunE.lean ====
/- The body run at a tile's second point. -/
module

public import proofs.«01_k».proof.Proof.Gen.Kernel5Ideal.Skeleton
public import proofs.«01_k».proof.Proof.DownIdealRunD

@[expose] public section

set_option maxRecDepth 16384

noncomputable section

namespace Cert.Kernel5Ideal.Own

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The body at a tile's second point, another tile to follow: the next tile's second half is started, the landed tile is read.
    The pieces it stores into the result's block are found by the run. -/
noncomputable def runE (c : Dev nD) (t : Fin cfg0.N) (arg2 : Memref sig .tc .vmem S2x1x544x1024 .bf16) (harg2 : arg2.IsWhole) (arg4 : Memref sig .tc .vmem S2x1x544x1 .f32) (harg4 : arg4.IsWhole) (arg5 : Memref sig .tc .vmem S2x1x544x2048 .bf16) (harg5 : arg5.IsWhole) (hc0 : ¬cond0_0 (grid0.coords t)) (hc1 : cond0_1 (grid0.coords t)) (hc2 : ¬cond0_2 (grid0.coords t))
    (x0 : Vec F S2x1x544x1024 .bf16) (x1 : Vec F S2x1x544x1 .f32) (W0 : HbBuf0 (F := F) c hbM0_0) :
    { L2 : List (View.Piece (Elt F) S2x1x544x2048 .bf16) //
      ∀ (W : Waits sig Unit) (Q : PUnit → Res F),
        iprop(owns (c : Thread nD τ) arg2 fullShare x0 ∗ owns (c : Thread nD τ) arg4 fullShare x1 ∗ (∃ d, owns (c : Thread nD τ) arg5 fullShare d) ∗ keptP c W0 (Ring.sl 2 (t.val / 2)) (Ring.bk 32 (t.val / 2)) ∗ halfP c W0 (Ring.sl 2 ((t.val / 2) + 1)) (Ring.bk 32 ((t.val / 2) + 1)) ∗ owes (c : Thread nD τ) 0 W
            ∗ (iprop(owns (c : Thread nD τ) arg2 fullShare x0 ∗ owns (c : Thread nD τ) arg4 fullShare x1 ∗ (∃ f, arg5.view.loc (c : Thread nD τ) ↦[arg5.view.set]{fullShare} arg5.view.writes (Elt F) f L2) ∗ keptP c W0 (Ring.sl 2 (t.val / 2)) (Ring.bk 32 (t.val / 2)) ∗ fullP c W0 (Ring.sl 2 ((t.val / 2) + 1)) (Ring.bk 32 ((t.val / 2) + 1)) ∗ (∃ W', owes (c : Thread nD τ) 0 W')) -∗ Q ⟨⟩))
          ⊢ wp frame (wpE (defs₀ (F := F)) Variants.none c none) Set.univ (cc0_expert_down (grid0.coords t) arg2 harg2 (Memref.whole main_arg1) (Memref.isWhole_whole _) arg4 harg4 arg5 harg5 scM0_0 (Memref.isWhole_whole _) cc0_scratch1) Q } := by
  refine ⟨?_, fun W Q => ?run⟩
  case run =>
    haveI : Fact (¬cond0_0 (grid0.coords t)) := ⟨hc0⟩
    haveI : Fact (cond0_1 (grid0.coords t)) := ⟨hc1⟩
    haveI : Fact (¬cond0_2 (grid0.coords t)) := ⟨hc2⟩
    simp only [cc0_expert_down_eq_skeleton]; unfold cc0_expert_down_skel
    simp only [k0_part4_eq_skeleton, k0_part1_eq_skeleton, k0_part2_eq_skeleton, k0_part3_eq_skeleton]
    unfold owns keptP halfP fullP
    iintro ⟨⟨%y0, %hy0, H0⟩, ⟨%y1, %hy1, H1⟩, ⟨%d2, %f2, -, H2⟩, ⟨Hc0, Hs0, Hw0_0, Hw1_0⟩, ⟨Hb1, ⟨%g1_1, Hp1_1⟩, Hw1_1, Hr0_1⟩, HW, Hk⟩
    ihave Hx1_1 := (src1_split c W0 (Ring.sl 2 ((t.val / 2) + 1)) (Ring.bk 32 ((t.val / 2) + 1))).1 $$ Hw1_1
    icases Hx1_1 with ⟨Hh1_1, Hr1_1⟩
    obtain rfl := harg2.eq_unread hy0
    obtain rfl := harg4.eq_unread hy1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]; · iexists _; iexact H2
    isplitl [Hc0 Hs0 Hw0_0 Hw1_0]
    · isplitl [Hc0]; · iexact Hc0
      isplitl [Hs0]; · iexact Hs0
      isplitl [Hw0_0]; · iexact Hw0_0
      iexact Hw1_0
    isplitl [Hb1 Hr0_1 Hr1_1]
    · isplitl [Hb1]; · iexact Hb1
      isplitl [Hr0_1]; · iexact Hr0_1
      iexact Hr1_1
    iexists _; iexact HW

end Cert.Kernel5Ideal.Own

end
-- ==== Proof.DownIdealRunG.lean ====
/- The body run at the last point. -/
module

public import proofs.«01_k».proof.Proof.Gen.Kernel5Ideal.Skeleton
public import proofs.«01_k».proof.Proof.DownIdealRunE

@[expose] public section

set_option maxRecDepth 16384

noncomputable section

namespace Cert.Kernel5Ideal.Own

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The body at the last point: the landed tile is read.
    The pieces it stores into the result's block are found by the run. -/
noncomputable def runG (c : Dev nD) (t : Fin cfg0.N) (arg2 : Memref sig .tc .vmem S2x1x544x1024 .bf16) (harg2 : arg2.IsWhole) (arg4 : Memref sig .tc .vmem S2x1x544x1 .f32) (harg4 : arg4.IsWhole) (arg5 : Memref sig .tc .vmem S2x1x544x2048 .bf16) (harg5 : arg5.IsWhole) (hc0 : ¬cond0_0 (grid0.coords t)) (hc1 : ¬cond0_1 (grid0.coords t)) (hc2 : ¬cond0_2 (grid0.coords t))
    (x0 : Vec F S2x1x544x1024 .bf16) (x1 : Vec F S2x1x544x1 .f32) (W0 : HbBuf0 (F := F) c hbM0_0) :
    { L2 : List (View.Piece (Elt F) S2x1x544x2048 .bf16) //
      ∀ (W : Waits sig Unit) (Q : PUnit → Res F),
        iprop(owns (c : Thread nD τ) arg2 fullShare x0 ∗ owns (c : Thread nD τ) arg4 fullShare x1 ∗ (∃ d, owns (c : Thread nD τ) arg5 fullShare d) ∗ keptP c W0 (Ring.sl 2 (t.val / 2)) (Ring.bk 32 (t.val / 2)) ∗ owes (c : Thread nD τ) 0 W
            ∗ (iprop(owns (c : Thread nD τ) arg2 fullShare x0 ∗ owns (c : Thread nD τ) arg4 fullShare x1 ∗ (∃ f, arg5.view.loc (c : Thread nD τ) ↦[arg5.view.set]{fullShare} arg5.view.writes (Elt F) f L2) ∗ keptP c W0 (Ring.sl 2 (t.val / 2)) (Ring.bk 32 (t.val / 2)) ∗ (∃ W', owes (c : Thread nD τ) 0 W')) -∗ Q ⟨⟩))
          ⊢ wp frame (wpE (defs₀ (F := F)) Variants.none c none) Set.univ (cc0_expert_down (grid0.coords t) arg2 harg2 (Memref.whole main_arg1) (Memref.isWhole_whole _) arg4 harg4 arg5 harg5 scM0_0 (Memref.isWhole_whole _) cc0_scratch1) Q } := by
  refine ⟨?_, fun W Q => ?run⟩
  case run =>
    haveI : Fact (¬cond0_0 (grid0.coords t)) := ⟨hc0⟩
    haveI : Fact (¬cond0_1 (grid0.coords t)) := ⟨hc1⟩
    haveI : Fact (¬cond0_2 (grid0.coords t)) := ⟨hc2⟩
    simp only [cc0_expert_down_eq_skeleton]; unfold cc0_expert_down_skel
    simp only [k0_part4_eq_skeleton, k0_part1_eq_skeleton, k0_part2_eq_skeleton, k0_part3_eq_skeleton]
    unfold owns keptP
    iintro ⟨⟨%y0, %hy0, H0⟩, ⟨%y1, %hy1, H1⟩, ⟨%d2, %f2, -, H2⟩, ⟨Hc0, Hs0, Hw0_0, Hw1_0⟩, HW, Hk⟩
    obtain rfl := harg2.eq_unread hy0
    obtain rfl := harg4.eq_unread hy1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]; · iexists _; iexact H2
    isplitl [Hc0 Hs0 Hw0_0 Hw1_0]
    · isplitl [Hc0]; · iexact Hc0
      isplitl [Hs0]; · iexact Hs0
      isplitl [Hw0_0]; · iexact Hw0_0
      iexact Hw1_0
    iexists _; iexact HW

end Cert.Kernel5Ideal.Own

end
-- ==== Proof.DownIdealFrame.lean ====
/- The states of the weight streaming between points. -/
module

public import Idealize.ShloMosaic.Lib.Pipeline.ValueKit
public import proofs.«01_k».proof.Proof.DownIdealRunG

@[expose] public section

set_option maxRecDepth 16384

noncomputable section

namespace Cert.Kernel5Ideal.Own

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The states between points -/

section States
variable (c : Dev nD) (W0 : HbBuf0 (F := F) c hbM0_0)
/-- A slot that holds a tile is free to take another. -/
theorem kept_free (s : Fin 2) (b : Fin 32) : keptP (F := F) c W0 s b ⊢ freeP c W0 s := by
  unfold keptP freeP
  iintro ⟨Hc, Hs, Hw⟩
  isplitl [Hc]; · iexact Hc
  isplitl [Hs]; · iexists _; iexact Hs
  iexact Hw
/-- What the region holds of the weight streaming before point `n`: both slots free at the start and the end; before a tile's
    first point, that tile under way and the other slot free; before its second, the tile landed and half of the next under
    way, if there is a next. -/
def stateP (n : ℕ) : Res F :=
  if n = 0 ∨ 64 ≤ n then iprop(freeP c W0 0 ∗ freeP c W0 1)
  else if n % 2 = 0 then iprop(fullP c W0 (Ring.sl 2 (n / 2)) (Ring.bk 32 (n / 2)) ∗ freeP c W0 (Ring.sl 2 (n / 2 + 1)))
  else if n / 2 + 1 < 32 then iprop(keptP c W0 (Ring.sl 2 (n / 2)) (Ring.bk 32 (n / 2)) ∗ halfP c W0 (Ring.sl 2 (n / 2 + 1)) (Ring.bk 32 (n / 2 + 1)))
  else iprop(keptP c W0 (Ring.sl 2 (n / 2)) (Ring.bk 32 (n / 2)) ∗ freeP c W0 (Ring.sl 2 (n / 2 + 1)))
variable (n : ℕ)
theorem state_first (h : n = 0) : stateP (F := F) c W0 n ⊢ iprop(freeP c W0 (Ring.sl 2 (n / 2)) ∗ freeP c W0 (Ring.sl 2 (n / 2 + 1))) := by
  subst h
  unfold stateP; rw [if_pos (Or.inl rfl)]
  exact .rfl
theorem state_even (h0 : ¬n = 0) (hn : n < 64) (h : n % 2 = 0) : stateP (F := F) c W0 n ⊢ iprop(fullP c W0 (Ring.sl 2 (n / 2)) (Ring.bk 32 (n / 2)) ∗ freeP c W0 (Ring.sl 2 (n / 2 + 1))) := by
  unfold stateP; rw [if_neg (show ¬(n = 0 ∨ 64 ≤ n) by omega), if_pos h]
theorem state_odd (hn : n < 64) (h : ¬n % 2 = 0) (h1 : n / 2 + 1 < 32) : stateP (F := F) c W0 n ⊢ iprop(keptP c W0 (Ring.sl 2 (n / 2)) (Ring.bk 32 (n / 2)) ∗ halfP c W0 (Ring.sl 2 (n / 2 + 1)) (Ring.bk 32 (n / 2 + 1))) := by
  unfold stateP; rw [if_neg (show ¬(n = 0 ∨ 64 ≤ n) by omega), if_neg h, if_pos h1]
theorem state_last (hn : n < 64) (h : ¬n % 2 = 0) (h1 : ¬n / 2 + 1 < 32) : stateP (F := F) c W0 n ⊢ iprop(keptP c W0 (Ring.sl 2 (n / 2)) (Ring.bk 32 (n / 2)) ∗ freeP c W0 (Ring.sl 2 (n / 2 + 1))) := by
  unfold stateP; rw [if_neg (show ¬(n = 0 ∨ 64 ≤ n) by omega), if_neg h, if_neg h1]
theorem after_even (h : n % 2 = 0) (h1 : n / 2 + 1 < 32) : iprop(keptP c W0 (Ring.sl 2 (n / 2)) (Ring.bk 32 (n / 2)) ∗ halfP c W0 (Ring.sl 2 (n / 2 + 1)) (Ring.bk 32 (n / 2 + 1))) ⊢ stateP (F := F) c W0 (n + 1) := by
  unfold stateP
  rw [if_neg (show ¬(n + 1 = 0 ∨ 64 ≤ n + 1) by omega), if_neg (show ¬(n + 1) % 2 = 0 by omega), show (n + 1) / 2 = n / 2 by omega, if_pos h1]
theorem after_even_last (hn : n < 64) (h : n % 2 = 0) (h1 : ¬n / 2 + 1 < 32) : iprop(keptP c W0 (Ring.sl 2 (n / 2)) (Ring.bk 32 (n / 2)) ∗ freeP c W0 (Ring.sl 2 (n / 2 + 1))) ⊢ stateP (F := F) c W0 (n + 1) := by
  unfold stateP
  rw [if_neg (show ¬(n + 1 = 0 ∨ 64 ≤ n + 1) by omega), if_neg (show ¬(n + 1) % 2 = 0 by omega), show (n + 1) / 2 = n / 2 by omega, if_neg h1]
theorem after_odd (h : ¬n % 2 = 0) (h1 : n / 2 + 1 < 32) : iprop(keptP c W0 (Ring.sl 2 (n / 2)) (Ring.bk 32 (n / 2)) ∗ fullP c W0 (Ring.sl 2 (n / 2 + 1)) (Ring.bk 32 (n / 2 + 1))) ⊢ stateP (F := F) c W0 (n + 1) := by
  unfold stateP
  rw [if_neg (show ¬(n + 1 = 0 ∨ 64 ≤ n + 1) by omega), if_pos (show (n + 1) % 2 = 0 by omega), show (n + 1) / 2 = n / 2 + 1 by omega,
    show n / 2 + 1 + 1 = n / 2 + 2 from rfl, Ring.sl_add]
  iintro ⟨Hk, Hf⟩
  isplitl [Hf]; · iexact Hf
  iapply (kept_free (F := F) c W0 (Ring.sl 2 (n / 2)) (Ring.bk 32 (n / 2))); iexact Hk
theorem after_last (hn : n < 64) (h : ¬n % 2 = 0) (h1 : ¬n / 2 + 1 < 32) : iprop(keptP c W0 (Ring.sl 2 (n / 2)) (Ring.bk 32 (n / 2)) ∗ freeP c W0 (Ring.sl 2 (n / 2 + 1))) ⊢ stateP (F := F) c W0 (n + 1) := by
  unfold stateP
  rw [if_pos (show n + 1 = 0 ∨ 64 ≤ n + 1 by omega), show n / 2 = 31 by omega, show Ring.sl 2 31 = 1 from rfl, show Ring.sl 2 (31 + 1) = 0 from rfl]
  iintro ⟨Hk, Hf⟩
  isplitl [Hf]; · iexact Hf
  iapply (kept_free (F := F) c W0 1 (Ring.bk 32 31)); iexact Hk

/-! ## What the launch hands over, and takes back -/

/-- The places of slot `s` in the scratch. -/
def slotSet (s : Fin 2) : Finset S2x1x1024x2048.Idx := (Rect.unit (s := S2x1x1024x2048) ![s.val, 0, 0, 0] S1x1x1024x2048.size (inb_slot s)).set
theorem mem_slotSet (s : Fin 2) (i : S2x1x1024x2048.Idx) : i ∈ slotSet s ↔ (i 0).val = s.val := by
  have h0 : (i 0).val < 2 := (i 0).isLt
  have h1 : (i 1).val < 1 := (i 1).isLt
  have h2 : (i 2).val < 1024 := (i 2).isLt
  have h3 : (i 3).val < 2048 := (i 3).isLt
  simp only [slotSet, Rect.mem_set_unit, Fin.forall_fin_succ, IsEmpty.forall_iff, and_true]
  simp [Fin.succ, Shape.size]
  omega
theorem slots_disjoint (s s' : Fin 2) (h : s ≠ s') : Disjoint (slotSet s) (slotSet s') := by
  rw [Finset.disjoint_left]
  intro i hi hi'
  rw [mem_slotSet] at hi hi'
  exact h (Fin.ext (hi.symm.trans hi'))
theorem slots_cover : Finset.univ.biUnion slotSet = Finset.univ := by
  ext i
  simp only [Finset.mem_biUnion, Finset.mem_univ, true_and, iff_true]
  exact ⟨⟨(i 0).val, (i 0).isLt⟩, (mem_slotSet _ i).mpr rfl⟩
theorem slotP_set (s : Fin 2) (f : HbBuf0 (F := F) c scM0_0) : slotP (F := F) c s f = (((c : Thread nD τ).loc cc0_scratch0) ↦[slotSet s]{fullShare} f : Res F) :=
  slotP_eq c s f
set_option maxHeartbeats 1000000 in
theorem slots_in : iprop(∃ d, owns (c : Thread nD τ) scM0_0 fullShare d) ⊢ (iprop((∃ f, slotP (F := F) c 0 f) ∗ ∃ f, slotP (F := F) c 1 f) : Res F) := by
  simp only [scM0_0, owns_whole]
  exact Ring.slots2_split (U := Pipeline.UD sig nD τ) (ℓ := (c : Thread nD τ).loc cc0_scratch0) (q := fullShare) slotSet slots_disjoint slots_cover
    (slotP c 0) (slotP c 1) (slotP_set c 0) (slotP_set c 1)
set_option maxHeartbeats 1000000 in
theorem slots_out : (iprop((∃ f, slotP (F := F) c 0 f) ∗ ∃ f, slotP (F := F) c 1 f) : Res F) ⊢ iprop(∃ d, owns (c : Thread nD τ) scM0_0 fullShare d) := by
  simp only [scM0_0, owns_whole]
  exact Ring.slots2_join (U := Pipeline.UD sig nD τ) (ℓ := (c : Thread nD τ).loc cc0_scratch0) (q := fullShare) slotSet slots_disjoint slots_cover
    (slotP c 0) (slotP c 1) (slotP_set c 0) (slotP_set c 1)
/-- A weight operand held whole is its four shares. -/
theorem shares0 : (hbPt0 c hbM0_0 W0 : Res F) ⊣⊢ iprop((wholeP0 c W0 0 ∗ wholeP1 c W0 0) ∗ (wholeP0 c W0 1 ∗ wholeP1 c W0 1)) :=
  (pointsTo_share (PosShare.mem_left_op_right fullShare)).trans
    (sep_congr (pointsTo_share (PosShare.mem_left_op_right fullShare.left)) (pointsTo_share (PosShare.mem_left_op_right fullShare.right)))
/-- The launch's pieces — the scratch whole, the cells at zero, the weights whole — are the two slots free, -/
theorem ring_in : iprop((∃ d, owns (c : Thread nD τ) scM0_0 fullShare d) ∗ (semVal ((c : Thread nD τ), SemLoc.dma 6) 0 ∗ semVal ((c : Thread nD τ), SemLoc.dma 7) 0) ∗ hbPt0 c hbM0_0 W0) ⊢ stateP (F := F) c W0 0 := by
  unfold stateP; rw [if_pos (Or.inl rfl)]
  unfold freeP
  rw [cellP_0, cellP_1]
  iintro ⟨HS, ⟨Hc0, Hc1⟩, Hh0⟩
  ihave HS' := (slots_in (F := F) c) $$ HS
  icases HS' with ⟨HS0, HS1⟩
  ihave Hx0 := (shares0 (F := F) c W0).1 $$ Hh0
  icases Hx0 with ⟨⟨Hw0_0, Hw1_0⟩, ⟨Hw0_1, Hw1_1⟩⟩
  isplitl [Hc0 HS0 Hw0_0 Hw1_0]
  · isplitl [Hc0]; · iexact Hc0
    isplitl [HS0]; · iexact HS0
    isplitl [Hw0_0]; · iexact Hw0_0
    iexact Hw1_0
  isplitl [Hc1]; · iexact Hc1
  isplitl [HS1]; · iexact HS1
  isplitl [Hw0_1]; · iexact Hw0_1
  iexact Hw1_1
/-- and back. -/
theorem ring_out : stateP (F := F) c W0 64 ⊢ iprop((∃ d, owns (c : Thread nD τ) scM0_0 fullShare d) ∗ (semVal ((c : Thread nD τ), SemLoc.dma 6) 0 ∗ semVal ((c : Thread nD τ), SemLoc.dma 7) 0) ∗ hbPt0 c hbM0_0 W0) := by
  unfold stateP; rw [if_pos (Or.inr (le_refl 64))]
  unfold freeP
  rw [cellP_0, cellP_1]
  iintro ⟨⟨Hc0, HS0, Hw0_0, Hw1_0⟩, ⟨Hc1, HS1, Hw0_1, Hw1_1⟩⟩
  isplitl [HS0 HS1]
  · iapply (slots_out (F := F) c); isplitl [HS0]; · iexact HS0
    iexact HS1
  isplitl [Hc0 Hc1]
  · isplitl [Hc0]; · iexact Hc0
    iexact Hc1
  iapply (shares0 (F := F) c W0).2
  isplitl [Hw0_0 Hw1_0]
  · isplitl [Hw0_0]; · iexact Hw0_0
    iexact Hw1_0
  isplitl [Hw0_1]; · iexact Hw0_1
  iexact Hw1_1
/-- What point `t` loads of its tile. -/
def tileLoad0 (t : Fin cfg0.N) : Vec F S1x1x1024x2048 .f32 :=
  scM0_0.view.readAt (Elt F) (Rect.unit (s := S2x1x1024x2048) (k0_off9 (grid0.coords t)) S1x1x1024x2048.size (k0_off9_inb (grid0.coords t))).toLoadRect (tileBuf (F := F) c W0 (Ring.bk 32 (t.val / 2)))
/-- What the body leaves in the result's block at point `t`, of the blocks it reads. -/
def payAt (t : Fin cfg0.N) (x0 : Vec F S2x1x544x1024 .bf16) (x1 : Vec F S2x1x544x1 .f32) : Vec F S2x1x544x2048 .bf16 := k0_pay1 (k0_pay2 x0 (tileLoad0 (F := F) c W0 t)) x1
end States

set_option maxHeartbeats 1000000 in
/-- Case A leaves `payAt` in the result's block. -/
theorem out_A (c : Dev nD) (t : Fin cfg0.N) (arg2 : Memref sig .tc .vmem S2x1x544x1024 .bf16) (harg2 : arg2.IsWhole) (arg4 : Memref sig .tc .vmem S2x1x544x1 .f32) (harg4 : arg4.IsWhole) (arg5 : Memref sig .tc .vmem S2x1x544x2048 .bf16) (harg5 : arg5.IsWhole) (hc0 : cond0_0 (grid0.coords t)) (hc1 : cond0_1 (grid0.coords t)) (hc2 : cond0_2 (grid0.coords t)) (x0 : Vec F S2x1x544x1024 .bf16) (x1 : Vec F S2x1x544x1 .f32) (W0 : HbBuf0 (F := F) c hbM0_0) (f) :
    arg5.view.read (Elt F) (arg5.view.writes (Elt F) f (runA c t arg2 harg2 arg4 harg4 arg5 harg5 hc0 hc1 hc2 x0 x1 W0).1) = payAt c W0 t x0 x1 := by
  refine (View.read_writes_eq_canon _ _ _ fun y => View.cover_of_tiledL (runA c t arg2 harg2 arg4 harg4 arg5 harg5 hc0 hc1 hc2 x0 x1 W0).1 S2x1x544x2048.size (by sl_kernel_rfl) y).trans ?_
  refine (View.canon_cons_unit_lit _ _ _ (fun a => by fin_cases a <;> rfl)).trans ?_
  unfold payAt tileLoad0
  frame_out

set_option maxHeartbeats 1000000 in
/-- Case C leaves `payAt` in the result's block. -/
theorem out_C (c : Dev nD) (t : Fin cfg0.N) (arg2 : Memref sig .tc .vmem S2x1x544x1024 .bf16) (harg2 : arg2.IsWhole) (arg4 : Memref sig .tc .vmem S2x1x544x1 .f32) (harg4 : arg4.IsWhole) (arg5 : Memref sig .tc .vmem S2x1x544x2048 .bf16) (harg5 : arg5.IsWhole) (hc0 : ¬cond0_0 (grid0.coords t)) (hc1 : cond0_1 (grid0.coords t)) (hc2 : cond0_2 (grid0.coords t)) (x0 : Vec F S2x1x544x1024 .bf16) (x1 : Vec F S2x1x544x1 .f32) (W0 : HbBuf0 (F := F) c hbM0_0) (f) :
    arg5.view.read (Elt F) (arg5.view.writes (Elt F) f (runC c t arg2 harg2 arg4 harg4 arg5 harg5 hc0 hc1 hc2 x0 x1 W0).1) = payAt c W0 t x0 x1 := by
  refine (View.read_writes_eq_canon _ _ _ fun y => View.cover_of_tiledL (runC c t arg2 harg2 arg4 harg4 arg5 harg5 hc0 hc1 hc2 x0 x1 W0).1 S2x1x544x2048.size (by sl_kernel_rfl) y).trans ?_
  refine (View.canon_cons_unit_lit _ _ _ (fun a => by fin_cases a <;> rfl)).trans ?_
  unfold payAt tileLoad0
  frame_out

set_option maxHeartbeats 1000000 in
/-- Case D leaves `payAt` in the result's block. -/
theorem out_D (c : Dev nD) (t : Fin cfg0.N) (arg2 : Memref sig .tc .vmem S2x1x544x1024 .bf16) (harg2 : arg2.IsWhole) (arg4 : Memref sig .tc .vmem S2x1x544x1 .f32) (harg4 : arg4.IsWhole) (arg5 : Memref sig .tc .vmem S2x1x544x2048 .bf16) (harg5 : arg5.IsWhole) (hc0 : ¬cond0_0 (grid0.coords t)) (hc1 : ¬cond0_1 (grid0.coords t)) (hc2 : cond0_2 (grid0.coords t)) (x0 : Vec F S2x1x544x1024 .bf16) (x1 : Vec F S2x1x544x1 .f32) (W0 : HbBuf0 (F := F) c hbM0_0) (f) :
    arg5.view.read (Elt F) (arg5.view.writes (Elt F) f (runD c t arg2 harg2 arg4 harg4 arg5 harg5 hc0 hc1 hc2 x0 x1 W0).1) = payAt c W0 t x0 x1 := by
  refine (View.read_writes_eq_canon _ _ _ fun y => View.cover_of_tiledL (runD c t arg2 harg2 arg4 harg4 arg5 harg5 hc0 hc1 hc2 x0 x1 W0).1 S2x1x544x2048.size (by sl_kernel_rfl) y).trans ?_
  refine (View.canon_cons_unit_lit _ _ _ (fun a => by fin_cases a <;> rfl)).trans ?_
  unfold payAt tileLoad0
  frame_out

set_option maxHeartbeats 1000000 in
/-- Case E leaves `payAt` in the result's block. -/
theorem out_E (c : Dev nD) (t : Fin cfg0.N) (arg2 : Memref sig .tc .vmem S2x1x544x1024 .bf16) (harg2 : arg2.IsWhole) (arg4 : Memref sig .tc .vmem S2x1x544x1 .f32) (harg4 : arg4.IsWhole) (arg5 : Memref sig .tc .vmem S2x1x544x2048 .bf16) (harg5 : arg5.IsWhole) (hc0 : ¬cond0_0 (grid0.coords t)) (hc1 : cond0_1 (grid0.coords t)) (hc2 : ¬cond0_2 (grid0.coords t)) (x0 : Vec F S2x1x544x1024 .bf16) (x1 : Vec F S2x1x544x1 .f32) (W0 : HbBuf0 (F := F) c hbM0_0) (f) :
    arg5.view.read (Elt F) (arg5.view.writes (Elt F) f (runE c t arg2 harg2 arg4 harg4 arg5 harg5 hc0 hc1 hc2 x0 x1 W0).1) = payAt c W0 t x0 x1 := by
  refine (View.read_writes_eq_canon _ _ _ fun y => View.cover_of_tiledL (runE c t arg2 harg2 arg4 harg4 arg5 harg5 hc0 hc1 hc2 x0 x1 W0).1 S2x1x544x2048.size (by sl_kernel_rfl) y).trans ?_
  refine (View.canon_cons_unit_lit _ _ _ (fun a => by fin_cases a <;> rfl)).trans ?_
  unfold payAt tileLoad0
  frame_out

set_option maxHeartbeats 1000000 in
/-- Case G leaves `payAt` in the result's block. -/
theorem out_G (c : Dev nD) (t : Fin cfg0.N) (arg2 : Memref sig .tc .vmem S2x1x544x1024 .bf16) (harg2 : arg2.IsWhole) (arg4 : Memref sig .tc .vmem S2x1x544x1 .f32) (harg4 : arg4.IsWhole) (arg5 : Memref sig .tc .vmem S2x1x544x2048 .bf16) (harg5 : arg5.IsWhole) (hc0 : ¬cond0_0 (grid0.coords t)) (hc1 : ¬cond0_1 (grid0.coords t)) (hc2 : ¬cond0_2 (grid0.coords t)) (x0 : Vec F S2x1x544x1024 .bf16) (x1 : Vec F S2x1x544x1 .f32) (W0 : HbBuf0 (F := F) c hbM0_0) (f) :
    arg5.view.read (Elt F) (arg5.view.writes (Elt F) f (runG c t arg2 harg2 arg4 harg4 arg5 harg5 hc0 hc1 hc2 x0 x1 W0).1) = payAt c W0 t x0 x1 := by
  refine (View.read_writes_eq_canon _ _ _ fun y => View.cover_of_tiledL (runG c t arg2 harg2 arg4 harg4 arg5 harg5 hc0 hc1 hc2 x0 x1 W0).1 S2x1x544x2048.size (by sl_kernel_rfl) y).trans ?_
  refine (View.canon_cons_unit_lit _ _ _ (fun a => by fin_cases a <;> rfl)).trans ?_
  unfold payAt tileLoad0
  frame_out

end Cert.Kernel5Ideal.Own

end
-- ==== Proof.DownIdealCert.lean ====
/- The region's proof data, its run and the frame. -/
module

public import proofs.«01_k».proof.Proof.DownIdealFrame

@[expose] public section

set_option maxRecDepth 16384

noncomputable section

namespace Cert.Kernel5Ideal.Own

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The launch -/

set_option maxHeartbeats 800000 in
/-- The program up to the region: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's staging buffer holds its block at every point. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The arguments are as launched after a run of the region. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

abbrev ms0_0 (t : Fin cfg0.N) : Memref sig .tc .vmem S2x1x544x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1x544x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1x544x2048 .bf16 := win0_2.stage (cfg0.slots t 2)
abbrev hs0_2 (t : Fin cfg0.N) : (ms0_2 t).IsWhole := hstage0_2 ((cfg0.slots t 2).cast nbuf0_2)
/-- The body's own semaphore cells. -/
abbrev osem0 : Fin 2 → SemLoc sig := fun j => (![SemLoc.dma 6, SemLoc.dma 7] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : Res F)
      = iprop(semVal ((c : Thread nD τ), SemLoc.dma 6) 0 ∗ semVal ((c : Thread nD τ), SemLoc.dma 7) 0) := by
  rw [Pipeline.ownSems0_eq_of_list c osem0 [0, 1] (by decide) (by decide)]; rfl
/-- The operands that the body moves itself. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : Res F) = iprop(hbPt0 c hbM0_0 (V m c main_arg1)) := by
  rw [BI.bigSep_eq_bigSepL_of_eq [main_arg1] (by decide) (by decide)]; rfl
theorem PhiD0_eq (c : Dev nD) :
    (Pipeline.ΦD osem0 spec0 H0 (V m) c : Res F)
      = iprop(iprop((∃ d, owns (c : Thread nD τ) scM0_0 fullShare d)) ∗ (∃ r, prngReg c r) ∗ iprop(semVal ((c : Thread nD τ), SemLoc.dma 6) 0 ∗ semVal ((c : Thread nD τ), SemLoc.dma 7) 0) ∗ iprop(hbPt0 c hbM0_0 (V m c main_arg1))) := by
  rw [Pipeline.ΦD_eq, scopedRest0_eq, ownSems00_eq, hbmPts0_eq]; simp only [scM0_0, owns_whole]; try rfl

/-! ## The proof data -/

/-- What the region keeps before point `k`. -/
def PhiR (c : Dev nD) (k : ℕ) : Res F := iprop((∃ r, prngReg c r) ∗ stateP c (V m c main_arg1) k)
/-- What the result's block holds after point `t`. -/
def outAt (c : Dev nD) (t : Fin cfg0.N) : Vec F S2x1x544x2048 .bf16 := payAt c (V m c main_arg1) t (iblk m c 0 t) (iblk m c 1 t)
/-- Each input's buffer at its block, the result's at `outAt`, the weight streaming's state, nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiR m c t.val
  q _ := fullShare
  owed _ := 0
theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a point -/

/-- What the body is called with at point `t`, -/
def bodyPre (c : Dev nD) (t : Fin cfg0.N) : Res F :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))
/-- and what it returns. -/
def bodyPost (c : Dev nD) (t : Fin cfg0.N) : Res F :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at any point, by its cases: the state before the point opens to what the case's run takes, and what the run
    hands back is the state before the next. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [after0_0, after0_1, after0_2]
  rw [PhiR_castSucc m c t, PhiR_succ m c t]
  unfold Dat.owesAt Pipeline.owesWithin
  rw [show (dats m 0 c).owed t.castSucc = 0 from rfl, show (dats m 0 c).owed t.succ = 0 from rfl]
  unfold PhiR
  have hgN : grid0.N = 64 := N_0
  have hN : t.val < 64 := lt_of_lt_of_eq t.isLt (show cfg0.N = 64 from N_0)
  by_cases h0 : t.val = 0
  · have h1 : t.val / 2 + 1 < 32 := by omega
    have h2 : t.val % 2 = 0 := by omega
    iintro ⟨⟨Hg, HR⟩, ⟨%W, -, HW⟩, ⟨%d0, H0⟩, ⟨%d1, H1⟩, ⟨%d2, H2⟩⟩
    ihave HR' := (state_first (F := F) c (V m c main_arg1) t.val h0) $$ HR
    icases HR' with ⟨Ha, Hb⟩
    iapply ((runA c t _ _ _ _ _ _ ((hcond0_0 t).mpr h0) ((hcond0_1 t).mpr h1) ((hcond0_2 t).mpr h2) (iblk m c 0 t) (iblk m c 1 t) (V m c main_arg1)).2 W _)
    isplitl [H0]; · iexact H0
    isplitl [H1]; · iexact H1
    isplitl [H2]; · iexists _; iexact H2
    isplitl [Ha]; · iexact Ha
    isplitl [Hb]; · iexact Hb
    isplitl [HW]; · iexact HW
    iintro ⟨H0, H1, ⟨%e2, H2⟩, Ha, Hb, ⟨%W', HW'⟩⟩
    isplitl [Hg Ha Hb]
    · isplitl [Hg]; · iexact Hg
      iapply (after_even (F := F) c (V m c main_arg1) t.val h2 h1)
      isplitl [Ha]; · iexact Ha
      iexact Hb
    isplitl [HW']
    · iexists W'; isplitr; · ipureintro; exact fun _ _ => Or.inl trivial
      iexact HW'
    isplitl [H0]; · iexact H0
    isplitl [H1]; · iexact H1
    unfold owns; iexists _; isplitr
    swap; · iexact H2
    ipureintro; exact out_A c t _ _ _ _ _ _ ((hcond0_0 t).mpr h0) ((hcond0_1 t).mpr h1) ((hcond0_2 t).mpr h2) (iblk m c 0 t) (iblk m c 1 t) (V m c main_arg1) _
  · by_cases h2 : t.val % 2 = 0
    · by_cases h1 : t.val / 2 + 1 < 32
      · iintro ⟨⟨Hg, HR⟩, ⟨%W, -, HW⟩, ⟨%d0, H0⟩, ⟨%d1, H1⟩, ⟨%d2, H2⟩⟩
        ihave HR' := (state_even (F := F) c (V m c main_arg1) t.val h0 hN h2) $$ HR
        icases HR' with ⟨Ha, Hb⟩
        iapply ((runC c t _ _ _ _ _ _ (fun h => h0 ((hcond0_0 t).mp h)) ((hcond0_1 t).mpr h1) ((hcond0_2 t).mpr h2) (iblk m c 0 t) (iblk m c 1 t) (V m c main_arg1)).2 W _)
        isplitl [H0]; · iexact H0
        isplitl [H1]; · iexact H1
        isplitl [H2]; · iexists _; iexact H2
        isplitl [Ha]; · iexact Ha
        isplitl [Hb]; · iexact Hb
        isplitl [HW]; · iexact HW
        iintro ⟨H0, H1, ⟨%e2, H2⟩, Ha, Hb, ⟨%W', HW'⟩⟩
        isplitl [Hg Ha Hb]
        · isplitl [Hg]; · iexact Hg
          iapply (after_even (F := F) c (V m c main_arg1) t.val h2 h1)
          isplitl [Ha]; · iexact Ha
          iexact Hb
        isplitl [HW']
        · iexists W'; isplitr; · ipureintro; exact fun _ _ => Or.inl trivial
          iexact HW'
        isplitl [H0]; · iexact H0
        isplitl [H1]; · iexact H1
        unfold owns; iexists _; isplitr
        swap; · iexact H2
        ipureintro; exact out_C c t _ _ _ _ _ _ (fun h => h0 ((hcond0_0 t).mp h)) ((hcond0_1 t).mpr h1) ((hcond0_2 t).mpr h2) (iblk m c 0 t) (iblk m c 1 t) (V m c main_arg1) _
      · iintro ⟨⟨Hg, HR⟩, ⟨%W, -, HW⟩, ⟨%d0, H0⟩, ⟨%d1, H1⟩, ⟨%d2, H2⟩⟩
        ihave HR' := (state_even (F := F) c (V m c main_arg1) t.val h0 hN h2) $$ HR
        icases HR' with ⟨Ha, Hb⟩
        iapply ((runD c t _ _ _ _ _ _ (fun h => h0 ((hcond0_0 t).mp h)) (fun h => h1 ((hcond0_1 t).mp h)) ((hcond0_2 t).mpr h2) (iblk m c 0 t) (iblk m c 1 t) (V m c main_arg1)).2 W _)
        isplitl [H0]; · iexact H0
        isplitl [H1]; · iexact H1
        isplitl [H2]; · iexists _; iexact H2
        isplitl [Ha]; · iexact Ha
        isplitl [HW]; · iexact HW
        iintro ⟨H0, H1, ⟨%e2, H2⟩, Ha, ⟨%W', HW'⟩⟩
        isplitl [Hg Ha Hb]
        · isplitl [Hg]; · iexact Hg
          iapply (after_even_last (F := F) c (V m c main_arg1) t.val hN h2 h1)
          isplitl [Ha]; · iexact Ha
          iexact Hb
        isplitl [HW']
        · iexists W'; isplitr; · ipureintro; exact fun _ _ => Or.inl trivial
          iexact HW'
        isplitl [H0]; · iexact H0
        isplitl [H1]; · iexact H1
        unfold owns; iexists _; isplitr
        swap; · iexact H2
        ipureintro; exact out_D c t _ _ _ _ _ _ (fun h => h0 ((hcond0_0 t).mp h)) (fun h => h1 ((hcond0_1 t).mp h)) ((hcond0_2 t).mpr h2) (iblk m c 0 t) (iblk m c 1 t) (V m c main_arg1) _
    · by_cases h1 : t.val / 2 + 1 < 32
      · iintro ⟨⟨Hg, HR⟩, ⟨%W, -, HW⟩, ⟨%d0, H0⟩, ⟨%d1, H1⟩, ⟨%d2, H2⟩⟩
        ihave HR' := (state_odd (F := F) c (V m c main_arg1) t.val hN h2 h1) $$ HR
        icases HR' with ⟨Ha, Hb⟩
        iapply ((runE c t _ _ _ _ _ _ (fun h => h0 ((hcond0_0 t).mp h)) ((hcond0_1 t).mpr h1) (fun h => h2 ((hcond0_2 t).mp h)) (iblk m c 0 t) (iblk m c 1 t) (V m c main_arg1)).2 W _)
        isplitl [H0]; · iexact H0
        isplitl [H1]; · iexact H1
        isplitl [H2]; · iexists _; iexact H2
        isplitl [Ha]; · iexact Ha
        isplitl [Hb]; · iexact Hb
        isplitl [HW]; · iexact HW
        iintro ⟨H0, H1, ⟨%e2, H2⟩, Ha, Hb, ⟨%W', HW'⟩⟩
        isplitl [Hg Ha Hb]
        · isplitl [Hg]; · iexact Hg
          iapply (after_odd (F := F) c (V m c main_arg1) t.val h2 h1)
          isplitl [Ha]; · iexact Ha
          iexact Hb
        isplitl [HW']
        · iexists W'; isplitr; · ipureintro; exact fun _ _ => Or.inl trivial
          iexact HW'
        isplitl [H0]; · iexact H0
        isplitl [H1]; · iexact H1
        unfold owns; iexists _; isplitr
        swap; · iexact H2
        ipureintro; exact out_E c t _ _ _ _ _ _ (fun h => h0 ((hcond0_0 t).mp h)) ((hcond0_1 t).mpr h1) (fun h => h2 ((hcond0_2 t).mp h)) (iblk m c 0 t) (iblk m c 1 t) (V m c main_arg1) _
      · iintro ⟨⟨Hg, HR⟩, ⟨%W, -, HW⟩, ⟨%d0, H0⟩, ⟨%d1, H1⟩, ⟨%d2, H2⟩⟩
        ihave HR' := (state_last (F := F) c (V m c main_arg1) t.val hN h2 h1) $$ HR
        icases HR' with ⟨Ha, Hb⟩
        iapply ((runG c t _ _ _ _ _ _ (fun h => h0 ((hcond0_0 t).mp h)) (fun h => h1 ((hcond0_1 t).mp h)) (fun h => h2 ((hcond0_2 t).mp h)) (iblk m c 0 t) (iblk m c 1 t) (V m c main_arg1)).2 W _)
        isplitl [H0]; · iexact H0
        isplitl [H1]; · iexact H1
        isplitl [H2]; · iexists _; iexact H2
        isplitl [Ha]; · iexact Ha
        isplitl [HW]; · iexact HW
        iintro ⟨H0, H1, ⟨%e2, H2⟩, Ha, ⟨%W', HW'⟩⟩
        isplitl [Hg Ha Hb]
        · isplitl [Hg]; · iexact Hg
          iapply (after_last (F := F) c (V m c main_arg1) t.val hN h2 h1)
          isplitl [Ha]; · iexact Ha
          iexact Hb
        isplitl [HW']
        · iexists W'; isplitr; · ipureintro; exact fun _ _ => Or.inl trivial
          iexact HW'
        isplitl [H0]; · iexact H0
        isplitl [H1]; · iexact H1
        unfold owns; iexists _; isplitr
        swap; · iexact H2
        ipureintro; exact out_G c t _ _ _ _ _ _ (fun h => h0 ((hcond0_0 t).mp h)) (fun h => h1 ((hcond0_1 t).mp h)) (fun h => h2 ((hcond0_2 t).mp h)) (iblk m c 0 t) (iblk m c 1 t) (V m c main_arg1) _

theorem defs₀_row (t : Fin cfg0.N) :
    defs₀ (F := F) .tc cfg0.body (cfg0.bodyArgs t (cfg0.slots t)) = bodyAt0 t := by
  unfold defs₀; rw [Defs.onTc_tc]
/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
/-- What the launch hands the region is the state before the first point, -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨HS, Hg, Hc, Hh⟩
  isplitl [Hg]; · iexact Hg
  iapply (ring_in (F := F) c (V m c main_arg1))
  isplitl [HS]; · iexact HS
  isplitl [Hc]; · iexact Hc
  iexact Hh
/-- and the state after the last hands it back. -/
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 64 from N_0]
  iintro ⟨Hg, HR⟩
  ihave HX := (ring_out (F := F) c (V m c main_arg1)) $$ HR
  icases HX with ⟨HS, Hc, Hh⟩
  isplitl [HS]; · iexact HS
  isplitl [Hg]; · iexact Hg
  isplitl [Hc]; · iexact Hc
  iexact Hh

/-! ## The run and the frame -/

set_option backward.isDefEq.respectTransparency.types false in
/-- The launch: every run ends with the arrays at what the proof data gives, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)
/-- Every run ends with the arrays at what the proof data gives. -/
theorem run_main : θ_run defs (onTc (τ := τ) (main (F := F))) (s₀ m ρ) (Pipeline.FramePost cfgs (dats m) 0 (V m)) :=
  (θ_run defs _ _).mono (fun _ h => h.1) (run_main_quiescent m ρ)
/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)
/-- The frame: the arguments end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-! ## The result's array, block by block -/

section Blocks
theorem flushed (c : Dev nD) (t : Fin cfg0.N) :
    (dats m 0 c).flushed 2 t = (cfg0.win 2).cut (grid0.coords t) (outAt m c t) := by
  show (cfg0.win 2).cut (grid0.coords t) ((dats m 0 c).after 2 t) = _
  rw [after0_2]
/-- The run with the result's array named and the arguments unchanged. -/
theorem run_blocks : θ_run defs (onTc (τ := τ) (main (F := F))) ⟨m, fun _ => 0, ρ⟩ fun r => ∀ c : Dev nD,
      r.2.mem ((c : Thread nD τ).loc main_v2) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.2 c).1 2, h.1 c⟩) (θ_run_and (unchanged m ρ) (run_main m ρ))
end Blocks

end Cert.Kernel5Ideal.Own

end
-- ==== Proof.DownFrames.lean ====
/-
  The down projection's frame at the bit level, from the run of its ideal program, which is stated over any float values.
-/
module

public import proofs.«01_k».proof.Defs
public import proofs.«01_k».proof.Proof.Gen.Kernel5
public import proofs.«01_k».proof.Proof.DownIdealCert

@[expose] public section

noncomputable section

namespace Cert.Proof.Down

open Idealize.ShloMosaic Idealize.SL.Sem

/-- The two programs have the same body. -/
theorem same_body : Cert.Kernel5.defs₀ (F := Bits) = Cert.Kernel5Ideal.defs₀ (F := Bits) := by
  unfold Cert.Kernel5.defs₀ Cert.Kernel5Ideal.defs₀
  congr 1
  funext l x
  match l, x with
  | 0, (t, s) => rfl
  | ⟨_ + 1, h⟩, _ => exact absurd h (Nat.not_lt.2 (Nat.le_add_left _ _))

/-- The two programs have the same body table. -/
theorem same_defs : Cert.Kernel5.defs (F := Bits) = Cert.Kernel5Ideal.defs (F := Bits) :=
  congrArg (Pipeline.defs Cert.Kernel5Ideal.pcfgs) same_body

/-- The kernel at the bit level leaves its arguments and its semaphores alone: its program is the ideal one's text. -/
theorem frame_kernel : Cert.quiescent_Kernel5 (hKernel5 := Cert.Kernel5.Gen.facts) := by
  intro m ρ _
  rw [same_defs]
  exact Cert.Kernel5Ideal.Own.frame (F := Bits) m ρ

end Cert.Proof.Down

end
-- ==== Proof.DownPayload.lean ====
/-
  The down projection's step, the landed weights and the blocks, at an index.
-/
module

public import proofs.«01_k».proof.Proof.DownIdealCert
public import Idealize.ShloMosaic.Lib.Pointwise
public import Idealize.ShloMosaic.Lib.Pipeline.ValueKit
public import Idealize.ShloMosaic.Lib.Claim

@[expose] public section

set_option maxRecDepth 16384

noncomputable section

namespace Cert.Kernel5Ideal.Down

open Cert.Kernel5Ideal Cert.Kernel5Ideal.Gen Cert.Kernel5Ideal.Own Idealize.ShloMosaic Idealize.ShloMosaic.TcCoe
open Idealize.SL.Sem
open Idealize.ShloMosaic.Pipeline (Dat)

/-! ## The step -/

/-- The two samples' rows, one sample's after the other's, times the landed weight. -/
def flat (x : Vec Ideal S2x1x544x1024 .bf16) : FVec Ideal S1088x1024 .bf16 :=
  shapeCast S1088x1024 (shapeCast S2x544x1024 x shapeCasts_S2x1x544x1024_S2x544x1024 : FVec Ideal S2x544x1024 .bf16) shapeCasts_S2x544x1024_S1088x1024

/-- The landed weight as a matrix. -/
def matrix (w : Vec Ideal S1x1x1024x2048 .f32) : FVec Ideal S1024x2048 .bf16 :=
  truncf .bf16 (shapeCast S1024x2048 w shapeCasts_S1x1x1024x2048_S1024x2048 : FVec Ideal S1024x2048 .f32) bitsLt_bf16_f32

/-- Their product. -/
def product (x : FVec Ideal S1088x1024 .bf16) (w : FVec Ideal S1024x2048 .bf16) : FVec Ideal S1088x2048 .f32 :=
  matmul dot_S1088x1024_S1024x2048_S1088x2048_1_0_0_1_n_n none x w (constant S1088x2048 .f32 0x00000000#32)

theorem flat_at (x : Vec Ideal S2x1x544x1024 .bf16) (a : Fin 2) (r : Fin 544) (k : Fin 1024) :
    flat x (ix2 ⟨a.val * 544 + r.val, by omega⟩ k) = x (ix4 a 0 r k) := by
  pointwise [flat]

theorem matrix_at (w : Vec Ideal S1x1x1024x2048 .f32) (k : Fin 1024) (j : Fin 2048) :
    matrix w (ix2 k j) = w (ix4 0 0 k j) := by
  pointwise [matrix]

theorem product_at (x : FVec Ideal S1088x1024 .bf16) (w : FVec Ideal S1024x2048 .bf16) (i : Fin 1088) (j : Fin 2048) :
    product x w (ix2 i j) = ∑ k : Fin 1024, x (ix2 i k) * w (ix2 k j) := by
  pointwise [product]

theorem gated_at (p : FVec Ideal S1088x2048 .f32) (g : Vec Ideal S2x1x544x1 .f32) (a : Fin 2) (r : Fin 544) (j : Fin 2048) :
    k0_pay1 p g (ix4 a 0 r j) = p (ix2 ⟨a.val * 544 + r.val, by omega⟩ j) * g (ix4 a 0 r 0) := by
  pointwise [k0_pay1]

/-- One index of a product of rows with a weight. -/
def dotted (x : Vec Ideal S2x1x544x1024 .bf16) (w : Vec Ideal S1x1x1024x2048 .f32) (a : Fin 2) (r : Fin 544) (j : Fin 2048) : EReal :=
  ∑ k : Fin 1024, x (ix4 a 0 r k) * w (ix4 0 0 k j)

/-- A step's payload. -/
theorem pay_at (x : Vec Ideal S2x1x544x1024 .bf16) (w : Vec Ideal S1x1x1024x2048 .f32) (g : Vec Ideal S2x1x544x1 .f32)
    (a : Fin 2) (r : Fin 544) (j : Fin 2048) :
    k0_pay1 (k0_pay2 x w) g (ix4 a 0 r j) = dotted x w a r j * (g (ix4 a 0 r 0) : EReal) := by
  rw [gated_at]
  have h : k0_pay2 x w = product (flat x) (matrix w) := rfl
  rw [h, product_at]
  unfold dotted
  simp only [flat_at, matrix_at]

/-! ## The blocks -/

/-- Where the blocks lie: the expert's halves of the weight run inside the experts, the pairs of samples inside those. -/
theorem idxA : ∀ t : Fin cfg0.N, win0_0.index t = ![t.val % 2, t.val / 4, 0, 0] ∧ win0_1.index t = ![t.val % 2, t.val / 4, 0, 0]
    ∧ win0_2.index t = ![t.val % 2, t.val / 4, 0, t.val / 2 % 2] ∧ t.val < 64 :=
  (by decide +kernel : ∀ t : Fin grid0.N, _)

/-- The landed weights at an index. -/
theorem landed_at (c : Dev nD) (W : HbBuf0 (F := Ideal) c hbM0_0) (t : Fin cfg0.N) (k : Fin 1024) (j : Fin 2048) (E : Fin 16) (D : Fin 4096)
    (hE : E.val = t.val / 4) (hD : D.val = t.val / 2 % 2 * 2048 + j.val) :
    tileLoad0 (F := Ideal) c W t (ix4 0 0 k j) = (W : FVec Ideal S2x16x1024x4096 .f32) (ix4 0 E k D) := by
  have hN : t.val < 64 := (idxA t).2.2.2
  have hb : (Ring.bk 32 (t.val / 2)).val = t.val / 2 := Ring.bk_val (by omega)
  have h2 : k0_off9 (grid0.coords t) 2 = 0 := congrFun (coff16 t) 2
  have h3 : k0_off9 (grid0.coords t) 3 = 0 := congrFun (coff16 t) 3
  unfold tileLoad0
  refine congrArg (W : FVec Ideal S2x16x1024x4096 .f32) (funext fun a => Fin.ext ?_)
  fin_cases a
  · rfl
  · show (Ring.bk 32 (t.val / 2)).val / 2 = E.val
    omega
  · show k0_off9 (grid0.coords t) 2 + 1 * k.val = k.val
    omega
  · show 2048 * ((Ring.bk 32 (t.val / 2)).val % 2) + (k0_off9 (grid0.coords t) 3 + 1 * j.val) = D.val
    omega

variable (m : (ℓ : Loc nD τ sig) → Buf (Elt Ideal) ℓ) (c : Dev nD)

/-- The gates with one more axis. -/
def columnB (G : FVec Ideal S4x16x544 .f32) : FVec Ideal S4x16x544x1 .f32 := shapeCast S4x16x544x1 G shapeCasts_S4x16x544_S4x16x544x1

theorem columnB_at (G : FVec Ideal S4x16x544 .f32) (b : Fin 4) (e : Fin 16) (r : Fin 544) :
    columnB G (ix4 b e r 0) = G (ix3 b e r) := by
  pointwise [columnB]

theorem V_rows : V m c main_v0 = (truncf .bf16 (m ((c : Thread nD τ).loc main_arg0) : FVec Ideal S4x16x544x1024 .f32) bitsLt_bf16_f32 : FVec Ideal S4x16x544x1024 .bf16) := by
  entry_read; rfl
theorem V_gates : V m c main_v1 = columnB (m ((c : Thread nD τ).loc main_arg2)) := by
  entry_read; rfl

/-- The rows' block at an index. -/
theorem rows_at (t : Fin cfg0.N) (a : Fin 2) (r : Fin 544) (k : Fin 1024) (b : Fin 4) (E : Fin 16)
    (hb : b.val = t.val % 2 * 2 + a.val) (hE : E.val = t.val / 4) :
    (iblk m c 0 t : Vec Ideal S2x1x544x1024 .bf16) (ix4 a 0 r k) = (m ((c : Thread nD τ).loc main_arg0) : FVec Ideal S4x16x544x1024 .f32) (ix4 b E r k) := by
  have hp : (((cfg0.win 0).blk t).view.emb (ix4 a 0 r k) : S4x16x544x1024.Idx) = ix4 b E r k := by blk_ext [idxA t]
  have hr : (iblk m c 0 t : Vec Ideal S2x1x544x1024 .bf16) (ix4 a 0 r k)
      = (V m c main_v0 : FVec Ideal S4x16x544x1024 .bf16) (((cfg0.win 0).blk t).view.emb (ix4 a 0 r k)) := by
    unfold iblk; rw [View.read_apply, cast_eq]
  rw [hr, V_rows, hp]
  pointwise

/-- The gates' block at an index. -/
theorem gates_at (t : Fin cfg0.N) (a : Fin 2) (r : Fin 544) (b : Fin 4) (E : Fin 16)
    (hb : b.val = t.val % 2 * 2 + a.val) (hE : E.val = t.val / 4) :
    (iblk m c 1 t : Vec Ideal S2x1x544x1 .f32) (ix4 a 0 r 0) = (m ((c : Thread nD τ).loc main_arg2) : FVec Ideal S4x16x544 .f32) (ix3 b E r) := by
  have hp : (((cfg0.win 1).blk t).view.emb (ix4 a 0 r 0) : S4x16x544x1.Idx) = ix4 b E r 0 := by blk_ext [idxA t]
  have hr : (iblk m c 1 t : Vec Ideal S2x1x544x1 .f32) (ix4 a 0 r 0)
      = (V m c main_v1 : FVec Ideal S4x16x544x1 .f32) (((cfg0.win 1).blk t).view.emb (ix4 a 0 r 0)) := by
    unfold iblk; rw [View.read_apply, cast_eq]
  rw [hr, V_gates, hp, columnB_at]

end Cert.Kernel5Ideal.Down

end
-- ==== Proof.DownReference.lean ====
/-
  The reference of the down projection: its run, and what it returns at an index.
-/
module

public import proofs.«01_k».proof.Proof.Gen.Reference5Ideal
public import Idealize.ShloMosaic.Lib.StableHlo.Run
public import Idealize.ShloMosaic.Lib.Pointwise

@[expose] public section

set_option maxRecDepth 16384

noncomputable section

namespace Cert.Reference5Ideal.Down

open Cert.Reference5Ideal Cert.Reference5Ideal.Gen Idealize.ShloMosaic Idealize.ShloMosaic.TcCoe Idealize.SL.Sem
open Idealize.ShloMosaic.StableHlo

/-- The first layer's weight times the rows, expert by expert. -/
def mixed (X : FVec Ideal S4x16x544x1024 .f32) (W : FVec Ideal S2x16x1024x4096 .f32) : FVec Ideal S16x4096x4x544 .f32 :=
  Host.dotGeneral dot_S16x1024x4096_S4x16x544x1024_S16x4096x4x544_1_3_2_02_0_1 none
    (shapeCast _ (extractStridedSlice S1x16x1024x4096 ![0, 0, 0, 0] W slices_S2x16x1024x4096_S1x16x1024x4096_0_0_0_0) shapeCasts_S1x16x1024x4096_S16x1024x4096 : FVec Ideal S16x1024x4096 .f32) X

/-- That product gated row by row. -/
def gatedBy (P : FVec Ideal S16x4096x4x544 .f32) (G : FVec Ideal S4x16x544 .f32) : FVec Ideal S4x16x544x4096 .bf16 :=
  truncf .bf16 (mulf (transpose S4x16x544x4096 [2, 0, 3, 1] P transposes_S16x4096x4x544_S4x16x544x4096_2_0_3_1)
    (broadcastInDim S4x16x544x4096 ![0, 1, 2, 3] bcast_S4x16x544x1_S4x16x544x4096_0_1_2_3 (broadcastInDim S4x16x544x1 ![0, 1, 2] bcast_S4x16x544_S4x16x544x1_0_1_2 G))) bitsLt_bf16_f32

/-- The whole reference. -/
def down (X : FVec Ideal S4x16x544x1024 .f32) (W : FVec Ideal S2x16x1024x4096 .f32) (G : FVec Ideal S4x16x544 .f32) : FVec Ideal S4x16x544x4096 .bf16 :=
  gatedBy (mixed X W) G

theorem mixed_at (X : FVec Ideal S4x16x544x1024 .f32) (W : FVec Ideal S2x16x1024x4096 .f32) (e : Fin 16) (d : Fin 4096) (b : Fin 4) (r : Fin 544) :
    mixed X W (ix4 e d b r) = ∑ k : Fin 1024, W (ix4 0 e k d) * X (ix4 b e r k) := by
  pointwise [mixed]

theorem gatedBy_at (P : FVec Ideal S16x4096x4x544 .f32) (G : FVec Ideal S4x16x544 .f32) (b : Fin 4) (e : Fin 16) (r : Fin 544) (d : Fin 4096) :
    gatedBy P G (ix4 b e r d) = P (ix4 e d b r) * G (ix3 b e r) := by
  pointwise [gatedBy]

/-- One index of the product. -/
def entry (X : FVec Ideal S4x16x544x1024 .f32) (W : FVec Ideal S2x16x1024x4096 .f32) (b : Fin 4) (e : Fin 16) (r : Fin 544) (d : Fin 4096) : EReal :=
  ∑ k : Fin 1024, X (ix4 b e r k) * W (ix4 0 e k d)

/-- The reference's result at an index. -/
theorem down_at (X : FVec Ideal S4x16x544x1024 .f32) (W : FVec Ideal S2x16x1024x4096 .f32) (G : FVec Ideal S4x16x544 .f32)
    (b : Fin 4) (e : Fin 16) (r : Fin 544) (d : Fin 4096) :
    down X W G (ix4 b e r d) = entry X W b e r d * G (ix3 b e r) := by
  unfold down
  rw [gatedBy_at, mixed_at]
  exact congrArg (· * (G (ix3 b e r) : EReal)) (Finset.sum_congr rfl fun k _ => mul_comm _ _)

/-! ## The run -/

section Steps
variable {F : FTy → Type} [FloatOps F]

/-- The reference's operations, one after the other. -/
abbrev steps : List (HloOp τ sig (Elt F)) :=
  [ unary main_arg1 main_v0 ((extractStridedSlice S1x16x1024x4096 ![0, 0, 0, 0] · slices_S2x16x1024x4096_S1x16x1024x4096_0_0_0_0) : (⟨S2x16x1024x4096, .f32⟩ : BufTy).Contents (Elt F) → (⟨S1x16x1024x4096, .f32⟩ : BufTy).Contents (Elt F)),
    reshape main_v0 main_v1 (rfl : (.f32 : EltTy) = .f32) shapeCasts_S1x16x1024x4096_S16x1024x4096,
    binary main_v1 main_arg0 main_v2 ((fun l r => Host.dotGeneral dot_S16x1024x4096_S4x16x544x1024_S16x4096x4x544_1_3_2_02_0_1 none l r) : (⟨S16x1024x4096, .f32⟩ : BufTy).Contents (Elt F) → (⟨S4x16x544x1024, .f32⟩ : BufTy).Contents (Elt F) → (⟨S16x4096x4x544, .f32⟩ : BufTy).Contents (Elt F)),
    unary main_v2 main_v3 ((transpose S4x16x544x4096 [2, 0, 3, 1] · transposes_S16x4096x4x544_S4x16x544x4096_2_0_3_1) : (⟨S16x4096x4x544, .f32⟩ : BufTy).Contents (Elt F) → (⟨S4x16x544x4096, .f32⟩ : BufTy).Contents (Elt F)),
    unary main_arg2 main_v4 (broadcastInDim S4x16x544x1 ![0, 1, 2] bcast_S4x16x544_S4x16x544x1_0_1_2 : (⟨S4x16x544, .f32⟩ : BufTy).Contents (Elt F) → (⟨S4x16x544x1, .f32⟩ : BufTy).Contents (Elt F)),
    unary main_v4 main_v5 (broadcastInDim S4x16x544x4096 ![0, 1, 2, 3] bcast_S4x16x544x1_S4x16x544x4096_0_1_2_3 : (⟨S4x16x544x1, .f32⟩ : BufTy).Contents (Elt F) → (⟨S4x16x544x4096, .f32⟩ : BufTy).Contents (Elt F)),
    binary main_v3 main_v5 main_v6 (mulf : (⟨S4x16x544x4096, .f32⟩ : BufTy).Contents (Elt F) → (⟨S4x16x544x4096, .f32⟩ : BufTy).Contents (Elt F) → (⟨S4x16x544x4096, .f32⟩ : BufTy).Contents (Elt F)),
    unary main_v6 main_v7 ((truncf .bf16 · bitsLt_bf16_f32) : (⟨S4x16x544x4096, .f32⟩ : BufTy).Contents (Elt F) → (⟨S4x16x544x4096, .bf16⟩ : BufTy).Contents (Elt F)) ]

theorem main_steps (c : Dev nD) : main (F := F) c = seq steps := rfl
theorem noRefs : (Finset.univ.filter fun b : Ref sig .tc => b.isScoped) = ∅ := by decide
theorem noSems : (Finset.univ.filter fun sm : SemLoc sig => sm.isScoped .tc) = ∅ := by decide
theorem steps_sub : (steps : List (HloOp τ sig (Elt F))).Forall fun op => op.bufs ⊆ tcRefs τ sig :=
  ⟨unary_bufs_sub .., reshape_bufs_sub .., binary_bufs_sub .., unary_bufs_sub .., unary_bufs_sub .., unary_bufs_sub .., binary_bufs_sub .., unary_bufs_sub ..⟩
end Steps

/-- Every run ends with `down` of the arguments, and leaves the arguments alone. -/
theorem run_down (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = down (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v7).trans (by after_results <;> rfl),
      (h c main_arg0).trans (by after_results <;> rfl),
      (h c main_arg1).trans (by after_results <;> rfl),
      (h c main_arg2).trans (by after_results <;> rfl)⟩)
    (run_seq noRefs noSems defs main (fun _ => steps) (main_steps (F := Ideal)) (fun _ => steps_sub (F := Ideal)) m ρ)

end Cert.Reference5Ideal.Down

end
-- ==== Proof.DownFinal.lean ====
/-
  The down projection: every block a step writes is the reference's there.
-/
module

public import proofs.«01_k».proof.Proof.DownPayload
public import proofs.«01_k».proof.Proof.DownReference

@[expose] public section

set_option maxRecDepth 16384

noncomputable section

namespace Cert.Kernel5Ideal.Down

open Cert.Kernel5Ideal Cert.Kernel5Ideal.Gen Cert.Kernel5Ideal.Own Idealize.ShloMosaic Idealize.ShloMosaic.TcCoe
open Idealize.SL.Sem
open Idealize.ShloMosaic.Pipeline (Dat)

variable (m : (ℓ : Loc nD τ sig) → Buf (Elt Ideal) ℓ) (c : Dev nD)

/-- The reference's result of the launch arrays. -/
abbrev result : FVec Ideal S4x16x544x4096 .bf16 :=
  Cert.Reference5Ideal.Down.down (m ((c : Thread nD τ).loc main_arg0)) (m ((c : Thread nD τ).loc main_arg1)) (m ((c : Thread nD τ).loc main_arg2))

/-- A step's product is the reference's. -/
theorem sums (t : Fin cfg0.N) (a : Fin 2) (r : Fin 544) (j : Fin 2048) (b : Fin 4) (E : Fin 16) (D : Fin 4096)
    (hb : b.val = t.val % 2 * 2 + a.val) (hE : E.val = t.val / 4) (hD : D.val = t.val / 2 % 2 * 2048 + j.val) :
    dotted (iblk m c 0 t : Vec Ideal S2x1x544x1024 .bf16) (tileLoad0 (F := Ideal) c (V m c main_arg1) t) a r j
      = Cert.Reference5Ideal.Down.entry (m ((c : Thread nD τ).loc main_arg0)) (m ((c : Thread nD τ).loc main_arg1)) b E r D := by
  unfold dotted Cert.Reference5Ideal.Down.entry
  refine Finset.sum_congr rfl fun k _ => ?_
  rw [rows_at m c t a r k b E hb hE, landed_at c _ t k j E D hE hD, V_main_arg1]

theorem tile (t : Fin cfg0.N) (a : Fin 2) (r : Fin 544) (j : Fin 2048) (J : S4x16x544x4096.Idx)
    (h0 : (J 0).val = t.val % 2 * 2 + a.val) (h1 : (J 1).val = t.val / 4) (h2 : (J 2).val = r.val)
    (h3 : (J 3).val = t.val / 2 % 2 * 2048 + j.val) :
    outAt m c t (ix4 a 0 r j) = result m c J := by
  have hJ : J = ix4 (J 0) (J 1) r (J 3) := by
    funext q
    fin_cases q
    · rfl
    · rfl
    · exact Fin.ext h2
    · rfl
  rw [hJ]
  refine Eq.trans (pay_at _ _ _ a r j) ?_
  refine Eq.trans ?_ (Cert.Reference5Ideal.Down.down_at _ _ _ (J 0) (J 1) r (J 3)).symm
  rw [sums m c t a r j (J 0) (J 1) (J 3) h0 h1 h3, gates_at m c t a r (J 0) (J 1) h0 h1]

/-- **The down projection's result array is the reference's.** -/
theorem final : (dats m 0 c).arrAt 2 cfg0.N = result m c := by
  refine (dats m 0 c).arrAt_eq_of_covers 2 _ (by decide +kernel) fun t _ y => ?_
  blk_simp
  rw [after0_2]
  idx_vars y
  obtain rfl : y1 = 0 := Subsingleton.elim _ _
  refine tile m c t y0 y2 y3 _ ?_ ?_ ?_ ?_
  · blk_simp [idxA t]
  · blk_simp [idxA t]
    rfl
  · blk_simp [idxA t]
  · blk_simp [idxA t]

end Cert.Kernel5Ideal.Down

end
-- ==== Proof.Claims5.lean ====
/-
  The claims about the down projection.
-/
module

public import proofs.«01_k».proof.Defs
public import proofs.«01_k».proof.Proof.DownFinal
public import Idealize.ShloMosaic.Lib.Quiescent

@[expose] public section

noncomputable section

namespace Cert.Proof.Down

open Idealize.ShloMosaic Idealize.ShloMosaic.TcCoe Idealize.SL.Sem

/-- The reference runs and leaves its arguments and its semaphores alone. -/
theorem reference_frame (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩
      (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
        ∧ r.2.sem = fun _ => 0) :=
  (θ_run Cert.Reference5Ideal.defs _ _).mono
    (fun r h => ⟨fun c => (h c).2, Idealize.ShloMosaic.sem_eq_zero_of_no_sems (by decide) r.2⟩)
    (Cert.Reference5Ideal.Down.run_down m ρ)

/-- The kernel's result array and the reference's are the same. -/
theorem algebraic : Cert.algebraic_Kernel5Ideal_Reference5Ideal := by
  intro m ρ m' ρ' _ hagree
  refine ⟨fun c => Cert.Kernel5Ideal.Down.result m c, ?_, ?_⟩
  · refine (θ_run Cert.Kernel5Ideal.defs _ _).mono (fun r h c => ⟨(h c).1.trans ?_, (h c).2⟩)
      (Cert.Kernel5Ideal.Own.run_blocks (F := Ideal) m ρ)
    exact Cert.Kernel5Ideal.Down.final m c
  · refine (θ_run Cert.Reference5Ideal.defs _ _).mono (fun r h c => ⟨(h c).1.trans ?_, (h c).2⟩)
      (Cert.Reference5Ideal.Down.run_down m' ρ')
    rw [(hagree c).1, (hagree c).2.1, (hagree c).2.2]

end Cert.Proof.Down

end
-- ==== Proof.GateReference.lean ====
/-
  What the reference of the gate columns' projection returns, at an index.
-/
module

public import proofs.«01_k».proof.Proof.Gen.Reference6Ideal.Run
public import Idealize.ShloMosaic.Lib.Pointwise

@[expose] public section

set_option maxRecDepth 16384

noncomputable section

namespace Cert.Reference6Ideal.Gate

open Cert.Reference6Ideal Cert.Reference6Ideal.Gen Idealize.ShloMosaic Idealize.ShloMosaic.TcCoe Idealize.SL.Sem

/-- The activations times the last columns of the first layer's weight, plus its bias, columns first. -/
def gates (A : FVec Ideal S17408x4096 .f32) (W : FVec Ideal S2x4096x9232 .f32) (B : FVec Ideal S2x16 .f32) : FVec Ideal S16x17408 .f32 :=
  transpose S16x17408 [1, 0] (addf (Host.dotGeneral dot_S17408x4096_S4096x16_S17408x16_1_0_0_1_n_n none A (extractStridedSlice S4096x16 ![0, 9216] (shapeCast _ (extractStridedSlice S1x4096x9232 ![0, 0, 0] W slices_S2x4096x9232_S1x4096x9232_0_0_0) shapeCasts_S1x4096x9232_S4096x9232) slices_S4096x9232_S4096x16_0_9216)) (broadcastInDim S17408x16 ![0, 1] bcast_S1x16_S17408x16_0_1 (broadcastInDim S1x16 ![1] bcast_S16_S1x16_1 (shapeCast _ (extractStridedSlice S1x16 ![0, 0] B slices_S2x16_S1x16_0_0) shapeCasts_S1x16_S16)))) transposes_S17408x16_S16x17408_1_0

theorem gates_at (A : FVec Ideal S17408x4096 .f32) (W : FVec Ideal S2x4096x9232 .f32) (B : FVec Ideal S2x16 .f32)
    (j : Fin 16) (r : Fin 17408) :
    gates A W B (ix2 j r) = (∑ e : Fin 4096, A (ix2 r e) * W (ix3 0 e ⟨9216 + j.val, by omega⟩)) + B (ix2 0 j) := by
  pointwise [gates]

end Cert.Reference6Ideal.Gate

end
-- ==== Proof.Gate.lean ====
/-
  The gate columns' projection: every block a step writes is the reference's there.
-/
module

public import proofs.«01_k».proof.Proof.Gen.Kernel6Ideal.Value
public import proofs.«01_k».proof.Proof.GateReference
public import Idealize.ShloMosaic.Lib.Pipeline.ValueKit
public import Idealize.ShloMosaic.Lib.Claim

@[expose] public section

set_option maxRecDepth 16384

noncomputable section

namespace Cert.Kernel6Ideal.Gate

open Cert.Kernel6Ideal Cert.Kernel6Ideal.Gen Idealize.ShloMosaic Idealize.ShloMosaic.TcCoe
open Idealize.SL.Sem
open Idealize.ShloMosaic.Pipeline (Dat)

/-- The activations as the call takes them. -/
def actB (A : FVec Ideal S17408x4096 .f32) : FVec Ideal S17408x4096 .bf16 := truncf .bf16 A bitsLt_bf16_f32

/-- The weights as the call takes them: output columns first. -/
def weightB (W : FVec Ideal S2x4096x9232 .f32) : FVec Ideal S2x9232x4096 .f32 :=
  transpose S2x9232x4096 [0, 2, 1] W transposes_S2x4096x9232_S2x9232x4096_0_2_1

/-- The first layer's bias as a column. -/
def biasB (B : FVec Ideal S2x16 .f32) : FVec Ideal S16x1 .f32 :=
  shapeCast S16x1 (shapeCast S16 (extractStridedSlice S1x16 ![0, 0] B slices_S2x16_S1x16_0_0 : FVec Ideal S1x16 .f32) shapeCasts_S1x16_S16 : FVec Ideal S16 .f32) shapeCasts_S16_S16x1

theorem actB_at (A : FVec Ideal S17408x4096 .f32) (r : Fin 17408) (e : Fin 4096) : actB A (ix2 r e) = A (ix2 r e) := by
  pointwise [actB]

theorem weightB_at (W : FVec Ideal S2x4096x9232 .f32) (l : Fin 2) (j : Fin 9232) (e : Fin 4096) :
    weightB W (ix3 l j e) = W (ix3 l e j) := by
  pointwise [weightB]

theorem biasB_at (B : FVec Ideal S2x16 .f32) (j : Fin 16) : biasB B (ix2 j 0) = B (ix2 0 j) := by
  pointwise [biasB]

/-- One step's product and bias. -/
theorem step_at (v0 : Vec Ideal S1x16x4096 .f32) (v3 : Vec Ideal S1024x4096 .bf16) (v6 : Vec Ideal S16x1 .f32)
    (j : Fin 16) (i : Fin 1024) :
    k0_pay1 v0 v3 v6 (ix2 j i) = (∑ e : Fin 4096, v0 (ix3 0 j e) * v3 (ix2 i e)) + v6 (ix2 j 0) := by
  pointwise [k0_pay1]

/-- Where each step's blocks lie. -/
theorem idx : ∀ t : Fin cfg0.N, win0_0.index t = ![t.val, 0] ∧ win0_1.index t = ![0, 576, 0]
    ∧ win0_2.index t = ![0, 0] ∧ win0_3.index t = ![0, t.val] ∧ t.val < 17 :=
  (by decide +kernel : ∀ t : Fin grid0.N, _)

variable (m : (ℓ : Loc nD τ sig) → Buf (Elt Ideal) ℓ) (c : Dev nD)

theorem V_act : V m c main_v0 = actB (m ((c : Thread nD τ).loc main_arg0)) := by
  entry_read; rfl

theorem V_weight : V m c main_v1 = weightB (m ((c : Thread nD τ).loc main_arg1)) := by
  entry_read; rfl

theorem V_bias : V m c main_v4 = biasB (m ((c : Thread nD τ).loc main_arg2)) := by
  entry_read; rfl

theorem act_read (t : Fin cfg0.N) (y : S1024x4096.Idx) :
    (iblk m c 0 t : Vec Ideal S1024x4096 .bf16) y = (V m c main_v0 : FVec Ideal S17408x4096 .bf16) (((cfg0.win 0).blk t).view.emb y) := by
  unfold iblk
  rw [View.read_apply, cast_eq]

theorem act_place (t : Fin cfg0.N) (i : Fin 1024) (e : Fin 4096) (R : Fin 17408) (hR : R.val = t.val * 1024 + i.val) :
    (((cfg0.win 0).blk t).view.emb (ix2 i e) : S17408x4096.Idx) = ix2 R e := by
  blk_ext [idx t]

/-- The activation block at an index. -/
theorem act_at (t : Fin cfg0.N) (i : Fin 1024) (e : Fin 4096) (R : Fin 17408) (hR : R.val = t.val * 1024 + i.val) :
    (iblk m c 0 t : Vec Ideal S1024x4096 .bf16) (ix2 i e) = (m ((c : Thread nD τ).loc main_arg0) : FVec Ideal S17408x4096 .f32) (ix2 R e) := by
  rw [act_read, V_act, act_place t i e R hR, actB_at]

theorem weight_read (t : Fin cfg0.N) (y : S1x16x4096.Idx) :
    (iblk m c 1 t : Vec Ideal S1x16x4096 .f32) y = (V m c main_v1 : FVec Ideal S2x9232x4096 .f32) (((cfg0.win 1).blk t).view.emb y) := by
  unfold iblk
  rw [View.read_apply, cast_eq]

theorem weight_place (t : Fin cfg0.N) (j : Fin 16) (e : Fin 4096) :
    (((cfg0.win 1).blk t).view.emb (ix3 0 j e) : S2x9232x4096.Idx) = ix3 0 ⟨9216 + j.val, by omega⟩ e := by
  blk_ext [idx t]

/-- The weight block at an index. -/
theorem weight_at (t : Fin cfg0.N) (j : Fin 16) (e : Fin 4096) :
    (iblk m c 1 t : Vec Ideal S1x16x4096 .f32) (ix3 0 j e) = (m ((c : Thread nD τ).loc main_arg1) : FVec Ideal S2x4096x9232 .f32) (ix3 0 e ⟨9216 + j.val, by omega⟩) := by
  rw [weight_read, V_weight, weight_place, weightB_at]

theorem bias_read (t : Fin cfg0.N) (y : S16x1.Idx) :
    (iblk m c 2 t : Vec Ideal S16x1 .f32) y = (V m c main_v4 : FVec Ideal S16x1 .f32) (((cfg0.win 2).blk t).view.emb y) := by
  unfold iblk
  rw [View.read_apply, cast_eq]

theorem bias_place (t : Fin cfg0.N) (j : Fin 16) :
    (((cfg0.win 2).blk t).view.emb (ix2 j 0) : S16x1.Idx) = ix2 j 0 := by
  blk_ext [idx t]

/-- The bias block at an index. -/
theorem bias_at (t : Fin cfg0.N) (j : Fin 16) :
    (iblk m c 2 t : Vec Ideal S16x1 .f32) (ix2 j 0) = (m ((c : Thread nD τ).loc main_arg2) : FVec Ideal S2x16 .f32) (ix2 0 j) := by
  rw [bias_read, V_bias, bias_place, biasB_at]

/-- The reference's gate columns of the launch arrays. -/
abbrev result : FVec Ideal S16x17408 .f32 :=
  Cert.Reference6Ideal.Gate.gates (m ((c : Thread nD τ).loc main_arg0)) (m ((c : Thread nD τ).loc main_arg1)) (m ((c : Thread nD τ).loc main_arg2))

theorem tile (t : Fin cfg0.N) (j : Fin 16) (i : Fin 1024) (J : S16x17408.Idx)
    (hj0 : (J 0).val = j.val) (hj1 : (J 1).val = t.val * 1024 + i.val) :
    k0_pay1 (iblk m c 1 t : Vec Ideal S1x16x4096 .f32) (iblk m c 0 t : Vec Ideal S1024x4096 .bf16)
      (iblk m c 2 t : Vec Ideal S16x1 .f32) (ix2 j i) = result m c J := by
  have ht := (idx t).2.2.2.2
  have hJ : J = ix2 j ⟨t.val * 1024 + i.val, by omega⟩ := by blk_ext
  rw [hJ, step_at]
  refine Eq.trans ?_ (Cert.Reference6Ideal.Gate.gates_at _ _ _ _ _).symm
  rw [bias_at]
  refine congrArg (· + _) (Finset.sum_congr rfl fun e _ => ?_)
  rw [act_at m c t i e ⟨t.val * 1024 + i.val, by omega⟩ rfl, weight_at m c t j e, mul_comm]

/-- **The gate columns' result array is the reference's.** -/
theorem final : (dats m 0 c).arrAt 3 cfg0.N = result m c := by
  refine (dats m 0 c).arrAt_eq_of_covers 3 _ (by decide +kernel) fun t _ y => ?_
  blk_simp
  rw [after0_3]
  frame_out
  idx_vars y
  refine (tile m c t _ _ _ ?_ ?_)
  · blk_simp [idx t]
  · blk_simp [idx t]

end Cert.Kernel6Ideal.Gate

end
-- ==== Proof.Claims6.lean ====
/-
  The claims about the gate columns' projection.
-/
module

public import proofs.«01_k».proof.Defs
public import proofs.«01_k».proof.Proof.Gate
public import Idealize.ShloMosaic.Lib.Quiescent

@[expose] public section

noncomputable section

namespace Cert.Proof.Gate

open Idealize.ShloMosaic Idealize.ShloMosaic.TcCoe Idealize.SL.Sem

/-- The reference runs and leaves its arguments and its semaphores alone. -/
theorem reference_frame (m : (ℓ : Loc Cert.Reference6Ideal.nD Cert.Reference6Ideal.τ Cert.Reference6Ideal.sig) → Buf (Elt Ideal) ℓ)
    (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩
      (fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
        ∧ r.2.sem = fun _ => 0) :=
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The kernel's result array and the reference's are the same. -/
theorem algebraic : Cert.algebraic_Kernel6Ideal_Reference6Ideal := by
  intro m ρ m' ρ' _ hagree
  refine ⟨fun c => Cert.Kernel6Ideal.Gate.result m c, ?_, ?_⟩
  · refine (θ_run Cert.Kernel6Ideal.defs _ _).mono (fun r h c => ⟨(h c).1.trans ?_, (h c).2⟩)
      (Cert.Kernel6Ideal.Value.run_blocks (F := Ideal) m ρ)
    exact Cert.Kernel6Ideal.Gate.final m c
  · refine (θ_run Cert.Reference6Ideal.defs _ _).mono (fun r h c => ⟨(h c).1.trans ?_, (h c).2⟩)
      (Cert.Reference6Ideal.Value.run (F := Ideal) m' ρ')
    show Cert.Reference6Ideal.Gate.gates (m' ((c : Thread Cert.Reference6Ideal.nD Cert.Reference6Ideal.τ).loc Cert.Reference6Ideal.main_arg0)) (m' ((c : Thread Cert.Reference6Ideal.nD Cert.Reference6Ideal.τ).loc Cert.Reference6Ideal.main_arg1)) (m' ((c : Thread Cert.Reference6Ideal.nD Cert.Reference6Ideal.τ).loc Cert.Reference6Ideal.main_arg2)) = _
    rw [(hagree c).1, (hagree c).2.1, (hagree c).2.2]

end Cert.Proof.Gate

end
-- ==== Proof.Gating.lean ====
/-
  The spatial gating's arithmetic on extended reals: the tanh form of gelu, and a row's deviations and normal form.
-/
module

public import Idealize.ShloMosaic.Lib.Pointwise

@[expose] public section

noncomputable section

namespace Cert.Gating

open Idealize.ShloMosaic

/-- The bend's argument: `x` plus a small multiple of its cube, scaled. -/
def bend (x : EReal) : EReal :=
  Ideal.ofBits .f32 0x3F800000#32
    + Ideal.tanh (Ideal.ofBits .f32 0x3F4C422A#32 * (x + Ideal.ofBits .f32 0x3D372713#32 * (x * x * x)))

/-- gelu in its tanh form. -/
def gelu (x : EReal) : EReal := x * (Ideal.ofBits .f32 0x3F000000#32 * bend x)

/-- The same with the half taken first. -/
theorem gelu_half (x : EReal) : Ideal.ofBits .f32 0x3F000000#32 * x * bend x = gelu x := by
  unfold gelu
  rw [mul_comm (Ideal.ofBits .f32 0x3F000000#32) x, mul_assoc]

/-- A row's entry less the row's mean. -/
def dev (f : Fin 1024 → EReal) (k : Fin 1024) : EReal := f k - Ideal.div (∑ e : Fin 1024, f e) (Ideal.ofBits .f32 0x44800000#32)

/-- One over the row's standard deviation. -/
def scale (f : Fin 1024 → EReal) : EReal :=
  Ideal.rsqrt (Ideal.div (∑ e : Fin 1024, dev f e * dev f e) (Ideal.ofBits .f32 0x44800000#32) + Ideal.ofBits .f32 0x358637BD#32)

/-- The row normalised, scaled by `g` and moved by `b`. -/
def normed (f g b : Fin 1024 → EReal) (k : Fin 1024) : EReal := dev f k * scale f * g k + b k

end Cert.Gating

end
-- ==== Proof.Spatial.lean ====
/-
  The spatial gating's step at an index, and the blocks it reads.
-/
module

public import proofs.«01_k».proof.Proof.Gen.Kernel7Ideal.Value
public import proofs.«01_k».proof.Proof.Gating
public import Idealize.ShloMosaic.Lib.Pointwise
public import Idealize.ShloMosaic.Lib.Pipeline.ValueKit
public import Idealize.ShloMosaic.Lib.Claim

@[expose] public section

set_option maxRecDepth 16384

noncomputable section

namespace Cert.Kernel7Ideal.Spatial

open Cert.Kernel7Ideal Cert.Kernel7Ideal.Gen Cert.Gating Idealize.ShloMosaic Idealize.ShloMosaic.TcCoe
open Idealize.SL.Sem
open Idealize.ShloMosaic.Pipeline (Dat)

/-! ## The step -/

theorem gate_at (v : Vec Ideal S256x1024 .f32) (r : Fin 256) (k : Fin 1024) : k0_pay2 v (ix2 r k) = gelu (v (ix2 r k)) := by
  rw [← gelu_half]
  pointwise [k0_pay2, bend]

/-- A block's rows less their means. -/
def centred (X : FVec Ideal S256x1024 .f32) : FVec Ideal S256x1024 .f32 :=
  subf X (broadcastTo S256x1024 (divf (shapeCast S256x1 (multiReduction .add [1] S256 X 0x00000000#32 reduces_S256x1024_S256 (.inl rfl) rfl : FVec Ideal S256 .f32) shapeCasts_S256_S256x1 : FVec Ideal S256x1 .f32)
    (broadcast S256x1 (Scalar.ofBits .f32 0x44800000#32))) broadcasts_S256x1_S256x1024)

theorem centred_at (X : FVec Ideal S256x1024 .f32) (r : Fin 256) (k : Fin 1024) :
    centred X (ix2 r k) = dev (fun e => X (ix2 r e)) k := by
  pointwise [centred, dev]

/-- A row of a block after gelu. -/
def rowB (v : Vec Ideal S256x1024 .f32) (r : Fin 256) (k : Fin 1024) : EReal := gelu (v (ix2 r k))

theorem dev_at (v : Vec Ideal S256x1024 .f32) (r : Fin 256) (k : Fin 1024) : k0_pay3 v (ix2 r k) = dev (rowB v r) k := by
  show centred (k0_pay2 v) (ix2 r k) = _
  rw [centred_at]
  simp only [gate_at]
  rfl

/-- One over the standard deviation of a block's rows of deviations. -/
def spread (X : FVec Ideal S256x1024 .f32) : FVec Ideal S256x1 .f32 :=
  rsqrt (addf (divf (shapeCast S256x1 (multiReduction .add [1] S256 (mulf X X) 0x00000000#32 reduces_S256x1024_S256 (.inl rfl) rfl : FVec Ideal S256 .f32) shapeCasts_S256_S256x1 : FVec Ideal S256x1 .f32)
    (broadcast S256x1 (Scalar.ofBits .f32 0x44800000#32))) (broadcast S256x1 (Scalar.ofBits .f32 0x358637BD#32)))

theorem spread_at (X : FVec Ideal S256x1024 .f32) (r : Fin 256) :
    spread X (ix2 r 0) = Ideal.rsqrt (Ideal.div (∑ e : Fin 1024, X (ix2 r e) * X (ix2 r e)) (Ideal.ofBits .f32 0x44800000#32) + Ideal.ofBits .f32 0x358637BD#32) := by
  pointwise [spread]

theorem scale_at (v : Vec Ideal S256x1024 .f32) (r : Fin 256) : k0_pay4 v (ix2 r 0) = scale (rowB v r) := by
  show spread (k0_pay3 v) (ix2 r 0) = _
  rw [spread_at]
  simp only [dev_at]
  rfl

theorem placed_at (D : FVec Ideal S256x1024 .f32) (s : FVec Ideal S256x1 .f32) (g b : Vec Ideal S1x1024 .f32) (r : Fin 256) (k : Fin 1024) :
    k0_pay5 D s g b (ix2 r k) = D (ix2 r k) * s (ix2 r 0) * g (ix2 0 k) + b (ix2 0 k) := by
  pointwise [k0_pay5]

theorem normed_at (v : Vec Ideal S256x1024 .f32) (g b : Vec Ideal S1x1024 .f32) (r : Fin 256) (k : Fin 1024) :
    k0_pay5 (k0_pay3 v) (k0_pay4 v) g b (ix2 r k) = normed (rowB v r) (fun e => g (ix2 0 e)) (fun e => b (ix2 0 e)) k := by
  rw [placed_at, dev_at, scale_at]
  rfl

/-- One chunk and group: its rows mixed, a bias added, and the gate's factor. -/
def mixed (u : FVec Ideal S128x128 .f32) (n : FVec Ideal S128x128 .bf16) (w : Vec Ideal S1x128x128 .f32) (b : Vec Ideal S128x1 .f32) : FVec Ideal S128x128 .bf16 :=
  truncf .bf16 (mulf u (addf (matmul dot_S128x128_S128x128_S128x128_1_0_0_1_n_n none
      (truncf .bf16 (shapeCast S128x128 w shapeCasts_S1x128x128_S128x128 : FVec Ideal S128x128 .f32) bitsLt_bf16_f32) n (constant S128x128 .f32 0x00000000#32))
    (broadcastTo S128x128 (shapeCast S128x1 b shapeCasts_S128x1_S128x1 : FVec Ideal S128x1 .f32) broadcasts_S128x1_S128x128))) bitsLt_bf16_f32

theorem mixed_at (u : FVec Ideal S128x128 .f32) (n : FVec Ideal S128x128 .bf16) (w : Vec Ideal S1x128x128 .f32) (b : Vec Ideal S128x1 .f32) (i j : Fin 128) :
    mixed u n w b (ix2 i j) = u (ix2 i j) * ((∑ e : Fin 128, w (ix3 0 i e) * n (ix2 e j)) + b (ix2 i 0)) := by
  pointwise [mixed]

/-- A block of a chunk and group, at an index. -/
theorem part_at {e : FTy} (X : FVec Ideal S256x1024 e) (o p : ℕ) (hs : S256x1024.Slices ![o, p] S128x128) (i j : Fin 128)
    (r : Fin 256) (k : Fin 1024) (hr : r.val = o + i.val) (hk : k.val = p + j.val) :
    extractStridedSlice S128x128 ![o, p] X hs (ix2 i j) = X (ix2 r k) := by
  unfold extractStridedSlice
  refine congrArg X ?_
  funext a
  fin_cases a <;> exact Fin.ext (by simp [hr, hk])

/-! ## The prepared arrays and the blocks -/

/-- A row as the call takes it. -/
def rowA (G : FVec Ideal S1024 .f32) : FVec Ideal S1x1024 .f32 := shapeCast S1x1024 G shapeCasts_S1024_S1x1024

/-- The biases as the call takes them: rows first. -/
def biasA (S : FVec Ideal S8x128 .f32) : FVec Ideal S128x8 .f32 := transpose S128x8 [1, 0] S transposes_S8x128_S128x8_1_0

theorem rowA_at (G : FVec Ideal S1024 .f32) (k : Fin 1024) : rowA G (ix2 0 k) = G (ix1 k) := by
  pointwise [rowA]

theorem biasA_at (S : FVec Ideal S8x128 .f32) (i : Fin 128) (g : Fin 8) : biasA S (ix2 i g) = S (ix2 g i) := by
  pointwise [biasA]

/-- Where each step's blocks lie. -/
theorem idx : ∀ t : Fin cfg0.N, win0_0.index t = ![t.val, 3] ∧ win0_1.index t = ![t.val, 4] ∧ win0_2.index t = ![0, 0]
    ∧ win0_3.index t = ![0, 0] ∧ win0_4.index t = ![0, 0, 0] ∧ win0_5.index t = ![0, 0] ∧ win0_6.index t = ![t.val, 0] ∧ t.val < 68 :=
  (by decide +kernel : ∀ t : Fin grid0.N, _)

variable (m : (ℓ : Loc nD τ sig) → Buf (Elt Ideal) ℓ) (c : Dev nD)

theorem V_gain : V m c main_v0 = rowA (m ((c : Thread nD τ).loc main_arg1)) := by
  entry_read; rfl

theorem V_shift : V m c main_v1 = rowA (m ((c : Thread nD τ).loc main_arg2)) := by
  entry_read; rfl

theorem V_bias : V m c main_v2 = biasA (m ((c : Thread nD τ).loc main_arg4)) := by
  entry_read; rfl

/-- The gate's block at an index. -/
theorem gate_block (t : Fin cfg0.N) (r : Fin 256) (k : Fin 1024) (R : Fin 17408) (C : Fin 9216) (hR : R.val = t.val * 256 + r.val) (hC : C.val = 3072 + k.val) :
    (iblk m c 0 t : Vec Ideal S256x1024 .f32) (ix2 r k) = (m ((c : Thread nD τ).loc main_arg0) : FVec Ideal S17408x9216 .f32) (ix2 R C) := by
  have h : (((cfg0.win 0).blk t).view.emb (ix2 r k) : S17408x9216.Idx) = ix2 R C := by blk_ext [idx t]
  unfold iblk
  rw [View.read_apply, cast_eq]
  refine (congrFun (V_main_arg0 m c) _).trans ?_
  exact congrArg _ h

/-- The mixed columns' block at an index. -/
theorem mix_block (t : Fin cfg0.N) (r : Fin 256) (k : Fin 1024) (R : Fin 17408) (C : Fin 9216) (hR : R.val = t.val * 256 + r.val) (hC : C.val = 4096 + k.val) :
    (iblk m c 1 t : Vec Ideal S256x1024 .f32) (ix2 r k) = (m ((c : Thread nD τ).loc main_arg0) : FVec Ideal S17408x9216 .f32) (ix2 R C) := by
  have h : (((cfg0.win 1).blk t).view.emb (ix2 r k) : S17408x9216.Idx) = ix2 R C := by blk_ext [idx t]
  unfold iblk
  rw [View.read_apply, cast_eq]
  refine (congrFun (V_main_arg0 m c) _).trans ?_
  exact congrArg _ h

/-- The gain at an index. -/
theorem gain_block (t : Fin cfg0.N) (k : Fin 1024) :
    (iblk m c 2 t : Vec Ideal S1x1024 .f32) (ix2 0 k) = (m ((c : Thread nD τ).loc main_arg1) : FVec Ideal S1024 .f32) (ix1 k) := by
  have h : (((cfg0.win 2).blk t).view.emb (ix2 0 k) : S1x1024.Idx) = ix2 0 k := by blk_ext [idx t]
  unfold iblk
  rw [View.read_apply, cast_eq]
  exact (congrFun (V_gain m c) _).trans ((congrArg _ h).trans (rowA_at _ k))

/-- The shift at an index. -/
theorem shift_block (t : Fin cfg0.N) (k : Fin 1024) :
    (iblk m c 3 t : Vec Ideal S1x1024 .f32) (ix2 0 k) = (m ((c : Thread nD τ).loc main_arg2) : FVec Ideal S1024 .f32) (ix1 k) := by
  have h : (((cfg0.win 3).blk t).view.emb (ix2 0 k) : S1x1024.Idx) = ix2 0 k := by blk_ext [idx t]
  unfold iblk
  rw [View.read_apply, cast_eq]
  exact (congrFun (V_shift m c) _).trans ((congrArg _ h).trans (rowA_at _ k))

/-- The mixing weights at an index. -/
theorem weight_block (t : Fin cfg0.N) (g : Fin 8) (i e : Fin 128) :
    (iblk m c 4 t : Vec Ideal S8x128x128 .f32) (ix3 g i e) = (m ((c : Thread nD τ).loc main_arg3) : FVec Ideal S8x128x128 .f32) (ix3 g i e) := by
  have h : (((cfg0.win 4).blk t).view.emb (ix3 g i e) : S8x128x128.Idx) = ix3 g i e := by blk_ext [idx t]
  unfold iblk
  rw [View.read_apply, cast_eq]
  exact (congrFun (V_main_arg3 m c) _).trans (congrArg _ h)

/-- The mixing biases at an index. -/
theorem bias_block (t : Fin cfg0.N) (i : Fin 128) (g : Fin 8) :
    (iblk m c 5 t : Vec Ideal S128x8 .f32) (ix2 i g) = (m ((c : Thread nD τ).loc main_arg4) : FVec Ideal S8x128 .f32) (ix2 g i) := by
  have h : (((cfg0.win 5).blk t).view.emb (ix2 i g) : S128x8.Idx) = ix2 i g := by blk_ext [idx t]
  unfold iblk
  rw [View.read_apply, cast_eq]
  exact (congrFun (V_bias m c) _).trans ((congrArg _ h).trans (biasA_at _ i g))

/-- One group's weights are a load. -/
theorem load_weight (B : Vec Ideal S8x128x128 .f32) (g : Fin 8) (o : ℕ) (ho : o = g.val)
    (inb : ∀ a, (![o, 0, 0] : Fin 3 → ℕ) a + (![1, 128, 128] : Fin 3 → ℕ) a ≤ S8x128x128.size a) (i e : Fin 128) :
    View.ld B (Rect.unit ![o, 0, 0] ![1, 128, 128] inb) (ix3 0 i e) = B (ix3 g i e) := by
  subst ho
  refine (View.ld_apply _ _ _).trans (congrArg B ?_)
  funext a
  fin_cases a <;> exact Fin.ext (by simp)

/-- One group's biases are a load. -/
theorem load_bias (B : Vec Ideal S128x8 .f32) (g : Fin 8) (o : ℕ) (ho : o = g.val)
    (inb : ∀ a, (![0, o] : Fin 2 → ℕ) a + (![128, 1] : Fin 2 → ℕ) a ≤ S128x8.size a) (i : Fin 128) :
    View.ld B (Rect.unit ![0, o] ![128, 1] inb) (ix2 i 0) = B (ix2 i g) := by
  subst ho
  refine (View.ld_apply _ _ _).trans (congrArg B ?_)
  funext a
  fin_cases a <;> exact Fin.ext (by simp)

end Cert.Kernel7Ideal.Spatial

end
-- ==== Proof.SpatialReference.lean ====
/-
  What the reference of the spatial gating returns, at an index.
-/
module

public import proofs.«01_k».proof.Proof.Gen.Reference7Ideal.Run
public import proofs.«01_k».proof.Proof.Gating
public import Idealize.ShloMosaic.Lib.Pointwise

@[expose] public section

set_option maxRecDepth 16384

noncomputable section

namespace Cert.Reference7Ideal.Spatial

open Cert.Reference7Ideal Cert.Reference7Ideal.Gen Cert.Gating Idealize.ShloMosaic Idealize.ShloMosaic.TcCoe Idealize.SL.Sem

/-- gelu of every entry. -/
def bent (X : FVec Ideal S17408x1024 .f32) : FVec Ideal S17408x1024 .f32 :=
  mulf X (mulf (broadcastInDim S17408x1024 ![] bcast_S_S17408x1024 (constant S_ .f32 0x3F000000#32)) (addf (broadcastInDim S17408x1024 ![] bcast_S_S17408x1024 (constant S_ .f32 0x3F800000#32)) (Host.tanh (mulf (broadcastInDim S17408x1024 ![] bcast_S_S17408x1024 (constant S_ .f32 0x3F4C422A#32)) (addf X (mulf (broadcastInDim S17408x1024 ![] bcast_S_S17408x1024 (constant S_ .f32 0x3D372713#32)) (mulf (mulf X X) X)))))))

/-- Every row's mean, as a column. -/
def mean (X : FVec Ideal S17408x1024 .f32) : FVec Ideal S17408x1 .f32 :=
  Host.divf (broadcastInDim S17408x1 ![0] bcast_S17408_S17408x1_0 (Host.reduceAdd X (constant S_ .f32 0x00000000#32) reducesTo_S17408x1024_S17408_d1 h_S_)) (broadcastInDim S17408x1 ![] bcast_S_S17408x1 (constant S_ .f32 0x44800000#32))

/-- A column along every row. -/
def along (X : FVec Ideal S17408x1 .f32) : FVec Ideal S17408x1024 .f32 :=
  broadcastInDim S17408x1024 ![0, 1] bcast_S17408x1_S17408x1024_0_1 X

/-- A row at every row. -/
def down (X : FVec Ideal S1024 .f32) : FVec Ideal S17408x1024 .f32 :=
  broadcastInDim S17408x1024 ![0, 1] bcast_S1x1024_S17408x1024_0_1 (broadcastInDim S1x1024 ![1] bcast_S1024_S1x1024_1 X)

/-- One over the standard deviation of rows of deviations. -/
def spread (X : FVec Ideal S17408x1024 .f32) : FVec Ideal S17408x1 .f32 :=
  Host.rsqrt (addf (mean (mulf X X)) (broadcastInDim S17408x1 ![] bcast_S_S17408x1 (constant S_ .f32 0x358637BD#32)))

/-- Rows of deviations, normalised, scaled and moved. -/
def placed (X : FVec Ideal S17408x1024 .f32) (G B : FVec Ideal S1024 .f32) : FVec Ideal S17408x1024 .f32 :=
  addf (mulf (mulf X (along (spread X))) (down G)) (down B)

/-- The rows cut into chunks of 128 and groups of 128 columns. -/
def chunked (X : FVec Ideal S17408x1024 .f32) : FVec Ideal S136x128x8x128 .f32 :=
  shapeCast _ X shapeCasts_S17408x1024_S136x128x8x128

/-- Each chunk and group mixed along its rows, plus a bias by row and group. -/
def mixed (X : FVec Ideal S136x128x8x128 .f32) (W : FVec Ideal S8x128x128 .f32) (B : FVec Ideal S8x128 .f32) : FVec Ideal S136x128x8x128 .f32 :=
  addf (transpose S136x128x8x128 [1, 3, 0, 2] (Host.dotGeneral dot_S136x128x8x128_S8x128x128_S8x136x128x128_1_2_03_1_2_0 none X W) transposes_S8x136x128x128_S136x128x8x128_1_3_0_2) (broadcastInDim S136x128x8x128 ![0, 1, 2, 3] bcast_S1x128x8x1_S136x128x8x128_0_1_2_3 (broadcastInDim S1x128x8x1 ![1, 2, 3] bcast_S128x8x1_S1x128x8x1_1_2_3 (broadcastInDim S128x8x1 ![0, 1] bcast_S128x8_S128x8x1_0_1 (transpose S128x8 [1, 0] B transposes_S8x128_S128x8_1_0))))

/-- The gate's columns of the projection. -/
def columnsU (P : FVec Ideal S17408x9216 .f32) : FVec Ideal S17408x1024 .f32 :=
  extractStridedSlice S17408x1024 ![0, 3072] P slices_S17408x9216_S17408x1024_0_3072

/-- The mixed columns of the projection. -/
def columnsV (P : FVec Ideal S17408x9216 .f32) : FVec Ideal S17408x1024 .f32 :=
  extractStridedSlice S17408x1024 ![0, 4096] P slices_S17408x9216_S17408x1024_0_4096

/-- The mixed columns' deviations. -/
def deviations (P : FVec Ideal S17408x9216 .f32) : FVec Ideal S17408x1024 .f32 :=
  subf (bent (columnsV P)) (along (mean (bent (columnsV P))))

/-- The spatial gating. -/
def gated (P : FVec Ideal S17408x9216 .f32) (G B : FVec Ideal S1024 .f32) (W : FVec Ideal S8x128x128 .f32) (S : FVec Ideal S8x128 .f32) :
    FVec Ideal S17408x1024 .bf16 :=
  truncf .bf16 (mulf (bent (columnsU P)) (shapeCast S17408x1024 (mixed (chunked (placed (deviations P) G B)) W S) shapeCasts_S136x128x8x128_S17408x1024)) bitsLt_bf16_f32

theorem bent_at (X : FVec Ideal S17408x1024 .f32) (r : Fin 17408) (k : Fin 1024) : bent X (ix2 r k) = gelu (X (ix2 r k)) := by
  pointwise [bent, gelu, bend]

theorem mean_at (X : FVec Ideal S17408x1024 .f32) (r : Fin 17408) :
    mean X (ix2 r 0) = Ideal.div (∑ e : Fin 1024, X (ix2 r e)) (Ideal.ofBits .f32 0x44800000#32) := by
  pointwise [mean]

theorem along_at (X : FVec Ideal S17408x1 .f32) (r : Fin 17408) (k : Fin 1024) : along X (ix2 r k) = X (ix2 r 0) := by
  pointwise [along]

theorem down_at (X : FVec Ideal S1024 .f32) (r : Fin 17408) (k : Fin 1024) : down X (ix2 r k) = X (ix1 k) := by
  pointwise [down]

theorem columnsU_at (P : FVec Ideal S17408x9216 .f32) (r : Fin 17408) (k : Fin 1024) :
    columnsU P (ix2 r k) = P (ix2 r ⟨3072 + k.val, by omega⟩) := by
  pointwise [columnsU]

theorem columnsV_at (P : FVec Ideal S17408x9216 .f32) (r : Fin 17408) (k : Fin 1024) :
    columnsV P (ix2 r k) = P (ix2 r ⟨4096 + k.val, by omega⟩) := by
  pointwise [columnsV]

theorem spread_at (X : FVec Ideal S17408x1024 .f32) (r : Fin 17408) :
    spread X (ix2 r 0) = Ideal.rsqrt (Ideal.div (∑ e : Fin 1024, X (ix2 r e) * X (ix2 r e)) (Ideal.ofBits .f32 0x44800000#32) + Ideal.ofBits .f32 0x358637BD#32) := by
  have h : spread X (ix2 r 0) = Ideal.rsqrt (mean (mulf X X) (ix2 r 0) + Ideal.ofBits .f32 0x358637BD#32) := by
    pointwise [spread]
  rw [h, mean_at]
  rfl

theorem chunked_at (X : FVec Ideal S17408x1024 .f32) (n : Fin 136) (i : Fin 128) (g : Fin 8) (j : Fin 128) :
    chunked X (ix4 n i g j) = X (ix2 ⟨n.val * 128 + i.val, by omega⟩ ⟨g.val * 128 + j.val, by omega⟩) := by
  pointwise [chunked]

theorem mixed_at (X : FVec Ideal S136x128x8x128 .f32) (W : FVec Ideal S8x128x128 .f32) (B : FVec Ideal S8x128 .f32)
    (n : Fin 136) (i : Fin 128) (g : Fin 8) (j : Fin 128) :
    mixed X W B (ix4 n i g j) = (∑ e : Fin 128, X (ix4 n e g j) * W (ix3 g i e)) + B (ix2 g i) := by
  pointwise [mixed]

/-- A row of the mixed columns after gelu. -/
def rowV (P : FVec Ideal S17408x9216 .f32) (r : Fin 17408) (k : Fin 1024) : EReal := gelu (P (ix2 r ⟨4096 + k.val, by omega⟩))

theorem deviations_at (P : FVec Ideal S17408x9216 .f32) (r : Fin 17408) (k : Fin 1024) :
    deviations P (ix2 r k) = dev (rowV P r) k := by
  show bent (columnsV P) (ix2 r k) - along (mean (bent (columnsV P))) (ix2 r k) = _
  rw [along_at, mean_at]
  simp only [bent_at, columnsV_at]
  rfl

theorem placed_at (P : FVec Ideal S17408x9216 .f32) (G B : FVec Ideal S1024 .f32) (r : Fin 17408) (k : Fin 1024) :
    placed (deviations P) G B (ix2 r k) = normed (rowV P r) (fun e => G (ix1 e)) (fun e => B (ix1 e)) k := by
  show deviations P (ix2 r k) * along (spread (deviations P)) (ix2 r k) * down G (ix2 r k) + down B (ix2 r k) = _
  rw [along_at, spread_at, down_at, down_at]
  simp only [deviations_at]
  rfl

/-- The spatial gating at an index: chunk `n`, row `i` in it, group `g`, column `j` in it. -/
theorem gated_at (P : FVec Ideal S17408x9216 .f32) (G B : FVec Ideal S1024 .f32) (W : FVec Ideal S8x128x128 .f32) (S : FVec Ideal S8x128 .f32)
    (n : Fin 136) (i : Fin 128) (g : Fin 8) (j : Fin 128) :
    gated P G B W S (ix2 ⟨n.val * 128 + i.val, by omega⟩ ⟨g.val * 128 + j.val, by omega⟩)
      = gelu (P (ix2 ⟨n.val * 128 + i.val, by omega⟩ ⟨3072 + (g.val * 128 + j.val), by omega⟩))
        * ((∑ e : Fin 128, normed (rowV P ⟨n.val * 128 + e.val, by omega⟩) (fun e => G (ix1 e)) (fun e => B (ix1 e)) ⟨g.val * 128 + j.val, by omega⟩ * W (ix3 g i e))
          + S (ix2 g i)) := by
  have h : ∀ X : FVec Ideal S136x128x8x128 .f32, (shapeCast S17408x1024 X shapeCasts_S136x128x8x128_S17408x1024 : FVec Ideal S17408x1024 .f32)
      (ix2 ⟨n.val * 128 + i.val, by omega⟩ ⟨g.val * 128 + j.val, by omega⟩) = X (ix4 n i g j) := by
    intro X
    pointwise
  show bent (columnsU P) _ * (shapeCast S17408x1024 (mixed (chunked (placed (deviations P) G B)) W S) shapeCasts_S136x128x8x128_S17408x1024 : FVec Ideal S17408x1024 .f32) _ = _
  rw [h, mixed_at, bent_at, columnsU_at]
  simp only [chunked_at, placed_at]

end Cert.Reference7Ideal.Spatial

end
-- ==== Proof.SpatialFinal.lean ====
/-
  The spatial gating's result array: every chunk and group a step writes is the reference's there.
-/
module

public import proofs.«01_k».proof.Proof.Spatial
public import proofs.«01_k».proof.Proof.SpatialReference

@[expose] public section

set_option maxRecDepth 16384

noncomputable section

namespace Cert.Kernel7Ideal.Spatial

open Cert.Kernel7Ideal Cert.Kernel7Ideal.Gen Cert.Gating Idealize.ShloMosaic Idealize.ShloMosaic.TcCoe
open Idealize.SL.Sem
open Idealize.ShloMosaic.Pipeline (Dat)

variable (m : (ℓ : Loc nD τ sig) → Buf (Elt Ideal) ℓ) (c : Dev nD)

/-- The reference's spatial gating of the launch arrays. -/
abbrev result : FVec Ideal S17408x1024 .bf16 :=
  Cert.Reference7Ideal.Spatial.gated (m ((c : Thread nD τ).loc main_arg0)) (m ((c : Thread nD τ).loc main_arg1)) (m ((c : Thread nD τ).loc main_arg2))
    (m ((c : Thread nD τ).loc main_arg3)) (m ((c : Thread nD τ).loc main_arg4))

/-- A step's mixed columns after gelu are the launch array's. -/
theorem row_eq (t : Fin cfg0.N) (r : Fin 256) (R : Fin 17408) (hR : R.val = t.val * 256 + r.val) :
    rowB (iblk m c 1 t : Vec Ideal S256x1024 .f32) r = Cert.Reference7Ideal.Spatial.rowV (m ((c : Thread nD τ).loc main_arg0)) R := by
  funext k
  exact congrArg gelu (mix_block m c t r k R ⟨4096 + k.val, by omega⟩ hR rfl)

/-- The step's normalised columns. -/
abbrev normal (t : Fin cfg0.N) : FVec Ideal S256x1024 .bf16 :=
  k0_pay5 (k0_pay3 (iblk m c 1 t : Vec Ideal S256x1024 .f32)) (k0_pay4 (iblk m c 1 t : Vec Ideal S256x1024 .f32))
    (iblk m c 2 t : Vec Ideal S1x1024 .f32) (iblk m c 3 t : Vec Ideal S1x1024 .f32)

/-- A step's chunk and group at rows from `o` and columns from `p`. -/
abbrev part (u : FVec Ideal S256x1024 .f32) (n : FVec Ideal S256x1024 .bf16) (w : Vec Ideal S1x128x128 .f32) (b : Vec Ideal S128x1 .f32) (o p : ℕ)
    (hs : S256x1024.Slices ![o, p] S128x128) : FVec Ideal S128x128 .bf16 :=
  mixed (extractStridedSlice S128x128 ![o, p] u hs) (extractStridedSlice S128x128 ![o, p] n hs) w b

/-! What each store holds. -/

theorem part17 (u : FVec Ideal S256x1024 .f32) (n : FVec Ideal S256x1024 .bf16) (w : Vec Ideal S1x128x128 .f32) (b : Vec Ideal S128x1 .f32) :
    k0_pay1 u (k0_pay24 n w b) = part u n w b 128 896 slices_S256x1024_o128_896_S128x128 := rfl

theorem part16 (u : FVec Ideal S256x1024 .f32) (n : FVec Ideal S256x1024 .bf16) (w : Vec Ideal S1x128x128 .f32) (b : Vec Ideal S128x1 .f32) :
    k0_pay23 u n w b = part u n w b 128 768 slices_S256x1024_o128_768_S128x128 := rfl

theorem part15 (u : FVec Ideal S256x1024 .f32) (n : FVec Ideal S256x1024 .bf16) (w : Vec Ideal S1x128x128 .f32) (b : Vec Ideal S128x1 .f32) :
    k0_pay22 u n w b = part u n w b 128 640 slices_S256x1024_o128_640_S128x128 := rfl

theorem part14 (u : FVec Ideal S256x1024 .f32) (n : FVec Ideal S256x1024 .bf16) (w : Vec Ideal S1x128x128 .f32) (b : Vec Ideal S128x1 .f32) :
    k0_pay21 u n w b = part u n w b 128 512 slices_S256x1024_o128_512_S128x128 := rfl

theorem part13 (u : FVec Ideal S256x1024 .f32) (n : FVec Ideal S256x1024 .bf16) (w : Vec Ideal S1x128x128 .f32) (b : Vec Ideal S128x1 .f32) :
    k0_pay20 u n w b = part u n w b 128 384 slices_S256x1024_o128_384_S128x128 := rfl

theorem part12 (u : FVec Ideal S256x1024 .f32) (n : FVec Ideal S256x1024 .bf16) (w : Vec Ideal S1x128x128 .f32) (b : Vec Ideal S128x1 .f32) :
    k0_pay19 u n (k0_pay18 w) b = part u n w b 128 256 slices_S256x1024_o128_256_S128x128 := rfl

theorem part11 (u : FVec Ideal S256x1024 .f32) (n : FVec Ideal S256x1024 .bf16) (w : Vec Ideal S1x128x128 .f32) (b : Vec Ideal S128x1 .f32) :
    k0_pay17 u n w b = part u n w b 128 128 slices_S256x1024_o128_128_S128x128 := rfl

theorem part10 (u : FVec Ideal S256x1024 .f32) (n : FVec Ideal S256x1024 .bf16) (w : Vec Ideal S1x128x128 .f32) (b : Vec Ideal S128x1 .f32) :
    k0_pay16 u n w b = part u n w b 128 0 slices_S256x1024_o128_0_S128x128 := rfl

theorem part07 (u : FVec Ideal S256x1024 .f32) (n : FVec Ideal S256x1024 .bf16) (w : Vec Ideal S1x128x128 .f32) (b : Vec Ideal S128x1 .f32) :
    k0_pay15 u (k0_pay14 n w) b = part u n w b 0 896 slices_S256x1024_o0_896_S128x128 := rfl

theorem part06 (u : FVec Ideal S256x1024 .f32) (n : FVec Ideal S256x1024 .bf16) (w : Vec Ideal S1x128x128 .f32) (b : Vec Ideal S128x1 .f32) :
    k0_pay13 u n w b = part u n w b 0 768 slices_S256x1024_o0_768_S128x128 := rfl

theorem part05 (u : FVec Ideal S256x1024 .f32) (n : FVec Ideal S256x1024 .bf16) (w : Vec Ideal S1x128x128 .f32) (b : Vec Ideal S128x1 .f32) :
    k0_pay12 u n w b = part u n w b 0 640 slices_S256x1024_o0_640_S128x128 := rfl

theorem part04 (u : FVec Ideal S256x1024 .f32) (n : FVec Ideal S256x1024 .bf16) (w : Vec Ideal S1x128x128 .f32) (b : Vec Ideal S128x1 .f32) :
    k0_pay11 (k0_pay10 u n w b) = part u n w b 0 512 slices_S256x1024_o0_512_S128x128 := rfl

theorem part03 (u : FVec Ideal S256x1024 .f32) (n : FVec Ideal S256x1024 .bf16) (w : Vec Ideal S1x128x128 .f32) (b : Vec Ideal S128x1 .f32) :
    k0_pay9 u n w b = part u n w b 0 384 slices_S256x1024_o0_384_S128x128 := rfl

theorem part02 (u : FVec Ideal S256x1024 .f32) (n : FVec Ideal S256x1024 .bf16) (w : Vec Ideal S1x128x128 .f32) (b : Vec Ideal S128x1 .f32) :
    k0_pay8 u n w b = part u n w b 0 256 slices_S256x1024_o0_256_S128x128 := rfl

theorem part01 (u d : FVec Ideal S256x1024 .f32) (s : FVec Ideal S256x1 .f32) (p q : Vec Ideal S1x1024 .f32) (w : Vec Ideal S1x128x128 .f32) (b : Vec Ideal S128x1 .f32) :
    k0_pay7 u d s p q w b = part u (k0_pay5 d s p q) w b 0 128 slices_S256x1024_o0_128_S128x128 := rfl

theorem part00 (u d : FVec Ideal S256x1024 .f32) (s : FVec Ideal S256x1 .f32) (p q : Vec Ideal S1x1024 .f32) (w : Vec Ideal S1x128x128 .f32) (b : Vec Ideal S128x1 .f32) :
    k0_pay6 u d s p q w b = part u (k0_pay5 d s p q) w b 0 0 slices_S256x1024_o0_0_S128x128 := rfl

/-! The values the stores share, of whole blocks. -/

theorem block_whole (x : Vec Ideal S256x1024 .f32) : View.ld x r0_0 = x := by
  funext y
  refine (View.ld_apply _ _ _).trans (congrArg x ?_)
  funext a
  fin_cases a <;> exact Fin.ext (by simp)

theorem row_whole (x : Vec Ideal S1x1024 .f32) : View.ld x r0_1 = x := by
  funext y
  refine (View.ld_apply _ _ _).trans (congrArg x ?_)
  funext a
  fin_cases a <;> exact Fin.ext (by simp)

theorem gate_named (x0 x1 : Vec Ideal S256x1024 .f32) (x2 x3 : Vec Ideal S1x1024 .f32) (x4 : Vec Ideal S8x128x128 .f32) (x5 : Vec Ideal S128x8 .f32) :
    k0_pay25 x0 x1 x2 x3 x4 x5 = k0_pay2 x0 := by
  unfold k0_pay25
  rw [block_whole]

theorem dev_named (x0 x1 : Vec Ideal S256x1024 .f32) (x2 x3 : Vec Ideal S1x1024 .f32) (x4 : Vec Ideal S8x128x128 .f32) (x5 : Vec Ideal S128x8 .f32) :
    k0_pay26 x0 x1 x2 x3 x4 x5 = k0_pay3 x1 := by
  unfold k0_pay26
  rw [block_whole]

theorem scale_named (x0 x1 : Vec Ideal S256x1024 .f32) (x2 x3 : Vec Ideal S1x1024 .f32) (x4 : Vec Ideal S8x128x128 .f32) (x5 : Vec Ideal S128x8 .f32) :
    k0_pay27 x0 x1 x2 x3 x4 x5 = k0_pay4 x1 := by
  unfold k0_pay27
  rw [block_whole]

theorem normal_named (x0 x1 : Vec Ideal S256x1024 .f32) (x2 x3 : Vec Ideal S1x1024 .f32) (x4 : Vec Ideal S8x128x128 .f32) (x5 : Vec Ideal S128x8 .f32) :
    k0_pay28 x0 x1 x2 x3 x4 x5 = k0_pay5 (k0_pay3 x1) (k0_pay4 x1) x2 x3 := by
  unfold k0_pay28
  rw [dev_named, scale_named, row_whole, row_whole]

/-- Chunk `a` and group `g` of a step, at rows from `o` and columns from `p`. -/
theorem tile (t : Fin cfg0.N) (o p : ℕ) (hs : S256x1024.Slices ![o, p] S128x128) (a : Fin 2) (g : Fin 8) (ho : o = a.val * 128) (hp : p = g.val * 128)
    (w : Vec Ideal S1x128x128 .f32) (b : Vec Ideal S128x1 .f32)
    (hw : ∀ i e, w (ix3 0 i e) = (iblk m c 4 t : Vec Ideal S8x128x128 .f32) (ix3 g i e))
    (hb : ∀ i, b (ix2 i 0) = (iblk m c 5 t : Vec Ideal S128x8 .f32) (ix2 i g))
    (i j : Fin 128) (J : S17408x1024.Idx) (h0 : (J 0).val = t.val * 256 + o + i.val) (h1 : (J 1).val = p + j.val) :
    part (k0_pay2 (iblk m c 0 t : Vec Ideal S256x1024 .f32)) (normal m c t) w b o p hs (ix2 i j) = result m c J := by
  subst ho hp
  have ht := (idx t).2.2.2.2.2.2.2
  have hJ : J = ix2 (⟨(⟨t.val * 2 + a.val, by omega⟩ : Fin 136).val * 128 + i.val, by dsimp only; omega⟩ : Fin 17408) (⟨g.val * 128 + j.val, by omega⟩ : Fin 1024) := by
    funext x
    fin_cases x
    · exact Fin.ext (h0.trans (show t.val * 256 + a.val * 128 + i.val = (t.val * 2 + a.val) * 128 + i.val by omega))
    · exact Fin.ext h1
  unfold part
  rw [hJ, mixed_at]
  refine Eq.trans ?_ (Cert.Reference7Ideal.Spatial.gated_at _ _ _ _ _ _ _ _ _).symm
  rw [part_at _ _ _ hs i j ⟨a.val * 128 + i.val, by omega⟩ ⟨g.val * 128 + j.val, by omega⟩ rfl rfl, gate_at, hb, bias_block,
    gate_block m c t ⟨a.val * 128 + i.val, by omega⟩ ⟨g.val * 128 + j.val, by omega⟩
      ⟨(⟨t.val * 2 + a.val, by omega⟩ : Fin 136).val * 128 + i.val, by dsimp only; omega⟩ ⟨3072 + (g.val * 128 + j.val), by omega⟩ (by dsimp only; omega) rfl]
  refine congrArg (gelu _ * ·) (congrArg (· + _) (Finset.sum_congr rfl fun e _ => ?_))
  rw [hw, weight_block, part_at _ _ _ hs e j ⟨a.val * 128 + e.val, by omega⟩ ⟨g.val * 128 + j.val, by omega⟩ rfl rfl]
  unfold normal
  rw [normed_at,
    row_eq m c t ⟨a.val * 128 + e.val, by omega⟩ ⟨(⟨t.val * 2 + a.val, by omega⟩ : Fin 136).val * 128 + e.val, by dsimp only; omega⟩ (by dsimp only; omega),
    mul_comm]
  simp only [gain_block, shift_block]

set_option maxHeartbeats 2000000 in
/-- **The spatial gating's result array is the reference's.** -/
theorem final : (dats m 0 c).arrAt 6 cfg0.N = result m c := by
  refine (dats m 0 c).arrAt_eq_of_covers 6 _ (by decide +kernel) fun t _ y => ?_
  blk_simp
  rw [after0_6]
  frame_out
  canon_tiles x h
  case piece0 =>
    idx_vars x
    rw [part17, gate_named, normal_named]
    refine tile m c t 128 896 _ 1 7 rfl rfl _ _ (load_weight _ 7 _ rfl _) (load_bias _ 7 _ rfl _) _ _ _ ?_ ?_
    · blk_simp [idx t]
      try omega
    · blk_simp [idx t]
      try omega
  case piece1 =>
    idx_vars x
    rw [part16, gate_named, normal_named]
    refine tile m c t 128 768 _ 1 6 rfl rfl _ _ (load_weight _ 6 _ rfl _) (load_bias _ 6 _ rfl _) _ _ _ ?_ ?_
    · blk_simp [idx t]
      try omega
    · blk_simp [idx t]
      try omega
  case piece2 =>
    idx_vars x
    rw [part15, gate_named, normal_named]
    refine tile m c t 128 640 _ 1 5 rfl rfl _ _ (load_weight _ 5 _ rfl _) (load_bias _ 5 _ rfl _) _ _ _ ?_ ?_
    · blk_simp [idx t]
      try omega
    · blk_simp [idx t]
      try omega
  case piece3 =>
    idx_vars x
    rw [part14, gate_named, normal_named]
    refine tile m c t 128 512 _ 1 4 rfl rfl _ _ (load_weight _ 4 _ rfl _) (load_bias _ 4 _ rfl _) _ _ _ ?_ ?_
    · blk_simp [idx t]
      try omega
    · blk_simp [idx t]
      try omega
  case piece4 =>
    idx_vars x
    rw [part13, gate_named, normal_named]
    refine tile m c t 128 384 _ 1 3 rfl rfl _ _ (load_weight _ 3 _ rfl _) (load_bias _ 3 _ rfl _) _ _ _ ?_ ?_
    · blk_simp [idx t]
      try omega
    · blk_simp [idx t]
      try omega
  case piece5 =>
    idx_vars x
    rw [part12, gate_named, normal_named]
    refine tile m c t 128 256 _ 1 2 rfl rfl _ _ (load_weight _ 2 _ rfl _) (load_bias _ 2 _ rfl _) _ _ _ ?_ ?_
    · blk_simp [idx t]
      try omega
    · blk_simp [idx t]
      try omega
  case piece6 =>
    idx_vars x
    rw [part11, gate_named, normal_named]
    refine tile m c t 128 128 _ 1 1 rfl rfl _ _ (load_weight _ 1 _ rfl _) (load_bias _ 1 _ rfl _) _ _ _ ?_ ?_
    · blk_simp [idx t]
      try omega
    · blk_simp [idx t]
      try omega
  case piece7 =>
    idx_vars x
    rw [part10, gate_named, normal_named]
    refine tile m c t 128 0 _ 1 0 rfl rfl _ _ (load_weight _ 0 _ rfl _) (load_bias _ 0 _ rfl _) _ _ _ ?_ ?_
    · blk_simp [idx t]
      try omega
    · blk_simp [idx t]
      try omega
  case piece8 =>
    idx_vars x
    rw [part07, gate_named, normal_named]
    refine tile m c t 0 896 _ 0 7 rfl rfl _ _ (load_weight _ 7 _ rfl _) (load_bias _ 7 _ rfl _) _ _ _ ?_ ?_
    · blk_simp [idx t]
      try omega
    · blk_simp [idx t]
      try omega
  case piece9 =>
    idx_vars x
    rw [part06, gate_named, normal_named]
    refine tile m c t 0 768 _ 0 6 rfl rfl _ _ (load_weight _ 6 _ rfl _) (load_bias _ 6 _ rfl _) _ _ _ ?_ ?_
    · blk_simp [idx t]
      try omega
    · blk_simp [idx t]
      try omega
  case piece10 =>
    idx_vars x
    rw [part05, gate_named, normal_named]
    refine tile m c t 0 640 _ 0 5 rfl rfl _ _ (load_weight _ 5 _ rfl _) (load_bias _ 5 _ rfl _) _ _ _ ?_ ?_
    · blk_simp [idx t]
      try omega
    · blk_simp [idx t]
      try omega
  case piece11 =>
    idx_vars x
    rw [part04, gate_named, normal_named]
    refine tile m c t 0 512 _ 0 4 rfl rfl _ _ (load_weight _ 4 _ rfl _) (load_bias _ 4 _ rfl _) _ _ _ ?_ ?_
    · blk_simp [idx t]
      try omega
    · blk_simp [idx t]
      try omega
  case piece12 =>
    idx_vars x
    rw [part03, gate_named, normal_named]
    refine tile m c t 0 384 _ 0 3 rfl rfl _ _ (load_weight _ 3 _ rfl _) (load_bias _ 3 _ rfl _) _ _ _ ?_ ?_
    · blk_simp [idx t]
      try omega
    · blk_simp [idx t]
      try omega
  case piece13 =>
    idx_vars x
    rw [part02, gate_named, normal_named]
    refine tile m c t 0 256 _ 0 2 rfl rfl _ _ (load_weight _ 2 _ rfl _) (load_bias _ 2 _ rfl _) _ _ _ ?_ ?_
    · blk_simp [idx t]
      try omega
    · blk_simp [idx t]
      try omega
  case piece14 =>
    idx_vars x
    rw [part01, gate_named, dev_named, scale_named]
    refine tile m c t 0 128 _ 0 1 rfl rfl _ _ (load_weight _ 1 _ rfl _) (load_bias _ 1 _ rfl _) _ _ _ ?_ ?_
    · blk_simp [idx t]
      try omega
    · blk_simp [idx t]
      try omega
  case piece15 =>
    idx_vars x
    rw [part00, gate_named, dev_named, scale_named]
    refine tile m c t 0 0 _ 0 0 rfl rfl _ _ (load_weight _ 0 _ rfl _) (load_bias _ 0 _ rfl _) _ _ _ ?_ ?_
    · blk_simp [idx t]
      try omega
    · blk_simp [idx t]
      try omega

end Cert.Kernel7Ideal.Spatial

end
-- ==== Proof.Claims7.lean ====
/-
  The claims about the spatial gating.
-/
module

public import proofs.«01_k».proof.Defs
public import proofs.«01_k».proof.Proof.SpatialFinal
public import Idealize.ShloMosaic.Lib.Quiescent

@[expose] public section

noncomputable section

namespace Cert.Proof.Spatial

open Idealize.ShloMosaic Idealize.ShloMosaic.TcCoe Idealize.SL.Sem

/-- The reference runs and leaves its arguments and its semaphores alone. -/
theorem reference_frame (m : (ℓ : Loc Cert.Reference7Ideal.nD Cert.Reference7Ideal.τ Cert.Reference7Ideal.sig) → Buf (Elt Ideal) ℓ)
    (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩
      (fun r => (∀ c : Dev Cert.Reference7Ideal.nD,
        r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
        ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
        ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
        ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
        ∧ r.2.sem = fun _ => 0) :=
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The kernel's result array and the reference's are the same. -/
theorem algebraic : Cert.algebraic_Kernel7Ideal_Reference7Ideal := by
  intro m ρ m' ρ' _ hagree
  refine ⟨fun c => Cert.Kernel7Ideal.Spatial.result m c, ?_, ?_⟩
  · refine (θ_run Cert.Kernel7Ideal.defs _ _).mono (fun r h c => ⟨(h c).1.trans ?_, (h c).2⟩)
      (Cert.Kernel7Ideal.Value.run_blocks (F := Ideal) m ρ)
    exact Cert.Kernel7Ideal.Spatial.final m c
  · refine (θ_run Cert.Reference7Ideal.defs _ _).mono (fun r h c => ⟨(h c).1.trans ?_, (h c).2⟩)
      (Cert.Reference7Ideal.Value.run (F := Ideal) m' ρ')
    show Cert.Reference7Ideal.Spatial.gated (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)) (m' ((c : Thread Cert.Reference7Ideal.nD Cert.Reference7Ideal.τ).loc Cert.Reference7Ideal.main_arg2)) (m' ((c : Thread Cert.Reference7Ideal.nD Cert.Reference7Ideal.τ).loc Cert.Reference7Ideal.main_arg3)) (m' ((c : Thread Cert.Reference7Ideal.nD Cert.Reference7Ideal.τ).loc Cert.Reference7Ideal.main_arg4)) = _
    rw [(hagree c).1, (hagree c).2.1, (hagree c).2.2.1, (hagree c).2.2.2.1, (hagree c).2.2.2.2]

end Cert.Proof.Spatial

end
-- ==== Proof.HeadNorm.lean ====
/-
  The mLSTM's output arithmetic on extended reals: a head's root mean square and the output gate.
-/
module

public import Idealize.ShloMosaic.Lib.Pointwise

@[expose] public section

noncomputable section

namespace Cert.HeadNorm

open Idealize.ShloMosaic

/-- The output gate. -/
def gate (x : EReal) : EReal :=
  Ideal.div (Ideal.ofBits .f32 0x3F800000#32) (Ideal.ofBits .f32 0x3F800000#32 + Ideal.exp (-x))

/-- One over a head's root mean square. -/
def level (f : Fin 256 → EReal) : EReal :=
  Ideal.rsqrt (Ideal.div (∑ e : Fin 256, f e * f e) (Ideal.ofBits .f32 0x43800000#32) + Ideal.ofBits .f32 0x358637BD#32)

end Cert.HeadNorm

end
-- ==== Proof.HeadsReference.lean ====
/-
  What the reference of the mLSTM's output norm and gate returns, at an index.
-/
module

public import proofs.«01_k».proof.Proof.Gen.Reference8Ideal.Run
public import proofs.«01_k».proof.Proof.HeadNorm
public import Idealize.ShloMosaic.Lib.Pointwise

@[expose] public section

set_option maxRecDepth 16384

noncomputable section

namespace Cert.Reference8Ideal.Heads

open Cert.Reference8Ideal Cert.Reference8Ideal.Gen Cert.HeadNorm Idealize.ShloMosaic Idealize.ShloMosaic.TcCoe Idealize.SL.Sem

/-- Both directions' sum, head by head. -/
def both (A B : FVec Ideal S17408x1024 .f32) : FVec Ideal S17408x4x256 .f32 :=
  shapeCast _ (addf A B) shapeCasts_S17408x1024_S17408x4x256

/-- One over every head's root mean square. -/
def levels (X : FVec Ideal S17408x4x256 .f32) : FVec Ideal S17408x4x1 .f32 :=
  Host.rsqrt (addf (Host.divf (broadcastInDim S17408x4x1 ![0, 1] bcast_S17408x4_S17408x4x1_0_1 (Host.reduceAdd (mulf X X) (constant S_ .f32 0x00000000#32) reducesTo_S17408x4x256_S17408x4_d2 h_S_)) (broadcastInDim S17408x4x1 ![] bcast_S_S17408x4x1 (constant S_ .f32 0x43800000#32))) (broadcastInDim S17408x4x1 ![] bcast_S_S17408x4x1 (constant S_ .f32 0x358637BD#32)))

/-- The heads scaled. -/
def scaled (X : FVec Ideal S17408x4x256 .f32) (Y : FVec Ideal S17408x4x1 .f32) : FVec Ideal S17408x4x256 .f32 :=
  mulf X (broadcastInDim S17408x4x256 ![0, 1, 2] bcast_S17408x4x1_S17408x4x256_0_1_2 Y)

/-- The output gate of the projection's last columns. -/
def gates (P : FVec Ideal S17408x9216 .f32) : FVec Ideal S17408x1024 .f32 :=
  Host.divf (broadcastInDim S17408x1024 ![] bcast_S_S17408x1024 (constant S_ .f32 0x3F800000#32)) (addf (broadcastInDim S17408x1024 ![] bcast_S_S17408x1024 (constant S_ .f32 0x3F800000#32)) (Host.exp (Host.negf (extractStridedSlice S17408x1024 ![0, 8192] P slices_S17408x9216_S17408x1024_0_8192))))

/-- A row at every row. -/
def down (G : FVec Ideal S1024 .f32) : FVec Ideal S17408x1024 .f32 :=
  broadcastInDim S17408x1024 ![0, 1] bcast_S1x1024_S17408x1024_0_1 (broadcastInDim S1x1024 ![1] bcast_S1024_S1x1024_1 G)

/-- The norm, its gain and the gate. -/
def gated (A B : FVec Ideal S17408x1024 .f32) (P : FVec Ideal S17408x9216 .f32) (G : FVec Ideal S1024 .f32) : FVec Ideal S17408x1024 .bf16 :=
  truncf .bf16 (mulf (gates P) (mulf (shapeCast S17408x1024 (scaled (both A B) (levels (both A B))) shapeCasts_S17408x4x256_S17408x1024) (down G))) bitsLt_bf16_f32

theorem both_at (A B : FVec Ideal S17408x1024 .f32) (r : Fin 17408) (h : Fin 4) (d : Fin 256) :
    both A B (ix3 r h d) = A (ix2 r ⟨h.val * 256 + d.val, by omega⟩) + B (ix2 r ⟨h.val * 256 + d.val, by omega⟩) := by
  pointwise [both]

theorem levels_at (X : FVec Ideal S17408x4x256 .f32) (r : Fin 17408) (h : Fin 4) :
    levels X (ix3 r h 0) = level (fun e => X (ix3 r h e)) := by
  pointwise [levels, level]

theorem scaled_at (X : FVec Ideal S17408x4x256 .f32) (Y : FVec Ideal S17408x4x1 .f32) (r : Fin 17408) (h : Fin 4) (d : Fin 256) :
    scaled X Y (ix3 r h d) = X (ix3 r h d) * Y (ix3 r h 0) := by
  pointwise [scaled]

theorem gates_at (P : FVec Ideal S17408x9216 .f32) (r : Fin 17408) (k : Fin 1024) :
    gates P (ix2 r k) = gate (P (ix2 r ⟨8192 + k.val, by omega⟩)) := by
  pointwise [gates, gate]

theorem down_at (G : FVec Ideal S1024 .f32) (r : Fin 17408) (k : Fin 1024) : down G (ix2 r k) = G (ix1 k) := by
  pointwise [down]

/-- A head's row of both directions' sum. -/
def row (A B : FVec Ideal S17408x1024 .f32) (r : Fin 17408) (h : Fin 4) (d : Fin 256) : EReal :=
  A (ix2 r ⟨h.val * 256 + d.val, by omega⟩) + B (ix2 r ⟨h.val * 256 + d.val, by omega⟩)

/-- The reference at row `r`, head `h` and column `d` in it. -/
theorem gated_at (A B : FVec Ideal S17408x1024 .f32) (P : FVec Ideal S17408x9216 .f32) (G : FVec Ideal S1024 .f32)
    (r : Fin 17408) (h : Fin 4) (d : Fin 256) :
    gated A B P G (ix2 r ⟨h.val * 256 + d.val, by omega⟩)
      = gate (P (ix2 r ⟨8192 + (h.val * 256 + d.val), by omega⟩))
        * (row A B r h d * level (row A B r h) * G (ix1 ⟨h.val * 256 + d.val, by omega⟩)) := by
  have flat : ∀ X : FVec Ideal S17408x4x256 .f32, (shapeCast S17408x1024 X shapeCasts_S17408x4x256_S17408x1024 : FVec Ideal S17408x1024 .f32)
      (ix2 r ⟨h.val * 256 + d.val, by omega⟩) = X (ix3 r h d) := by
    intro X
    pointwise
  show gates P _ * ((shapeCast S17408x1024 (scaled (both A B) (levels (both A B))) shapeCasts_S17408x4x256_S17408x1024 : FVec Ideal S17408x1024 .f32) _ * down G _) = _
  rw [flat, scaled_at, levels_at, gates_at, down_at]
  simp only [both_at]
  rfl

end Cert.Reference8Ideal.Heads

end
-- ==== Proof.HeadsFinal.lean ====
/-
  The mLSTM's output norm and gate: every head a step writes is the reference's there.
-/
module

public import proofs.«01_k».proof.Proof.Gen.Kernel8Ideal.Value
public import proofs.«01_k».proof.Proof.HeadsReference
public import Idealize.ShloMosaic.Lib.Pipeline.ValueKit
public import Idealize.ShloMosaic.Lib.Claim

@[expose] public section

set_option maxRecDepth 16384

noncomputable section

namespace Cert.Kernel8Ideal.Heads

open Cert.Kernel8Ideal Cert.Kernel8Ideal.Gen Cert.HeadNorm Idealize.ShloMosaic Idealize.ShloMosaic.TcCoe
open Idealize.SL.Sem
open Idealize.ShloMosaic.Pipeline (Dat)

/-! ## The step -/

/-- One over a block's rows' root mean squares. -/
def levels (X : FVec Ideal S256x256 .f32) : FVec Ideal S256x1 .f32 :=
  rsqrt (addf (divf (shapeCast S256x1 (multiReduction .add [1] S256 (mulf X X) 0x00000000#32 reduces_S256x256_S256 (.inl rfl) rfl : FVec Ideal S256 .f32) shapeCasts_S256_S256x1 : FVec Ideal S256x1 .f32)
    (broadcast S256x1 (Scalar.ofBits .f32 0x43800000#32))) (broadcast S256x1 (Scalar.ofBits .f32 0x358637BD#32)))

/-- The output gate of a block. -/
def gates (p : FVec Ideal S256x256 .f32) : FVec Ideal S256x256 .f32 :=
  divf (broadcast S256x256 (Scalar.ofBits .f32 0x3F800000#32))
    (addf (broadcast S256x256 (Scalar.ofBits .f32 0x3F800000#32)) (exp (subf (broadcast S256x256 (Scalar.ofBits .f32 0x00000000#32)) p)))

/-- A head of both directions' sum `x`, its gain `g` and its gate's columns `p`. -/
def head (x : FVec Ideal S256x256 .f32) (l : FVec Ideal S256x1 .f32) (g : Vec Ideal S1x256 .f32) (p : Vec Ideal S256x256 .f32) : FVec Ideal S256x256 .bf16 :=
  truncf .bf16 (mulf (gates p) (mulf (mulf x (broadcastTo S256x256 l broadcasts_S256x1_S256x256))
    (broadcastTo S256x256 (shapeCast S1x256 g shapeCasts_S1x256_S1x256 : FVec Ideal S1x256 .f32) broadcasts_S1x256_S256x256))) bitsLt_bf16_f32

theorem levels_at (X : FVec Ideal S256x256 .f32) (r : Fin 256) : levels X (ix2 r 0) = level (fun e => X (ix2 r e)) := by
  pointwise [levels, level]

theorem gates_at (p : FVec Ideal S256x256 .f32) (r d : Fin 256) : gates p (ix2 r d) = gate (p (ix2 r d)) := by
  unfold gate
  rw [← zero_sub]
  pointwise [gates]

theorem head_at (x : FVec Ideal S256x256 .f32) (l : FVec Ideal S256x1 .f32) (g : Vec Ideal S1x256 .f32) (p : Vec Ideal S256x256 .f32) (r d : Fin 256) :
    head x l g p (ix2 r d) = gate (p (ix2 r d)) * (x (ix2 r d) * l (ix2 r 0) * g (ix2 0 d)) := by
  rw [← gates_at]
  pointwise [head]

/-- The same from both directions. -/
abbrev whole (a b : Vec Ideal S256x256 .f32) (g : Vec Ideal S1x256 .f32) (p : Vec Ideal S256x256 .f32) : FVec Ideal S256x256 .bf16 :=
  head (addf a b) (levels (addf a b)) g p

/-! What each store holds. -/

theorem head0 (a b : Vec Ideal S256x256 .f32) (g : Vec Ideal S1x256 .f32) (p : Vec Ideal S256x256 .f32) :
    k0_pay1 a b g p = whole a b g p := rfl

theorem head1 (a b : Vec Ideal S256x256 .f32) (g : Vec Ideal S1x256 .f32) (p : Vec Ideal S256x256 .f32) :
    k0_pay4 (k0_pay2 a b) (k0_pay3 a b) g p = whole a b g p := rfl

theorem head2 (a b : Vec Ideal S256x256 .f32) (g : Vec Ideal S1x256 .f32) (p : Vec Ideal S256x256 .f32) :
    k0_pay6 (k0_pay5 a b g) p = whole a b g p := rfl

theorem head3 (a b : Vec Ideal S256x256 .f32) (g : Vec Ideal S1x256 .f32) (p : Vec Ideal S256x256 .f32) :
    k0_pay7 a b g p = whole a b g p := rfl

theorem whole_at (a b : Vec Ideal S256x256 .f32) (g : Vec Ideal S1x256 .f32) (p : Vec Ideal S256x256 .f32) (r d : Fin 256) :
    whole a b g p (ix2 r d)
      = gate (p (ix2 r d)) * ((a (ix2 r d) + b (ix2 r d)) * level (fun e => a (ix2 r e) + b (ix2 r e)) * g (ix2 0 d)) := by
  unfold whole
  rw [head_at, levels_at]
  rfl

/-! ## The prepared array and the blocks -/

/-- The gain as the call takes it. -/
def rowA (G : FVec Ideal S1024 .f32) : FVec Ideal S1x1024 .f32 := shapeCast S1x1024 G shapeCasts_S1024_S1x1024

theorem rowA_at (G : FVec Ideal S1024 .f32) (k : Fin 1024) : rowA G (ix2 0 k) = G (ix1 k) := by
  pointwise [rowA]

/-- Where each step's blocks lie. -/
theorem idx : ∀ t : Fin cfg0.N, win0_0.index t = ![t.val, 0] ∧ win0_1.index t = ![t.val, 0] ∧ win0_2.index t = ![t.val, 8]
    ∧ win0_3.index t = ![0, 0] ∧ win0_4.index t = ![t.val, 0] ∧ t.val < 68 :=
  (by decide +kernel : ∀ t : Fin grid0.N, _)

variable (m : (ℓ : Loc nD τ sig) → Buf (Elt Ideal) ℓ) (c : Dev nD)

theorem V_gain : V m c main_v0 = rowA (m ((c : Thread nD τ).loc main_arg3)) := by
  entry_read; rfl

/-- One direction's block at an index. -/
theorem first_block (t : Fin cfg0.N) (r : Fin 256) (k : Fin 1024) (R : Fin 17408) (hR : R.val = t.val * 256 + r.val) :
    (iblk m c 0 t : Vec Ideal S256x1024 .f32) (ix2 r k) = (m ((c : Thread nD τ).loc main_arg0) : FVec Ideal S17408x1024 .f32) (ix2 R k) := by
  have h : (((cfg0.win 0).blk t).view.emb (ix2 r k) : S17408x1024.Idx) = ix2 R k := by blk_ext [idx t]
  unfold iblk
  rw [View.read_apply, cast_eq]
  exact (congrFun (V_main_arg0 m c) _).trans (congrArg _ h)

/-- The other direction's. -/
theorem second_block (t : Fin cfg0.N) (r : Fin 256) (k : Fin 1024) (R : Fin 17408) (hR : R.val = t.val * 256 + r.val) :
    (iblk m c 1 t : Vec Ideal S256x1024 .f32) (ix2 r k) = (m ((c : Thread nD τ).loc main_arg1) : FVec Ideal S17408x1024 .f32) (ix2 R k) := by
  have h : (((cfg0.win 1).blk t).view.emb (ix2 r k) : S17408x1024.Idx) = ix2 R k := by blk_ext [idx t]
  unfold iblk
  rw [View.read_apply, cast_eq]
  exact (congrFun (V_main_arg1 m c) _).trans (congrArg _ h)

/-- The gate's columns' block at an index. -/
theorem gate_block (t : Fin cfg0.N) (r : Fin 256) (k : Fin 1024) (R : Fin 17408) (C : Fin 9216) (hR : R.val = t.val * 256 + r.val) (hC : C.val = 8192 + k.val) :
    (iblk m c 2 t : Vec Ideal S256x1024 .f32) (ix2 r k) = (m ((c : Thread nD τ).loc main_arg2) : FVec Ideal S17408x9216 .f32) (ix2 R C) := by
  have h : (((cfg0.win 2).blk t).view.emb (ix2 r k) : S17408x9216.Idx) = ix2 R C := by blk_ext [idx t]
  unfold iblk
  rw [View.read_apply, cast_eq]
  exact (congrFun (V_main_arg2 m c) _).trans (congrArg _ h)

/-- The gain's block at an index. -/
theorem gain_block (t : Fin cfg0.N) (k : Fin 1024) :
    (iblk m c 3 t : Vec Ideal S1x1024 .f32) (ix2 0 k) = (m ((c : Thread nD τ).loc main_arg3) : FVec Ideal S1024 .f32) (ix1 k) := by
  have h : (((cfg0.win 3).blk t).view.emb (ix2 0 k) : S1x1024.Idx) = ix2 0 k := by blk_ext [idx t]
  unfold iblk
  rw [View.read_apply, cast_eq]
  exact (congrFun (V_gain m c) _).trans ((congrArg _ h).trans (rowA_at _ k))

/-- A head's columns of a block are a load. -/
theorem load_block (B : Vec Ideal S256x1024 .f32) (h : Fin 4) (o : ℕ) (ho : o = h.val * 256)
    (inb : ∀ a, (![0, o] : Fin 2 → ℕ) a + (![256, 256] : Fin 2 → ℕ) a ≤ S256x1024.size a) (r d : Fin 256) :
    View.ld B (Rect.unit ![0, o] ![256, 256] inb) (ix2 r d) = B (ix2 r ⟨h.val * 256 + d.val, by omega⟩) := by
  subst ho
  refine (View.ld_apply _ _ _).trans (congrArg B ?_)
  funext a
  fin_cases a <;> exact Fin.ext (by simp)

/-- A head's columns of the gain are a load. -/
theorem load_row (B : Vec Ideal S1x1024 .f32) (h : Fin 4) (o : ℕ) (ho : o = h.val * 256)
    (inb : ∀ a, (![0, o] : Fin 2 → ℕ) a + (![1, 256] : Fin 2 → ℕ) a ≤ S1x1024.size a) (d : Fin 256) :
    View.ld B (Rect.unit ![0, o] ![1, 256] inb) (ix2 0 d) = B (ix2 0 ⟨h.val * 256 + d.val, by omega⟩) := by
  subst ho
  refine (View.ld_apply _ _ _).trans (congrArg B ?_)
  funext a
  fin_cases a <;> exact Fin.ext (by simp)

/-! ## The result array -/

/-- The reference's norm and gate of the launch arrays. -/
abbrev result : FVec Ideal S17408x1024 .bf16 :=
  Cert.Reference8Ideal.Heads.gated (m ((c : Thread nD τ).loc main_arg0)) (m ((c : Thread nD τ).loc main_arg1)) (m ((c : Thread nD τ).loc main_arg2))
    (m ((c : Thread nD τ).loc main_arg3))

/-- Head `h` of a step. -/
theorem tile (t : Fin cfg0.N) (h : Fin 4) (a b p : Vec Ideal S256x256 .f32) (g : Vec Ideal S1x256 .f32)
    (ha : ∀ r d : Fin 256, a (ix2 r d) = (iblk m c 0 t : Vec Ideal S256x1024 .f32) (ix2 r ⟨h.val * 256 + d.val, by omega⟩))
    (hb : ∀ r d : Fin 256, b (ix2 r d) = (iblk m c 1 t : Vec Ideal S256x1024 .f32) (ix2 r ⟨h.val * 256 + d.val, by omega⟩))
    (hp : ∀ r d : Fin 256, p (ix2 r d) = (iblk m c 2 t : Vec Ideal S256x1024 .f32) (ix2 r ⟨h.val * 256 + d.val, by omega⟩))
    (hg : ∀ d : Fin 256, g (ix2 0 d) = (iblk m c 3 t : Vec Ideal S1x1024 .f32) (ix2 0 ⟨h.val * 256 + d.val, by omega⟩))
    (r d : Fin 256) (J : S17408x1024.Idx) (h0 : (J 0).val = t.val * 256 + r.val) (h1 : (J 1).val = h.val * 256 + d.val) :
    whole a b g p (ix2 r d) = result m c J := by
  have ht := (idx t).2.2.2.2.2
  have hJ : J = ix2 (⟨t.val * 256 + r.val, by omega⟩ : Fin 17408) (⟨h.val * 256 + d.val, by omega⟩ : Fin 1024) := by
    funext x
    fin_cases x
    · exact Fin.ext h0
    · exact Fin.ext h1
  have hrow : ∀ e : Fin 256, a (ix2 r e) + b (ix2 r e)
      = Cert.Reference8Ideal.Heads.row (m ((c : Thread nD τ).loc main_arg0)) (m ((c : Thread nD τ).loc main_arg1)) ⟨t.val * 256 + r.val, by omega⟩ h e := by
    intro e
    rw [ha, hb, first_block m c t r _ ⟨t.val * 256 + r.val, by omega⟩ rfl, second_block m c t r _ ⟨t.val * 256 + r.val, by omega⟩ rfl]
    rfl
  rw [hJ, whole_at]
  refine Eq.trans ?_ (Cert.Reference8Ideal.Heads.gated_at _ _ _ _ _ _ _).symm
  simp only [hrow]
  rw [hp, hg, gain_block, gate_block m c t r _ ⟨t.val * 256 + r.val, by omega⟩ ⟨8192 + (h.val * 256 + d.val), by omega⟩ rfl rfl]

set_option maxHeartbeats 1000000 in
/-- **The result array of the mLSTM's output norm and gate is the reference's.** -/
theorem final : (dats m 0 c).arrAt 4 cfg0.N = result m c := by
  refine (dats m 0 c).arrAt_eq_of_covers 4 _ (by decide +kernel) fun t _ y => ?_
  blk_simp
  rw [after0_4]
  frame_out
  canon_tiles x h
  case piece0 =>
    idx_vars x
    rw [head3]
    refine tile m c t 3 _ _ _ _ (load_block _ 3 _ rfl _) (load_block _ 3 _ rfl _) (load_block _ 3 _ rfl _) (load_row _ 3 _ rfl _) _ _ _ ?_ ?_
    · blk_simp [idx t]
      try omega
    · blk_simp [idx t]
      try omega
  case piece1 =>
    idx_vars x
    rw [head2]
    refine tile m c t 2 _ _ _ _ (load_block _ 2 _ rfl _) (load_block _ 2 _ rfl _) (load_block _ 2 _ rfl _) (load_row _ 2 _ rfl _) _ _ _ ?_ ?_
    · blk_simp [idx t]
      try omega
    · blk_simp [idx t]
      try omega
  case piece2 =>
    idx_vars x
    rw [head1]
    refine tile m c t 1 _ _ _ _ (load_block _ 1 _ rfl _) (load_block _ 1 _ rfl _) (load_block _ 1 _ rfl _) (load_row _ 1 _ rfl _) _ _ _ ?_ ?_
    · blk_simp [idx t]
      try omega
    · blk_simp [idx t]
      try omega
  case piece3 =>
    idx_vars x
    rw [head0]
    refine tile m c t 0 _ _ _ _ (load_block _ 0 _ rfl _) (load_block _ 0 _ rfl _) (load_block _ 0 _ rfl _) (load_row _ 0 _ rfl _) _ _ _ ?_ ?_
    · blk_simp [idx t]
      try omega
    · blk_simp [idx t]
      try omega

end Cert.Kernel8Ideal.Heads

end
-- ==== Proof.Claims8.lean ====
/-
  The claims about the mLSTM's output norm and gate.
-/
module

public import proofs.«01_k».proof.Defs
public import proofs.«01_k».proof.Proof.HeadsFinal
public import Idealize.ShloMosaic.Lib.Quiescent

@[expose] public section

noncomputable section

namespace Cert.Proof.Heads

open Idealize.ShloMosaic Idealize.ShloMosaic.TcCoe Idealize.SL.Sem

/-- The reference runs and leaves its arguments and its semaphores alone. -/
theorem reference_frame (m : (ℓ : Loc Cert.Reference8Ideal.nD Cert.Reference8Ideal.τ Cert.Reference8Ideal.sig) → Buf (Elt Ideal) ℓ)
    (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩
      (fun r => (∀ c : Dev Cert.Reference8Ideal.nD,
        r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
        ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
        ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
        ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
        ∧ r.2.sem = fun _ => 0) :=
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The kernel's result array and the reference's are the same. -/
theorem algebraic : Cert.algebraic_Kernel8Ideal_Reference8Ideal := by
  intro m ρ m' ρ' _ hagree
  refine ⟨fun c => Cert.Kernel8Ideal.Heads.result m c, ?_, ?_⟩
  · refine (θ_run Cert.Kernel8Ideal.defs _ _).mono (fun r h c => ⟨(h c).1.trans ?_, (h c).2⟩)
      (Cert.Kernel8Ideal.Value.run_blocks (F := Ideal) m ρ)
    exact Cert.Kernel8Ideal.Heads.final m c
  · refine (θ_run Cert.Reference8Ideal.defs _ _).mono (fun r h c => ⟨(h c).1.trans ?_, (h c).2⟩)
      (Cert.Reference8Ideal.Value.run (F := Ideal) m' ρ')
    show Cert.Reference8Ideal.Heads.gated (m' ((c : Thread Cert.Reference8Ideal.nD Cert.Reference8Ideal.τ).loc Cert.Reference8Ideal.main_arg0)) (m' ((c : Thread Cert.Reference8Ideal.nD Cert.Reference8Ideal.τ).loc Cert.Reference8Ideal.main_arg1)) (m' ((c : Thread Cert.Reference8Ideal.nD Cert.Reference8Ideal.τ).loc Cert.Reference8Ideal.main_arg2)) (m' ((c : Thread Cert.Reference8Ideal.nD Cert.Reference8Ideal.τ).loc Cert.Reference8Ideal.main_arg3)) = _
    rw [(hagree c).1, (hagree c).2.1, (hagree c).2.2.1, (hagree c).2.2.2]

end Cert.Proof.Heads

end
-- ==== Proof.ModReference.lean ====
/-
  What the reference of the modulation vectors returns, at an index.
-/
module

public import proofs.«01_k».proof.Proof.Gen.Reference9Ideal.Run
public import proofs.«01_k».proof.Proof.HeadNorm
public import Idealize.ShloMosaic.Lib.Pointwise

@[expose] public section

set_option maxRecDepth 16384

noncomputable section

namespace Cert.Reference9Ideal.Mod

open Cert.Reference9Ideal Cert.Reference9Ideal.Gen Cert.HeadNorm Idealize.ShloMosaic Idealize.ShloMosaic.TcCoe Idealize.SL.Sem

/-- The samples' rows, the context's row and zero rows. -/
def joined (C : FVec Ideal S4x4096 .f32) (D : FVec Ideal S4096 .f32) : FVec Ideal S8x4096 .f32 :=
  concatenate S8x4096 0 [⟨S5x4096, concatenate S5x4096 0 [⟨S4x4096, C⟩, ⟨S1x4096, broadcastInDim S1x4096 ![1] bcast_S4096_S1x4096_1 D⟩] concatenates_S4x4096_S1x4096_S5x4096_d0⟩, ⟨S3x4096, broadcastInDim S3x4096 ![] bcast_S_S3x4096 (constant S_ .f32 0x00000000#32)⟩] concatenates_S5x4096_S3x4096_S8x4096_d0

/-- The rows times their sigmoid. -/
def bent (X : FVec Ideal S8x4096 .f32) : FVec Ideal S8x4096 .f32 :=
  mulf X (Host.divf (broadcastInDim S8x4096 ![] bcast_S_S8x4096 (constant S_ .f32 0x3F800000#32)) (addf (broadcastInDim S8x4096 ![] bcast_S_S8x4096 (constant S_ .f32 0x3F800000#32)) (Host.exp (Host.negf X))))

/-- Rows times every layer's weight, plus its bias. -/
def mapped (X : FVec Ideal S8x4096 .f32) (W : FVec Ideal S2x4096x24576 .f32) (B : FVec Ideal S2x24576 .f32) : FVec Ideal S2x8x24576 .f32 :=
  addf (transpose S2x8x24576 [0, 2, 1] (Host.dotGeneral dot_S2x4096x24576_S8x4096_S2x24576x8_1_1_02_0_n_n none W X) transposes_S2x24576x8_S2x8x24576_0_2_1) (broadcastInDim S2x8x24576 ![0, 1, 2] bcast_S2x1x24576_S2x8x24576_0_1_2 (broadcastInDim S2x1x24576 ![0, 2] bcast_S2x24576_S2x1x24576_0_2 B))

/-- The modulation vectors of every layer. -/
def vectors (C : FVec Ideal S4x4096 .f32) (D : FVec Ideal S4096 .f32) (W : FVec Ideal S2x4096x24576 .f32) (B : FVec Ideal S2x24576 .f32) :
    FVec Ideal S2x8x24576 .f32 := mapped (bent (joined C D)) W B

theorem bent_at (X : FVec Ideal S8x4096 .f32) (i : Fin 8) (e : Fin 4096) : bent X (ix2 i e) = X (ix2 i e) * gate (X (ix2 i e)) := by
  pointwise [bent, gate]

theorem mapped_at (X : FVec Ideal S8x4096 .f32) (W : FVec Ideal S2x4096x24576 .f32) (B : FVec Ideal S2x24576 .f32)
    (l : Fin 2) (i : Fin 8) (k : Fin 24576) :
    mapped X W B (ix3 l i k) = (∑ e : Fin 4096, W (ix3 l e k) * X (ix2 i e)) + B (ix2 l k) := by
  pointwise [mapped]

theorem vectors_at (C : FVec Ideal S4x4096 .f32) (D : FVec Ideal S4096 .f32) (W : FVec Ideal S2x4096x24576 .f32) (B : FVec Ideal S2x24576 .f32)
    (l : Fin 2) (i : Fin 8) (k : Fin 24576) :
    vectors C D W B (ix3 l i k)
      = (∑ e : Fin 4096, (joined C D (ix2 i e) * gate (joined C D (ix2 i e))) * W (ix3 l e k)) + B (ix2 l k) := by
  unfold vectors
  rw [mapped_at]
  simp only [bent_at]
  exact congrArg (· + _) (Finset.sum_congr rfl fun e _ => mul_comm _ _)

end Cert.Reference9Ideal.Mod

end
-- ==== Proof.ModVectors.lean ====
/-
  The modulation vectors: every block a step writes is the reference's there.
-/
module

public import proofs.«01_k».proof.Proof.Gen.Kernel9Ideal.Value
public import proofs.«01_k».proof.Proof.ModReference
public import Idealize.ShloMosaic.Lib.Pipeline.ValueKit
public import Idealize.ShloMosaic.Lib.Claim

@[expose] public section

set_option maxRecDepth 16384

noncomputable section

namespace Cert.Kernel9Ideal.Mod

open Cert.Kernel9Ideal Cert.Kernel9Ideal.Gen Cert.HeadNorm Idealize.ShloMosaic Idealize.ShloMosaic.TcCoe
open Idealize.SL.Sem
open Idealize.ShloMosaic.Pipeline (Dat)
open Cert.Reference9Ideal.Mod (joined)

/-! ## The step -/

/-- The rows times their sigmoid. -/
def bent (X : FVec Ideal S8x4096 .f32) : FVec Ideal S8x4096 .f32 :=
  mulf X (divf (broadcast S8x4096 (Scalar.ofBits .f32 0x3F800000#32))
    (addf (broadcast S8x4096 (Scalar.ofBits .f32 0x3F800000#32)) (exp (subf (broadcast S8x4096 (Scalar.ofBits .f32 0x00000000#32)) X))))

/-- Rows times a block of the weight, plus the bias. -/
def mapped (X : FVec Ideal S8x4096 .f32) (w : Vec Ideal S1x4096x512 .f32) (b : Vec Ideal S1x1x512 .f32) : FVec Ideal S8x512 .f32 :=
  addf (matmul dot_S8x4096_S4096x512_S8x512_1_0_0_1_n_n none (truncf .bf16 X bitsLt_bf16_f32)
      (truncf .bf16 (shapeCast S4096x512 w shapeCasts_S1x4096x512_S4096x512 : FVec Ideal S4096x512 .f32) bitsLt_bf16_f32) (constant S8x512 .f32 0x00000000#32))
    (broadcastTo S8x512 (shapeCast S1x512 b shapeCasts_S1x1x512_S1x512 : FVec Ideal S1x512 .f32) broadcasts_S1x512_S8x512)

theorem bent_at (X : FVec Ideal S8x4096 .f32) (i : Fin 8) (e : Fin 4096) : bent X (ix2 i e) = X (ix2 i e) * gate (X (ix2 i e)) := by
  unfold gate
  rw [← zero_sub]
  pointwise [bent]

theorem mapped_at (X : FVec Ideal S8x4096 .f32) (w : Vec Ideal S1x4096x512 .f32) (b : Vec Ideal S1x1x512 .f32) (i : Fin 8) (j : Fin 512) :
    mapped X w b (ix2 i j) = (∑ e : Fin 4096, X (ix2 i e) * w (ix3 0 e j)) + b (ix3 0 0 j) := by
  pointwise [mapped]

/-- A block as it is read. -/
def seen (x : Vec Ideal S8x4096 .f32) : FVec Ideal S8x4096 .f32 := shapeCast S8x4096 x shapeCasts_S8x4096_S8x4096

theorem seen_at (x : Vec Ideal S8x4096 .f32) (i : Fin 8) (e : Fin 4096) : seen x (ix2 i e) = x (ix2 i e) := by
  pointwise [seen]

theorem pay_at (x : Vec Ideal S8x4096 .f32) (w : Vec Ideal S1x4096x512 .f32) (b : Vec Ideal S1x1x512 .f32) (i : Fin 8) (j : Fin 512) :
    k0_pay1 x w b (ix3 0 i j) = (∑ e : Fin 4096, (x (ix2 i e) * gate (x (ix2 i e))) * w (ix3 0 e j)) + b (ix3 0 0 j) := by
  have h : k0_pay1 x w b (ix3 0 i j) = mapped (bent (seen x)) w b (ix2 i j) := by
    show (shapeCast S1x8x512 (mapped (bent (seen x)) w b) shapeCasts_S8x512_S1x8x512 : FVec Ideal S1x8x512 .f32) (ix3 0 i j) = _
    pointwise
  rw [h, mapped_at]
  simp only [bent_at, seen_at]

/-! ## The prepared arrays and the blocks -/

/-- The biases as the call takes them. -/
def biasB (B : FVec Ideal S2x24576 .f32) : FVec Ideal S2x1x24576 .f32 := shapeCast S2x1x24576 B shapeCasts_S2x24576_S2x1x24576

theorem biasB_at (B : FVec Ideal S2x24576 .f32) (l : Fin 2) (k : Fin 24576) : biasB B (ix3 l 0 k) = B (ix2 l k) := by
  pointwise [biasB]

/-- Where each step's blocks lie. -/
theorem idx : ∀ t : Fin cfg0.N, win0_0.index t = ![0, 0] ∧ win0_1.index t = ![t.val / 48, 0, t.val % 48]
    ∧ win0_2.index t = ![t.val / 48, 0, t.val % 48] ∧ win0_3.index t = ![t.val / 48, 0, t.val % 48] ∧ t.val < 96 :=
  (by decide +kernel : ∀ t : Fin grid0.N, _)

variable (m : (ℓ : Loc nD τ sig) → Buf (Elt Ideal) ℓ) (c : Dev nD)

theorem V_rows : V m c main_v3 = joined (m ((c : Thread nD τ).loc main_arg0)) (m ((c : Thread nD τ).loc main_arg1)) := by
  entry_read; rfl

theorem V_bias : V m c main_v4 = biasB (m ((c : Thread nD τ).loc main_arg3)) := by
  entry_read; rfl

/-- The joined rows' block at an index. -/
theorem rows_block (t : Fin cfg0.N) (i : Fin 8) (e : Fin 4096) :
    (iblk m c 0 t : Vec Ideal S8x4096 .f32) (ix2 i e)
      = joined (m ((c : Thread nD τ).loc main_arg0)) (m ((c : Thread nD τ).loc main_arg1)) (ix2 i e) := by
  have h : (((cfg0.win 0).blk t).view.emb (ix2 i e) : S8x4096.Idx) = ix2 i e := by blk_ext [idx t]
  unfold iblk
  rw [View.read_apply, cast_eq]
  exact (congrFun (V_rows m c) _).trans (congrArg _ h)

/-- The weight's block at an index. -/
theorem weight_block (t : Fin cfg0.N) (e : Fin 4096) (j : Fin 512) (l : Fin 2) (K : Fin 24576) (hl : l.val = t.val / 48) (hK : K.val = t.val % 48 * 512 + j.val) :
    (iblk m c 1 t : Vec Ideal S1x4096x512 .f32) (ix3 0 e j) = (m ((c : Thread nD τ).loc main_arg2) : FVec Ideal S2x4096x24576 .f32) (ix3 l e K) := by
  have h : (((cfg0.win 1).blk t).view.emb (ix3 0 e j) : S2x4096x24576.Idx) = ix3 l e K := by blk_ext [idx t]
  unfold iblk
  rw [View.read_apply, cast_eq]
  exact (congrFun (V_main_arg2 m c) _).trans (congrArg _ h)

/-- The bias's block at an index. -/
theorem bias_block (t : Fin cfg0.N) (j : Fin 512) (l : Fin 2) (K : Fin 24576) (hl : l.val = t.val / 48) (hK : K.val = t.val % 48 * 512 + j.val) :
    (iblk m c 2 t : Vec Ideal S1x1x512 .f32) (ix3 0 0 j) = (m ((c : Thread nD τ).loc main_arg3) : FVec Ideal S2x24576 .f32) (ix2 l K) := by
  have h : (((cfg0.win 2).blk t).view.emb (ix3 0 0 j) : S2x1x24576.Idx) = ix3 l 0 K := by blk_ext [idx t]
  unfold iblk
  rw [View.read_apply, cast_eq]
  exact (congrFun (V_bias m c) _).trans ((congrArg _ h).trans (biasB_at _ l K))

/-- The reference's vectors of the launch arrays. -/
abbrev result : FVec Ideal S2x8x24576 .f32 :=
  Cert.Reference9Ideal.Mod.vectors (m ((c : Thread nD τ).loc main_arg0)) (m ((c : Thread nD τ).loc main_arg1)) (m ((c : Thread nD τ).loc main_arg2))
    (m ((c : Thread nD τ).loc main_arg3))

theorem tile (t : Fin cfg0.N) (i : Fin 8) (j : Fin 512) (J : S2x8x24576.Idx)
    (h0 : (J 0).val = t.val / 48) (h1 : (J 1).val = i.val) (h2 : (J 2).val = t.val % 48 * 512 + j.val) :
    k0_pay1 (iblk m c 0 t : Vec Ideal S8x4096 .f32) (iblk m c 1 t : Vec Ideal S1x4096x512 .f32)
      (iblk m c 2 t : Vec Ideal S1x1x512 .f32) (ix3 0 i j) = result m c J := by
  have ht := (idx t).2.2.2.2
  have hJ : J = ix3 (⟨t.val / 48, by omega⟩ : Fin 2) i (⟨t.val % 48 * 512 + j.val, by omega⟩ : Fin 24576) := by
    funext x
    fin_cases x
    · exact Fin.ext h0
    · exact Fin.ext h1
    · exact Fin.ext h2
  rw [hJ, pay_at]
  refine Eq.trans ?_ (Cert.Reference9Ideal.Mod.vectors_at _ _ _ _ _ _ _).symm
  rw [bias_block m c t j ⟨t.val / 48, by omega⟩ ⟨t.val % 48 * 512 + j.val, by omega⟩ rfl rfl]
  refine congrArg (· + _) (Finset.sum_congr rfl fun e _ => ?_)
  rw [rows_block, weight_block m c t e j ⟨t.val / 48, by omega⟩ ⟨t.val % 48 * 512 + j.val, by omega⟩ rfl rfl]

/-- **The modulation vectors' result array is the reference's.** -/
theorem final : (dats m 0 c).arrAt 3 cfg0.N = result m c := by
  refine (dats m 0 c).arrAt_eq_of_covers 3 _ (by decide +kernel) fun t _ y => ?_
  blk_simp
  rw [after0_3]
  frame_out
  idx_vars y
  obtain rfl : y0 = 0 := Subsingleton.elim _ _
  refine tile m c t y1 y2 _ ?_ ?_ ?_
  · blk_simp [idx t]
    try rfl
  · blk_simp [idx t]
  · blk_simp [idx t]

end Cert.Kernel9Ideal.Mod

end
-- ==== Proof.Claims9.lean ====
/-
  The claims about the modulation vectors.
-/
module

public import proofs.«01_k».proof.Defs
public import proofs.«01_k».proof.Proof.ModVectors
public import Idealize.ShloMosaic.Lib.Quiescent

@[expose] public section

noncomputable section

namespace Cert.Proof.Mod

open Idealize.ShloMosaic Idealize.ShloMosaic.TcCoe Idealize.SL.Sem

/-- The reference runs and leaves its arguments and its semaphores alone. -/
theorem reference_frame (m : (ℓ : Loc Cert.Reference9Ideal.nD Cert.Reference9Ideal.τ Cert.Reference9Ideal.sig) → Buf (Elt Ideal) ℓ)
    (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩
      (fun r => (∀ c : Dev Cert.Reference9Ideal.nD,
        r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
        ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
        ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
        ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
        ∧ r.2.sem = fun _ => 0) :=
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- The kernel's result array and the reference's are the same. -/
theorem algebraic : Cert.algebraic_Kernel9Ideal_Reference9Ideal := by
  intro m ρ m' ρ' _ hagree
  refine ⟨fun c => Cert.Kernel9Ideal.Mod.result m c, ?_, ?_⟩
  · refine (θ_run Cert.Kernel9Ideal.defs _ _).mono (fun r h c => ⟨(h c).1.trans ?_, (h c).2⟩)
      (Cert.Kernel9Ideal.Value.run_blocks (F := Ideal) m ρ)
    exact Cert.Kernel9Ideal.Mod.final m c
  · refine (θ_run Cert.Reference9Ideal.defs _ _).mono (fun r h c => ⟨(h c).1.trans ?_, (h c).2⟩)
      (Cert.Reference9Ideal.Value.run (F := Ideal) m' ρ')
    show Cert.Reference9Ideal.Mod.vectors (m' ((c : Thread Cert.Reference9Ideal.nD Cert.Reference9Ideal.τ).loc Cert.Reference9Ideal.main_arg0)) (m' ((c : Thread Cert.Reference9Ideal.nD Cert.Reference9Ideal.τ).loc Cert.Reference9Ideal.main_arg1)) (m' ((c : Thread Cert.Reference9Ideal.nD Cert.Reference9Ideal.τ).loc Cert.Reference9Ideal.main_arg2)) (m' ((c : Thread Cert.Reference9Ideal.nD Cert.Reference9Ideal.τ).loc Cert.Reference9Ideal.main_arg3)) = _
    rw [(hagree c).1, (hagree c).2.1, (hagree c).2.2.1, (hagree c).2.2.2]

end Cert.Proof.Mod

end
-- ==== Proof.RowNorm.lean ====
/-
  A long row's layer norm and its modulation, on extended reals.
-/
module

public import Idealize.ShloMosaic.Lib.Pointwise

@[expose] public section

noncomputable section

namespace Cert.RowNorm

open Idealize.ShloMosaic

/-- An entry less the row's mean. -/
def dev (f : Fin 4096 → EReal) (k : Fin 4096) : EReal := f k - Ideal.div (∑ e : Fin 4096, f e) (Ideal.ofBits .f32 0x45800000#32)

/-- One over the standard deviation of a row of deviations. -/
def level (f : Fin 4096 → EReal) : EReal :=
  Ideal.rsqrt (Ideal.div (∑ e : Fin 4096, f e * f e) (Ideal.ofBits .f32 0x45800000#32) + Ideal.ofBits .f32 0x358637BD#32)

/-- The row normalised, with a scale and a shift. -/
def modulated (f s d : Fin 4096 → EReal) (k : Fin 4096) : EReal :=
  dev f k * level (dev f) * (Ideal.ofBits .f32 0x3F800000#32 + s k) + d k

end Cert.RowNorm

end
-- ==== Proof.NormReference.lean ====
/-
  What the reference of the first layer norm and its modulation returns, at an index.
-/
module

public import proofs.«01_k».proof.Proof.Gen.Reference10Ideal.Run
public import proofs.«01_k».proof.Proof.RowNorm
public import Idealize.ShloMosaic.Lib.Pointwise

@[expose] public section

set_option maxRecDepth 16384

noncomputable section

namespace Cert.Reference10Ideal.Norm

open Cert.Reference10Ideal Cert.Reference10Ideal.Gen Cert.RowNorm Idealize.ShloMosaic Idealize.ShloMosaic.TcCoe Idealize.SL.Sem

/-! ## The latent rows -/

/-- Every row's mean, as a column. -/
def meanL (X : FVec Ideal S4x4096x4096 .f32) : FVec Ideal S4x4096x1 .f32 :=
  Host.divf (broadcastInDim S4x4096x1 ![0, 1] bcast_S4x4096_S4x4096x1_0_1 (Host.reduceAdd X (constant S_ .f32 0x00000000#32) reducesTo_S4x4096x4096_S4x4096_d2 h_S_)) (broadcastInDim S4x4096x1 ![] bcast_S_S4x4096x1 (constant S_ .f32 0x45800000#32))

/-- A column along every row. -/
def alongL (X : FVec Ideal S4x4096x1 .f32) : FVec Ideal S4x4096x4096 .f32 :=
  broadcastInDim S4x4096x4096 ![0, 1, 2] bcast_S4x4096x1_S4x4096x4096_0_1_2 X

/-- Rows less their means. -/
def centredL (X : FVec Ideal S4x4096x4096 .f32) : FVec Ideal S4x4096x4096 .f32 := subf X (alongL (meanL X))

/-- One over the standard deviation of rows of deviations. -/
def spreadL (X : FVec Ideal S4x4096x4096 .f32) : FVec Ideal S4x4096x1 .f32 :=
  Host.rsqrt (addf (meanL (mulf X X)) (broadcastInDim S4x4096x1 ![] bcast_S_S4x4096x1 (constant S_ .f32 0x358637BD#32)))

/-- Rows of deviations normalised. -/
def normedL (X : FVec Ideal S4x4096x4096 .f32) : FVec Ideal S4x4096x4096 .f32 := mulf X (alongL (spreadL X))

theorem meanL_at (X : FVec Ideal S4x4096x4096 .f32) (b : Fin 4) (r : Fin 4096) :
    meanL X (ix3 b r 0) = Ideal.div (∑ e : Fin 4096, X (ix3 b r e)) (Ideal.ofBits .f32 0x45800000#32) := by
  pointwise [meanL]

theorem alongL_at (X : FVec Ideal S4x4096x1 .f32) (b : Fin 4) (r : Fin 4096) (k : Fin 4096) : alongL X (ix3 b r k) = X (ix3 b r 0) := by
  pointwise [alongL]

theorem centredL_at (X : FVec Ideal S4x4096x4096 .f32) (b : Fin 4) (r : Fin 4096) (k : Fin 4096) :
    centredL X (ix3 b r k) = dev (fun e => X (ix3 b r e)) k := by
  show X (ix3 b r k) - alongL (meanL X) (ix3 b r k) = _
  rw [alongL_at, meanL_at]
  rfl

theorem spreadL_at (X : FVec Ideal S4x4096x4096 .f32) (b : Fin 4) (r : Fin 4096) :
    spreadL X (ix3 b r 0) = level (fun e => X (ix3 b r e)) := by
  have h : spreadL X (ix3 b r 0) = Ideal.rsqrt (meanL (mulf X X) (ix3 b r 0) + Ideal.ofBits .f32 0x358637BD#32) := by
    pointwise [spreadL]
  rw [h, meanL_at]
  rfl

theorem normedL_at (X : FVec Ideal S4x4096x4096 .f32) (b : Fin 4) (r : Fin 4096) (k : Fin 4096) :
    normedL (centredL X) (ix3 b r k) = dev (fun e => X (ix3 b r e)) k * level (dev (fun e => X (ix3 b r e))) := by
  show centredL X (ix3 b r k) * alongL (spreadL (centredL X)) (ix3 b r k) = _
  rw [alongL_at, spreadL_at]
  simp only [centredL_at]

/-! ## The context rows -/

/-- Every row's mean, as a column. -/
def meanC (X : FVec Ideal S4x256x4096 .f32) : FVec Ideal S4x256x1 .f32 :=
  Host.divf (broadcastInDim S4x256x1 ![0, 1] bcast_S4x256_S4x256x1_0_1 (Host.reduceAdd X (constant S_ .f32 0x00000000#32) reducesTo_S4x256x4096_S4x256_d2 h_S_)) (broadcastInDim S4x256x1 ![] bcast_S_S4x256x1 (constant S_ .f32 0x45800000#32))

/-- A column along every row. -/
def alongC (X : FVec Ideal S4x256x1 .f32) : FVec Ideal S4x256x4096 .f32 :=
  broadcastInDim S4x256x4096 ![0, 1, 2] bcast_S4x256x1_S4x256x4096_0_1_2 X

/-- Rows less their means. -/
def centredC (X : FVec Ideal S4x256x4096 .f32) : FVec Ideal S4x256x4096 .f32 := subf X (alongC (meanC X))

/-- One over the standard deviation of rows of deviations. -/
def spreadC (X : FVec Ideal S4x256x4096 .f32) : FVec Ideal S4x256x1 .f32 :=
  Host.rsqrt (addf (meanC (mulf X X)) (broadcastInDim S4x256x1 ![] bcast_S_S4x256x1 (constant S_ .f32 0x358637BD#32)))

/-- Rows of deviations normalised. -/
def normedC (X : FVec Ideal S4x256x4096 .f32) : FVec Ideal S4x256x4096 .f32 := mulf X (alongC (spreadC X))

theorem meanC_at (X : FVec Ideal S4x256x4096 .f32) (b : Fin 4) (r : Fin 256) :
    meanC X (ix3 b r 0) = Ideal.div (∑ e : Fin 4096, X (ix3 b r e)) (Ideal.ofBits .f32 0x45800000#32) := by
  pointwise [meanC]

theorem alongC_at (X : FVec Ideal S4x256x1 .f32) (b : Fin 4) (r : Fin 256) (k : Fin 4096) : alongC X (ix3 b r k) = X (ix3 b r 0) := by
  pointwise [alongC]

theorem centredC_at (X : FVec Ideal S4x256x4096 .f32) (b : Fin 4) (r : Fin 256) (k : Fin 4096) :
    centredC X (ix3 b r k) = dev (fun e => X (ix3 b r e)) k := by
  show X (ix3 b r k) - alongC (meanC X) (ix3 b r k) = _
  rw [alongC_at, meanC_at]
  rfl

theorem spreadC_at (X : FVec Ideal S4x256x4096 .f32) (b : Fin 4) (r : Fin 256) :
    spreadC X (ix3 b r 0) = level (fun e => X (ix3 b r e)) := by
  have h : spreadC X (ix3 b r 0) = Ideal.rsqrt (meanC (mulf X X) (ix3 b r 0) + Ideal.ofBits .f32 0x358637BD#32) := by
    pointwise [spreadC]
  rw [h, meanC_at]
  rfl

theorem normedC_at (X : FVec Ideal S4x256x4096 .f32) (b : Fin 4) (r : Fin 256) (k : Fin 4096) :
    normedC (centredC X) (ix3 b r k) = dev (fun e => X (ix3 b r e)) k * level (dev (fun e => X (ix3 b r e))) := by
  show centredC X (ix3 b r k) * alongC (spreadC (centredC X)) (ix3 b r k) = _
  rw [alongC_at, spreadC_at]
  simp only [centredC_at]

/-- The samples' scales, plus one. -/
def scaleL (D : FVec Ideal S4x6x4096 .f32) : FVec Ideal S4x4096x4096 .f32 :=
  broadcastInDim S4x4096x4096 ![0, 1, 2] bcast_S4x1x4096_S4x4096x4096_0_1_2 (addf (broadcastInDim S4x1x4096 ![] bcast_S_S4x1x4096 (constant S_ .f32 0x3F800000#32)) (broadcastInDim S4x1x4096 ![0, 2] bcast_S4x4096_S4x1x4096_0_2 (shapeCast _ (extractStridedSlice S4x1x4096 ![0, 1, 0] D slices_S4x6x4096_S4x1x4096_0_1_0) shapeCasts_S4x1x4096_S4x4096)))

/-- The samples' shifts. -/
def shiftL (D : FVec Ideal S4x6x4096 .f32) : FVec Ideal S4x4096x4096 .f32 :=
  broadcastInDim S4x4096x4096 ![0, 1, 2] bcast_S4x1x4096_S4x4096x4096_0_1_2 (broadcastInDim S4x1x4096 ![0, 2] bcast_S4x4096_S4x1x4096_0_2 (shapeCast _ (extractStridedSlice S4x1x4096 ![0, 0, 0] D slices_S4x6x4096_S4x1x4096_0_0_0) shapeCasts_S4x1x4096_S4x4096))

/-- The context's scale, plus one. -/
def scaleC (D : FVec Ideal S6x4096 .f32) : FVec Ideal S4x256x4096 .f32 :=
  broadcastInDim S4x256x4096 ![0, 1, 2] bcast_S1x1x4096_S4x256x4096_0_1_2 (broadcastInDim S1x1x4096 ![2] bcast_S4096_S1x1x4096_2 (addf (broadcastInDim S4096 ![] bcast_S_S4096 (constant S_ .f32 0x3F800000#32)) (shapeCast _ (extractStridedSlice S1x4096 ![1, 0] D slices_S6x4096_S1x4096_1_0) shapeCasts_S1x4096_S4096)))

/-- The context's shift. -/
def shiftC (D : FVec Ideal S6x4096 .f32) : FVec Ideal S4x256x4096 .f32 :=
  broadcastInDim S4x256x4096 ![0, 1, 2] bcast_S1x1x4096_S4x256x4096_0_1_2 (broadcastInDim S1x1x4096 ![2] bcast_S4096_S1x1x4096_2 (shapeCast _ (extractStridedSlice S1x4096 ![0, 0] D slices_S6x4096_S1x4096_0_0) shapeCasts_S1x4096_S4096))

theorem scaleL_at (D : FVec Ideal S4x6x4096 .f32) (b : Fin 4) (r k : Fin 4096) :
    scaleL D (ix3 b r k) = Ideal.ofBits .f32 0x3F800000#32 + D (ix3 b 1 k) := by
  pointwise [scaleL]

theorem shiftL_at (D : FVec Ideal S4x6x4096 .f32) (b : Fin 4) (r k : Fin 4096) : shiftL D (ix3 b r k) = D (ix3 b 0 k) := by
  pointwise [shiftL]

theorem scaleC_at (D : FVec Ideal S6x4096 .f32) (b : Fin 4) (r : Fin 256) (k : Fin 4096) :
    scaleC D (ix3 b r k) = Ideal.ofBits .f32 0x3F800000#32 + D (ix2 1 k) := by
  pointwise [scaleC]

theorem shiftC_at (D : FVec Ideal S6x4096 .f32) (b : Fin 4) (r : Fin 256) (k : Fin 4096) : shiftC D (ix3 b r k) = D (ix2 0 k) := by
  pointwise [shiftC]

/-! ## All rows -/

/-- The latent rows, modulated. -/
def latent (H : FVec Ideal S4x4096x4096 .f32) (D : FVec Ideal S4x6x4096 .f32) : FVec Ideal S4x4096x4096 .f32 :=
  addf (mulf (normedL (centredL H)) (scaleL D)) (shiftL D)

/-- The context rows, modulated. -/
def context (H : FVec Ideal S4x256x4096 .f32) (D : FVec Ideal S6x4096 .f32) : FVec Ideal S4x256x4096 .f32 :=
  addf (mulf (normedC (centredC H)) (scaleC D)) (shiftC D)

theorem latent_at (H : FVec Ideal S4x4096x4096 .f32) (D : FVec Ideal S4x6x4096 .f32) (b : Fin 4) (r k : Fin 4096) :
    latent H D (ix3 b r k) = modulated (fun e => H (ix3 b r e)) (fun e => D (ix3 b 1 e)) (fun e => D (ix3 b 0 e)) k := by
  show normedL (centredL H) (ix3 b r k) * scaleL D (ix3 b r k) + shiftL D (ix3 b r k) = _
  rw [normedL_at, scaleL_at, shiftL_at]
  rfl

theorem context_at (H : FVec Ideal S4x256x4096 .f32) (D : FVec Ideal S6x4096 .f32) (b : Fin 4) (r : Fin 256) (k : Fin 4096) :
    context H D (ix3 b r k) = modulated (fun e => H (ix3 b r e)) (fun e => D (ix2 1 e)) (fun e => D (ix2 0 e)) k := by
  show normedC (centredC H) (ix3 b r k) * scaleC D (ix3 b r k) + shiftC D (ix3 b r k) = _
  rw [normedC_at, scaleC_at, shiftC_at]
  rfl

/-- Rows laid one after the other. -/
def flatL (L : FVec Ideal S4x4096x4096 .f32) : FVec Ideal S16384x4096 .f32 := shapeCast _ L shapeCasts_S4x4096x4096_S16384x4096

/-- The same of the context. -/
def flatC (C : FVec Ideal S4x256x4096 .f32) : FVec Ideal S1024x4096 .f32 := shapeCast _ C shapeCasts_S4x256x4096_S1024x4096

/-- One array's rows above another's. -/
def above (L : FVec Ideal S16384x4096 .f32) (C : FVec Ideal S1024x4096 .f32) : FVec Ideal S17408x4096 .f32 :=
  concatenate S17408x4096 0 [⟨S16384x4096, L⟩, ⟨S1024x4096, C⟩] concatenates_S16384x4096_S1024x4096_S17408x4096_d0

/-- The whole reference. -/
def rows (HL : FVec Ideal S4x4096x4096 .f32) (HC : FVec Ideal S4x256x4096 .f32) (DL : FVec Ideal S4x6x4096 .f32)
    (DC : FVec Ideal S6x4096 .f32) : FVec Ideal S17408x4096 .bf16 :=
  truncf .bf16 (above (flatL (latent HL DL)) (flatC (context HC DC))) bitsLt_bf16_f32

theorem flatL_at (L : FVec Ideal S4x4096x4096 .f32) (b : Fin 4) (s d : Fin 4096) :
    flatL L (ix2 ⟨b.val * 4096 + s.val, by omega⟩ d) = L (ix3 b s d) := by
  pointwise [flatL]

theorem flatC_at (C : FVec Ideal S4x256x4096 .f32) (b : Fin 4) (s : Fin 256) (d : Fin 4096) :
    flatC C (ix2 ⟨b.val * 256 + s.val, by omega⟩ d) = C (ix3 b s d) := by
  pointwise [flatC]

theorem above_first (L : FVec Ideal S16384x4096 .f32) (C : FVec Ideal S1024x4096 .f32) (r : Fin 16384) (d : Fin 4096) :
    above L C (ix2 ⟨r.val, by omega⟩ d) = L (ix2 r d) := by
  pointwise [above]

theorem above_second (L : FVec Ideal S16384x4096 .f32) (C : FVec Ideal S1024x4096 .f32) (r : Fin 1024) (d : Fin 4096) :
    above L C (ix2 ⟨16384 + r.val, by omega⟩ d) = C (ix2 r d) := by
  pointwise [above]

variable (HL : FVec Ideal S4x4096x4096 .f32) (HC : FVec Ideal S4x256x4096 .f32) (DL : FVec Ideal S4x6x4096 .f32)
    (DC : FVec Ideal S6x4096 .f32)

theorem rows_latent (b : Fin 4) (s d : Fin 4096) :
    rows HL HC DL DC (ix2 ⟨b.val * 4096 + s.val, by omega⟩ d)
      = modulated (fun e => HL (ix3 b s e)) (fun e => DL (ix3 b 1 e)) (fun e => DL (ix3 b 0 e)) d := by
  show above (flatL (latent HL DL)) (flatC (context HC DC)) _ = _
  refine (above_first _ _ ⟨b.val * 4096 + s.val, by omega⟩ d).trans ?_
  rw [flatL_at, latent_at]

theorem rows_context (b : Fin 4) (s : Fin 256) (d : Fin 4096) :
    rows HL HC DL DC (ix2 ⟨16384 + (b.val * 256 + s.val), by omega⟩ d)
      = modulated (fun e => HC (ix3 b s e)) (fun e => DC (ix2 1 e)) (fun e => DC (ix2 0 e)) d := by
  show above (flatL (latent HL DL)) (flatC (context HC DC)) _ = _
  refine (above_second _ _ ⟨b.val * 256 + s.val, by omega⟩ d).trans ?_
  rw [flatC_at, context_at]

end Cert.Reference10Ideal.Norm

end
-- ==== Proof.NormFinal.lean ====
/-
  The first layer norm and its modulation: every block a step writes is the reference's there.
-/
module

public import proofs.«01_k».proof.Proof.Gen.Kernel10Ideal.Value
public import proofs.«01_k».proof.Proof.NormReference
public import Idealize.ShloMosaic.Lib.Pipeline.ValueKit
public import Idealize.ShloMosaic.Lib.Claim

@[expose] public section

set_option maxRecDepth 16384

noncomputable section

namespace Cert.Kernel10Ideal.Norm

open Cert.Kernel10Ideal Cert.Kernel10Ideal.Gen Cert.RowNorm Idealize.ShloMosaic Idealize.ShloMosaic.TcCoe
open Idealize.SL.Sem
open Idealize.ShloMosaic.Pipeline (Dat)

/-! ## The step -/

/-- Every row's mean as a column. -/
def mean (X : FVec Ideal S256x4096 .f32) : FVec Ideal S256x1 .f32 :=
  divf (shapeCast S256x1 (multiReduction .add [1] S256 X 0x00000000#32 reduces_S256x4096_S256 (.inl rfl) rfl : FVec Ideal S256 .f32) shapeCasts_S256_S256x1 : FVec Ideal S256x1 .f32)
    (broadcast S256x1 (Scalar.ofBits .f32 0x45800000#32))

/-- Rows less their means. -/
def centred (X : FVec Ideal S256x4096 .f32) : FVec Ideal S256x4096 .f32 :=
  subf X (broadcastTo S256x4096 (mean X) broadcasts_S256x1_S256x4096)

/-- One over the standard deviation of rows of deviations. -/
def spread (X : FVec Ideal S256x4096 .f32) : FVec Ideal S256x1 .f32 :=
  rsqrt (addf (mean (mulf X X)) (broadcast S256x1 (Scalar.ofBits .f32 0x358637BD#32)))

/-- Rows of deviations normalised, with a scale and a shift. -/
def placed (X : FVec Ideal S256x4096 .f32) (d s : Vec Ideal S1x1x1x4096 .f32) : FVec Ideal S256x4096 .bf16 :=
  truncf .bf16 (addf (mulf (mulf X (broadcastTo S256x4096 (spread X) broadcasts_S256x1_S256x4096))
      (broadcastTo S256x4096 (addf (broadcast S1x4096 (Scalar.ofBits .f32 0x3F800000#32)) (shapeCast S1x4096 s shapeCasts_S1x1x1x4096_S1x4096 : FVec Ideal S1x4096 .f32)) broadcasts_S1x4096_S256x4096))
    (broadcastTo S256x4096 (shapeCast S1x4096 d shapeCasts_S1x1x1x4096_S1x4096 : FVec Ideal S1x4096 .f32) broadcasts_S1x4096_S256x4096)) bitsLt_bf16_f32

theorem mean_at (X : FVec Ideal S256x4096 .f32) (r : Fin 256) :
    mean X (ix2 r 0) = Ideal.div (∑ e : Fin 4096, X (ix2 r e)) (Ideal.ofBits .f32 0x45800000#32) := by
  pointwise [mean]

theorem centred_at (X : FVec Ideal S256x4096 .f32) (r : Fin 256) (k : Fin 4096) : centred X (ix2 r k) = dev (fun e => X (ix2 r e)) k := by
  unfold dev
  rw [← mean_at]
  pointwise [centred]

theorem spread_at (X : FVec Ideal S256x4096 .f32) (r : Fin 256) : spread X (ix2 r 0) = level (fun e => X (ix2 r e)) := by
  have h : spread X (ix2 r 0) = Ideal.rsqrt (mean (mulf X X) (ix2 r 0) + Ideal.ofBits .f32 0x358637BD#32) := by
    pointwise [spread]
  rw [h, mean_at]
  rfl

theorem placed_at (X : FVec Ideal S256x4096 .f32) (d s : Vec Ideal S1x1x1x4096 .f32) (r : Fin 256) (k : Fin 4096) :
    placed X d s (ix2 r k)
      = X (ix2 r k) * level (fun e => X (ix2 r e)) * (Ideal.ofBits .f32 0x3F800000#32 + s (ix4 0 0 0 k)) + d (ix4 0 0 0 k) := by
  rw [← spread_at]
  pointwise [placed]

theorem pay_eq (p : grid0.Coords) (h k : Vec Ideal S256x4096 .f32) (d s : Vec Ideal S1x1x1x4096 .f32) :
    k0_pay1 p h k s d
      = placed (centred (Scalar.select (Scalar.cmpi .slt (BitVec.ofNat 32 (p 0).val) 64#32)
          (shapeCast S256x4096 h shapeCasts_S256x4096_S256x4096) (shapeCast S256x4096 k shapeCasts_S256x4096_S256x4096))) d s := rfl

/-- A row of the stream that a step takes, from either array. -/
theorem choice {b : BitVec 1} (h k : Vec Ideal S256x4096 .f32) (r : Fin 256) (f : Fin 4096 → EReal)
    (hl : b = 1#1 → ∀ e, h (ix2 r e) = f e) (hc : ¬ b = 1#1 → ∀ e, k (ix2 r e) = f e) (e : Fin 4096) :
    (Scalar.select b (shapeCast S256x4096 h shapeCasts_S256x4096_S256x4096) (shapeCast S256x4096 k shapeCasts_S256x4096_S256x4096) : Vec Ideal S256x4096 .f32) (ix2 r e) = f e := by
  unfold Scalar.select
  split
  · next hs => refine Eq.trans ?_ (hl hs e); pointwise
  · next hs => refine Eq.trans ?_ (hc hs e); pointwise

/-- A step's payload, from the row `f` of the stream that it takes. -/
theorem pay_at (p : grid0.Coords) (h k : Vec Ideal S256x4096 .f32) (d s : Vec Ideal S1x1x1x4096 .f32) (r : Fin 256) (f : Fin 4096 → EReal)
    (hl : Scalar.cmpi .slt (BitVec.ofNat 32 (p 0).val) 64#32 = 1#1 → ∀ e, h (ix2 r e) = f e)
    (hc : ¬ Scalar.cmpi .slt (BitVec.ofNat 32 (p 0).val) 64#32 = 1#1 → ∀ e, k (ix2 r e) = f e) (x : Fin 4096) :
    k0_pay1 p h k s d (ix2 r x) = modulated f (fun e => s (ix4 0 0 0 e)) (fun e => d (ix4 0 0 0 e)) x := by
  rw [pay_eq, placed_at]
  simp only [centred_at, choice h k r f hl hc]
  rfl

/-! ## The prepared arrays -/

/-- The latent stream, its samples' rows one after the other. -/
def latentB (H : FVec Ideal S4x4096x4096 .f32) : FVec Ideal S16384x4096 .f32 :=
  shapeCast S16384x4096 H shapeCasts_S4x4096x4096_S16384x4096

/-- The context stream, likewise. -/
def contextB (H : FVec Ideal S4x256x4096 .f32) : FVec Ideal S1024x4096 .f32 :=
  shapeCast S1024x4096 H shapeCasts_S4x256x4096_S1024x4096

/-- The samples' modulations, then the context's. -/
def pairB (D : FVec Ideal S4x6x4096 .f32) (E : FVec Ideal S1x6x4096 .f32) : FVec Ideal S5x6x4096 .f32 :=
  concatenate S5x6x4096 0 [⟨S4x6x4096, D⟩, ⟨S1x6x4096, E⟩] concatenates_S4x6x4096_S1x6x4096_S5x6x4096_d0

/-- Those, then zeros. -/
def padB (D : FVec Ideal S5x6x4096 .f32) (Z : FVec Ideal S3x6x4096 .f32) : FVec Ideal S8x6x4096 .f32 :=
  concatenate S8x6x4096 0 [⟨S5x6x4096, D⟩, ⟨S3x6x4096, Z⟩] concatenates_S5x6x4096_S3x6x4096_S8x6x4096_d0

/-- The context's modulation as one more sample. -/
def soloB (E : FVec Ideal S6x4096 .f32) : FVec Ideal S1x6x4096 .f32 :=
  broadcastInDim S1x6x4096 ![1, 2] bcast_S6x4096_S1x6x4096_1_2 E

/-- The modulations as the call takes them. -/
def modB (D : FVec Ideal S4x6x4096 .f32) (E : FVec Ideal S6x4096 .f32) : FVec Ideal S8x6x1x4096 .f32 :=
  shapeCast S8x6x1x4096 (padB (pairB D (soloB E)) (broadcastInDim S3x6x4096 ![] bcast_S_S3x6x4096 (constant S_ .f32 0x00000000#32)))
    shapeCasts_S8x6x4096_S8x6x1x4096

theorem latentB_at (H : FVec Ideal S4x4096x4096 .f32) (b : Fin 4) (s d : Fin 4096) :
    latentB H (ix2 ⟨b.val * 4096 + s.val, by omega⟩ d) = H (ix3 b s d) := by
  pointwise [latentB]

theorem contextB_at (H : FVec Ideal S4x256x4096 .f32) (b : Fin 4) (s : Fin 256) (d : Fin 4096) :
    contextB H (ix2 ⟨b.val * 256 + s.val, by omega⟩ d) = H (ix3 b s d) := by
  pointwise [contextB]

theorem pairB_sample (D : FVec Ideal S4x6x4096 .f32) (E : FVec Ideal S1x6x4096 .f32)
    (b : Fin 4) (w : Fin 6) (d : Fin 4096) : pairB D E (ix3 ⟨b.val, by omega⟩ w d) = D (ix3 b w d) := by
  pointwise [pairB]

theorem pairB_context (D : FVec Ideal S4x6x4096 .f32) (E : FVec Ideal S1x6x4096 .f32)
    (w : Fin 6) (d : Fin 4096) : pairB D E (ix3 ⟨4, by omega⟩ w d) = E (ix3 0 w d) := by
  pointwise [pairB]

theorem padB_at (D : FVec Ideal S5x6x4096 .f32) (Z : FVec Ideal S3x6x4096 .f32)
    (b : Fin 5) (w : Fin 6) (d : Fin 4096) : padB D Z (ix3 ⟨b.val, by omega⟩ w d) = D (ix3 b w d) := by
  pointwise [padB]

theorem soloB_at (E : FVec Ideal S6x4096 .f32) (k : Fin 6) (d : Fin 4096) : soloB E (ix3 0 k d) = E (ix2 k d) := by
  pointwise [soloB]

theorem modB_pad (D : FVec Ideal S4x6x4096 .f32) (E : FVec Ideal S6x4096 .f32) (b : Fin 8) (w : Fin 6) (d : Fin 4096) :
    modB D E (ix4 b w 0 d)
      = padB (pairB D (soloB E)) (broadcastInDim S3x6x4096 ![] bcast_S_S3x6x4096 (constant S_ .f32 0x00000000#32)) (ix3 b w d) := by
  pointwise [modB]

theorem modB_sample (D : FVec Ideal S4x6x4096 .f32) (E : FVec Ideal S6x4096 .f32) (b : Fin 4) (w : Fin 6) (d : Fin 4096) :
    modB D E (ix4 ⟨b.val, by omega⟩ w 0 d) = D (ix3 b w d) := by
  refine (modB_pad D E ⟨b.val, by omega⟩ w d).trans ((padB_at _ _ ⟨b.val, by omega⟩ w d).trans ?_)
  exact pairB_sample _ _ b w d

theorem modB_context (D : FVec Ideal S4x6x4096 .f32) (E : FVec Ideal S6x4096 .f32) (w : Fin 6) (d : Fin 4096) :
    modB D E (ix4 ⟨4, by omega⟩ w 0 d) = E (ix2 w d) := by
  refine (modB_pad D E ⟨4, by omega⟩ w d).trans ((padB_at _ _ ⟨4, by omega⟩ w d).trans ?_)
  rw [pairB_context, soloB_at]

/-! ## The blocks -/

/-- Where each step's blocks lie. -/
theorem idx : ∀ t : Fin cfg0.N, win0_0.index t = ![min t.val 63, 0] ∧ win0_1.index t = ![t.val - 64, 0]
    ∧ win0_2.index t = ![t.val / 16, 0, 0, 0] ∧ win0_3.index t = ![t.val / 16, 1, 0, 0] ∧ win0_4.index t = ![t.val, 0] ∧ t.val < 68 :=
  (by decide +kernel : ∀ t : Fin grid0.N, _)

/-- Which steps are latent. -/
theorem latent_step : ∀ t : Fin cfg0.N,
    (Scalar.cmpi .slt (BitVec.ofNat 32 ((grid0.coords t) 0).val) 64#32 = 1#1) = (t.val < 64) := by
  have h : ∀ t : Fin grid0.N,
      (Scalar.cmpi .slt (BitVec.ofNat 32 ((grid0.coords t) 0).val) 64#32 = 1#1) ↔ (t.val < 64) := by decide +kernel
  exact fun t => propext (h t)

variable (m : (ℓ : Loc nD τ sig) → Buf (Elt Ideal) ℓ) (c : Dev nD)

theorem V_latent : V m c main_v4 = latentB (m ((c : Thread nD τ).loc main_arg0)) := by
  entry_read; rfl
theorem V_context : V m c main_v5 = contextB (m ((c : Thread nD τ).loc main_arg1)) := by
  entry_read; rfl
theorem V_mod : V m c main_v6 = modB (m ((c : Thread nD τ).loc main_arg2)) (m ((c : Thread nD τ).loc main_arg3)) := by
  entry_read; rfl

/-- The latent block at an index, of a latent step. -/
theorem latent_at (t : Fin cfg0.N) (i : Fin 256) (b : Fin 4) (s D : Fin 4096) (h : t.val < 64)
    (hR : b.val * 4096 + s.val = t.val * 256 + i.val) :
    (iblk m c 0 t : Vec Ideal S256x4096 .f32) (ix2 i D) = (m ((c : Thread nD τ).loc main_arg0) : FVec Ideal S4x4096x4096 .f32) (ix3 b s D) := by
  have hmin : min t.val 63 = t.val := by omega
  have hp : (((cfg0.win 0).blk t).view.emb (ix2 i D) : S16384x4096.Idx) = ix2 ⟨b.val * 4096 + s.val, by omega⟩ D := by
    blk_ext [idx t, hmin]
  unfold iblk
  rw [View.read_apply, cast_eq]
  exact (congrFun (V_latent m c) _).trans ((congrArg _ hp).trans (latentB_at _ b s D))

/-- The context block at an index, of a context step. -/
theorem context_at (t : Fin cfg0.N) (i : Fin 256) (b : Fin 4) (D : Fin 4096) (hb : b.val = t.val - 64) :
    (iblk m c 1 t : Vec Ideal S256x4096 .f32) (ix2 i D) = (m ((c : Thread nD τ).loc main_arg1) : FVec Ideal S4x256x4096 .f32) (ix3 b i D) := by
  have hp : (((cfg0.win 1).blk t).view.emb (ix2 i D) : S1024x4096.Idx) = ix2 ⟨b.val * 256 + i.val, by omega⟩ D := by
    blk_ext [idx t]
  unfold iblk
  rw [View.read_apply, cast_eq]
  exact (congrFun (V_context m c) _).trans ((congrArg _ hp).trans (contextB_at _ b i D))

/-- The shift's block. -/
theorem shift_read (t : Fin cfg0.N) (D : Fin 4096) (b : Fin 8) (hb : b.val = t.val / 16) :
    (iblk m c 2 t : Vec Ideal S1x1x1x4096 .f32) (ix4 0 0 0 D)
      = modB (m ((c : Thread nD τ).loc main_arg2)) (m ((c : Thread nD τ).loc main_arg3)) (ix4 b 0 0 D) := by
  have hp : (((cfg0.win 2).blk t).view.emb (ix4 0 0 0 D) : S8x6x1x4096.Idx) = ix4 b 0 0 D := by
    blk_ext [idx t]
  unfold iblk
  rw [View.read_apply, cast_eq]
  exact (congrFun (V_mod m c) _).trans (congrArg _ hp)

/-- The scale's block. -/
theorem scale_read (t : Fin cfg0.N) (D : Fin 4096) (b : Fin 8) (hb : b.val = t.val / 16) :
    (iblk m c 3 t : Vec Ideal S1x1x1x4096 .f32) (ix4 0 0 0 D)
      = modB (m ((c : Thread nD τ).loc main_arg2)) (m ((c : Thread nD τ).loc main_arg3)) (ix4 b 1 0 D) := by
  have hp : (((cfg0.win 3).blk t).view.emb (ix4 0 0 0 D) : S8x6x1x4096.Idx) = ix4 b 1 0 D := by
    blk_ext [idx t]
  unfold iblk
  rw [View.read_apply, cast_eq]
  exact (congrFun (V_mod m c) _).trans (congrArg _ hp)

/-! ## The result array -/

/-- The reference's rows of the launch arrays. -/
abbrev result : FVec Ideal S17408x4096 .bf16 :=
  Cert.Reference10Ideal.Norm.rows (m ((c : Thread nD τ).loc main_arg0)) (m ((c : Thread nD τ).loc main_arg1))
    (m ((c : Thread nD τ).loc main_arg2)) (m ((c : Thread nD τ).loc main_arg3))

/-- What a step writes. -/
abbrev wrote (t : Fin cfg0.N) : FVec Ideal S256x4096 .bf16 :=
  k0_pay1 (grid0.coords t) (iblk m c 0 t : Vec Ideal S256x4096 .f32) (iblk m c 1 t : Vec Ideal S256x4096 .f32)
    (iblk m c 3 t : Vec Ideal S1x1x1x4096 .f32) (iblk m c 2 t : Vec Ideal S1x1x1x4096 .f32)

theorem tile_latent (t : Fin cfg0.N) (h : t.val < 64) (i : Fin 256) (j : Fin 4096) (J : S17408x4096.Idx)
    (h0 : (J 0).val = t.val * 256 + i.val) (h1 : (J 1).val = j.val) : wrote m c t (ix2 i j) = result m c J := by
  have hs := Nat.div_add_mod' (t.val * 256 + i.val) 4096
  obtain ⟨b, hb⟩ : ∃ b : Fin 4, b.val = (t.val * 256 + i.val) / 4096 := ⟨⟨_, by omega⟩, rfl⟩
  obtain ⟨s, hS⟩ : ∃ s : Fin 4096, s.val = (t.val * 256 + i.val) % 4096 := ⟨⟨_, by omega⟩, rfl⟩
  have hb' : b.val = t.val / 16 := by omega
  have hr : b.val * 4096 + s.val = t.val * 256 + i.val := by omega
  have hJ : J = ix2 (⟨b.val * 4096 + s.val, by omega⟩ : Fin 17408) j := by
    funext x
    fin_cases x
    · exact Fin.ext (h0.trans hr.symm)
    · exact Fin.ext h1
  rw [hJ]
  refine Eq.trans ?_ (Cert.Reference10Ideal.Norm.rows_latent _ _ _ _ b s j).symm
  unfold wrote
  rw [pay_at _ _ _ _ _ i (fun e => (m ((c : Thread nD τ).loc main_arg0) : FVec Ideal S4x4096x4096 .f32) (ix3 b s e))
    (fun _ e => latent_at m c t i b s e h hr) (fun hc => absurd ((latent_step t).mpr h) hc) j]
  simp only [shift_read m c t _ ⟨b.val, by omega⟩ hb', scale_read m c t _ ⟨b.val, by omega⟩ hb', modB_sample]

theorem tile_context (t : Fin cfg0.N) (h : ¬ t.val < 64) (i : Fin 256) (j : Fin 4096) (J : S17408x4096.Idx)
    (h0 : (J 0).val = t.val * 256 + i.val) (h1 : (J 1).val = j.val) : wrote m c t (ix2 i j) = result m c J := by
  have ht := (idx t).2.2.2.2.2
  obtain ⟨b, hb⟩ : ∃ b : Fin 4, b.val = t.val - 64 := ⟨⟨_, by omega⟩, rfl⟩
  have h4 : 4 = t.val / 16 := by omega
  have hJ : J = ix2 (⟨16384 + (b.val * 256 + i.val), by omega⟩ : Fin 17408) j := by
    funext x
    fin_cases x
    · exact Fin.ext (by refine h0.trans ?_; show _ = 16384 + (b.val * 256 + i.val); omega)
    · exact Fin.ext h1
  rw [hJ]
  refine Eq.trans ?_ (Cert.Reference10Ideal.Norm.rows_context _ _ _ _ b i j).symm
  unfold wrote
  rw [pay_at _ _ _ _ _ i (fun e => (m ((c : Thread nD τ).loc main_arg1) : FVec Ideal S4x256x4096 .f32) (ix3 b i e))
    (fun hc => absurd ((latent_step t).mp hc) h) (fun _ e => context_at m c t i b e hb) j]
  simp only [shift_read m c t _ ⟨4, by omega⟩ h4, scale_read m c t _ ⟨4, by omega⟩ h4, modB_context]

/-- **The layer norm's result array is the reference's.** -/
theorem final : (dats m 0 c).arrAt 4 cfg0.N = result m c := by
  refine (dats m 0 c).arrAt_eq_of_covers 4 _ (by decide +kernel) fun t _ y => ?_
  blk_simp
  rw [after0_4]
  frame_out
  idx_vars y
  by_cases h : t.val < 64
  · refine tile_latent m c t h _ _ _ ?_ ?_
    · blk_simp [idx t]
    · blk_simp [idx t]
  · refine tile_context m c t h _ _ _ ?_ ?_
    · blk_simp [idx t]
    · blk_simp [idx t]

end Cert.Kernel10Ideal.Norm

end
-- ==== Proof.Claims10.lean ====
/-
  The claims about the first layer norm and its modulation.
-/
module

public import proofs.«01_k».proof.Defs
public import proofs.«01_k».proof.Proof.NormFinal
public import Idealize.ShloMosaic.Lib.Quiescent

@[expose] public section

noncomputable section

namespace Cert.Proof.Norm

open Idealize.ShloMosaic Idealize.ShloMosaic.TcCoe Idealize.SL.Sem

/-- The reference runs and leaves its arguments and its semaphores alone. -/
theorem reference_frame (m : (ℓ : Loc Cert.Reference10Ideal.nD Cert.Reference10Ideal.τ Cert.Reference10Ideal.sig) → Buf (Elt Ideal) ℓ)
    (ρ : Dev Cert.Reference10Ideal.nD → PrngReg) :
    θ_run (Cert.Reference10Ideal.defs (F := Ideal)) (onTc (τ := Cert.Reference10Ideal.τ) (Cert.Reference10Ideal.main (F := Ideal))) ⟨m, fun _ => 0, ρ⟩
      (fun r => (∀ c : Dev Cert.Reference10Ideal.nD,
        r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
        ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
        ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
        ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
        ∧ r.2.sem = fun _ => 0) :=
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- The kernel's result array and the reference's are the same. -/
theorem algebraic : Cert.algebraic_Kernel10Ideal_Reference10Ideal := by
  intro m ρ m' ρ' _ hagree
  refine ⟨fun c => Cert.Kernel10Ideal.Norm.result m c, ?_, ?_⟩
  · refine (θ_run Cert.Kernel10Ideal.defs _ _).mono (fun r h c => ⟨(h c).1.trans ?_, (h c).2⟩)
      (Cert.Kernel10Ideal.Value.run_blocks (F := Ideal) m ρ)
    exact Cert.Kernel10Ideal.Norm.final m c
  · refine (θ_run Cert.Reference10Ideal.defs _ _).mono (fun r h c => ⟨(h c).1.trans ?_, (h c).2⟩)
      (Cert.Reference10Ideal.Value.run (F := Ideal) m' ρ')
    show Cert.Reference10Ideal.Norm.rows (m' ((c : Thread Cert.Reference10Ideal.nD Cert.Reference10Ideal.τ).loc Cert.Reference10Ideal.main_arg0)) (m' ((c : Thread Cert.Reference10Ideal.nD Cert.Reference10Ideal.τ).loc Cert.Reference10Ideal.main_arg1)) (m' ((c : Thread Cert.Reference10Ideal.nD Cert.Reference10Ideal.τ).loc Cert.Reference10Ideal.main_arg2)) (m' ((c : Thread Cert.Reference10Ideal.nD Cert.Reference10Ideal.τ).loc Cert.Reference10Ideal.main_arg3)) = _
    rw [(hagree c).1, (hagree c).2.1, (hagree c).2.2.1, (hagree c).2.2.2]

end Cert.Proof.Norm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference6Ideal
public import proofs.«01_k».proof.Proof.Gen.Reference6Ideal.Run
public import proofs.«01_k».proof.Proof.Gen.Reference7Ideal
public import proofs.«01_k».proof.Proof.Gen.Reference7Ideal.Run
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Claims1
public import proofs.«01_k».proof.Proof.Claims2
public import proofs.«01_k».proof.Proof.Claims3
public import proofs.«01_k».proof.Proof.UpFrames
public import proofs.«01_k».proof.Proof.UpIdealCert
public import proofs.«01_k».proof.Proof.Claims4
public import proofs.«01_k».proof.Proof.DownFrames
public import proofs.«01_k».proof.Proof.DownIdealCert
public import proofs.«01_k».proof.Proof.Claims5
public import proofs.«01_k».proof.Proof.Claims6
public import proofs.«01_k».proof.Proof.Claims7
public import proofs.«01_k».proof.Proof.Claims8
public import proofs.«01_k».proof.Proof.Claims9
public import proofs.«01_k».proof.Proof.Claims10
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => Attention.reference_frame m ρ,
  fun m ρ _ => Attention.reference_frame m ρ,
  fun m ρ _ => Cert.Kernel2.Gen.frame m ρ,
  fun m ρ _ => Cert.Kernel2Ideal.Gen.frame m ρ,
  fun m ρ _ => Projection.reference_frame m ρ,
  fun m ρ _ => Cert.Kernel3.Gen.frame m ρ,
  fun m ρ _ => Cert.Kernel3Ideal.Gen.frame m ρ,
  fun m ρ _ => Output.reference_frame m ρ,
  Up.frame_kernel,
  fun m ρ _ => Cert.Kernel4Ideal.Own.frame m ρ,
  fun m ρ _ => Up.reference_frame m ρ,
  Down.frame_kernel,
  fun m ρ _ => Cert.Kernel5Ideal.Own.frame m ρ,
  fun m ρ _ => Down.reference_frame m ρ,
  fun m ρ _ => Cert.Kernel6.Gen.frame m ρ,
  fun m ρ _ => Cert.Kernel6Ideal.Gen.frame m ρ,
  fun m ρ _ => Gate.reference_frame m ρ,
  fun m ρ _ => Cert.Kernel7.Gen.frame m ρ,
  fun m ρ _ => Cert.Kernel7Ideal.Gen.frame m ρ,
  fun m ρ _ => Spatial.reference_frame m ρ,
  fun m ρ _ => Cert.Kernel8.Gen.frame m ρ,
  fun m ρ _ => Cert.Kernel8Ideal.Gen.frame m ρ,
  fun m ρ _ => Heads.reference_frame m ρ,
  fun m ρ _ => Cert.Kernel9.Gen.frame m ρ,
  fun m ρ _ => Cert.Kernel9Ideal.Gen.frame m ρ,
  fun m ρ _ => Mod.reference_frame m ρ,
  fun m ρ _ => Cert.Kernel10.Gen.frame m ρ,
  fun m ρ _ => Cert.Kernel10Ideal.Gen.frame m ρ,
  fun m ρ _ => Norm.reference_frame m ρ,
  trivial,
  Attention.algebraic,
  trivial,
  Projection.algebraic,
  trivial,
  Output.algebraic,
  trivial,
  Up.algebraic,
  trivial,
  Down.algebraic,
  trivial,
  Gate.algebraic,
  trivial,
  Spatial.algebraic,
  trivial,
  Heads.algebraic,
  trivial,
  Mod.algebraic,
  trivial,
  Norm.algebraic⟩

end Cert.Proof

end
